-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_moderate [hPre_moderate : Cert.Pre_moderate.Facts] (m : (ℓ : Loc Cert.KernelIdeal.nD Cert.KernelIdeal.τ Cert.KernelIdeal.sig) → Buf (Elt Ideal) ℓ) : Prop :=
  ∀ c : Dev Cert.KernelIdeal.nD,
    (Cert.Pre_moderate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_moderate [hPre_moderate : Cert.Pre_moderate.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_moderate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_moderate [hKernelIdeal : Cert.KernelIdeal.Facts] [hPre_moderate : Cert.Pre_moderate.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_moderate m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_moderate [hReferenceIdeal : Cert.ReferenceIdeal.Facts] [hPre_moderate : Cert.Pre_moderate.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_moderate m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv_e4m3_max" .f32 0x3B124925#32 ((1 / 448 : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "score_scale_log2e" .f32 0x3E0293EE#32 (((Real.sqrt 128)⁻¹ * (Real.log 2)⁻¹ : ℝ) : EReal)

def algebraic_KernelIdeal_ReferenceIdeal_pre_moderate [hKernelIdeal : Cert.KernelIdeal.Facts] [hReferenceIdeal : Cert.ReferenceIdeal.Facts] [hPre_moderate : Cert.Pre_moderate.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_moderate m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_v136) = v1 c
          ∧ r.2.mem ((c.tc : Thread Cert.ReferenceIdeal.nD Cert.ReferenceIdeal.τ).loc Cert.ReferenceIdeal.main_v135) = v2 c
          ∧ r.2.mem ((c.tc : Thread Cert.ReferenceIdeal.nD Cert.ReferenceIdeal.τ).loc Cert.ReferenceIdeal.main_v137) = v3 c
          ∧ r.2.mem ((c.tc : Thread Cert.ReferenceIdeal.nD Cert.ReferenceIdeal.τ).loc Cert.ReferenceIdeal.main_v48) = v4 c
          ∧ r.2.mem ((c.tc : Thread Cert.ReferenceIdeal.nD Cert.ReferenceIdeal.τ).loc Cert.ReferenceIdeal.main_v138) = v5 c
          ∧ r.2.mem ((c.tc : Thread Cert.ReferenceIdeal.nD Cert.ReferenceIdeal.τ).loc Cert.ReferenceIdeal.main_v72) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_moderate : Cert.Pre_moderate.Facts),
    quiescent_Kernel (hKernel := hKernel)
    ∧ quiescent_KernelIdeal (hKernelIdeal := hKernelIdeal)
    ∧ quiescent_KernelIdeal_pre_moderate (hKernelIdeal := hKernelIdeal) (hPre_moderate := hPre_moderate)
    ∧ quiescent_ReferenceIdeal (hReferenceIdeal := hReferenceIdeal)
    ∧ quiescent_ReferenceIdeal_pre_moderate (hReferenceIdeal := hReferenceIdeal) (hPre_moderate := hPre_moderate)
    ∧ preserves_Kernel_KernelIdeal
    ∧ algebraic_KernelIdeal_ReferenceIdeal_pre_moderate (hKernelIdeal := hKernelIdeal) (hReferenceIdeal := hReferenceIdeal) (hPre_moderate := hPre_moderate)
-- ==== Pre_moderate.lean ====
abbrev S2x1024x3584 : Shape := ⟨3, ![2, 1024, 3584]⟩
abbrev S2x1024x128 : Shape := ⟨3, ![2, 1024, 128]⟩
abbrev S_ : Shape := ⟨0, ![]⟩

class Facts : Prop where
  bitsLt_bf16_f32 : FTy.bits .bf16 < FTy.bits .f32
  bcast_S_S2x1024x3584 : S_.BroadcastsInDim S2x1024x3584 (![] : Fin 0 → Fin S2x1024x3584.rank)
  reducesTo_S2x1024x3584_S_d0_1_2 : S2x1024x3584.ReducesTo [0, 1, 2] S_
  h_S_ : 0 < S_.numel
  bcast_S_S2x1024x128 : S_.BroadcastsInDim S2x1024x128 (![] : Fin 0 → Fin S2x1024x128.rank)
  reducesTo_S2x1024x128_S_d0_1_2 : S2x1024x128.ReducesTo [0, 1, 2] S_

variable [Facts]

def fn_part2 {F : FTy → Type} [FloatOps F] (main_v25 : IVec S_ 1) (main_v35 : IVec S2x1024x128 1) (main_c_9 : IVec S_ 1) : IVec S_ 1 :=
  let main_v36 : IVec S_ 1 := (fun x v => Host.reduce IntOp.andi x v reducesTo_S2x1024x128_S_d0_1_2 h_S_) main_v35 main_c_9
  let main_v37 : IVec S_ 1 := andi main_v25 main_v36
  main_v37

def fn_part1 {F : FTy → Type} [FloatOps F] (main_v1 : FVec F S2x1024x128 .f32) (main_v2 : FVec F S2x1024x128 .f32) (main_v13 : IVec S_ 1) (main_v16 : IVec S2x1024x128 1) (main_v17 : FVec F S2x1024x128 .f32) : IVec S_ 1 :=
  let main_v18 : IVec S2x1024x128 1 := cmpf .oeq main_v1 main_v17
  let main_v19 : FVec F S2x1024x128 .f32 := Host.absf main_v1
  let main_cst_4 : FVec F S_ .f32 := constant S_ .f32 0x26800000#32
  let main_v20 : FVec F S2x1024x128 .f32 := broadcastInDim S2x1024x128 ![] bcast_S_S2x1024x128 main_cst_4
  let main_v21 : IVec S2x1024x128 1 := cmpf .oge main_v19 main_v20
  let main_v22 : IVec S2x1024x128 1 := ori main_v18 main_v21
  let main_v23 : IVec S2x1024x128 1 := andi main_v16 main_v22
  let main_c_5 : IVec S_ 1 := constantI S_ 1 1#1
  let main_v24 : IVec S_ 1 := (fun x v => Host.reduce IntOp.andi x v reducesTo_S2x1024x128_S_d0_1_2 h_S_) main_v23 main_c_5
  let main_v25 : IVec S_ 1 := andi main_v13 main_v24
  let main_v26 : FVec F S2x1024x128 .f32 := Host.absf main_v2
  let main_cst_6 : FVec F S_ .f32 := constant S_ .f32 0x7F7F0000#32
  let main_v27 : FVec F S2x1024x128 .f32 := broadcastInDim S2x1024x128 ![] bcast_S_S2x1024x128 main_cst_6
  let main_v28 : IVec S2x1024x128 1 := cmpf .ole main_v26 main_v27
  let main_cst_7 : FVec F S_ .f32 := constant S_ .f32 0x00000000#32
  let main_v29 : FVec F S2x1024x128 .f32 := broadcastInDim S2x1024x128 ![] bcast_S_S2x1024x128 main_cst_7
  let main_v30 : IVec S2x1024x128 1 := cmpf .oeq main_v2 main_v29
  let main_v31 : FVec F S2x1024x128 .f32 := Host.absf main_v2
  let main_cst_8 : FVec F S_ .f32 := constant S_ .f32 0x05000000#32
  let main_v32 : FVec F S2x1024x128 .f32 := broadcastInDim S2x1024x128 ![] bcast_S_S2x1024x128 main_cst_8
  let main_v33 : IVec S2x1024x128 1 := cmpf .oge main_v31 main_v32
  let main_v34 : IVec S2x1024x128 1 := ori main_v30 main_v33
  let main_v35 : IVec S2x1024x128 1 := andi main_v28 main_v34
  let main_c_9 : IVec S_ 1 := constantI S_ 1 1#1
  fn_part2 (F := F) main_v25 main_v35 main_c_9

def fn {F : FTy → Type} [FloatOps F] (main_arg0 : FVec F S2x1024x3584 .bf16) (main_arg1 : FVec F S2x1024x128 .bf16) (main_arg2 : FVec F S2x1024x128 .bf16) : IVec S_ 1 :=
  let main_v0 : FVec F S2x1024x3584 .f32 := (extf .f32 · bitsLt_bf16_f32) main_arg0
  let main_v1 : FVec F S2x1024x128 .f32 := (extf .f32 · bitsLt_bf16_f32) main_arg1
  let main_v2 : FVec F S2x1024x128 .f32 := (extf .f32 · bitsLt_bf16_f32) main_arg2
  let main_v3 : FVec F S2x1024x3584 .f32 := Host.absf main_v0
  let main_cst : FVec F S_ .f32 := constant S_ .f32 0x7F7F0000#32
  let main_v4 : FVec F S2x1024x3584 .f32 := broadcastInDim S2x1024x3584 ![] bcast_S_S2x1024x3584 main_cst
  let main_v5 : IVec S2x1024x3584 1 := cmpf .ole main_v3 main_v4
  let main_cst_0 : FVec F S_ .f32 := constant S_ .f32 0x00000000#32
  let main_v6 : FVec F S2x1024x3584 .f32 := broadcastInDim S2x1024x3584 ![] bcast_S_S2x1024x3584 main_cst_0
  let main_v7 : IVec S2x1024x3584 1 := cmpf .oeq main_v0 main_v6
  let main_v8 : FVec F S2x1024x3584 .f32 := Host.absf main_v0
  let main_cst_1 : FVec F S_ .f32 := constant S_ .f32 0x26800000#32
  let main_v9 : FVec F S2x1024x3584 .f32 := broadcastInDim S2x1024x3584 ![] bcast_S_S2x1024x3584 main_cst_1
  let main_v10 : IVec S2x1024x3584 1 := cmpf .oge main_v8 main_v9
  let main_v11 : IVec S2x1024x3584 1 := ori main_v7 main_v10
  let main_v12 : IVec S2x1024x3584 1 := andi main_v5 main_v11
  let main_c : IVec S_ 1 := constantI S_ 1 1#1
  let main_v13 : IVec S_ 1 := (fun x v => Host.reduce IntOp.andi x v reducesTo_S2x1024x3584_S_d0_1_2 h_S_) main_v12 main_c
  let main_v14 : FVec F S2x1024x128 .f32 := Host.absf main_v1
  let main_cst_2 : FVec F S_ .f32 := constant S_ .f32 0x7F7F0000#32
  let main_v15 : FVec F S2x1024x128 .f32 := broadcastInDim S2x1024x128 ![] bcast_S_S2x1024x128 main_cst_2
  let main_v16 : IVec S2x1024x128 1 := cmpf .ole main_v14 main_v15
  let main_cst_3 : FVec F S_ .f32 := constant S_ .f32 0x00000000#32
  let main_v17 : FVec F S2x1024x128 .f32 := broadcastInDim S2x1024x128 ![] bcast_S_S2x1024x128 main_cst_3
  fn_part1 (F := F) main_v1 main_v2 main_v13 main_v16 main_v17
-- ==== Kernel.lean ====
abbrev S2x1024x3584 : Shape := ⟨3, ![2, 1024, 3584]⟩
abbrev S2x1024x128 : Shape := ⟨3, ![2, 1024, 128]⟩
abbrev S2x28x1024x128 : Shape := ⟨4, ![2, 28, 1024, 128]⟩
abbrev S28x8x2x128 : Shape := ⟨4, ![28, 8, 2, 128]⟩
abbrev S2x1024 : Shape := ⟨2, ![2, 1024]⟩
abbrev S2x128 : Shape := ⟨2, ![2, 128]⟩
abbrev S1x128x3584 : Shape := ⟨3, ![1, 128, 3584]⟩
abbrev S1x1024x128 : Shape := ⟨3, ![1, 1024, 128]⟩
abbrev S1x28x128x128 : Shape := ⟨4, ![1, 28, 128, 128]⟩
abbrev S128x128 : Shape := ⟨2, ![128, 128]⟩
abbrev S1024x128 : Shape := ⟨2, ![1024, 128]⟩
abbrev S8x128 : Shape := ⟨2, ![8, 128]⟩
abbrev S128x1024 : Shape := ⟨2, ![128, 1024]⟩
abbrev S1024 : Shape := ⟨1, ![1024]⟩
abbrev S1024x1 : Shape := ⟨2, ![1024, 1]⟩
abbrev S1x1024 : Shape := ⟨2, ![1, 1024]⟩
abbrev S1 : Shape := ⟨1, ![1]⟩
abbrev S1x1 : Shape := ⟨2, ![1, 1]⟩
abbrev S128 : Shape := ⟨1, ![128]⟩
abbrev S1x128 : Shape := ⟨2, ![1, 128]⟩
abbrev S1x128x128 : Shape := ⟨3, ![1, 128, 128]⟩
abbrev S128x1 : Shape := ⟨2, ![128, 1]⟩
abbrev S1x1x128x128 : Shape := ⟨4, ![1, 1, 128, 128]⟩
abbrev S1x1x128 : Shape := ⟨3, ![1, 1, 128]⟩
abbrev S1x1x1x128 : Shape := ⟨4, ![1, 1, 1, 128]⟩
abbrev S1x2x128x128 : Shape := ⟨4, ![1, 2, 128, 128]⟩
abbrev S2x128x128 : Shape := ⟨3, ![2, 128, 128]⟩
abbrev S256x128 : Shape := ⟨2, ![256, 128]⟩
abbrev S128x256 : Shape := ⟨2, ![128, 256]⟩
abbrev S1x256x128 : Shape := ⟨3, ![1, 256, 128]⟩
abbrev S256x256 : Shape := ⟨2, ![256, 256]⟩
abbrev S1x384x128 : Shape := ⟨3, ![1, 384, 128]⟩
abbrev S384x128 : Shape := ⟨2, ![384, 128]⟩
abbrev S128x384 : Shape := ⟨2, ![128, 384]⟩
abbrev S384x256 : Shape := ⟨2, ![384, 256]⟩
abbrev S1x512x128 : Shape := ⟨3, ![1, 512, 128]⟩
abbrev S512x128 : Shape := ⟨2, ![512, 128]⟩
abbrev S128x512 : Shape := ⟨2, ![128, 512]⟩
abbrev S512x256 : Shape := ⟨2, ![512, 256]⟩
abbrev S1x640x128 : Shape := ⟨3, ![1, 640, 128]⟩
abbrev S640x128 : Shape := ⟨2, ![640, 128]⟩
abbrev S128x640 : Shape := ⟨2, ![128, 640]⟩
abbrev S640x256 : Shape := ⟨2, ![640, 256]⟩
abbrev S1x768x128 : Shape := ⟨3, ![1, 768, 128]⟩
abbrev S768x128 : Shape := ⟨2, ![768, 128]⟩
abbrev S128x768 : Shape := ⟨2, ![128, 768]⟩
abbrev S768x256 : Shape := ⟨2, ![768, 256]⟩
abbrev S1x896x128 : Shape := ⟨3, ![1, 896, 128]⟩
abbrev S896x128 : Shape := ⟨2, ![896, 128]⟩
abbrev S128x896 : Shape := ⟨2, ![128, 896]⟩
abbrev S896x256 : Shape := ⟨2, ![896, 256]⟩
abbrev S1024x256 : Shape := ⟨2, ![1024, 256]⟩

abbrev nBuf : Space → Nat
  | .hbm => 10
  | .vmem => 22
  | .smem => 0
  | _ => 0

abbrev bufTy : (tb : Table) → Fin (tcTables nBuf tb) → BufTy
  | .hbm, ⟨0, _⟩ => ⟨S2x1024x3584, .bf16⟩
  | .hbm, ⟨1, _⟩ => ⟨S2x1024x128, .bf16⟩
  | .hbm, ⟨2, _⟩ => ⟨S2x1024x128, .bf16⟩
  | .hbm, ⟨3, _⟩ => ⟨S2x1024x3584, .bf16⟩
  | .hbm, ⟨4, _⟩ => ⟨S2x28x1024x128, .fp8e4m3⟩
  | .hbm, ⟨5, _⟩ => ⟨S28x8x2x128, .f32⟩
  | .hbm, ⟨6, _⟩ => ⟨S2x1024x128, .fp8e4m3⟩
  | .hbm, ⟨7, _⟩ => ⟨S2x1024, .f32⟩
  | .hbm, ⟨8, _⟩ => ⟨S2x1024x128, .fp8e4m3⟩
  | .hbm, ⟨9, _⟩ => ⟨S2x128, .f32⟩
  | .local _ .vmem, ⟨0, _⟩ => ⟨S1x128x3584, .bf16⟩
  | .local _ .vmem, ⟨1, _⟩ => ⟨S1x128x3584, .bf16⟩
  | .local _ .vmem, ⟨2, _⟩ => ⟨S1x1024x128, .bf16⟩
  | .local _ .vmem, ⟨3, _⟩ => ⟨S1x1024x128, .bf16⟩
  | .local _ .vmem, ⟨4, _⟩ => ⟨S1x1024x128, .bf16⟩
  | .local _ .vmem, ⟨5, _⟩ => ⟨S1x1024x128, .bf16⟩
  | .local _ .vmem, ⟨6, _⟩ => ⟨S1x128x3584, .bf16⟩
  | .local _ .vmem, ⟨7, _⟩ => ⟨S1x128x3584, .bf16⟩
  | .local _ .vmem, ⟨8, _⟩ => ⟨S1x28x128x128, .fp8e4m3⟩
  | .local _ .vmem, ⟨9, _⟩ => ⟨S1x28x128x128, .fp8e4m3⟩
  | .local _ .vmem, ⟨10, _⟩ => ⟨S28x8x2x128, .f32⟩
  | .local _ .vmem, ⟨11, _⟩ => ⟨S1x1024x128, .fp8e4m3⟩
  | .local _ .vmem, ⟨12, _⟩ => ⟨S1x1024x128, .fp8e4m3⟩
  | .local _ .vmem, ⟨13, _⟩ => ⟨S2x1024, .f32⟩
  | .local _ .vmem, ⟨14, _⟩ => ⟨S1x1024x128, .fp8e4m3⟩
  | .local _ .vmem, ⟨15, _⟩ => ⟨S1x1024x128, .fp8e4m3⟩
  | .local _ .vmem, ⟨16, _⟩ => ⟨S2x128, .f32⟩
  | .local _ .vmem, ⟨17, _⟩ => ⟨S128x128, .f32⟩
  | .local _ .vmem, ⟨18, _⟩ => ⟨S1024x128, .f32⟩
  | .local _ .vmem, ⟨19, _⟩ => ⟨S8x128, .f32⟩
  | .local _ .vmem, ⟨20, _⟩ => ⟨S128x1024, .fp8e4m3⟩
  | .local _ .vmem, ⟨21, _⟩ => ⟨S128x128, .f32⟩
  | _, _ => ⟨S2x1024x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg0 : BitVec 32 := BitVec.ofNat 32 (i 0).val
  let v1938 : Index := Scalar.indexCast arg0
  let c0_742 : Index := 0#32
  ![v1938.toNat, 0]
def k0_off2 (i : grid0.Coords) : Fin 2 → Nat :=
  let arg0 : BitVec 32 := BitVec.ofNat 32 (i 0).val
  let v2011 : Index := Scalar.indexCast arg0
  let c0_774 : Index := 0#32
  ![v2011.toNat, 0]
def k0_off3 (i : grid0.Coords) : Fin 4 → Nat :=
  let c0_646 : Index := 0#32
  let arg1 : BitVec 32 := BitVec.ofNat 32 (i 1).val
  let v1663 : Index := Scalar.indexCast arg1
  let arg0 : BitVec 32 := BitVec.ofNat 32 (i 0).val
  let v1664 : Index := Scalar.indexCast arg0
  let c0_647 : Index := 0#32
  ![0, v1663.toNat, v1664.toNat, 0]
def k0_off4 (i : grid0.Coords) : Fin 4 → Nat :=
  let c1_648 : Index := 1#32
  let arg1 : BitVec 32 := BitVec.ofNat 32 (i 1).val
  let v1670 : Index := Scalar.indexCast arg1
  let arg0 : BitVec 32 := BitVec.ofNat 32 (i 0).val
  let v1671 : Index := Scalar.indexCast arg0
  let c0_649 : Index := 0#32
  ![1, v1670.toNat, v1671.toNat, 0]
def k0_off5 (i : grid0.Coords) : Fin 4 → Nat :=
  let c2_650 : Index := 2#32
  let arg1 : BitVec 32 := BitVec.ofNat 32 (i 1).val
  let v1677 : Index := Scalar.indexCast arg1
  let arg0 : BitVec 32 := BitVec.ofNat 32 (i 0).val
  let v1678 : Index := Scalar.indexCast arg0
  let c0_651 : Index := 0#32
  ![2, v1677.toNat, v1678.toNat, 0]
def k0_off6 (i : grid0.Coords) : Fin 4 → Nat :=
  let c3_652 : Index := 3#32
  let arg1 : BitVec 32 := BitVec.ofNat 32 (i 1).val
  let v1684 : Index := Scalar.indexCast arg1
  let arg0 : BitVec 32 := BitVec.ofNat 32 (i 0).val
  let v1685 : Index := Scalar.indexCast arg0
  let c0_653 : Index := 0#32
  ![3, v1684.toNat, v1685.toNat, 0]
def k0_off7 (i : grid0.Coords) : Fin 4 → Nat :=
  let c4_654 : Index := 4#32
  let arg1 : BitVec 32 := BitVec.ofNat 32 (i 1).val
  let v1691 : Index := Scalar.indexCast arg1
  let arg0 : BitVec 32 := BitVec.ofNat 32 (i 0).val
  let v1692 : Index := Scalar.indexCast arg0
  let c0_655 : Index := 0#32
  ![4, v1691.toNat, v1692.toNat, 0]
def k0_off8 (i : grid0.Coords) : Fin 4 → Nat :=
  let c5_656 : Index := 5#32
  let arg1 : BitVec 32 := BitVec.ofNat 32 (i 1).val
  let v1698 : Index := Scalar.indexCast arg1
  let arg0 : BitVec 32 := BitVec.ofNat 32 (i 0).val
  let v1699 : Index := Scalar.indexCast arg0
  let c0_657 : Index := 0#32
  ![5, v1698.toNat, v1699.toNat, 0]
def k0_off9 (i : grid0.Coords) : Fin 4 → Nat :=
  let c6_658 : Index := 6#32
  let arg1 : BitVec 32 := BitVec.ofNat 32 (i 1).val
  let v1705 : Index := Scalar.indexCast arg1
  let arg0 : BitVec 32 := BitVec.ofNat 32 (i 0).val
  let v1706 : Index := Scalar.indexCast arg0
  let c0_659 : Index := 0#32
  ![6, v1705.toNat, v1706.toNat, 0]
def k0_off10 (i : grid0.Coords) : Fin 4 → Nat :=
  let c7_660 : Index := 7#32
  let arg1 : BitVec 32 := BitVec.ofNat 32 (i 1).val
  let v1712 : Index := Scalar.indexCast arg1
  let arg0 : BitVec 32 := BitVec.ofNat 32 (i 0).val
  let v1713 : Index := Scalar.indexCast arg0
  let c0_661 : Index := 0#32
  ![7, v1712.toNat, v1713.toNat, 0]
def k0_off11 (i : grid0.Coords) : Fin 4 → Nat :=
  let c8_662 : Index := 8#32
  let arg1 : BitVec 32 := BitVec.ofNat 32 (i 1).val
  let v1719 : Index := Scalar.indexCast arg1
  let arg0 : BitVec 32 := BitVec.ofNat 32 (i 0).val
  let v1720 : Index := Scalar.indexCast arg0
  let c0_663 : Index := 0#32
  ![8, v1719.toNat, v1720.toNat, 0]
def k0_off12 (i : grid0.Coords) : Fin 4 → Nat :=
  let c9_664 : Index := 9#32
  let arg1 : BitVec 32 := BitVec.ofNat 32 (i 1).val
  let v1726 : Index := Scalar.indexCast arg1
  let arg0 : BitVec 32 := BitVec.ofNat 32 (i 0).val
  let v1727 : Index := Scalar.indexCast arg0
  let c0_665 : Index := 0#32
  ![9, v1726.toNat, v1727.toNat, 0]
def k0_off13 (i : grid0.Coords) : Fin 4 → Nat :=
  let c10_666 : Index := 10#32
  let arg1 : BitVec 32 := BitVec.ofNat 32 (i 1).val
  let v1733 : Index := Scalar.indexCast arg1
  let arg0 : BitVec 32 := BitVec.ofNat 32 (i 0).val
  let v1734 : Index := Scalar.indexCast arg0
  let c0_667 : Index := 0#32
  ![10, v1733.toNat, v1734.toNat, 0]
def k0_off14 (i : grid0.Coords) : Fin 4 → Nat :=
  let c11_668 : Index := 11#32
  let arg1 : BitVec 32 := BitVec.ofNat 32 (i 1).val
  let v1740 : Index := Scalar.indexCast arg1
  let arg0 : BitVec 32 := BitVec.ofNat 32 (i 0).val
  let v1741 : Index := Scalar.indexCast arg0
  let c0_669 : Index := 0#32
  ![11, v1740.toNat, v1741.toNat, 0]
def k0_off15 (i : grid0.Coords) : Fin 4 → Nat :=
  let c12_670 : Index := 12#32
  let arg1 : BitVec 32 := BitVec.ofNat 32 (i 1).val
  let v1747 : Index := Scalar.indexCast arg1
  let arg0 : BitVec 32 := BitVec.ofNat 32 (i 0).val
  let v1748 : Index := Scalar.indexCast arg0
  let c0_671 : Index := 0#32
  ![12, v1747.toNat, v1748.toNat, 0]
def k0_off16 (i : grid0.Coords) : Fin 4 → Nat :=
  let c13_672 : Index := 13#32
  let arg1 : BitVec 32 := BitVec.ofNat 32 (i 1).val
  let v1754 : Index := Scalar.indexCast arg1
  let arg0 : BitVec 32 := BitVec.ofNat 32 (i 0).val
  let v1755 : Index := Scalar.indexCast arg0
  let c0_673 : Index := 0#32
  ![13, v1754.toNat, v1755.toNat, 0]
def k0_off17 (i : grid0.Coords) : Fin 4 → Nat :=
  let c14_674 : Index := 14#32
  let arg1 : BitVec 32 := BitVec.ofNat 32 (i 1).val
  let v1761 : Index := Scalar.indexCast arg1
  let arg0 : BitVec 32 := BitVec.ofNat 32 (i 0).val
  let v1762 : Index := Scalar.indexCast arg0
  let c0_675 : Index := 0#32
  ![14, v1761.toNat, v1762.toNat, 0]
def k0_off18 (i : grid0.Coords) : Fin 4 → Nat :=
  let c15_676 : Index := 15#32
  let arg1 : BitVec 32 := BitVec.ofNat 32 (i 1).val
  let v1768 : Index := Scalar.indexCast arg1
  let arg0 : BitVec 32 := BitVec.ofNat 32 (i 0).val
  let v1769 : Index := Scalar.indexCast arg0
  let c0_677 : Index := 0#32
  ![15, v1768.toNat, v1769.toNat, 0]
def k0_off19 (i : grid0.Coords) : Fin 4 → Nat :=
  let c16_678 : Index := 16#32
  let arg1 : BitVec 32 := BitVec.ofNat 32 (i 1).val
  let v1775 : Index := Scalar.indexCast arg1
  let arg0 : BitVec 32 := BitVec.ofNat 32 (i 0).val
  let v1776 : Index := Scalar.indexCast arg0
  let c0_679 : Index := 0#32
  ![16, v1775.toNat, v1776.toNat, 0]
def k0_off20 (i : grid0.Coords) : Fin 4 → Nat :=
  let c17_680 : Index := 17#32
  let arg1 : BitVec 32 := BitVec.ofNat 32 (i 1).val
  let v1782 : Index := Scalar.indexCast arg1
  let arg0 : BitVec 32 := BitVec.ofNat 32 (i 0).val
  let v1783 : Index := Scalar.indexCast arg0
  let c0_681 : Index := 0#32
  ![17, v1782.toNat, v1783.toNat, 0]
def k0_off21 (i : grid0.Coords) : Fin 4 → Nat :=
  let c18_682 : Index := 18#32
  let arg1 : BitVec 32 := BitVec.ofNat 32 (i 1).val
  let v1789 : Index := Scalar.indexCast arg1
  let arg0 : BitVec 32 := BitVec.ofNat 32 (i 0).val
  let v1790 : Index := Scalar.indexCast arg0
  let c0_683 : Index := 0#32
  ![18, v1789.toNat, v1790.toNat, 0]
def k0_off22 (i : grid0.Coords) : Fin 4 → Nat :=
  let c19_684 : Index := 19#32
  let arg1 : BitVec 32 := BitVec.ofNat 32 (i 1).val
  let v1796 : Index := Scalar.indexCast arg1
  let arg0 : BitVec 32 := BitVec.ofNat 32 (i 0).val
  let v1797 : Index := Scalar.indexCast arg0
  let c0_685 : Index := 0#32
  ![19, v1796.toNat, v1797.toNat, 0]
def k0_off23 (i : grid0.Coords) : Fin 4 → Nat :=
  let c20_686 : Index := 20#32
  let arg1 : BitVec 32 := BitVec.ofNat 32 (i 1).val
  let v1803 : Index := Scalar.indexCast arg1
  let arg0 : BitVec 32 := BitVec.ofNat 32 (i 0).val
  let v1804 : Index := Scalar.indexCast arg0
  let c0_687 : Index := 0#32
  ![20, v1803.toNat, v1804.toNat, 0]
def k0_off24 (i : grid0.Coords) : Fin 4 → Nat :=
  let c21_688 : Index := 21#32
  let arg1 : BitVec 32 := BitVec.ofNat 32 (i 1).val
  let v1810 : Index := Scalar.indexCast arg1
  let arg0 : BitVec 32 := BitVec.ofNat 32 (i 0).val
  let v1811 : Index := Scalar.indexCast arg0
  let c0_689 : Index := 0#32
  ![21, v1810.toNat, v1811.toNat, 0]
def k0_off25 (i : grid0.Coords) : Fin 4 → Nat :=
  let c22_690 : Index := 22#32
  let arg1 : BitVec 32 := BitVec.ofNat 32 (i 1).val
  let v1817 : Index := Scalar.indexCast arg1
  let arg0 : BitVec 32 := BitVec.ofNat 32 (i 0).val
  let v1818 : Index := Scalar.indexCast arg0
  let c0_691 : Index := 0#32
  ![22, v1817.toNat, v1818.toNat, 0]
def k0_off26 (i : grid0.Coords) : Fin 4 → Nat :=
  let c23_692 : Index := 23#32
  let arg1 : BitVec 32 := BitVec.ofNat 32 (i 1).val
  let v1824 : Index := Scalar.indexCast arg1
  let arg0 : BitVec 32 := BitVec.ofNat 32 (i 0).val
  let v1825 : Index := Scalar.indexCast arg0
  let c0_693 : Index := 0#32
  ![23, v1824.toNat, v1825.toNat, 0]
def k0_off27 (i : grid0.Coords) : Fin 4 → Nat :=
  let c24_694 : Index := 24#32
  let arg1 : BitVec 32 := BitVec.ofNat 32 (i 1).val
  let v1831 : Index := Scalar.indexCast arg1
  let arg0 : BitVec 32 := BitVec.ofNat 32 (i 0).val
  let v1832 : Index := Scalar.indexCast arg0
  let c0_695 : Index := 0#32
  ![24, v1831.toNat, v1832.toNat, 0]
def k0_off28 (i : grid0.Coords) : Fin 4 → Nat :=
  let c25_696 : Index := 25#32
  let arg1 : BitVec 32 := BitVec.ofNat 32 (i 1).val
  let v1838 : Index := Scalar.indexCast arg1
  let arg0 : BitVec 32 := BitVec.ofNat 32 (i 0).val
  let v1839 : Index := Scalar.indexCast arg0
  let c0_697 : Index := 0#32
  ![25, v1838.toNat, v1839.toNat, 0]
def k0_off29 (i : grid0.Coords) : Fin 4 → Nat :=
  let c26_698 : Index := 26#32
  let arg1 : BitVec 32 := BitVec.ofNat 32 (i 1).val
  let v1845 : Index := Scalar.indexCast arg1
  let arg0 : BitVec 32 := BitVec.ofNat 32 (i 0).val
  let v1846 : Index := Scalar.indexCast arg0
  let c0_699 : Index := 0#32
  ![26, v1845.toNat, v1846.toNat, 0]
def k0_off30 (i : grid0.Coords) : Fin 4 → Nat :=
  let c27_700 : Index := 27#32
  let arg1 : BitVec 32 := BitVec.ofNat 32 (i 1).val
  let v1852 : Index := Scalar.indexCast arg1
  let arg0 : BitVec 32 := BitVec.ofNat 32 (i 0).val
  let v1853 : Index := Scalar.indexCast arg0
  let c0_701 : Index := 0#32
  ![27, v1852.toNat, v1853.toNat, 0]
def k0_cond2 (i : grid0.Coords) : BitVec 1 :=
  let arg1 : BitVec 32 := BitVec.ofNat 32 (i 1).val
  let c0_i32_702 : BitVec 32 := 0#32
  let v1857 : BitVec 1 := Scalar.cmpi .eq arg1 c0_i32_702
  let v1858 : BitVec 32 := Scalar.extui v1857
  let c0_i32_703 : BitVec 32 := 0#32
  let v1859 : BitVec 1 := Scalar.cmpi .ne v1858 c0_i32_703
  v1859

def k0_cond3 (i : grid0.Coords) : BitVec 1 :=
  let arg1 : BitVec 32 := BitVec.ofNat 32 (i 1).val
  let c1_i32_704 : BitVec 32 := 1#32
  let v1860 : BitVec 1 := Scalar.cmpi .eq arg1 c1_i32_704
  let v1861 : BitVec 32 := Scalar.extui v1860
  let c0_i32_705 : BitVec 32 := 0#32
  let v1862 : BitVec 1 := Scalar.cmpi .ne v1861 c0_i32_705
  v1862

def k0_cond4 (i : grid0.Coords) : BitVec 1 :=
  let arg1 : BitVec 32 := BitVec.ofNat 32 (i 1).val
  let c2_i32_706 : BitVec 32 := 2#32
  let v1863 : BitVec 1 := Scalar.cmpi .eq arg1 c2_i32_706
  let v1864 : BitVec 32 := Scalar.extui v1863
  let c0_i32_707 : BitVec 32 := 0#32
  let v1865 : BitVec 1 := Scalar.cmpi .ne v1864 c0_i32_707
  v1865

def k0_cond5 (i : grid0.Coords) : BitVec 1 :=
  let arg1 : BitVec 32 := BitVec.ofNat 32 (i 1).val
  let c3_i32_708 : BitVec 32 := 3#32
  let v1866 : BitVec 1 := Scalar.cmpi .eq arg1 c3_i32_708
  let v1867 : BitVec 32 := Scalar.extui v1866
  let c0_i32_709 : BitVec 32 := 0#32
  let v1868 : BitVec 1 := Scalar.cmpi .ne v1867 c0_i32_709
  v1868

def k0_cond6 (i : grid0.Coords) : BitVec 1 :=
  let arg1 : BitVec 32 := BitVec.ofNat 32 (i 1).val
  let c4_i32_710 : BitVec 32 := 4#32
  let v1869 : BitVec 1 := Scalar.cmpi .eq arg1 c4_i32_710
  let v1870 : BitVec 32 := Scalar.extui v1869
  let c0_i32_711 : BitVec 32 := 0#32
  let v1871 : BitVec 1 := Scalar.cmpi .ne v1870 c0_i32_711
  v1871

def k0_cond7 (i : grid0.Coords) : BitVec 1 :=
  let arg1 : BitVec 32 := BitVec.ofNat 32 (i 1).val
  let c5_i32_712 : BitVec 32 := 5#32
  let v1872 : BitVec 1 := Scalar.cmpi .eq arg1 c5_i32_712
  let v1873 : BitVec 32 := Scalar.extui v1872
  let c0_i32_713 : BitVec 32 := 0#32
  let v1874 : BitVec 1 := Scalar.cmpi .ne v1873 c0_i32_713
  v1874

def k0_cond8 (i : grid0.Coords) : BitVec 1 :=
  let arg1 : BitVec 32 := BitVec.ofNat 32 (i 1).val
  let c6_i32_714 : BitVec 32 := 6#32
  let v1875 : BitVec 1 := Scalar.cmpi .eq arg1 c6_i32_714
  let v1876 : BitVec 32 := Scalar.extui v1875
  let c0_i32_715 : BitVec 32 := 0#32
  let v1877 : BitVec 1 := Scalar.cmpi .ne v1876 c0_i32_715
  v1877

def k0_cond9 (i : grid0.Coords) : BitVec 1 :=
  let arg1 : BitVec 32 := BitVec.ofNat 32 (i 1).val
  let c7_i32_716 : BitVec 32 := 7#32
  let v1878 : BitVec 1 := Scalar.cmpi .eq arg1 c7_i32_716
  let v1879 : BitVec 32 := Scalar.extui v1878
  let c0_i32_717 : BitVec 32 := 0#32
  let v1880 : BitVec 1 := Scalar.cmpi .ne v1879 c0_i32_717
  v1880

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x128x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x3584 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x28x128x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S28x8x2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x128 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S2x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== KernelIdeal.lean ====
variable {F : FTy → Type} [FloatOps F] [Named F]
def κ : String → Option EReal := fun
  | "inv_e4m3_max" => some ((1 / 448 : ℝ) : EReal)
  | "log2e" => some (((Real.log 2)⁻¹ : ℝ) : EReal)
  | "score_scale_log2e" => some (((Real.sqrt 128)⁻¹ * (Real.log 2)⁻¹ : ℝ) : EReal)
  | _ => none
-- ==== ReferenceIdeal.lean ====
abbrev S2x1024x3584 : Shape := ⟨3, ![2, 1024, 3584]⟩
abbrev S2x1024x128 : Shape := ⟨3, ![2, 1024, 128]⟩
abbrev S2x1024x28x128 : Shape := ⟨4, ![2, 1024, 28, 128]⟩
abbrev S_ : Shape := ⟨0, ![]⟩
abbrev S2x1024x28 : Shape := ⟨3, ![2, 1024, 28]⟩
abbrev S2x1024x28x1 : Shape := ⟨4, ![2, 1024, 28, 1]⟩
abbrev S2x1024 : Shape := ⟨2, ![2, 1024]⟩
abbrev S2x1024x1 : Shape := ⟨3, ![2, 1024, 1]⟩
abbrev S2x128 : Shape := ⟨2, ![2, 128]⟩
abbrev S2x1x128 : Shape := ⟨3, ![2, 1, 128]⟩
abbrev S2x1024x28x1024 : Shape := ⟨4, ![2, 1024, 28, 1024]⟩
abbrev S2x1x1x1024 : Shape := ⟨4, ![2, 1, 1, 1024]⟩
abbrev S1024 : Shape := ⟨1, ![1024]⟩
abbrev S1x1024 : Shape := ⟨2, ![1, 1024]⟩
abbrev S1024x1 : Shape := ⟨2, ![1024, 1]⟩
abbrev S1024x1024 : Shape := ⟨2, ![1024, 1024]⟩
abbrev S1x1024x1x1024 : Shape := ⟨4, ![1, 1024, 1, 1024]⟩
abbrev S2x1x1x128 : Shape := ⟨4, ![2, 1, 1, 128]⟩
abbrev S2x28x1024x128 : Shape := ⟨4, ![2, 28, 1024, 128]⟩
abbrev S2x8x128x28 : Shape := ⟨4, ![2, 8, 128, 28]⟩
abbrev S28x8x2x128 : Shape := ⟨4, ![28, 8, 2, 128]⟩

abbrev nBuf : Space → Nat
  | .hbm => 210
  | .vmem => 0
  | .smem => 0
  | _ => 0

abbrev hbmTy0_0 (i : Nat) : BufTy := match i % 128 with
  | 0 => ⟨S2x1024x3584, .bf16⟩
  | 1 => ⟨S2x1024x128, .bf16⟩
  | 2 => ⟨S2x1024x128, .bf16⟩
  | 3 => ⟨S2x1024x28x128, .bf16⟩
  | 4 => ⟨S2x1024x28x128, .bf16⟩
  | 5 => ⟨S_, .bf16⟩
  | 6 => ⟨S2x1024x28, .bf16⟩
  | 7 => ⟨S2x1024x28x1, .bf16⟩
  | 8 => ⟨S2x1024x28x1, .f32⟩
  | 9 => ⟨S_, .f32⟩
  | 10 => ⟨S_, .f32⟩
  | 11 => ⟨S_, .f32⟩
  | 12 => ⟨S2x1024x28x1, .f32⟩
  | 13 => ⟨S2x1024x28x1, .i1⟩
  | 14 => ⟨S_, .f32⟩
  | 15 => ⟨S2x1024x28x1, .f32⟩
  | 16 => ⟨S2x1024x28x1, .f32⟩
  | 17 => ⟨S2x1024x28x1, .f32⟩
  | 18 => ⟨S2x1024x28x1, .f32⟩
  | 19 => ⟨S2x1024x28x1, .f32⟩
  | 20 => ⟨S2x1024x28x1, .f32⟩
  | 21 => ⟨S_, .f32⟩
  | 22 => ⟨S2x1024x28x1, .f32⟩
  | 23 => ⟨S2x1024x28x1, .f32⟩
  | 24 => ⟨S_, .f32⟩
  | 25 => ⟨S_, .f32⟩
  | 26 => ⟨S2x1024x28x1, .f32⟩
  | 27 => ⟨S2x1024x28x1, .f32⟩
  | 28 => ⟨S2x1024x28x1, .f32⟩
  | 29 => ⟨S2x1024x28x1, .f32⟩
  | 30 => ⟨S2x1024x28x1, .f32⟩
  | 31 => ⟨S2x1024x28x128, .f32⟩
  | 32 => ⟨S2x1024x28x128, .f32⟩
  | 33 => ⟨S2x1024x28x128, .f32⟩
  | 34 => ⟨S_, .f32⟩
  | 35 => ⟨S_, .f32⟩
  | 36 => ⟨S_, .f32⟩
  | 37 => ⟨S2x1024x28x128, .f32⟩
  | 38 => ⟨S2x1024x28x128, .f32⟩
  | 39 => ⟨S_, .f32⟩
  | 40 => ⟨S2x1024x28x128, .f32⟩
  | 41 => ⟨S2x1024x28x128, .f32⟩
  | 42 => ⟨S2x1024x28, .f32⟩
  | 43 => ⟨S2x1024x128, .bf16⟩
  | 44 => ⟨S_, .bf16⟩
  | 45 => ⟨S2x1024, .bf16⟩
  | 46 => ⟨S2x1024x1, .bf16⟩
  | 47 => ⟨S2x1024x1, .f32⟩
  | 48 => ⟨S_, .f32⟩
  | 49 => ⟨S_, .f32⟩
  | 50 => ⟨S_, .f32⟩
  | 51 => ⟨S2x1024x1, .f32⟩
  | 52 => ⟨S2x1024x1, .i1⟩
  | 53 => ⟨S_, .f32⟩
  | 54 => ⟨S2x1024x1, .f32⟩
  | 55 => ⟨S2x1024x1, .f32⟩
  | 56 => ⟨S2x1024x1, .f32⟩
  | 57 => ⟨S2x1024x1, .f32⟩
  | 58 => ⟨S2x1024x1, .f32⟩
  | 59 => ⟨S2x1024x1, .f32⟩
  | 60 => ⟨S_, .f32⟩
  | 61 => ⟨S2x1024x1, .f32⟩
  | 62 => ⟨S2x1024x1, .f32⟩
  | 63 => ⟨S_, .f32⟩
  | 64 => ⟨S_, .f32⟩
  | 65 => ⟨S2x1024x1, .f32⟩
  | 66 => ⟨S2x1024x1, .f32⟩
  | 67 => ⟨S2x1024x1, .f32⟩
  | 68 => ⟨S2x1024x1, .f32⟩
  | 69 => ⟨S2x1024x1, .f32⟩
  | 70 => ⟨S2x1024x128, .f32⟩
  | 71 => ⟨S2x1024x128, .f32⟩
  | 72 => ⟨S2x1024x128, .f32⟩
  | 73 => ⟨S_, .f32⟩
  | 74 => ⟨S_, .f32⟩
  | 75 => ⟨S_, .f32⟩
  | 76 => ⟨S2x1024x128, .f32⟩
  | 77 => ⟨S2x1024x128, .f32⟩
  | 78 => ⟨S_, .f32⟩
  | 79 => ⟨S2x1024x128, .f32⟩
  | 80 => ⟨S2x1024x128, .f32⟩
  | 81 => ⟨S2x1024, .f32⟩
  | 82 => ⟨S2x1024x128, .bf16⟩
  | 83 => ⟨S_, .bf16⟩
  | 84 => ⟨S2x128, .bf16⟩
  | 85 => ⟨S2x1x128, .bf16⟩
  | 86 => ⟨S2x1x128, .f32⟩
  | 87 => ⟨S_, .f32⟩
  | 88 => ⟨S_, .f32⟩
  | 89 => ⟨S_, .f32⟩
  | 90 => ⟨S2x1x128, .f32⟩
  | 91 => ⟨S2x1x128, .i1⟩
  | 92 => ⟨S_, .f32⟩
  | 93 => ⟨S2x1x128, .f32⟩
  | 94 => ⟨S2x1x128, .f32⟩
  | 95 => ⟨S2x1x128, .f32⟩
  | 96 => ⟨S2x1x128, .f32⟩
  | 97 => ⟨S2x1x128, .f32⟩
  | 98 => ⟨S2x1x128, .f32⟩
  | 99 => ⟨S_, .f32⟩
  | 100 => ⟨S2x1x128, .f32⟩
  | 101 => ⟨S2x1x128, .f32⟩
  | 102 => ⟨S_, .f32⟩
  | 103 => ⟨S_, .f32⟩
  | 104 => ⟨S2x1x128, .f32⟩
  | 105 => ⟨S2x1x128, .f32⟩
  | 106 => ⟨S2x1x128, .f32⟩
  | 107 => ⟨S2x1x128, .f32⟩
  | 108 => ⟨S2x1x128, .f32⟩
  | 109 => ⟨S2x1024x128, .f32⟩
  | 110 => ⟨S2x1024x128, .f32⟩
  | 111 => ⟨S2x1024x128, .f32⟩
  | 112 => ⟨S_, .f32⟩
  | 113 => ⟨S_, .f32⟩
  | 114 => ⟨S_, .f32⟩
  | 115 => ⟨S2x1024x128, .f32⟩
  | 116 => ⟨S2x1024x128, .f32⟩
  | 117 => ⟨S_, .f32⟩
  | 118 => ⟨S2x1024x128, .f32⟩
  | 119 => ⟨S2x1024x128, .f32⟩
  | 120 => ⟨S2x128, .f32⟩
  | 121 => ⟨S2x1024x28x1024, .f32⟩
  | 122 => ⟨S2x1024x28x1, .f32⟩
  | 123 => ⟨S2x1024x28x1024, .f32⟩
  | 124 => ⟨S2x1024x28x1024, .f32⟩
  | 125 => ⟨S2x1x1x1024, .f32⟩
  | 126 => ⟨S2x1024x28x1024, .f32⟩
  | 127 => ⟨S2x1024x28x1024, .f32⟩
  | _ => ⟨S2x1024x3584, .bf16⟩

abbrev hbmTy0_1 (i : Nat) : BufTy := match i % 128 with
  | 0 => ⟨S_, .f32⟩
  | 1 => ⟨S_, .f32⟩
  | 2 => ⟨S2x1024x28x1024, .f32⟩
  | 3 => ⟨S2x1024x28x1024, .f32⟩
  | 4 => ⟨S1024, .i32⟩
  | 5 => ⟨S1x1024, .i32⟩
  | 6 => ⟨S1024x1, .i32⟩
  | 7 => ⟨S1024x1024, .i32⟩
  | 8 => ⟨S1024x1024, .i32⟩
  | 9 => ⟨S1024x1024, .i1⟩
  | 10 => ⟨S1x1024x1x1024, .i1⟩
  | 11 => ⟨S_, .f32⟩
  | 12 => ⟨S_, .f32⟩
  | 13 => ⟨S2x1024x28x1024, .i1⟩
  | 14 => ⟨S2x1024x28x1024, .f32⟩
  | 15 => ⟨S2x1024x28x1024, .f32⟩
  | 16 => ⟨S_, .f32⟩
  | 17 => ⟨S2x1024x28, .f32⟩
  | 18 => ⟨S_, .f32⟩
  | 19 => ⟨S2x1024x28, .f32⟩
  | 20 => ⟨S2x1024x28, .f32⟩
  | 21 => ⟨S2x1024x28x1, .f32⟩
  | 22 => ⟨S2x1024x28x1024, .f32⟩
  | 23 => ⟨S2x1024x28x1024, .f32⟩
  | 24 => ⟨S2x1024x28x1024, .f32⟩
  | 25 => ⟨S_, .f32⟩
  | 26 => ⟨S2x1024x28, .f32⟩
  | 27 => ⟨S2x1024x28x1, .f32⟩
  | 28 => ⟨S2x1024x28x1024, .f32⟩
  | 29 => ⟨S2x1024x28x1024, .f32⟩
  | 30 => ⟨S2x1024x28x1024, .f32⟩
  | 31 => ⟨S_, .f32⟩
  | 32 => ⟨S2x1024x28, .f32⟩
  | 33 => ⟨S2x1024x28x1, .f32⟩
  | 34 => ⟨S_, .f32⟩
  | 35 => ⟨S_, .f32⟩
  | 36 => ⟨S_, .f32⟩
  | 37 => ⟨S2x1024x28x1, .f32⟩
  | 38 => ⟨S2x1024x28x1, .i1⟩
  | 39 => ⟨S_, .f32⟩
  | 40 => ⟨S2x1024x28x1, .f32⟩
  | 41 => ⟨S2x1024x28x1, .f32⟩
  | 42 => ⟨S2x1024x28x1, .f32⟩
  | 43 => ⟨S2x1024x28x1, .f32⟩
  | 44 => ⟨S2x1024x28x1, .f32⟩
  | 45 => ⟨S2x1024x28x1, .f32⟩
  | 46 => ⟨S_, .f32⟩
  | 47 => ⟨S2x1024x28x1, .f32⟩
  | 48 => ⟨S2x1024x28x1, .f32⟩
  | 49 => ⟨S_, .f32⟩
  | 50 => ⟨S_, .f32⟩
  | 51 => ⟨S2x1024x28x1, .f32⟩
  | 52 => ⟨S2x1024x28x1, .f32⟩
  | 53 => ⟨S2x1024x28x1, .f32⟩
  | 54 => ⟨S2x1024x28x1, .f32⟩
  | 55 => ⟨S2x1024x28x1, .f32⟩
  | 56 => ⟨S2x1024x28x1024, .f32⟩
  | 57 => ⟨S2x1024x28x1024, .f32⟩
  | 58 => ⟨S_, .f32⟩
  | 59 => ⟨S_, .f32⟩
  | 60 => ⟨S_, .f32⟩
  | 61 => ⟨S2x1024x28x1024, .f32⟩
  | 62 => ⟨S2x1024x28x1024, .f32⟩
  | 63 => ⟨S_, .f32⟩
  | 64 => ⟨S2x1024x28x1024, .f32⟩
  | 65 => ⟨S2x1024x28x1024, .f32⟩
  | 66 => ⟨S2x1024x28, .f32⟩
  | 67 => ⟨S2x1024x28x128, .f32⟩
  | 68 => ⟨S2x1024x28x1, .f32⟩
  | 69 => ⟨S2x1024x28x128, .f32⟩
  | 70 => ⟨S2x1024x28x128, .f32⟩
  | 71 => ⟨S2x1x1x128, .f32⟩
  | 72 => ⟨S2x1024x28x128, .f32⟩
  | 73 => ⟨S2x1024x28x128, .f32⟩
  | 74 => ⟨S2x1024x3584, .f32⟩
  | 75 => ⟨S2x1024x3584, .bf16⟩
  | 76 => ⟨S2x28x1024x128, .f32⟩
  | 77 => ⟨S2x8x128x28, .f32⟩
  | 78 => ⟨S28x8x2x128, .f32⟩
  | 79 => ⟨S2x28x1024x128, .fp8e4m3⟩
  | 80 => ⟨S2x1024x128, .fp8e4m3⟩
  | 81 => ⟨S2x1024x128, .fp8e4m3⟩
  | _ => ⟨S2x1024x3584, .bf16⟩

abbrev hbmTy (i : Nat) : BufTy := match i / 128 with
  | 0 => hbmTy0_0 i
  | 1 => hbmTy0_1 i
  | _ => ⟨S2x1024x3584, .bf16⟩

abbrev bufTy : (tb : Table) → Fin (tcTables nBuf tb) → BufTy
  | .hbm, ⟨i, _⟩ => hbmTy i
  | _, _ => ⟨S2x1024x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_call0_v0 : Ref sig .tc := ⟨.hbm, 25, rfl⟩
abbrev main_call0_v1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_cst_6 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_7 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_8 : Ref sig .tc := ⟨.hbm, 48, rfl⟩
abbrev main_v29 : Ref sig .tc := ⟨.hbm, 49, rfl⟩
abbrev main_cst_9 : Ref sig .tc := ⟨.hbm, 50, rfl⟩
abbrev main_v30 : Ref sig .tc := ⟨.hbm, 51, rfl⟩
abbrev main_v31 : Ref sig .tc := ⟨.hbm, 52, rfl⟩
abbrev main_cst_10 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_11 : Ref sig .tc := ⟨.hbm, 60, rfl⟩
abbrev main_v38 : Ref sig .tc := ⟨.hbm, 61, rfl⟩
abbrev main_v39 : Ref sig .tc := ⟨.hbm, 62, rfl⟩
abbrev main_cst_12 : Ref sig .tc := ⟨.hbm, 63, rfl⟩
abbrev main_call2_v0 : Ref sig .tc := ⟨.hbm, 64, rfl⟩
abbrev main_call2_v1 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_13 : Ref sig .tc := ⟨.hbm, 73, rfl⟩
abbrev main_cst_14 : Ref sig .tc := ⟨.hbm, 74, rfl⟩
abbrev main_call3_v0 : Ref sig .tc := ⟨.hbm, 75, rfl⟩
abbrev main_call3_v1 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_cst_15 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_cst_16 : Ref sig .tc := ⟨.hbm, 87, rfl⟩
abbrev main_v53 : Ref sig .tc := ⟨.hbm, 88, rfl⟩
abbrev main_cst_17 : Ref sig .tc := ⟨.hbm, 89, rfl⟩
abbrev main_v54 : Ref sig .tc := ⟨.hbm, 90, rfl⟩
abbrev main_v55 : Ref sig .tc := ⟨.hbm, 91, rfl⟩
abbrev main_cst_18 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_cst_19 : Ref sig .tc := ⟨.hbm, 99, rfl⟩
abbrev main_v62 : Ref sig .tc := ⟨.hbm, 100, rfl⟩
abbrev main_v63 : Ref sig .tc := ⟨.hbm, 101, rfl⟩
abbrev main_cst_20 : Ref sig .tc := ⟨.hbm, 102, rfl⟩
abbrev main_call4_v0 : Ref sig .tc := ⟨.hbm, 103, rfl⟩
abbrev main_call4_v1 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_cst_21 : Ref sig .tc := ⟨.hbm, 112, rfl⟩
abbrev main_cst_22 : Ref sig .tc := ⟨.hbm, 113, rfl⟩
abbrev main_call5_v0 : Ref sig .tc := ⟨.hbm, 114, rfl⟩
abbrev main_call5_v1 : Ref sig .tc := ⟨.hbm, 115, rfl⟩
abbrev main_call5_v2 : Ref sig .tc := ⟨.hbm, 116, rfl⟩
abbrev main_call5_v3 : Ref sig .tc := ⟨.hbm, 117, rfl⟩
abbrev main_call5_v4 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_cst_23 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_cst_24 : Ref sig .tc := ⟨.hbm, 139, rfl⟩
abbrev main_call6_v0 : Ref sig .tc := ⟨.hbm, 140, rfl⟩
abbrev main_call6_v1 : Ref sig .tc := ⟨.hbm, 141, rfl⟩
abbrev main_call6_v2 : Ref sig .tc := ⟨.hbm, 142, rfl⟩
abbrev main_v90 : Ref sig .tc := ⟨.hbm, 143, rfl⟩
abbrev main_cst_25 : Ref sig .tc := ⟨.hbm, 144, rfl⟩
abbrev main_v91 : Ref sig .tc := ⟨.hbm, 145, rfl⟩
abbrev main_cst_26 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_cst_27 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_cst_28 : Ref sig .tc := ⟨.hbm, 159, rfl⟩
abbrev main_v103 : Ref sig .tc := ⟨.hbm, 160, rfl⟩
abbrev main_v104 : Ref sig .tc := ⟨.hbm, 161, rfl⟩
abbrev main_cst_29 : Ref sig .tc := ⟨.hbm, 162, rfl⟩
abbrev main_v105 : Ref sig .tc := ⟨.hbm, 163, rfl⟩
abbrev main_cst_30 : Ref sig .tc := ⟨.hbm, 164, rfl⟩
abbrev main_v106 : Ref sig .tc := ⟨.hbm, 165, rfl⟩
abbrev main_v107 : Ref sig .tc := ⟨.hbm, 166, rfl⟩
abbrev main_cst_31 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_cst_32 : Ref sig .tc := ⟨.hbm, 174, rfl⟩
abbrev main_v114 : Ref sig .tc := ⟨.hbm, 175, rfl⟩
abbrev main_v115 : Ref sig .tc := ⟨.hbm, 176, rfl⟩
abbrev main_cst_33 : Ref sig .tc := ⟨.hbm, 177, rfl⟩
abbrev main_call7_v0 : Ref sig .tc := ⟨.hbm, 178, rfl⟩
abbrev main_call7_v1 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_cst_34 : Ref sig .tc := ⟨.hbm, 186, rfl⟩
abbrev main_cst_35 : Ref sig .tc := ⟨.hbm, 187, rfl⟩
abbrev main_call8_v0 : Ref sig .tc := ⟨.hbm, 188, rfl⟩
abbrev main_call8_v1 : Ref sig .tc := ⟨.hbm, 189, rfl⟩
abbrev main_call8_v2 : Ref sig .tc := ⟨.hbm, 190, rfl⟩
abbrev main_call8_v3 : Ref sig .tc := ⟨.hbm, 191, rfl⟩
abbrev main_call8_v4 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_v125 : Ref sig .tc := ⟨.hbm, 196, rfl⟩
abbrev main_v126 : Ref sig .tc := ⟨.hbm, 197, rfl⟩
abbrev main_v127 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev main_v131 : Ref sig .tc := ⟨.hbm, 202, rfl⟩
abbrev main_v132 : Ref sig .tc := ⟨.hbm, 203, rfl⟩
abbrev main_v133 : Ref sig .tc := ⟨.hbm, 204, rfl⟩
abbrev main_v134 : Ref sig .tc := ⟨.hbm, 205, rfl⟩
abbrev main_v135 : Ref sig .tc := ⟨.hbm, 206, rfl⟩
abbrev main_v136 : Ref sig .tc := ⟨.hbm, 207, rfl⟩
abbrev main_v137 : Ref sig .tc := ⟨.hbm, 208, rfl⟩
abbrev main_v138 : Ref sig .tc := ⟨.hbm, 209, rfl⟩

abbrev nD : Nat := 1
abbrev τ : Topo := Topo.v7x

variable {F : FTy → Type} [FloatOps F]
-- ==== Proof.KernelFrame.Runs.lean ====
/-
  The machine program: the pieces the runs of the body share.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- The queries are as launched. -/
theorem V_main_arg0 (c : Dev nD) : V m c main_arg0 = m ((c : Thread nD τ).loc main_arg0) := rfl
/-- The keys are as launched. -/
theorem V_main_arg1 (c : Dev nD) : V m c main_arg1 = m ((c : Thread nD τ).loc main_arg1) := rfl
/-- The values are as launched. -/
theorem V_main_arg2 (c : Dev nD) : V m c main_arg2 = m ((c : Thread nD τ).loc main_arg2) := rfl

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 8) — by arithmetic of the point. -/
theorem hcond0_0 : ∀ t : Fin cfg0.N, cond0_0 (grid0.coords t) ↔ t.val % 8 = 0 :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [cond0_0, k0_cond1, e0, e1]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := k0_cond2 i = 1#1
/-- It holds at the points ≡ 0 (mod 8) — by arithmetic of the point. -/
theorem hcond0_1 : ∀ t : Fin cfg0.N, cond0_1 (grid0.coords t) ↔ t.val % 8 = 0 :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [cond0_1, k0_cond2, e0, e1]
    word_cmp
   : ∀ t : Fin grid0.N, cond0_1 (grid0.coords t) ↔ t.val % 8 = 0)

/-- The condition of the body's `scf.if` 2 (`k0_h3`), from the grid coordinates (the skeleton's scalar
    chain substituted). -/
abbrev cond0_2 (i : grid0.Coords) : Prop := k0_cond3 i = 1#1
/-- It holds at the points ≡ 1 (mod 8) — by arithmetic of the point. -/
theorem hcond0_2 : ∀ t : Fin cfg0.N, cond0_2 (grid0.coords t) ↔ t.val % 8 = 1 :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [cond0_2, k0_cond3, e0, e1]
    word_cmp
   : ∀ t : Fin grid0.N, cond0_2 (grid0.coords t) ↔ t.val % 8 = 1)

/-- The condition of the body's `scf.if` 3 (`k0_h4`), from the grid coordinates (the skeleton's scalar
    chain substituted). -/
abbrev cond0_3 (i : grid0.Coords) : Prop := k0_cond4 i = 1#1
/-- It holds at the points ≡ 2 (mod 8) — by arithmetic of the point. -/
theorem hcond0_3 : ∀ t : Fin cfg0.N, cond0_3 (grid0.coords t) ↔ t.val % 8 = 2 :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [cond0_3, k0_cond4, e0, e1]
    word_cmp
   : ∀ t : Fin grid0.N, cond0_3 (grid0.coords t) ↔ t.val % 8 = 2)

/-- The condition of the body's `scf.if` 4 (`k0_h5`), from the grid coordinates (the skeleton's scalar
    chain substituted). -/
abbrev cond0_4 (i : grid0.Coords) : Prop := k0_cond5 i = 1#1
/-- It holds at the points ≡ 3 (mod 8) — by arithmetic of the point. -/
theorem hcond0_4 : ∀ t : Fin cfg0.N, cond0_4 (grid0.coords t) ↔ t.val % 8 = 3 :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [cond0_4, k0_cond5, e0, e1]
    word_cmp
   : ∀ t : Fin grid0.N, cond0_4 (grid0.coords t) ↔ t.val % 8 = 3)

/-- The condition of the body's `scf.if` 5 (`k0_h6`), from the grid coordinates (the skeleton's scalar
    chain substituted). -/
abbrev cond0_5 (i : grid0.Coords) : Prop := k0_cond6 i = 1#1
/-- It holds at the points ≡ 4 (mod 8) — by arithmetic of the point. -/
theorem hcond0_5 : ∀ t : Fin cfg0.N, cond0_5 (grid0.coords t) ↔ t.val % 8 = 4 :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [cond0_5, k0_cond6, e0, e1]
    word_cmp
   : ∀ t : Fin grid0.N, cond0_5 (grid0.coords t) ↔ t.val % 8 = 4)

/-- The condition of the body's `scf.if` 6 (`k0_h7`), from the grid coordinates (the skeleton's scalar
    chain substituted). -/
abbrev cond0_6 (i : grid0.Coords) : Prop := k0_cond7 i = 1#1
/-- It holds at the points ≡ 5 (mod 8) — by arithmetic of the point. -/
theorem hcond0_6 : ∀ t : Fin cfg0.N, cond0_6 (grid0.coords t) ↔ t.val % 8 = 5 :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [cond0_6, k0_cond7, e0, e1]
    word_cmp
   : ∀ t : Fin grid0.N, cond0_6 (grid0.coords t) ↔ t.val % 8 = 5)

/-- The condition of the body's `scf.if` 7 (`k0_h8`), from the grid coordinates (the skeleton's scalar
    chain substituted). -/
abbrev cond0_7 (i : grid0.Coords) : Prop := k0_cond8 i = 1#1
/-- It holds at the points ≡ 6 (mod 8) — by arithmetic of the point. -/
theorem hcond0_7 : ∀ t : Fin cfg0.N, cond0_7 (grid0.coords t) ↔ t.val % 8 = 6 :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [cond0_7, k0_cond8, e0, e1]
    word_cmp
   : ∀ t : Fin grid0.N, cond0_7 (grid0.coords t) ↔ t.val % 8 = 6)

/-- The condition of the body's `scf.if` 8 (`k0_h9`), from the grid coordinates (the skeleton's scalar
    chain substituted). -/
abbrev cond0_8 (i : grid0.Coords) : Prop := k0_cond9 i = 1#1
/-- It holds at the points ≡ 7 (mod 8) — by arithmetic of the point. -/
theorem hcond0_8 : ∀ t : Fin cfg0.N, cond0_8 (grid0.coords t) ↔ t.val % 8 = 7 :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [cond0_8, k0_cond9, e0, e1]
    word_cmp
   : ∀ t : Fin grid0.N, cond0_8 (grid0.coords t) ↔ t.val % 8 = 7)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x128x3584 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x3584 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x28x128x128 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S28x8x2x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024x128 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1024x128 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S2x128 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S128x128 .f32 := Memref.whole cc0_scratch0
abbrev scM0_1 : Memref sig .tc .vmem S1024x128 .f32 := Memref.whole cc0_scratch1
abbrev scM0_2 : Memref sig .tc .vmem S8x128 .f32 := Memref.whole cc0_scratch2
abbrev scM0_3 : Memref sig .tc .vmem S128x1024 .fp8e4m3 := Memref.whole cc0_scratch3
abbrev scM0_4 : Memref sig .tc .vmem S128x128 .f32 := Memref.whole cc0_scratch4

/-- The invariant between points, with the scratch operands owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.Kernel.Gen

end
-- ==== Proof.KernelFrame.RunA.lean ====
/-
  The machine program: one run of the body, for one block of tokens.
-/
module

public import proofs.«01_k».proof.Proof.KernelFrame.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 3400000 in
/-- The body's triple IN CASE A (`scf.if` 0 taken, `scf.if` 1 taken, `scf.if` 2 not taken, `scf.if` 3 not taken, `scf.if` 4 not taken, `scf.if` 5 not taken, `scf.if` 6 not taken, `scf.if` 7 not taken, `scf.if` 8 not taken: points 0, 8): on whole staging memrefs — the inputs' at their contents,
    the FORGOTTEN outputs' (3, 4, 5, 6, 7, 8, 9) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg2 : Memref sig .tc .vmem S1x128x3584 .bf16) (harg2 : arg2.IsWhole) (arg3 : Memref sig .tc .vmem S1x1024x128 .bf16) (harg3 : arg3.IsWhole) (arg4 : Memref sig .tc .vmem S1x1024x128 .bf16) (harg4 : arg4.IsWhole) (arg5 : Memref sig .tc .vmem S1x128x3584 .bf16) (harg5 : arg5.IsWhole) (arg6 : Memref sig .tc .vmem S1x28x128x128 .fp8e4m3) (harg6 : arg6.IsWhole) (arg7 : Memref sig .tc .vmem S28x8x2x128 .f32) (harg7 : arg7.IsWhole) (arg8 : Memref sig .tc .vmem S1x1024x128 .fp8e4m3) (harg8 : arg8.IsWhole) (arg9 : Memref sig .tc .vmem S2x1024 .f32) (harg9 : arg9.IsWhole) (arg10 : Memref sig .tc .vmem S1x1024x128 .fp8e4m3) (harg10 : arg10.IsWhole) (arg11 : Memref sig .tc .vmem S2x128 .f32) (harg11 : arg11.IsWhole) (arg12 : Memref sig .tc .vmem S128x128 .f32) (harg12 : arg12.IsWhole) (arg13 : Memref sig .tc .vmem S1024x128 .f32) (harg13 : arg13.IsWhole) (arg14 : Memref sig .tc .vmem S8x128 .f32) (harg14 : arg14.IsWhole) (arg15 : Memref sig .tc .vmem S128x1024 .fp8e4m3) (harg15 : arg15.IsWhole) (arg16 : Memref sig .tc .vmem S128x128 .f32) (harg16 : arg16.IsWhole) (hc0 : cond0_0 i) (hc1 : cond0_1 i) (hc2 : ¬cond0_2 i) (hc3 : ¬cond0_3 i) (hc4 : ¬cond0_4 i) (hc5 : ¬cond0_5 i) (hc6 : ¬cond0_6 i) (hc7 : ¬cond0_7 i) (hc8 : ¬cond0_8 i)
    (x0 : Vec F S1x128x3584 .bf16) (x1 : Vec F S1x1024x128 .bf16) (x2 : Vec F S1x1024x128 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_mqa_prefill_e4m3 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_mqa_prefill_e4m3_eq_skeleton]; unfold cc0_mqa_prefill_e4m3_skel
    simp only [k0_part504_eq_skeleton, k0_part459_eq_skeleton, k0_part1_eq_skeleton, k0_part2_eq_skeleton, k0_part3_eq_skeleton, k0_part460_eq_skeleton, k0_part461_eq_skeleton, k0_part462_eq_skeleton, k0_part463_eq_skeleton, k0_part464_eq_skeleton, k0_part465_eq_skeleton, k0_part466_eq_skeleton, k0_part467_eq_skeleton, k0_part468_eq_skeleton, k0_part469_eq_skeleton, k0_part470_eq_skeleton, k0_part471_eq_skeleton, k0_part472_eq_skeleton, k0_part473_eq_skeleton, k0_part474_eq_skeleton, k0_part475_eq_skeleton, k0_part476_eq_skeleton, k0_part477_eq_skeleton, k0_part478_eq_skeleton, k0_part479_eq_skeleton, k0_part480_eq_skeleton, k0_part481_eq_skeleton, k0_part482_eq_skeleton, k0_part483_eq_skeleton, k0_part484_eq_skeleton, k0_part485_eq_skeleton, k0_part486_eq_skeleton, k0_part487_eq_skeleton, k0_part488_eq_skeleton, k0_part489_eq_skeleton, k0_part490_eq_skeleton, k0_part491_eq_skeleton, k0_part492_eq_skeleton, k0_part493_eq_skeleton, k0_part494_eq_skeleton, k0_part495_eq_skeleton, k0_part496_eq_skeleton, k0_part497_eq_skeleton, k0_part498_eq_skeleton, k0_part499_eq_skeleton, k0_part500_eq_skeleton, k0_part501_eq_skeleton, k0_part502_eq_skeleton, k0_part503_eq_skeleton, k0_part59_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2
    sl_exec (disch := first | sl_exact hc0 | sl_exact hc1 | sl_exact hc2 | sl_exact hc3 | sl_exact hc4 | sl_exact hc5 | sl_exact hc6 | sl_exact hc7 | sl_exact hc8)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Kernel.Gen

end
-- ==== Proof.KernelFrame.RunB.lean ====
/-
  The machine program: one run of the body, for one block of tokens.
-/
module

public import proofs.«01_k».proof.Proof.KernelFrame.RunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 3272000 in
/-- The body's triple IN CASE B (`scf.if` 0 not taken, `scf.if` 1 not taken, `scf.if` 2 taken, `scf.if` 3 not taken, `scf.if` 4 not taken, `scf.if` 5 not taken, `scf.if` 6 not taken, `scf.if` 7 not taken, `scf.if` 8 not taken: points 1, 9): on whole staging memrefs — the inputs' at their contents,
    the FORGOTTEN outputs' (3, 4, 5, 6, 7, 8, 9) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg2 : Memref sig .tc .vmem S1x128x3584 .bf16) (harg2 : arg2.IsWhole) (arg3 : Memref sig .tc .vmem S1x1024x128 .bf16) (harg3 : arg3.IsWhole) (arg4 : Memref sig .tc .vmem S1x1024x128 .bf16) (harg4 : arg4.IsWhole) (arg5 : Memref sig .tc .vmem S1x128x3584 .bf16) (harg5 : arg5.IsWhole) (arg6 : Memref sig .tc .vmem S1x28x128x128 .fp8e4m3) (harg6 : arg6.IsWhole) (arg7 : Memref sig .tc .vmem S28x8x2x128 .f32) (harg7 : arg7.IsWhole) (arg8 : Memref sig .tc .vmem S1x1024x128 .fp8e4m3) (harg8 : arg8.IsWhole) (arg9 : Memref sig .tc .vmem S2x1024 .f32) (harg9 : arg9.IsWhole) (arg10 : Memref sig .tc .vmem S1x1024x128 .fp8e4m3) (harg10 : arg10.IsWhole) (arg11 : Memref sig .tc .vmem S2x128 .f32) (harg11 : arg11.IsWhole) (arg12 : Memref sig .tc .vmem S128x128 .f32) (harg12 : arg12.IsWhole) (arg13 : Memref sig .tc .vmem S1024x128 .f32) (harg13 : arg13.IsWhole) (arg14 : Memref sig .tc .vmem S8x128 .f32) (harg14 : arg14.IsWhole) (arg15 : Memref sig .tc .vmem S128x1024 .fp8e4m3) (harg15 : arg15.IsWhole) (arg16 : Memref sig .tc .vmem S128x128 .f32) (harg16 : arg16.IsWhole) (hc0 : ¬cond0_0 i) (hc1 : ¬cond0_1 i) (hc2 : cond0_2 i) (hc3 : ¬cond0_3 i) (hc4 : ¬cond0_4 i) (hc5 : ¬cond0_5 i) (hc6 : ¬cond0_6 i) (hc7 : ¬cond0_7 i) (hc8 : ¬cond0_8 i)
    (x0 : Vec F S1x128x3584 .bf16) (x1 : Vec F S1x1024x128 .bf16) (x2 : Vec F S1x1024x128 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_mqa_prefill_e4m3 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_mqa_prefill_e4m3_eq_skeleton]; unfold cc0_mqa_prefill_e4m3_skel
    simp only [k0_part504_eq_skeleton, k0_part459_eq_skeleton, k0_part460_eq_skeleton, k0_part461_eq_skeleton, k0_part462_eq_skeleton, k0_part463_eq_skeleton, k0_part464_eq_skeleton, k0_part465_eq_skeleton, k0_part466_eq_skeleton, k0_part467_eq_skeleton, k0_part468_eq_skeleton, k0_part469_eq_skeleton, k0_part470_eq_skeleton, k0_part471_eq_skeleton, k0_part472_eq_skeleton, k0_part473_eq_skeleton, k0_part474_eq_skeleton, k0_part475_eq_skeleton, k0_part476_eq_skeleton, k0_part477_eq_skeleton, k0_part478_eq_skeleton, k0_part479_eq_skeleton, k0_part480_eq_skeleton, k0_part481_eq_skeleton, k0_part482_eq_skeleton, k0_part483_eq_skeleton, k0_part484_eq_skeleton, k0_part485_eq_skeleton, k0_part486_eq_skeleton, k0_part487_eq_skeleton, k0_part488_eq_skeleton, k0_part489_eq_skeleton, k0_part490_eq_skeleton, k0_part491_eq_skeleton, k0_part492_eq_skeleton, k0_part493_eq_skeleton, k0_part494_eq_skeleton, k0_part495_eq_skeleton, k0_part496_eq_skeleton, k0_part497_eq_skeleton, k0_part498_eq_skeleton, k0_part499_eq_skeleton, k0_part500_eq_skeleton, k0_part501_eq_skeleton, k0_part502_eq_skeleton, k0_part503_eq_skeleton, k0_part116_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2
    sl_exec (disch := first | sl_exact hc0 | sl_exact hc1 | sl_exact hc2 | sl_exact hc3 | sl_exact hc4 | sl_exact hc5 | sl_exact hc6 | sl_exact hc7 | sl_exact hc8)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Kernel.Gen

end
-- ==== Proof.KernelFrame.RunC.lean ====
/-
  The machine program: one run of the body, for one block of tokens.
-/
module

public import proofs.«01_k».proof.Proof.KernelFrame.RunB

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 3272000 in
/-- The body's triple IN CASE C (`scf.if` 0 not taken, `scf.if` 1 not taken, `scf.if` 2 not taken, `scf.if` 3 taken, `scf.if` 4 not taken, `scf.if` 5 not taken, `scf.if` 6 not taken, `scf.if` 7 not taken, `scf.if` 8 not taken: points 2, 10): on whole staging memrefs — the inputs' at their contents,
    the FORGOTTEN outputs' (3, 4, 5, 6, 7, 8, 9) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_C (c : Dev nD) (i : grid0.Coords) (arg2 : Memref sig .tc .vmem S1x128x3584 .bf16) (harg2 : arg2.IsWhole) (arg3 : Memref sig .tc .vmem S1x1024x128 .bf16) (harg3 : arg3.IsWhole) (arg4 : Memref sig .tc .vmem S1x1024x128 .bf16) (harg4 : arg4.IsWhole) (arg5 : Memref sig .tc .vmem S1x128x3584 .bf16) (harg5 : arg5.IsWhole) (arg6 : Memref sig .tc .vmem S1x28x128x128 .fp8e4m3) (harg6 : arg6.IsWhole) (arg7 : Memref sig .tc .vmem S28x8x2x128 .f32) (harg7 : arg7.IsWhole) (arg8 : Memref sig .tc .vmem S1x1024x128 .fp8e4m3) (harg8 : arg8.IsWhole) (arg9 : Memref sig .tc .vmem S2x1024 .f32) (harg9 : arg9.IsWhole) (arg10 : Memref sig .tc .vmem S1x1024x128 .fp8e4m3) (harg10 : arg10.IsWhole) (arg11 : Memref sig .tc .vmem S2x128 .f32) (harg11 : arg11.IsWhole) (arg12 : Memref sig .tc .vmem S128x128 .f32) (harg12 : arg12.IsWhole) (arg13 : Memref sig .tc .vmem S1024x128 .f32) (harg13 : arg13.IsWhole) (arg14 : Memref sig .tc .vmem S8x128 .f32) (harg14 : arg14.IsWhole) (arg15 : Memref sig .tc .vmem S128x1024 .fp8e4m3) (harg15 : arg15.IsWhole) (arg16 : Memref sig .tc .vmem S128x128 .f32) (harg16 : arg16.IsWhole) (hc0 : ¬cond0_0 i) (hc1 : ¬cond0_1 i) (hc2 : ¬cond0_2 i) (hc3 : cond0_3 i) (hc4 : ¬cond0_4 i) (hc5 : ¬cond0_5 i) (hc6 : ¬cond0_6 i) (hc7 : ¬cond0_7 i) (hc8 : ¬cond0_8 i)
    (x0 : Vec F S1x128x3584 .bf16) (x1 : Vec F S1x1024x128 .bf16) (x2 : Vec F S1x1024x128 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_mqa_prefill_e4m3 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_mqa_prefill_e4m3_eq_skeleton]; unfold cc0_mqa_prefill_e4m3_skel
    simp only [k0_part504_eq_skeleton, k0_part459_eq_skeleton, k0_part460_eq_skeleton, k0_part461_eq_skeleton, k0_part462_eq_skeleton, k0_part463_eq_skeleton, k0_part464_eq_skeleton, k0_part465_eq_skeleton, k0_part466_eq_skeleton, k0_part467_eq_skeleton, k0_part468_eq_skeleton, k0_part469_eq_skeleton, k0_part470_eq_skeleton, k0_part471_eq_skeleton, k0_part472_eq_skeleton, k0_part473_eq_skeleton, k0_part474_eq_skeleton, k0_part475_eq_skeleton, k0_part476_eq_skeleton, k0_part477_eq_skeleton, k0_part478_eq_skeleton, k0_part479_eq_skeleton, k0_part480_eq_skeleton, k0_part481_eq_skeleton, k0_part482_eq_skeleton, k0_part483_eq_skeleton, k0_part484_eq_skeleton, k0_part485_eq_skeleton, k0_part486_eq_skeleton, k0_part487_eq_skeleton, k0_part488_eq_skeleton, k0_part489_eq_skeleton, k0_part490_eq_skeleton, k0_part491_eq_skeleton, k0_part492_eq_skeleton, k0_part493_eq_skeleton, k0_part494_eq_skeleton, k0_part495_eq_skeleton, k0_part496_eq_skeleton, k0_part497_eq_skeleton, k0_part498_eq_skeleton, k0_part499_eq_skeleton, k0_part500_eq_skeleton, k0_part501_eq_skeleton, k0_part502_eq_skeleton, k0_part503_eq_skeleton, k0_part173_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2
    sl_exec (disch := first | sl_exact hc0 | sl_exact hc1 | sl_exact hc2 | sl_exact hc3 | sl_exact hc4 | sl_exact hc5 | sl_exact hc6 | sl_exact hc7 | sl_exact hc8)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Kernel.Gen

end
-- ==== Proof.KernelFrame.RunD.lean ====
/-
  The machine program: one run of the body, for one block of tokens.
-/
module

public import proofs.«01_k».proof.Proof.KernelFrame.RunC

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 3272000 in
/-- The body's triple IN CASE D (`scf.if` 0 not taken, `scf.if` 1 not taken, `scf.if` 2 not taken, `scf.if` 3 not taken, `scf.if` 4 taken, `scf.if` 5 not taken, `scf.if` 6 not taken, `scf.if` 7 not taken, `scf.if` 8 not taken: points 3, 11): on whole staging memrefs — the inputs' at their contents,
    the FORGOTTEN outputs' (3, 4, 5, 6, 7, 8, 9) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_D (c : Dev nD) (i : grid0.Coords) (arg2 : Memref sig .tc .vmem S1x128x3584 .bf16) (harg2 : arg2.IsWhole) (arg3 : Memref sig .tc .vmem S1x1024x128 .bf16) (harg3 : arg3.IsWhole) (arg4 : Memref sig .tc .vmem S1x1024x128 .bf16) (harg4 : arg4.IsWhole) (arg5 : Memref sig .tc .vmem S1x128x3584 .bf16) (harg5 : arg5.IsWhole) (arg6 : Memref sig .tc .vmem S1x28x128x128 .fp8e4m3) (harg6 : arg6.IsWhole) (arg7 : Memref sig .tc .vmem S28x8x2x128 .f32) (harg7 : arg7.IsWhole) (arg8 : Memref sig .tc .vmem S1x1024x128 .fp8e4m3) (harg8 : arg8.IsWhole) (arg9 : Memref sig .tc .vmem S2x1024 .f32) (harg9 : arg9.IsWhole) (arg10 : Memref sig .tc .vmem S1x1024x128 .fp8e4m3) (harg10 : arg10.IsWhole) (arg11 : Memref sig .tc .vmem S2x128 .f32) (harg11 : arg11.IsWhole) (arg12 : Memref sig .tc .vmem S128x128 .f32) (harg12 : arg12.IsWhole) (arg13 : Memref sig .tc .vmem S1024x128 .f32) (harg13 : arg13.IsWhole) (arg14 : Memref sig .tc .vmem S8x128 .f32) (harg14 : arg14.IsWhole) (arg15 : Memref sig .tc .vmem S128x1024 .fp8e4m3) (harg15 : arg15.IsWhole) (arg16 : Memref sig .tc .vmem S128x128 .f32) (harg16 : arg16.IsWhole) (hc0 : ¬cond0_0 i) (hc1 : ¬cond0_1 i) (hc2 : ¬cond0_2 i) (hc3 : ¬cond0_3 i) (hc4 : cond0_4 i) (hc5 : ¬cond0_5 i) (hc6 : ¬cond0_6 i) (hc7 : ¬cond0_7 i) (hc8 : ¬cond0_8 i)
    (x0 : Vec F S1x128x3584 .bf16) (x1 : Vec F S1x1024x128 .bf16) (x2 : Vec F S1x1024x128 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_mqa_prefill_e4m3 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_mqa_prefill_e4m3_eq_skeleton]; unfold cc0_mqa_prefill_e4m3_skel
    simp only [k0_part504_eq_skeleton, k0_part459_eq_skeleton, k0_part460_eq_skeleton, k0_part461_eq_skeleton, k0_part462_eq_skeleton, k0_part463_eq_skeleton, k0_part464_eq_skeleton, k0_part465_eq_skeleton, k0_part466_eq_skeleton, k0_part467_eq_skeleton, k0_part468_eq_skeleton, k0_part469_eq_skeleton, k0_part470_eq_skeleton, k0_part471_eq_skeleton, k0_part472_eq_skeleton, k0_part473_eq_skeleton, k0_part474_eq_skeleton, k0_part475_eq_skeleton, k0_part476_eq_skeleton, k0_part477_eq_skeleton, k0_part478_eq_skeleton, k0_part479_eq_skeleton, k0_part480_eq_skeleton, k0_part481_eq_skeleton, k0_part482_eq_skeleton, k0_part483_eq_skeleton, k0_part484_eq_skeleton, k0_part485_eq_skeleton, k0_part486_eq_skeleton, k0_part487_eq_skeleton, k0_part488_eq_skeleton, k0_part489_eq_skeleton, k0_part490_eq_skeleton, k0_part491_eq_skeleton, k0_part492_eq_skeleton, k0_part493_eq_skeleton, k0_part494_eq_skeleton, k0_part495_eq_skeleton, k0_part496_eq_skeleton, k0_part497_eq_skeleton, k0_part498_eq_skeleton, k0_part499_eq_skeleton, k0_part500_eq_skeleton, k0_part501_eq_skeleton, k0_part502_eq_skeleton, k0_part503_eq_skeleton, k0_part230_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2
    sl_exec (disch := first | sl_exact hc0 | sl_exact hc1 | sl_exact hc2 | sl_exact hc3 | sl_exact hc4 | sl_exact hc5 | sl_exact hc6 | sl_exact hc7 | sl_exact hc8)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Kernel.Gen

end
-- ==== Proof.KernelFrame.RunE.lean ====
/-
  The machine program: one run of the body, for one block of tokens.
-/
module

public import proofs.«01_k».proof.Proof.KernelFrame.RunD

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 3272000 in
/-- The body's triple IN CASE E (`scf.if` 0 not taken, `scf.if` 1 not taken, `scf.if` 2 not taken, `scf.if` 3 not taken, `scf.if` 4 not taken, `scf.if` 5 taken, `scf.if` 6 not taken, `scf.if` 7 not taken, `scf.if` 8 not taken: points 4, 12): on whole staging memrefs — the inputs' at their contents,
    the FORGOTTEN outputs' (3, 4, 5, 6, 7, 8, 9) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_E (c : Dev nD) (i : grid0.Coords) (arg2 : Memref sig .tc .vmem S1x128x3584 .bf16) (harg2 : arg2.IsWhole) (arg3 : Memref sig .tc .vmem S1x1024x128 .bf16) (harg3 : arg3.IsWhole) (arg4 : Memref sig .tc .vmem S1x1024x128 .bf16) (harg4 : arg4.IsWhole) (arg5 : Memref sig .tc .vmem S1x128x3584 .bf16) (harg5 : arg5.IsWhole) (arg6 : Memref sig .tc .vmem S1x28x128x128 .fp8e4m3) (harg6 : arg6.IsWhole) (arg7 : Memref sig .tc .vmem S28x8x2x128 .f32) (harg7 : arg7.IsWhole) (arg8 : Memref sig .tc .vmem S1x1024x128 .fp8e4m3) (harg8 : arg8.IsWhole) (arg9 : Memref sig .tc .vmem S2x1024 .f32) (harg9 : arg9.IsWhole) (arg10 : Memref sig .tc .vmem S1x1024x128 .fp8e4m3) (harg10 : arg10.IsWhole) (arg11 : Memref sig .tc .vmem S2x128 .f32) (harg11 : arg11.IsWhole) (arg12 : Memref sig .tc .vmem S128x128 .f32) (harg12 : arg12.IsWhole) (arg13 : Memref sig .tc .vmem S1024x128 .f32) (harg13 : arg13.IsWhole) (arg14 : Memref sig .tc .vmem S8x128 .f32) (harg14 : arg14.IsWhole) (arg15 : Memref sig .tc .vmem S128x1024 .fp8e4m3) (harg15 : arg15.IsWhole) (arg16 : Memref sig .tc .vmem S128x128 .f32) (harg16 : arg16.IsWhole) (hc0 : ¬cond0_0 i) (hc1 : ¬cond0_1 i) (hc2 : ¬cond0_2 i) (hc3 : ¬cond0_3 i) (hc4 : ¬cond0_4 i) (hc5 : cond0_5 i) (hc6 : ¬cond0_6 i) (hc7 : ¬cond0_7 i) (hc8 : ¬cond0_8 i)
    (x0 : Vec F S1x128x3584 .bf16) (x1 : Vec F S1x1024x128 .bf16) (x2 : Vec F S1x1024x128 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_mqa_prefill_e4m3 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_mqa_prefill_e4m3_eq_skeleton]; unfold cc0_mqa_prefill_e4m3_skel
    simp only [k0_part504_eq_skeleton, k0_part459_eq_skeleton, k0_part460_eq_skeleton, k0_part461_eq_skeleton, k0_part462_eq_skeleton, k0_part463_eq_skeleton, k0_part464_eq_skeleton, k0_part465_eq_skeleton, k0_part466_eq_skeleton, k0_part467_eq_skeleton, k0_part468_eq_skeleton, k0_part469_eq_skeleton, k0_part470_eq_skeleton, k0_part471_eq_skeleton, k0_part472_eq_skeleton, k0_part473_eq_skeleton, k0_part474_eq_skeleton, k0_part475_eq_skeleton, k0_part476_eq_skeleton, k0_part477_eq_skeleton, k0_part478_eq_skeleton, k0_part479_eq_skeleton, k0_part480_eq_skeleton, k0_part481_eq_skeleton, k0_part482_eq_skeleton, k0_part483_eq_skeleton, k0_part484_eq_skeleton, k0_part485_eq_skeleton, k0_part486_eq_skeleton, k0_part487_eq_skeleton, k0_part488_eq_skeleton, k0_part489_eq_skeleton, k0_part490_eq_skeleton, k0_part491_eq_skeleton, k0_part492_eq_skeleton, k0_part493_eq_skeleton, k0_part494_eq_skeleton, k0_part495_eq_skeleton, k0_part496_eq_skeleton, k0_part497_eq_skeleton, k0_part498_eq_skeleton, k0_part499_eq_skeleton, k0_part500_eq_skeleton, k0_part501_eq_skeleton, k0_part502_eq_skeleton, k0_part503_eq_skeleton, k0_part287_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2
    sl_exec (disch := first | sl_exact hc0 | sl_exact hc1 | sl_exact hc2 | sl_exact hc3 | sl_exact hc4 | sl_exact hc5 | sl_exact hc6 | sl_exact hc7 | sl_exact hc8)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Kernel.Gen

end
-- ==== Proof.KernelFrame.RunF.lean ====
/-
  The machine program: one run of the body, for one block of tokens.
-/
module

public import proofs.«01_k».proof.Proof.KernelFrame.RunE

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 3272000 in
/-- The body's triple IN CASE F (`scf.if` 0 not taken, `scf.if` 1 not taken, `scf.if` 2 not taken, `scf.if` 3 not taken, `scf.if` 4 not taken, `scf.if` 5 not taken, `scf.if` 6 taken, `scf.if` 7 not taken, `scf.if` 8 not taken: points 5, 13): on whole staging memrefs — the inputs' at their contents,
    the FORGOTTEN outputs' (3, 4, 5, 6, 7, 8, 9) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_F (c : Dev nD) (i : grid0.Coords) (arg2 : Memref sig .tc .vmem S1x128x3584 .bf16) (harg2 : arg2.IsWhole) (arg3 : Memref sig .tc .vmem S1x1024x128 .bf16) (harg3 : arg3.IsWhole) (arg4 : Memref sig .tc .vmem S1x1024x128 .bf16) (harg4 : arg4.IsWhole) (arg5 : Memref sig .tc .vmem S1x128x3584 .bf16) (harg5 : arg5.IsWhole) (arg6 : Memref sig .tc .vmem S1x28x128x128 .fp8e4m3) (harg6 : arg6.IsWhole) (arg7 : Memref sig .tc .vmem S28x8x2x128 .f32) (harg7 : arg7.IsWhole) (arg8 : Memref sig .tc .vmem S1x1024x128 .fp8e4m3) (harg8 : arg8.IsWhole) (arg9 : Memref sig .tc .vmem S2x1024 .f32) (harg9 : arg9.IsWhole) (arg10 : Memref sig .tc .vmem S1x1024x128 .fp8e4m3) (harg10 : arg10.IsWhole) (arg11 : Memref sig .tc .vmem S2x128 .f32) (harg11 : arg11.IsWhole) (arg12 : Memref sig .tc .vmem S128x128 .f32) (harg12 : arg12.IsWhole) (arg13 : Memref sig .tc .vmem S1024x128 .f32) (harg13 : arg13.IsWhole) (arg14 : Memref sig .tc .vmem S8x128 .f32) (harg14 : arg14.IsWhole) (arg15 : Memref sig .tc .vmem S128x1024 .fp8e4m3) (harg15 : arg15.IsWhole) (arg16 : Memref sig .tc .vmem S128x128 .f32) (harg16 : arg16.IsWhole) (hc0 : ¬cond0_0 i) (hc1 : ¬cond0_1 i) (hc2 : ¬cond0_2 i) (hc3 : ¬cond0_3 i) (hc4 : ¬cond0_4 i) (hc5 : ¬cond0_5 i) (hc6 : cond0_6 i) (hc7 : ¬cond0_7 i) (hc8 : ¬cond0_8 i)
    (x0 : Vec F S1x128x3584 .bf16) (x1 : Vec F S1x1024x128 .bf16) (x2 : Vec F S1x1024x128 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_mqa_prefill_e4m3 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_mqa_prefill_e4m3_eq_skeleton]; unfold cc0_mqa_prefill_e4m3_skel
    simp only [k0_part504_eq_skeleton, k0_part459_eq_skeleton, k0_part460_eq_skeleton, k0_part461_eq_skeleton, k0_part462_eq_skeleton, k0_part463_eq_skeleton, k0_part464_eq_skeleton, k0_part465_eq_skeleton, k0_part466_eq_skeleton, k0_part467_eq_skeleton, k0_part468_eq_skeleton, k0_part469_eq_skeleton, k0_part470_eq_skeleton, k0_part471_eq_skeleton, k0_part472_eq_skeleton, k0_part473_eq_skeleton, k0_part474_eq_skeleton, k0_part475_eq_skeleton, k0_part476_eq_skeleton, k0_part477_eq_skeleton, k0_part478_eq_skeleton, k0_part479_eq_skeleton, k0_part480_eq_skeleton, k0_part481_eq_skeleton, k0_part482_eq_skeleton, k0_part483_eq_skeleton, k0_part484_eq_skeleton, k0_part485_eq_skeleton, k0_part486_eq_skeleton, k0_part487_eq_skeleton, k0_part488_eq_skeleton, k0_part489_eq_skeleton, k0_part490_eq_skeleton, k0_part491_eq_skeleton, k0_part492_eq_skeleton, k0_part493_eq_skeleton, k0_part494_eq_skeleton, k0_part495_eq_skeleton, k0_part496_eq_skeleton, k0_part497_eq_skeleton, k0_part498_eq_skeleton, k0_part499_eq_skeleton, k0_part500_eq_skeleton, k0_part501_eq_skeleton, k0_part502_eq_skeleton, k0_part503_eq_skeleton, k0_part344_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2
    sl_exec (disch := first | sl_exact hc0 | sl_exact hc1 | sl_exact hc2 | sl_exact hc3 | sl_exact hc4 | sl_exact hc5 | sl_exact hc6 | sl_exact hc7 | sl_exact hc8)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Kernel.Gen

end
-- ==== Proof.KernelFrame.RunG.lean ====
/-
  The machine program: one run of the body, for one block of tokens.
-/
module

public import proofs.«01_k».proof.Proof.KernelFrame.RunF

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 3272000 in
/-- The body's triple IN CASE G (`scf.if` 0 not taken, `scf.if` 1 not taken, `scf.if` 2 not taken, `scf.if` 3 not taken, `scf.if` 4 not taken, `scf.if` 5 not taken, `scf.if` 6 not taken, `scf.if` 7 taken, `scf.if` 8 not taken: points 6, 14): on whole staging memrefs — the inputs' at their contents,
    the FORGOTTEN outputs' (3, 4, 5, 6, 7, 8, 9) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_G (c : Dev nD) (i : grid0.Coords) (arg2 : Memref sig .tc .vmem S1x128x3584 .bf16) (harg2 : arg2.IsWhole) (arg3 : Memref sig .tc .vmem S1x1024x128 .bf16) (harg3 : arg3.IsWhole) (arg4 : Memref sig .tc .vmem S1x1024x128 .bf16) (harg4 : arg4.IsWhole) (arg5 : Memref sig .tc .vmem S1x128x3584 .bf16) (harg5 : arg5.IsWhole) (arg6 : Memref sig .tc .vmem S1x28x128x128 .fp8e4m3) (harg6 : arg6.IsWhole) (arg7 : Memref sig .tc .vmem S28x8x2x128 .f32) (harg7 : arg7.IsWhole) (arg8 : Memref sig .tc .vmem S1x1024x128 .fp8e4m3) (harg8 : arg8.IsWhole) (arg9 : Memref sig .tc .vmem S2x1024 .f32) (harg9 : arg9.IsWhole) (arg10 : Memref sig .tc .vmem S1x1024x128 .fp8e4m3) (harg10 : arg10.IsWhole) (arg11 : Memref sig .tc .vmem S2x128 .f32) (harg11 : arg11.IsWhole) (arg12 : Memref sig .tc .vmem S128x128 .f32) (harg12 : arg12.IsWhole) (arg13 : Memref sig .tc .vmem S1024x128 .f32) (harg13 : arg13.IsWhole) (arg14 : Memref sig .tc .vmem S8x128 .f32) (harg14 : arg14.IsWhole) (arg15 : Memref sig .tc .vmem S128x1024 .fp8e4m3) (harg15 : arg15.IsWhole) (arg16 : Memref sig .tc .vmem S128x128 .f32) (harg16 : arg16.IsWhole) (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : cond0_7 i) (hc8 : ¬cond0_8 i)
    (x0 : Vec F S1x128x3584 .bf16) (x1 : Vec F S1x1024x128 .bf16) (x2 : Vec F S1x1024x128 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_mqa_prefill_e4m3 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_mqa_prefill_e4m3_eq_skeleton]; unfold cc0_mqa_prefill_e4m3_skel
    simp only [k0_part504_eq_skeleton, k0_part459_eq_skeleton, k0_part460_eq_skeleton, k0_part461_eq_skeleton, k0_part462_eq_skeleton, k0_part463_eq_skeleton, k0_part464_eq_skeleton, k0_part465_eq_skeleton, k0_part466_eq_skeleton, k0_part467_eq_skeleton, k0_part468_eq_skeleton, k0_part469_eq_skeleton, k0_part470_eq_skeleton, k0_part471_eq_skeleton, k0_part472_eq_skeleton, k0_part473_eq_skeleton, k0_part474_eq_skeleton, k0_part475_eq_skeleton, k0_part476_eq_skeleton, k0_part477_eq_skeleton, k0_part478_eq_skeleton, k0_part479_eq_skeleton, k0_part480_eq_skeleton, k0_part481_eq_skeleton, k0_part482_eq_skeleton, k0_part483_eq_skeleton, k0_part484_eq_skeleton, k0_part485_eq_skeleton, k0_part486_eq_skeleton, k0_part487_eq_skeleton, k0_part488_eq_skeleton, k0_part489_eq_skeleton, k0_part490_eq_skeleton, k0_part491_eq_skeleton, k0_part492_eq_skeleton, k0_part493_eq_skeleton, k0_part494_eq_skeleton, k0_part495_eq_skeleton, k0_part496_eq_skeleton, k0_part497_eq_skeleton, k0_part498_eq_skeleton, k0_part499_eq_skeleton, k0_part500_eq_skeleton, k0_part501_eq_skeleton, k0_part502_eq_skeleton, k0_part503_eq_skeleton, k0_part401_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part391_eq_skeleton, k0_part392_eq_skeleton, k0_part393_eq_skeleton, k0_part394_eq_skeleton, k0_part395_eq_skeleton, k0_part396_eq_skeleton, k0_part397_eq_skeleton, k0_part398_eq_skeleton, k0_part399_eq_skeleton, k0_part400_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2
    sl_exec (disch := first | sl_exact hc0 | sl_exact hc1 | sl_exact hc2 | sl_exact hc3 | sl_exact hc4 | sl_exact hc5 | sl_exact hc6 | sl_exact hc7 | sl_exact hc8)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Kernel.Gen

end
-- ==== Proof.KernelFrame.RunH.lean ====
/-
  The machine program: one run of the body, for one block of tokens.
-/
module

public import proofs.«01_k».proof.Proof.KernelFrame.RunG

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 3272000 in
/-- The body's triple IN CASE H (`scf.if` 0 not taken, `scf.if` 1 not taken, `scf.if` 2 not taken, `scf.if` 3 not taken, `scf.if` 4 not taken, `scf.if` 5 not taken, `scf.if` 6 not taken, `scf.if` 7 not taken, `scf.if` 8 taken: points 7, 15): on whole staging memrefs — the inputs' at their contents,
    the FORGOTTEN outputs' (3, 4, 5, 6, 7, 8, 9) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_H (c : Dev nD) (i : grid0.Coords) (arg2 : Memref sig .tc .vmem S1x128x3584 .bf16) (harg2 : arg2.IsWhole) (arg3 : Memref sig .tc .vmem S1x1024x128 .bf16) (harg3 : arg3.IsWhole) (arg4 : Memref sig .tc .vmem S1x1024x128 .bf16) (harg4 : arg4.IsWhole) (arg5 : Memref sig .tc .vmem S1x128x3584 .bf16) (harg5 : arg5.IsWhole) (arg6 : Memref sig .tc .vmem S1x28x128x128 .fp8e4m3) (harg6 : arg6.IsWhole) (arg7 : Memref sig .tc .vmem S28x8x2x128 .f32) (harg7 : arg7.IsWhole) (arg8 : Memref sig .tc .vmem S1x1024x128 .fp8e4m3) (harg8 : arg8.IsWhole) (arg9 : Memref sig .tc .vmem S2x1024 .f32) (harg9 : arg9.IsWhole) (arg10 : Memref sig .tc .vmem S1x1024x128 .fp8e4m3) (harg10 : arg10.IsWhole) (arg11 : Memref sig .tc .vmem S2x128 .f32) (harg11 : arg11.IsWhole) (arg12 : Memref sig .tc .vmem S128x128 .f32) (harg12 : arg12.IsWhole) (arg13 : Memref sig .tc .vmem S1024x128 .f32) (harg13 : arg13.IsWhole) (arg14 : Memref sig .tc .vmem S8x128 .f32) (harg14 : arg14.IsWhole) (arg15 : Memref sig .tc .vmem S128x1024 .fp8e4m3) (harg15 : arg15.IsWhole) (arg16 : Memref sig .tc .vmem S128x128 .f32) (harg16 : arg16.IsWhole) (hc0 : ¬cond0_0 i) (hc1 : ¬cond0_1 i) (hc2 : ¬cond0_2 i) (hc3 : ¬cond0_3 i) (hc4 : ¬cond0_4 i) (hc5 : ¬cond0_5 i) (hc6 : ¬cond0_6 i) (hc7 : ¬cond0_7 i) (hc8 : cond0_8 i)
    (x0 : Vec F S1x128x3584 .bf16) (x1 : Vec F S1x1024x128 .bf16) (x2 : Vec F S1x1024x128 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_mqa_prefill_e4m3 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_mqa_prefill_e4m3_eq_skeleton]; unfold cc0_mqa_prefill_e4m3_skel
    simp only [k0_part504_eq_skeleton, k0_part459_eq_skeleton, k0_part460_eq_skeleton, k0_part461_eq_skeleton, k0_part462_eq_skeleton, k0_part463_eq_skeleton, k0_part464_eq_skeleton, k0_part465_eq_skeleton, k0_part466_eq_skeleton, k0_part467_eq_skeleton, k0_part468_eq_skeleton, k0_part469_eq_skeleton, k0_part470_eq_skeleton, k0_part471_eq_skeleton, k0_part472_eq_skeleton, k0_part473_eq_skeleton, k0_part474_eq_skeleton, k0_part475_eq_skeleton, k0_part476_eq_skeleton, k0_part477_eq_skeleton, k0_part478_eq_skeleton, k0_part479_eq_skeleton, k0_part480_eq_skeleton, k0_part481_eq_skeleton, k0_part482_eq_skeleton, k0_part483_eq_skeleton, k0_part484_eq_skeleton, k0_part485_eq_skeleton, k0_part486_eq_skeleton, k0_part487_eq_skeleton, k0_part488_eq_skeleton, k0_part489_eq_skeleton, k0_part490_eq_skeleton, k0_part491_eq_skeleton, k0_part492_eq_skeleton, k0_part493_eq_skeleton, k0_part494_eq_skeleton, k0_part495_eq_skeleton, k0_part496_eq_skeleton, k0_part497_eq_skeleton, k0_part498_eq_skeleton, k0_part499_eq_skeleton, k0_part500_eq_skeleton, k0_part501_eq_skeleton, k0_part502_eq_skeleton, k0_part503_eq_skeleton, k0_part458_eq_skeleton, k0_part402_eq_skeleton, k0_part403_eq_skeleton, k0_part404_eq_skeleton, k0_part405_eq_skeleton, k0_part406_eq_skeleton, k0_part407_eq_skeleton, k0_part408_eq_skeleton, k0_part409_eq_skeleton, k0_part410_eq_skeleton, k0_part411_eq_skeleton, k0_part412_eq_skeleton, k0_part413_eq_skeleton, k0_part414_eq_skeleton, k0_part415_eq_skeleton, k0_part416_eq_skeleton, k0_part417_eq_skeleton, k0_part418_eq_skeleton, k0_part419_eq_skeleton, k0_part420_eq_skeleton, k0_part421_eq_skeleton, k0_part422_eq_skeleton, k0_part423_eq_skeleton, k0_part424_eq_skeleton, k0_part425_eq_skeleton, k0_part426_eq_skeleton, k0_part427_eq_skeleton, k0_part428_eq_skeleton, k0_part429_eq_skeleton, k0_part430_eq_skeleton, k0_part431_eq_skeleton, k0_part432_eq_skeleton, k0_part433_eq_skeleton, k0_part434_eq_skeleton, k0_part435_eq_skeleton, k0_part436_eq_skeleton, k0_part437_eq_skeleton, k0_part438_eq_skeleton, k0_part439_eq_skeleton, k0_part440_eq_skeleton, k0_part441_eq_skeleton, k0_part442_eq_skeleton, k0_part443_eq_skeleton, k0_part444_eq_skeleton, k0_part445_eq_skeleton, k0_part446_eq_skeleton, k0_part447_eq_skeleton, k0_part448_eq_skeleton, k0_part449_eq_skeleton, k0_part450_eq_skeleton, k0_part451_eq_skeleton, k0_part452_eq_skeleton, k0_part453_eq_skeleton, k0_part454_eq_skeleton, k0_part455_eq_skeleton, k0_part456_eq_skeleton, k0_part457_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2
    sl_exec (disch := first | sl_exact hc0 | sl_exact hc1 | sl_exact hc2 | sl_exact hc3 | sl_exact hc4 | sl_exact hc5 | sl_exact hc6 | sl_exact hc7 | sl_exact hc8)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Kernel.Gen

end
-- ==== Proof.KernelFrame.All.lean ====
/-
  The machine program: from the runs of the body, the frame of the whole kernel. Nothing is said of what the results hold.
-/
module

public import proofs.«01_k».proof.Proof.KernelFrame.RunH
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (3, 4, 5, 6, 7, 8, 9): nothing reads what the kernel leaves in them, so nothing
    of it is named (Lib/Pipeline/Dat.lean `Dat.toRForget`). -/
def forgets0 : Fin 10 → Bool := fun w => w.val == 3 || w.val == 4 || w.val == 5 || w.val == 6 || w.val == 7 || w.val == 8 || w.val == 9

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
/-- The block of keys is unchanged by a point. -/
theorem after0_1 (c : Dev nD) (t : Fin cfg0.N) : (dats m 0 c).after 1 t = iblk m c 1 t := by dsimp only [dats]
/-- The block of values is unchanged by a point. -/
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- A point finds its block of keys. -/
theorem before0_1 (c : Dev nD) (t : Fin cfg0.N) (d) : (dats m 0 c).before 1 t d = iblk m c 1 t :=
  before0_1_of m (dats m 0 c) (A_eq m c 1) (after0_1 m c) t d
/-- A point finds its block of values. -/
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (∃ d, owns (c : Thread nD τ) (ms0_3 t) fullShare d)
    ∗ (∃ d, owns (c : Thread nD τ) (ms0_4 t) fullShare d)
    ∗ (∃ d, owns (c : Thread nD τ) (ms0_5 t) fullShare d)
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d))

set_option maxHeartbeats 9600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 16 := lt_of_lt_of_eq t.isLt (show cfg0.N = 16 from N_0)
  by_cases h0 : t.val % 8 = 0
  · by_cases h1 : t.val % 8 = 0
    · by_cases h2 : t.val % 8 = 1
      · exfalso; omega
      · by_cases h3 : t.val % 8 = 2
        · exfalso; omega
        · by_cases h4 : t.val % 8 = 3
          · exfalso; omega
          · by_cases h5 : t.val % 8 = 4
            · exfalso; omega
            · by_cases h6 : t.val % 8 = 5
              · exfalso; omega
              · by_cases h7 : t.val % 8 = 6
                · exfalso; omega
                · by_cases h8 : t.val % 8 = 7
                  · exfalso; omega
                  · rw [show (dats m 0 c).leavesExact 0 t = owns (c : Thread nD τ) (ms0_0 t) fullShare ((dats m 0 c).after 0 t) from by
      unfold Dat.leavesExact; rw [liveAt0_0 t], after0_0]
                    rw [show (dats m 0 c).leavesExact 1 t = owns (c : Thread nD τ) (ms0_1 t) fullShare ((dats m 0 c).after 1 t) from by
      unfold Dat.leavesExact; rw [liveAt0_1 t], after0_1]
                    rw [show (dats m 0 c).leavesExact 2 t = owns (c : Thread nD τ) (ms0_2 t) fullShare ((dats m 0 c).after 2 t) from by
      unfold Dat.leavesExact; rw [liveAt0_2 t], after0_2]
                    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
                    iapply ((kernelRun0_A c (grid0.coords t) _ _ _ _ _ _ _ _ _ _ _ _ _ _ _ _ _ _ _ _ _ _ _ _ _ _ _ _ _ _ ((hcond0_0 t).mpr h0) ((hcond0_1 t).mpr h1) (fun h => h2 ((hcond0_2 t).mp h)) (fun h => h3 ((hcond0_3 t).mp h)) (fun h => h4 ((hcond0_4 t).mp h)) (fun h => h5 ((hcond0_5 t).mp h)) (fun h => h6 ((hcond0_6 t).mp h)) (fun h => h7 ((hcond0_7 t).mp h)) (fun h => h8 ((hcond0_8 t).mp h)) (iblk m c 0 t) (iblk m c 1 t) (iblk m c 2 t)) Set.univ _)
                    isplitl [H0]; · iexact H0
                    isplitl [H1]; · iexact H1
                    isplitl [H2]; · iexact H2
                    isplitl [H3]; · iexists _; iexact H3
                    isplitl [H4]; · iexists _; iexact H4
                    isplitl [H5]; · iexists _; iexact H5
                    isplitl [H6]; · iexists _; iexact H6
                    isplitl [H7]; · iexists _; iexact H7
                    isplitl [H8]; · iexists _; iexact H8
                    isplitl [H9]; · iexists _; iexact H9
                    isplitl [HS0]; · iexact HS0
                    isplitl [HS1]; · iexact HS1
                    isplitl [HS2]; · iexact HS2
                    isplitl [HS3]; · iexact HS3
                    isplitl [HS4]; · iexact HS4
                    iintro ⟨H0, H1, H2, H3, H4, H5, H6, H7, H8, H9, HS0, HS1, HS2, HS3, HS4⟩
                    isplitl [HS0 HS1 HS2 HS3 HS4 Hg]
                    · isplitl [HS0 HS1 HS2 HS3 HS4]
                      · isplitl [HS0]
                        · iexact HS0
                        isplitl [HS1]
                        · iexact HS1
                        isplitl [HS2]
                        · iexact HS2
                        isplitl [HS3]
                        · iexact HS3
                        iexact HS4
                      iexact Hg
                    isplitl [Ho]; · iexact Ho
                    isplitl [H0]; · iexact H0
                    isplitl [H1]; · iexact H1
                    isplitl [H2]; · iexact H2
                    isplitl [H3]; · iexact H3
                    isplitl [H4]; · iexact H4
                    isplitl [H5]; · iexact H5
                    isplitl [H6]; · iexact H6
                    isplitl [H7]; · iexact H7
                    isplitl [H8]; · iexact H8
                    iexact H9
    · exfalso; omega
  · by_cases h1 : t.val % 8 = 0
    · exfalso; omega
    · by_cases h2 : t.val % 8 = 1
      · by_cases h3 : t.val % 8 = 2
        · exfalso; omega
        · by_cases h4 : t.val % 8 = 3
          · exfalso; omega
          · by_cases h5 : t.val % 8 = 4
            · exfalso; omega
            · by_cases h6 : t.val % 8 = 5
              · exfalso; omega
              · by_cases h7 : t.val % 8 = 6
                · exfalso; omega
                · by_cases h8 : t.val % 8 = 7
                  · exfalso; omega
                  · rw [show (dats m 0 c).leavesExact 0 t = owns (c : Thread nD τ) (ms0_0 t) fullShare ((dats m 0 c).after 0 t) from by
      unfold Dat.leavesExact; rw [liveAt0_0 t], after0_0]
                    rw [show (dats m 0 c).leavesExact 1 t = owns (c : Thread nD τ) (ms0_1 t) fullShare ((dats m 0 c).after 1 t) from by
      unfold Dat.leavesExact; rw [liveAt0_1 t], after0_1]
                    rw [show (dats m 0 c).leavesExact 2 t = owns (c : Thread nD τ) (ms0_2 t) fullShare ((dats m 0 c).after 2 t) from by
      unfold Dat.leavesExact; rw [liveAt0_2 t], after0_2]
                    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
                    iapply ((kernelRun0_B c (grid0.coords t) _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (fun h => h4 ((hcond0_4 t).mp h)) (fun h => h5 ((hcond0_5 t).mp h)) (fun h => h6 ((hcond0_6 t).mp h)) (fun h => h7 ((hcond0_7 t).mp h)) (fun h => h8 ((hcond0_8 t).mp h)) (iblk m c 0 t) (iblk m c 1 t) (iblk m c 2 t)) Set.univ _)
                    isplitl [H0]; · iexact H0
                    isplitl [H1]; · iexact H1
                    isplitl [H2]; · iexact H2
                    isplitl [H3]; · iexists _; iexact H3
                    isplitl [H4]; · iexists _; iexact H4
                    isplitl [H5]; · iexists _; iexact H5
                    isplitl [H6]; · iexists _; iexact H6
                    isplitl [H7]; · iexists _; iexact H7
                    isplitl [H8]; · iexists _; iexact H8
                    isplitl [H9]; · iexists _; iexact H9
                    isplitl [HS0]; · iexact HS0
                    isplitl [HS1]; · iexact HS1
                    isplitl [HS2]; · iexact HS2
                    isplitl [HS3]; · iexact HS3
                    isplitl [HS4]; · iexact HS4
                    iintro ⟨H0, H1, H2, H3, H4, H5, H6, H7, H8, H9, HS0, HS1, HS2, HS3, HS4⟩
                    isplitl [HS0 HS1 HS2 HS3 HS4 Hg]
                    · isplitl [HS0 HS1 HS2 HS3 HS4]
                      · isplitl [HS0]
                        · iexact HS0
                        isplitl [HS1]
                        · iexact HS1
                        isplitl [HS2]
                        · iexact HS2
                        isplitl [HS3]
                        · iexact HS3
                        iexact HS4
                      iexact Hg
                    isplitl [Ho]; · iexact Ho
                    isplitl [H0]; · iexact H0
                    isplitl [H1]; · iexact H1
                    isplitl [H2]; · iexact H2
                    isplitl [H3]; · iexact H3
                    isplitl [H4]; · iexact H4
                    isplitl [H5]; · iexact H5
                    isplitl [H6]; · iexact H6
                    isplitl [H7]; · iexact H7
                    isplitl [H8]; · iexact H8
                    iexact H9
      · by_cases h3 : t.val % 8 = 2
        · by_cases h4 : t.val % 8 = 3
          · exfalso; omega
          · by_cases h5 : t.val % 8 = 4
            · exfalso; omega
            · by_cases h6 : t.val % 8 = 5
              · exfalso; omega
              · by_cases h7 : t.val % 8 = 6
                · exfalso; omega
                · by_cases h8 : t.val % 8 = 7
                  · exfalso; omega
                  · rw [show (dats m 0 c).leavesExact 0 t = owns (c : Thread nD τ) (ms0_0 t) fullShare ((dats m 0 c).after 0 t) from by
      unfold Dat.leavesExact; rw [liveAt0_0 t], after0_0]
                    rw [show (dats m 0 c).leavesExact 1 t = owns (c : Thread nD τ) (ms0_1 t) fullShare ((dats m 0 c).after 1 t) from by
      unfold Dat.leavesExact; rw [liveAt0_1 t], after0_1]
                    rw [show (dats m 0 c).leavesExact 2 t = owns (c : Thread nD τ) (ms0_2 t) fullShare ((dats m 0 c).after 2 t) from by
      unfold Dat.leavesExact; rw [liveAt0_2 t], after0_2]
                    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
                    iapply ((kernelRun0_C c (grid0.coords t) _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (fun h => h4 ((hcond0_4 t).mp h)) (fun h => h5 ((hcond0_5 t).mp h)) (fun h => h6 ((hcond0_6 t).mp h)) (fun h => h7 ((hcond0_7 t).mp h)) (fun h => h8 ((hcond0_8 t).mp h)) (iblk m c 0 t) (iblk m c 1 t) (iblk m c 2 t)) Set.univ _)
                    isplitl [H0]; · iexact H0
                    isplitl [H1]; · iexact H1
                    isplitl [H2]; · iexact H2
                    isplitl [H3]; · iexists _; iexact H3
                    isplitl [H4]; · iexists _; iexact H4
                    isplitl [H5]; · iexists _; iexact H5
                    isplitl [H6]; · iexists _; iexact H6
                    isplitl [H7]; · iexists _; iexact H7
                    isplitl [H8]; · iexists _; iexact H8
                    isplitl [H9]; · iexists _; iexact H9
                    isplitl [HS0]; · iexact HS0
                    isplitl [HS1]; · iexact HS1
                    isplitl [HS2]; · iexact HS2
                    isplitl [HS3]; · iexact HS3
                    isplitl [HS4]; · iexact HS4
                    iintro ⟨H0, H1, H2, H3, H4, H5, H6, H7, H8, H9, HS0, HS1, HS2, HS3, HS4⟩
                    isplitl [HS0 HS1 HS2 HS3 HS4 Hg]
                    · isplitl [HS0 HS1 HS2 HS3 HS4]
                      · isplitl [HS0]
                        · iexact HS0
                        isplitl [HS1]
                        · iexact HS1
                        isplitl [HS2]
                        · iexact HS2
                        isplitl [HS3]
                        · iexact HS3
                        iexact HS4
                      iexact Hg
                    isplitl [Ho]; · iexact Ho
                    isplitl [H0]; · iexact H0
                    isplitl [H1]; · iexact H1
                    isplitl [H2]; · iexact H2
                    isplitl [H3]; · iexact H3
                    isplitl [H4]; · iexact H4
                    isplitl [H5]; · iexact H5
                    isplitl [H6]; · iexact H6
                    isplitl [H7]; · iexact H7
                    isplitl [H8]; · iexact H8
                    iexact H9
        · by_cases h4 : t.val % 8 = 3
          · by_cases h5 : t.val % 8 = 4
            · exfalso; omega
            · by_cases h6 : t.val % 8 = 5
              · exfalso; omega
              · by_cases h7 : t.val % 8 = 6
                · exfalso; omega
                · by_cases h8 : t.val % 8 = 7
                  · exfalso; omega
                  · rw [show (dats m 0 c).leavesExact 0 t = owns (c : Thread nD τ) (ms0_0 t) fullShare ((dats m 0 c).after 0 t) from by
      unfold Dat.leavesExact; rw [liveAt0_0 t], after0_0]
                    rw [show (dats m 0 c).leavesExact 1 t = owns (c : Thread nD τ) (ms0_1 t) fullShare ((dats m 0 c).after 1 t) from by
      unfold Dat.leavesExact; rw [liveAt0_1 t], after0_1]
                    rw [show (dats m 0 c).leavesExact 2 t = owns (c : Thread nD τ) (ms0_2 t) fullShare ((dats m 0 c).after 2 t) from by
      unfold Dat.leavesExact; rw [liveAt0_2 t], after0_2]
                    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
                    iapply ((kernelRun0_D c (grid0.coords t) _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) (fun h => h3 ((hcond0_3 t).mp h)) ((hcond0_4 t).mpr h4) (fun h => h5 ((hcond0_5 t).mp h)) (fun h => h6 ((hcond0_6 t).mp h)) (fun h => h7 ((hcond0_7 t).mp h)) (fun h => h8 ((hcond0_8 t).mp h)) (iblk m c 0 t) (iblk m c 1 t) (iblk m c 2 t)) Set.univ _)
                    isplitl [H0]; · iexact H0
                    isplitl [H1]; · iexact H1
                    isplitl [H2]; · iexact H2
                    isplitl [H3]; · iexists _; iexact H3
                    isplitl [H4]; · iexists _; iexact H4
                    isplitl [H5]; · iexists _; iexact H5
                    isplitl [H6]; · iexists _; iexact H6
                    isplitl [H7]; · iexists _; iexact H7
                    isplitl [H8]; · iexists _; iexact H8
                    isplitl [H9]; · iexists _; iexact H9
                    isplitl [HS0]; · iexact HS0
                    isplitl [HS1]; · iexact HS1
                    isplitl [HS2]; · iexact HS2
                    isplitl [HS3]; · iexact HS3
                    isplitl [HS4]; · iexact HS4
                    iintro ⟨H0, H1, H2, H3, H4, H5, H6, H7, H8, H9, HS0, HS1, HS2, HS3, HS4⟩
                    isplitl [HS0 HS1 HS2 HS3 HS4 Hg]
                    · isplitl [HS0 HS1 HS2 HS3 HS4]
                      · isplitl [HS0]
                        · iexact HS0
                        isplitl [HS1]
                        · iexact HS1
                        isplitl [HS2]
                        · iexact HS2
                        isplitl [HS3]
                        · iexact HS3
                        iexact HS4
                      iexact Hg
                    isplitl [Ho]; · iexact Ho
                    isplitl [H0]; · iexact H0
                    isplitl [H1]; · iexact H1
                    isplitl [H2]; · iexact H2
                    isplitl [H3]; · iexact H3
                    isplitl [H4]; · iexact H4
                    isplitl [H5]; · iexact H5
                    isplitl [H6]; · iexact H6
                    isplitl [H7]; · iexact H7
                    isplitl [H8]; · iexact H8
                    iexact H9
          · by_cases h5 : t.val % 8 = 4
            · by_cases h6 : t.val % 8 = 5
              · exfalso; omega
              · by_cases h7 : t.val % 8 = 6
                · exfalso; omega
                · by_cases h8 : t.val % 8 = 7
                  · exfalso; omega
                  · rw [show (dats m 0 c).leavesExact 0 t = owns (c : Thread nD τ) (ms0_0 t) fullShare ((dats m 0 c).after 0 t) from by
      unfold Dat.leavesExact; rw [liveAt0_0 t], after0_0]
                    rw [show (dats m 0 c).leavesExact 1 t = owns (c : Thread nD τ) (ms0_1 t) fullShare ((dats m 0 c).after 1 t) from by
      unfold Dat.leavesExact; rw [liveAt0_1 t], after0_1]
                    rw [show (dats m 0 c).leavesExact 2 t = owns (c : Thread nD τ) (ms0_2 t) fullShare ((dats m 0 c).after 2 t) from by
      unfold Dat.leavesExact; rw [liveAt0_2 t], after0_2]
                    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
                    iapply ((kernelRun0_E c (grid0.coords t) _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) (fun h => h3 ((hcond0_3 t).mp h)) (fun h => h4 ((hcond0_4 t).mp h)) ((hcond0_5 t).mpr h5) (fun h => h6 ((hcond0_6 t).mp h)) (fun h => h7 ((hcond0_7 t).mp h)) (fun h => h8 ((hcond0_8 t).mp h)) (iblk m c 0 t) (iblk m c 1 t) (iblk m c 2 t)) Set.univ _)
                    isplitl [H0]; · iexact H0
                    isplitl [H1]; · iexact H1
                    isplitl [H2]; · iexact H2
                    isplitl [H3]; · iexists _; iexact H3
                    isplitl [H4]; · iexists _; iexact H4
                    isplitl [H5]; · iexists _; iexact H5
                    isplitl [H6]; · iexists _; iexact H6
                    isplitl [H7]; · iexists _; iexact H7
                    isplitl [H8]; · iexists _; iexact H8
                    isplitl [H9]; · iexists _; iexact H9
                    isplitl [HS0]; · iexact HS0
                    isplitl [HS1]; · iexact HS1
                    isplitl [HS2]; · iexact HS2
                    isplitl [HS3]; · iexact HS3
                    isplitl [HS4]; · iexact HS4
                    iintro ⟨H0, H1, H2, H3, H4, H5, H6, H7, H8, H9, HS0, HS1, HS2, HS3, HS4⟩
                    isplitl [HS0 HS1 HS2 HS3 HS4 Hg]
                    · isplitl [HS0 HS1 HS2 HS3 HS4]
                      · isplitl [HS0]
                        · iexact HS0
                        isplitl [HS1]
                        · iexact HS1
                        isplitl [HS2]
                        · iexact HS2
                        isplitl [HS3]
                        · iexact HS3
                        iexact HS4
                      iexact Hg
                    isplitl [Ho]; · iexact Ho
                    isplitl [H0]; · iexact H0
                    isplitl [H1]; · iexact H1
                    isplitl [H2]; · iexact H2
                    isplitl [H3]; · iexact H3
                    isplitl [H4]; · iexact H4
                    isplitl [H5]; · iexact H5
                    isplitl [H6]; · iexact H6
                    isplitl [H7]; · iexact H7
                    isplitl [H8]; · iexact H8
                    iexact H9
            · by_cases h6 : t.val % 8 = 5
              · by_cases h7 : t.val % 8 = 6
                · exfalso; omega
                · by_cases h8 : t.val % 8 = 7
                  · exfalso; omega
                  · rw [show (dats m 0 c).leavesExact 0 t = owns (c : Thread nD τ) (ms0_0 t) fullShare ((dats m 0 c).after 0 t) from by
      unfold Dat.leavesExact; rw [liveAt0_0 t], after0_0]
                    rw [show (dats m 0 c).leavesExact 1 t = owns (c : Thread nD τ) (ms0_1 t) fullShare ((dats m 0 c).after 1 t) from by
      unfold Dat.leavesExact; rw [liveAt0_1 t], after0_1]
                    rw [show (dats m 0 c).leavesExact 2 t = owns (c : Thread nD τ) (ms0_2 t) fullShare ((dats m 0 c).after 2 t) from by
      unfold Dat.leavesExact; rw [liveAt0_2 t], after0_2]
                    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
                    iapply ((kernelRun0_F c (grid0.coords t) _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) (fun h => h3 ((hcond0_3 t).mp h)) (fun h => h4 ((hcond0_4 t).mp h)) (fun h => h5 ((hcond0_5 t).mp h)) ((hcond0_6 t).mpr h6) (fun h => h7 ((hcond0_7 t).mp h)) (fun h => h8 ((hcond0_8 t).mp h)) (iblk m c 0 t) (iblk m c 1 t) (iblk m c 2 t)) Set.univ _)
                    isplitl [H0]; · iexact H0
                    isplitl [H1]; · iexact H1
                    isplitl [H2]; · iexact H2
                    isplitl [H3]; · iexists _; iexact H3
                    isplitl [H4]; · iexists _; iexact H4
                    isplitl [H5]; · iexists _; iexact H5
                    isplitl [H6]; · iexists _; iexact H6
                    isplitl [H7]; · iexists _; iexact H7
                    isplitl [H8]; · iexists _; iexact H8
                    isplitl [H9]; · iexists _; iexact H9
                    isplitl [HS0]; · iexact HS0
                    isplitl [HS1]; · iexact HS1
                    isplitl [HS2]; · iexact HS2
                    isplitl [HS3]; · iexact HS3
                    isplitl [HS4]; · iexact HS4
                    iintro ⟨H0, H1, H2, H3, H4, H5, H6, H7, H8, H9, HS0, HS1, HS2, HS3, HS4⟩
                    isplitl [HS0 HS1 HS2 HS3 HS4 Hg]
                    · isplitl [HS0 HS1 HS2 HS3 HS4]
                      · isplitl [HS0]
                        · iexact HS0
                        isplitl [HS1]
                        · iexact HS1
                        isplitl [HS2]
                        · iexact HS2
                        isplitl [HS3]
                        · iexact HS3
                        iexact HS4
                      iexact Hg
                    isplitl [Ho]; · iexact Ho
                    isplitl [H0]; · iexact H0
                    isplitl [H1]; · iexact H1
                    isplitl [H2]; · iexact H2
                    isplitl [H3]; · iexact H3
                    isplitl [H4]; · iexact H4
                    isplitl [H5]; · iexact H5
                    isplitl [H6]; · iexact H6
                    isplitl [H7]; · iexact H7
                    isplitl [H8]; · iexact H8
                    iexact H9
              · by_cases h7 : t.val % 8 = 6
                · by_cases h8 : t.val % 8 = 7
                  · exfalso; omega
                  · rw [show (dats m 0 c).leavesExact 0 t = owns (c : Thread nD τ) (ms0_0 t) fullShare ((dats m 0 c).after 0 t) from by
      unfold Dat.leavesExact; rw [liveAt0_0 t], after0_0]
                    rw [show (dats m 0 c).leavesExact 1 t = owns (c : Thread nD τ) (ms0_1 t) fullShare ((dats m 0 c).after 1 t) from by
      unfold Dat.leavesExact; rw [liveAt0_1 t], after0_1]
                    rw [show (dats m 0 c).leavesExact 2 t = owns (c : Thread nD τ) (ms0_2 t) fullShare ((dats m 0 c).after 2 t) from by
      unfold Dat.leavesExact; rw [liveAt0_2 t], after0_2]
                    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
                    iapply ((kernelRun0_G c (grid0.coords t) _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) (fun h => h3 ((hcond0_3 t).mp h)) (fun h => h4 ((hcond0_4 t).mp h)) (fun h => h5 ((hcond0_5 t).mp h)) (fun h => h6 ((hcond0_6 t).mp h)) ((hcond0_7 t).mpr h7) (fun h => h8 ((hcond0_8 t).mp h)) (iblk m c 0 t) (iblk m c 1 t) (iblk m c 2 t)) Set.univ _)
                    isplitl [H0]; · iexact H0
                    isplitl [H1]; · iexact H1
                    isplitl [H2]; · iexact H2
                    isplitl [H3]; · iexists _; iexact H3
                    isplitl [H4]; · iexists _; iexact H4
                    isplitl [H5]; · iexists _; iexact H5
                    isplitl [H6]; · iexists _; iexact H6
                    isplitl [H7]; · iexists _; iexact H7
                    isplitl [H8]; · iexists _; iexact H8
                    isplitl [H9]; · iexists _; iexact H9
                    isplitl [HS0]; · iexact HS0
                    isplitl [HS1]; · iexact HS1
                    isplitl [HS2]; · iexact HS2
                    isplitl [HS3]; · iexact HS3
                    isplitl [HS4]; · iexact HS4
                    iintro ⟨H0, H1, H2, H3, H4, H5, H6, H7, H8, H9, HS0, HS1, HS2, HS3, HS4⟩
                    isplitl [HS0 HS1 HS2 HS3 HS4 Hg]
                    · isplitl [HS0 HS1 HS2 HS3 HS4]
                      · isplitl [HS0]
                        · iexact HS0
                        isplitl [HS1]
                        · iexact HS1
                        isplitl [HS2]
                        · iexact HS2
                        isplitl [HS3]
                        · iexact HS3
                        iexact HS4
                      iexact Hg
                    isplitl [Ho]; · iexact Ho
                    isplitl [H0]; · iexact H0
                    isplitl [H1]; · iexact H1
                    isplitl [H2]; · iexact H2
                    isplitl [H3]; · iexact H3
                    isplitl [H4]; · iexact H4
                    isplitl [H5]; · iexact H5
                    isplitl [H6]; · iexact H6
                    isplitl [H7]; · iexact H7
                    isplitl [H8]; · iexact H8
                    iexact H9
                · by_cases h8 : t.val % 8 = 7
                  · rw [show (dats m 0 c).leavesExact 0 t = owns (c : Thread nD τ) (ms0_0 t) fullShare ((dats m 0 c).after 0 t) from by
      unfold Dat.leavesExact; rw [liveAt0_0 t], after0_0]
                    rw [show (dats m 0 c).leavesExact 1 t = owns (c : Thread nD τ) (ms0_1 t) fullShare ((dats m 0 c).after 1 t) from by
      unfold Dat.leavesExact; rw [liveAt0_1 t], after0_1]
                    rw [show (dats m 0 c).leavesExact 2 t = owns (c : Thread nD τ) (ms0_2 t) fullShare ((dats m 0 c).after 2 t) from by
      unfold Dat.leavesExact; rw [liveAt0_2 t], after0_2]
                    iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
                    iapply ((kernelRun0_H c (grid0.coords t) _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) (fun h => h3 ((hcond0_3 t).mp h)) (fun h => h4 ((hcond0_4 t).mp h)) (fun h => h5 ((hcond0_5 t).mp h)) (fun h => h6 ((hcond0_6 t).mp h)) (fun h => h7 ((hcond0_7 t).mp h)) ((hcond0_8 t).mpr h8) (iblk m c 0 t) (iblk m c 1 t) (iblk m c 2 t)) Set.univ _)
                    isplitl [H0]; · iexact H0
                    isplitl [H1]; · iexact H1
                    isplitl [H2]; · iexact H2
                    isplitl [H3]; · iexists _; iexact H3
                    isplitl [H4]; · iexists _; iexact H4
                    isplitl [H5]; · iexists _; iexact H5
                    isplitl [H6]; · iexists _; iexact H6
                    isplitl [H7]; · iexists _; iexact H7
                    isplitl [H8]; · iexists _; iexact H8
                    isplitl [H9]; · iexists _; iexact H9
                    isplitl [HS0]; · iexact HS0
                    isplitl [HS1]; · iexact HS1
                    isplitl [HS2]; · iexact HS2
                    isplitl [HS3]; · iexact HS3
                    isplitl [HS4]; · iexact HS4
                    iintro ⟨H0, H1, H2, H3, H4, H5, H6, H7, H8, H9, HS0, HS1, HS2, HS3, HS4⟩
                    isplitl [HS0 HS1 HS2 HS3 HS4 Hg]
                    · isplitl [HS0 HS1 HS2 HS3 HS4]
                      · isplitl [HS0]
                        · iexact HS0
                        isplitl [HS1]
                        · iexact HS1
                        isplitl [HS2]
                        · iexact HS2
                        isplitl [HS3]
                        · iexact HS3
                        iexact HS4
                      iexact Hg
                    isplitl [Ho]; · iexact Ho
                    isplitl [H0]; · iexact H0
                    isplitl [H1]; · iexact H1
                    isplitl [H2]; · iexact H2
                    isplitl [H3]; · iexact H3
                    isplitl [H4]; · iexact H4
                    isplitl [H5]; · iexact H5
                    isplitl [H6]; · iexact H6
                    isplitl [H7]; · iexact H7
                    isplitl [H8]; · iexact H8
                    iexact H9
                  · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 3, 4, 5, 6, 7, 8, 9) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Gen

end
-- ==== Proof.Head.lean ====
/-
  What the kernel's blocks compute, as functions of the arrays they read, for any float values: the power-of-two scale of a row
  (`field`, `scale`, `inverse`), the clipped values (`clipped`), and the attention of one pair of heads over `n` keys (`blockOut0`, `blockOut1`).
-/
module

public import proofs.«01_k».proof.Proof.Gen.KernelIdeal.Skeleton

@[expose] public section

noncomputable section

namespace Cert.KernelIdeal.Attn

open Cert.KernelIdeal Cert.KernelIdeal.Gen Idealize.ShloMosaic

variable {F : FTy → Type} [FloatOps F] [Named F]

/-- The shape of a matrix. -/
abbrev M2 (n m : Nat) : Shape := ⟨2, ![n, m]⟩

/-! ## The scale: a power of two, from the exponent field of `a / 448` -/

section Scale
variable {s : Shape}

/-- `a / 448`. -/
def over448 (a : FVec F s .f32) : FVec F s .f32 := mulf a (broadcast s (Named.named κ "inv_e4m3_max" 0x3B124925#32))

/-- A first guess of the exponent field of `y`: never above it, at most one below. -/
def low (y : FVec F s .f32) : IVec s 32 :=
  addi (fptosi 32 (floor (subf (mulf (log (maximumf y (broadcast s (Scalar.ofBits .f32 0x00800000#32))))
    (broadcast s (Named.named κ "log2e" 0x3FB8AA3B#32))) (broadcast s (Scalar.ofBits .f32 0x3A800000#32))))) (broadcast s 127#32)

/-- The exponent field of `y`. -/
def field (y : FVec F s .f32) : IVec s 32 :=
  select (cmpf .oge y (bitcastToFloat .f32 (shli (addi (low y) (broadcast s 1#32)) (broadcast s 23#32))))
    (addi (low y) (broadcast s 1#32)) (low y)

/-- Where the exponent field is zero the scale is one. -/
def isUnit (f : IVec s 32) : IVec s 1 := cmpi .eq f (broadcast s 0#32)

/-- The scale: the power of two one above the exponent. -/
def scale (f : IVec s 32) : FVec F s .f32 :=
  bitcastToFloat .f32 (select (isUnit f) (broadcast s 1065353216#32) (shli (addi f (broadcast s 1#32)) (broadcast s 23#32)))

/-- The scale's reciprocal. -/
def inverse (f : IVec s 32) : FVec F s .f32 :=
  bitcastToFloat .f32 (select (isUnit f) (broadcast s 1065353216#32) (shli (subi (broadcast s 253#32) f) (broadcast s 23#32)))

/-- `v` times the reciprocal scale, clipped to what the format holds. -/
def clipped (v inv : FVec F s .f32) : FVec F s .f32 :=
  minimumf (broadcast s (Scalar.ofBits .f32 0x43E00000#32)) (maximumf (broadcast s (Scalar.ofBits .f32 0xC3E00000#32)) (mulf v inv))

end Scale

/-! ## The attention of a head over `n` keys -/

/-- The side conditions of the block operations at `n` keys. -/
structure Fits (n : Nat) : Prop where
  half0 : (M2 n 256).Slices ![0, 0] (M2 n 128)
  half1 : (M2 n 256).Slices ![0, 128] (M2 n 128)
  reduces : (M2 n 128).Reduces [0] S128
  spreads : S1x128.Broadcasts (M2 n 128)
  joins : Shape.Concatenates [M2 n 128, M2 n 128] (M2 n 256) 1
  flat : (⟨3, ![1, n, 128]⟩ : Shape).ShapeCasts (M2 n 128)
  keysIn : ∀ a, (![0, 0, 0] : Fin 3 → Nat) a + (⟨3, ![1, n, 128]⟩ : Shape).size a ≤ S1x1024x128.size a
  scalesIn : ∀ a, (![0, 0] : Fin 2 → Nat) a + (M2 n 128).size a ≤ S1024x128.size a
  valuesIn : ∀ a, (![0, 0] : Fin 2 → Nat) a + (M2 128 n).size a ≤ S128x1024.size a

section Head
variable {n : Nat} (hn : Fits n)

/-- Keys against the tokens of two heads. -/
def scores (kc : FVec F ⟨3, ![1, n, 128]⟩ .fp8e4m3) (q2 : FVec F S1x2x128x128 .fp8e4m3) : FVec F (M2 n 256) .f32 :=
  matmul (DotDims.transposedRhs n 128 256) none (shapeCast (M2 n 128) kc hn.flat)
    (shapeCast S256x128 (shapeCast S2x128x128 q2 shapeCasts_S1x2x128x128_S2x128x128) shapeCasts_S2x128x128_S256x128)
    (constant (M2 n 256) .f32 0x00000000#32)

/-- What multiplies a token's scores: its scale, the largest key scale, and the constant factor. -/
def multiplier (qs km : FVec F S1x128 .f32) : FVec F S1x128 .f32 :=
  maximumf (mulf (mulf qs km) (broadcast S1x128 (Named.named κ "score_scale_log2e" 0x3E0293EE#32)))
    (broadcast S1x128 (Scalar.ofBits .f32 0x00800000#32))

/-- The exponentials, each column taken from its largest score. -/
def exps (T : FVec F (M2 n 128) .f32) (a : FVec F S1x128 .f32) : FVec F (M2 n 128) .f32 :=
  exp2 (subf (mulf T (broadcastTo (M2 n 128) a hn.spreads))
    (broadcastTo (M2 n 128) (mulf (shapeCast S1x128 (multiReduction .maximumf [0] S128 T 0xFF800000#32 hn.reduces (.inl rfl) rfl)
      shapeCasts_S128_S1x128) a) hn.spreads))

/-- One over a column's sum. -/
def recip (E : FVec F (M2 n 128) .f32) : FVec F S1x128 .f32 :=
  divf (broadcast S1x128 (Scalar.ofBits .f32 0x3F800000#32))
    (shapeCast S1x128 (multiReduction .add [0] S128 E 0x00000000#32 hn.reduces (.inl rfl) rfl) shapeCasts_S128_S1x128)

/-- The quantised probabilities. -/
def probCodes (E : FVec F (M2 n 128) .f32) : FVec F (M2 n 128) .fp8e4m3 :=
  truncf .fp8e4m3 (mulf E (broadcastTo (M2 n 128)
    (minimumf (mulf (recip hn E) (inverse (field (over448 (recip hn E))))) (broadcast S1x128 (Scalar.ofBits .f32 0x43E00000#32)))
    hn.spreads)) bitsLt_fp8e4m3_f32

/-- Their scale. -/
def probScale (E : FVec F (M2 n 128) .f32) : FVec F S1x128 .f32 := scale (field (over448 (recip hn E)))

/-- The values against the probabilities of two heads. -/
def mixed (vt : FVec F (M2 128 n) .fp8e4m3) (c0 c1 : FVec F (M2 n 128) .fp8e4m3) : FVec F S128x256 .f32 :=
  matmul (DotDims.plain 128 n 256) none vt
    (concatenate (M2 n 256) 1 [⟨M2 n 128, c0⟩, ⟨M2 n 128, c1⟩] hn.joins) (constant S128x256 .f32 0x00000000#32)

/-- A head's output block, from its half of the product. -/
def finish (o : FVec F S128x128 .f32) (sc : FVec F S1x128 .f32) (vsb : FVec F S128x128 .f32) : FVec F S1x128x128 .bf16 :=
  shapeCast S1x128x128 (transpose S128x128 [1, 0] (truncf .bf16 (mulf (mulf o (broadcastTo S128x128 sc broadcasts_S1x128_S128x128))
    vsb) bitsLt_bf16_f32) transposes_S128x128_p1_0_S128x128) shapeCasts_S128x128_S1x128x128

variable (mask : FVec F (M2 n 128) .f32 → FVec F (M2 n 128) .f32)
  (kc : FVec F ⟨3, ![1, n, 128]⟩ .fp8e4m3) (vt : FVec F (M2 128 n) .fp8e4m3)
  (ks : FVec F (M2 n 128) .f32) (km : FVec F S1x128 .f32) (vsb : FVec F S128x128 .f32)
  (q2 : FVec F S1x2x128x128 .fp8e4m3)

/-- The exponentials of the first head of a pair, -/
def exps0 (qs : FVec F S1x128 .f32) : FVec F (M2 n 128) .f32 :=
  exps hn (mask (mulf (extractStridedSlice (M2 n 128) ![0, 0] (scores hn kc q2) hn.half0) ks)) (multiplier qs km)

/-- and of the second. -/
def exps1 (qs : FVec F S1x128 .f32) : FVec F (M2 n 128) .f32 :=
  exps hn (mask (mulf (extractStridedSlice (M2 n 128) ![0, 128] (scores hn kc q2) hn.half1) ks)) (multiplier qs km)

/-- The product of the values with the two heads' codes. -/
def pairMixed (qs0 qs1 : FVec F S1x128 .f32) : FVec F S128x256 .f32 :=
  mixed hn vt (probCodes hn (exps0 hn mask kc ks km q2 qs0)) (probCodes hn (exps1 hn mask kc ks km q2 qs1))

/-- The output block of the first head of a pair, -/
def pairOut0 (qs0 qs1 : FVec F S1x128 .f32) : FVec F S1x128x128 .bf16 :=
  finish (extractStridedSlice S128x128 ![0, 0] (pairMixed hn mask kc vt ks km q2 qs0 qs1) slices_S128x256_o0_0_S128x128)
    (probScale hn (exps0 hn mask kc ks km q2 qs0)) vsb

/-- and of the second. -/
def pairOut1 (qs0 qs1 : FVec F S1x128 .f32) : FVec F S1x128x128 .bf16 :=
  finish (extractStridedSlice S128x128 ![0, 128] (pairMixed hn mask kc vt ks km q2 qs0 qs1) slices_S128x256_o0_128_S128x128)
    (probScale hn (exps1 hn mask kc ks km q2 qs1)) vsb

end Head

/-- Key at or before token. -/
def visible : IVec S128x128 1 :=
  cmpi .sle (iota .tc S128x128 32 [0] iota_S128x128_d0_w32) (iota .tc S128x128 32 [1] iota_S128x128_d1_w32)

/-- The causal mask on one block of keys. -/
def diagonal (t : FVec F S128x128 .f32) : FVec F S128x128 .f32 :=
  select visible t (broadcast S128x128 (Scalar.ofBits .f32 0xFF800000#32))

/-- The causal mask on the last of several blocks of keys. -/
def lastBlock {n d : Nat} (h₁ : (M2 n 128).Slices ![d, 0] S128x128) (h₀ : (M2 n 128).Slices ![0, 0] (M2 d 128))
    (hc : Shape.Concatenates [M2 d 128, S128x128] (M2 n 128) 0) (t : FVec F (M2 n 128) .f32) : FVec F (M2 n 128) .f32 :=
  concatenate (M2 n 128) 0 [⟨M2 d 128, extractStridedSlice (M2 d 128) ![0, 0] t h₀⟩,
    ⟨S128x128, diagonal (extractStridedSlice S128x128 ![d, 0] t h₁)⟩] hc

/-! ## The output block, read from the buffers -/

/-- A pair of heads lies inside the block of query codes. -/
theorem pairRows (p : Fin 14) : ∀ a, (![0, 2 * p.val, 0, 0] : Fin 4 → Nat) a + S1x2x128x128.size a ≤ S1x28x128x128.size a := by
  revert p; decide
/-- A head's row lies inside the array of query scales. -/
theorem headRow (h : Fin 28) : ∀ a, (![h.val, 0] : Fin 2 → Nat) a + S1x128.size a ≤ S128x128.size a := by
  revert h; decide
/-- A head's columns lie inside the block of the output. -/
theorem headCols (h : Fin 28) : ∀ a, (![0, 0, 128 * h.val] : Fin 3 → Nat) a + S1x128x128.size a ≤ S1x128x3584.size a := by
  revert h; decide

/-- The first head of a pair, -/
def fst (p : Fin 14) : Fin 28 := ⟨2 * p.val, by omega⟩
/-- and the second. -/
def snd (p : Fin 14) : Fin 28 := ⟨2 * p.val + 1, by omega⟩

section Block
variable {n : Nat} (hn : Fits n) (mask : FVec F (M2 n 128) .f32 → FVec F (M2 n 128) .f32)
  (Q : FVec F S1x28x128x128 .fp8e4m3) (QST : FVec F S128x128 .f32) (KC : FVec F S1x1024x128 .fp8e4m3)
  (KSB : FVec F S1024x128 .f32) (KM : FVec F S8x128 .f32) (VT : FVec F S128x1024 .fp8e4m3) (VSB : FVec F S128x128 .f32)

/-- The codes of a pair of heads, -/
def codes2 (p : Fin 14) : FVec F S1x2x128x128 .fp8e4m3 :=
  fun z => Q ((Rect.unit (s := S1x28x128x128) ![0, 2 * p.val, 0, 0] S1x2x128x128.size (pairRows p)).emb z)
/-- the scales of a head, -/
def scale1 (h : Fin 28) : FVec F S1x128 .f32 :=
  fun z => QST ((Rect.unit (s := S128x128) ![h.val, 0] S1x128.size (headRow h)).emb z)
/-- the first `n` key codes, -/
def keys : FVec F ⟨3, ![1, n, 128]⟩ .fp8e4m3 :=
  fun z => KC ((Rect.unit (s := S1x1024x128) ![0, 0, 0] (⟨3, ![1, n, 128]⟩ : Shape).size hn.keysIn).emb z)
/-- their scales, -/
def keyScales : FVec F (M2 n 128) .f32 :=
  fun z => KSB ((Rect.unit (s := S1024x128) ![0, 0] (M2 n 128).size hn.scalesIn).emb z)
/-- the largest key scale, -/
def keyMax : FVec F S1x128 .f32 :=
  fun z => KM ((Rect.unit (s := S8x128) ![0, 0] S1x128.size inb_S8x128_S1x128_0_0).emb z)
/-- the first `n` value codes, transposed, -/
def values : FVec F (M2 128 n) .fp8e4m3 :=
  fun z => VT ((Rect.unit (s := S128x1024) ![0, 0] (M2 128 n).size hn.valuesIn).emb z)
/-- and their scales. -/
def valueScales : FVec F S128x128 .f32 :=
  fun z => VSB ((Rect.unit (s := S128x128) ![0, 0] S128x128.size inb_S128x128_S128x128_0_0).emb z)

/-- The exponentials of a pair's first head, from the buffers, -/
def blockExps0 (p : Fin 14) : FVec F (M2 n 128) .f32 :=
  exps0 hn mask (keys hn KC) (keyScales hn KSB) (keyMax KM) (codes2 Q p) (scale1 QST (fst p))
/-- and of its second. -/
def blockExps1 (p : Fin 14) : FVec F (M2 n 128) .f32 :=
  exps1 hn mask (keys hn KC) (keyScales hn KSB) (keyMax KM) (codes2 Q p) (scale1 QST (snd p))

/-- The output of a pair's first head, from the buffers, -/
def blockOut0 (p : Fin 14) : FVec F S1x128x128 .bf16 :=
  pairOut0 hn mask (keys hn KC) (values hn VT) (keyScales hn KSB) (keyMax KM) (valueScales VSB) (codes2 Q p)
    (scale1 QST (fst p)) (scale1 QST (snd p))
/-- and of its second. -/
def blockOut1 (p : Fin 14) : FVec F S1x128x128 .bf16 :=
  pairOut1 hn mask (keys hn KC) (values hn VT) (keyScales hn KSB) (keyMax KM) (valueScales VSB) (codes2 Q p)
    (scale1 QST (fst p)) (scale1 QST (snd p))

end Block

/-- The shapes of 128 keys fit. -/
theorem fits128 : Fits 128 := by constructor <;> decide
/-- The causal mask of the first block. -/
abbrev mask0 : FVec F (M2 128 128) .f32 → FVec F (M2 128 128) .f32 := diagonal
/-- The shapes of 256 keys fit. -/
theorem fits256 : Fits 256 := by constructor <;> decide
/-- The causal mask over 2 blocks. -/
abbrev mask1 : FVec F (M2 256 128) .f32 → FVec F (M2 256 128) .f32 :=
  lastBlock (d := 128) slices_S256x128_o128_0_S128x128 slices_S256x128_o0_0_S128x128 concatenates_S128x128_S128x128_S256x128_d0
/-- The shapes of 384 keys fit. -/
theorem fits384 : Fits 384 := by constructor <;> decide
/-- The causal mask over 3 blocks. -/
abbrev mask2 : FVec F (M2 384 128) .f32 → FVec F (M2 384 128) .f32 :=
  lastBlock (d := 256) slices_S384x128_o256_0_S128x128 slices_S384x128_o0_0_S256x128 concatenates_S256x128_S128x128_S384x128_d0
/-- The shapes of 512 keys fit. -/
theorem fits512 : Fits 512 := by constructor <;> decide
/-- The causal mask over 4 blocks. -/
abbrev mask3 : FVec F (M2 512 128) .f32 → FVec F (M2 512 128) .f32 :=
  lastBlock (d := 384) slices_S512x128_o384_0_S128x128 slices_S512x128_o0_0_S384x128 concatenates_S384x128_S128x128_S512x128_d0
/-- The shapes of 640 keys fit. -/
theorem fits640 : Fits 640 := by constructor <;> decide
/-- The causal mask over 5 blocks. -/
abbrev mask4 : FVec F (M2 640 128) .f32 → FVec F (M2 640 128) .f32 :=
  lastBlock (d := 512) slices_S640x128_o512_0_S128x128 slices_S640x128_o0_0_S512x128 concatenates_S512x128_S128x128_S640x128_d0
/-- The shapes of 768 keys fit. -/
theorem fits768 : Fits 768 := by constructor <;> decide
/-- The causal mask over 6 blocks. -/
abbrev mask5 : FVec F (M2 768 128) .f32 → FVec F (M2 768 128) .f32 :=
  lastBlock (d := 640) slices_S768x128_o640_0_S128x128 slices_S768x128_o0_0_S640x128 concatenates_S640x128_S128x128_S768x128_d0
/-- The shapes of 896 keys fit. -/
theorem fits896 : Fits 896 := by constructor <;> decide
/-- The causal mask over 7 blocks. -/
abbrev mask6 : FVec F (M2 896 128) .f32 → FVec F (M2 896 128) .f32 :=
  lastBlock (d := 768) slices_S896x128_o768_0_S128x128 slices_S896x128_o0_0_S768x128 concatenates_S768x128_S128x128_S896x128_d0
/-- The shapes of 1024 keys fit. -/
theorem fits1024 : Fits 1024 := by constructor <;> decide
/-- The causal mask over 8 blocks. -/
abbrev mask7 : FVec F (M2 1024 128) .f32 → FVec F (M2 1024 128) .f32 :=
  lastBlock (d := 896) slices_S1024x128_o896_0_S128x128 slices_S1024x128_o0_0_S896x128 concatenates_S896x128_S128x128_S1024x128_d0

end Cert.KernelIdeal.Attn

end
-- ==== Proof.Store.lean ====
/-
  Blocks stored head by head: what an array holds after the twenty-eight stores.
-/
module

public import proofs.«01_k».proof.Proof.Head
public import proofs.«01_k».proof.Proof.Gen.KernelIdeal
public import Idealize.ShloMosaic.Lib.Writes
public import Idealize.ShloMosaic.Lib.Ring
public import Idealize.ShloMosaic.Lib.ValueIdxCore
public import Idealize.ShloMosaic.Lib.Pipeline.ValueKit.Geometry

@[expose] public section

set_option maxRecDepth 16384

noncomputable section

namespace Cert.KernelIdeal.Attn

open Cert.KernelIdeal Cert.KernelIdeal.Gen Idealize.ShloMosaic

variable {F : FTy → Type} [FloatOps F] [Named F]

/-- The two heads of each pair as one family. -/
def both {α : Type} (a b : Fin 14 → α) (h : Fin 28) : α :=
  if h.val % 2 = 0 then a ⟨h.val / 2, by omega⟩ else b ⟨h.val / 2, by omega⟩

/-- The output block of the heads' outputs side by side. -/
def wide (v : Fin 28 → FVec F S1x128x128 .bf16) : FVec F S1x128x3584 .bf16 :=
  fun y => v ⟨(y 2).val / 128, by have : (y 2).val < 3584 := (y 2).isLt; omega⟩
    (ValueIdx.ix3 (0 : Fin 1) (y 1 : Fin 128) (⟨(y 2).val % 128, Nat.mod_lt _ (by decide)⟩ : Fin 128))

/-- A head's columns of the output block. -/
theorem wide_emb (v : Fin 28 → FVec F S1x128x128 .bf16) (h : Fin 28) (inb) (x : S1x128x128.Idx) :
    wide v ((Rect.unit (s := S1x128x3584) ![0, 0, 128 * h.val] S1x128x128.size inb).emb x) = v h x := by
  have e (a) : (((Rect.unit (s := S1x128x3584) ![0, 0, 128 * h.val] S1x128x128.size inb).emb x) a).val
      = (![0, 0, 128 * h.val] : Fin 3 → Nat) a + (x a).val := ValueKit.rect_emb_unit_val _ _ inb x a
  have e1 := e 1
  have e2 := e 2
  have l2 : (x 2).val < 128 := (x 2).isLt
  simp only [Matrix.cons_val] at e1 e2
  unfold wide
  have hh : (⟨(((Rect.unit (s := S1x128x3584) ![0, 0, 128 * h.val] S1x128x128.size inb).emb x) 2).val / 128,
      by have := (((Rect.unit (s := S1x128x3584) ![0, 0, 128 * h.val] S1x128x128.size inb).emb x) 2).isLt; exact Nat.div_lt_of_lt_mul this⟩ : Fin 28) = h :=
    Fin.ext (by show _ / 128 = _; rw [e2]; omega)
  refine congr (congrArg v hh) (funext fun a => ?_)
  match a with
  | ⟨0, _⟩ => exact Subsingleton.elim (α := Fin 1) _ _
  | ⟨1, _⟩ => exact Fin.ext (by show _ = (x 1).val; rw [← Nat.zero_add (x 1).val]; exact e1)
  | ⟨2, _⟩ => exact Fin.ext (by show _ % 128 = (x 2).val; rw [e2]; omega)

/-- The stores of the output block, the last first. -/
def wideStores (a b : Fin 14 → FVec F S1x128x128 .bf16) : List (View.Piece (Elt F) S1x128x3584 .bf16) :=
  [⟨Rect.unit (s := S1x128x3584) ![0, 0, 3456] S1x128x128.size (by decide), b 13⟩,
    ⟨Rect.unit (s := S1x128x3584) ![0, 0, 3328] S1x128x128.size (by decide), a 13⟩,
    ⟨Rect.unit (s := S1x128x3584) ![0, 0, 3200] S1x128x128.size (by decide), b 12⟩,
    ⟨Rect.unit (s := S1x128x3584) ![0, 0, 3072] S1x128x128.size (by decide), a 12⟩,
    ⟨Rect.unit (s := S1x128x3584) ![0, 0, 2944] S1x128x128.size (by decide), b 11⟩,
    ⟨Rect.unit (s := S1x128x3584) ![0, 0, 2816] S1x128x128.size (by decide), a 11⟩,
    ⟨Rect.unit (s := S1x128x3584) ![0, 0, 2688] S1x128x128.size (by decide), b 10⟩,
    ⟨Rect.unit (s := S1x128x3584) ![0, 0, 2560] S1x128x128.size (by decide), a 10⟩,
    ⟨Rect.unit (s := S1x128x3584) ![0, 0, 2432] S1x128x128.size (by decide), b 9⟩,
    ⟨Rect.unit (s := S1x128x3584) ![0, 0, 2304] S1x128x128.size (by decide), a 9⟩,
    ⟨Rect.unit (s := S1x128x3584) ![0, 0, 2176] S1x128x128.size (by decide), b 8⟩,
    ⟨Rect.unit (s := S1x128x3584) ![0, 0, 2048] S1x128x128.size (by decide), a 8⟩,
    ⟨Rect.unit (s := S1x128x3584) ![0, 0, 1920] S1x128x128.size (by decide), b 7⟩,
    ⟨Rect.unit (s := S1x128x3584) ![0, 0, 1792] S1x128x128.size (by decide), a 7⟩,
    ⟨Rect.unit (s := S1x128x3584) ![0, 0, 1664] S1x128x128.size (by decide), b 6⟩,
    ⟨Rect.unit (s := S1x128x3584) ![0, 0, 1536] S1x128x128.size (by decide), a 6⟩,
    ⟨Rect.unit (s := S1x128x3584) ![0, 0, 1408] S1x128x128.size (by decide), b 5⟩,
    ⟨Rect.unit (s := S1x128x3584) ![0, 0, 1280] S1x128x128.size (by decide), a 5⟩,
    ⟨Rect.unit (s := S1x128x3584) ![0, 0, 1152] S1x128x128.size (by decide), b 4⟩,
    ⟨Rect.unit (s := S1x128x3584) ![0, 0, 1024] S1x128x128.size (by decide), a 4⟩,
    ⟨Rect.unit (s := S1x128x3584) ![0, 0, 896] S1x128x128.size (by decide), b 3⟩,
    ⟨Rect.unit (s := S1x128x3584) ![0, 0, 768] S1x128x128.size (by decide), a 3⟩,
    ⟨Rect.unit (s := S1x128x3584) ![0, 0, 640] S1x128x128.size (by decide), b 2⟩,
    ⟨Rect.unit (s := S1x128x3584) ![0, 0, 512] S1x128x128.size (by decide), a 2⟩,
    ⟨Rect.unit (s := S1x128x3584) ![0, 0, 384] S1x128x128.size (by decide), b 1⟩,
    ⟨Rect.unit (s := S1x128x3584) ![0, 0, 256] S1x128x128.size (by decide), a 1⟩,
    ⟨Rect.unit (s := S1x128x3584) ![0, 0, 128] S1x128x128.size (by decide), b 0⟩,
    ⟨Rect.unit (s := S1x128x3584) ![0, 0, 0] S1x128x128.size (by decide), a 0⟩]

/-- What a read finds after all heads' outputs are stored. -/
theorem read_wideStores {κ : Kind} {sp : Space} (w : View sig κ sp S1x128x3584 .bf16) (f : w.ty.Contents (Elt F))
    (a b : Fin 14 → FVec F S1x128x128 .bf16) :
    w.read (Elt F) (w.writes (Elt F) f (wideStores a b)) = wide (both a b) := by
  funext y
  refine View.read_writes_apply_of_pieces w f (wide (both a b)) (wideStores a b) ?_ y (View.cover_of_tiled (wideStores a b) S1x128x128.size rfl y)
  unfold wideStores
  exact List.forall_mem_cons.mpr ⟨fun x => (wide_emb (both a b) 27 (headCols 27) x).symm,
    List.forall_mem_cons.mpr ⟨fun x => (wide_emb (both a b) 26 (headCols 26) x).symm,
    List.forall_mem_cons.mpr ⟨fun x => (wide_emb (both a b) 25 (headCols 25) x).symm,
    List.forall_mem_cons.mpr ⟨fun x => (wide_emb (both a b) 24 (headCols 24) x).symm,
    List.forall_mem_cons.mpr ⟨fun x => (wide_emb (both a b) 23 (headCols 23) x).symm,
    List.forall_mem_cons.mpr ⟨fun x => (wide_emb (both a b) 22 (headCols 22) x).symm,
    List.forall_mem_cons.mpr ⟨fun x => (wide_emb (both a b) 21 (headCols 21) x).symm,
    List.forall_mem_cons.mpr ⟨fun x => (wide_emb (both a b) 20 (headCols 20) x).symm,
    List.forall_mem_cons.mpr ⟨fun x => (wide_emb (both a b) 19 (headCols 19) x).symm,
    List.forall_mem_cons.mpr ⟨fun x => (wide_emb (both a b) 18 (headCols 18) x).symm,
    List.forall_mem_cons.mpr ⟨fun x => (wide_emb (both a b) 17 (headCols 17) x).symm,
    List.forall_mem_cons.mpr ⟨fun x => (wide_emb (both a b) 16 (headCols 16) x).symm,
    List.forall_mem_cons.mpr ⟨fun x => (wide_emb (both a b) 15 (headCols 15) x).symm,
    List.forall_mem_cons.mpr ⟨fun x => (wide_emb (both a b) 14 (headCols 14) x).symm,
    List.forall_mem_cons.mpr ⟨fun x => (wide_emb (both a b) 13 (headCols 13) x).symm,
    List.forall_mem_cons.mpr ⟨fun x => (wide_emb (both a b) 12 (headCols 12) x).symm,
    List.forall_mem_cons.mpr ⟨fun x => (wide_emb (both a b) 11 (headCols 11) x).symm,
    List.forall_mem_cons.mpr ⟨fun x => (wide_emb (both a b) 10 (headCols 10) x).symm,
    List.forall_mem_cons.mpr ⟨fun x => (wide_emb (both a b) 9 (headCols 9) x).symm,
    List.forall_mem_cons.mpr ⟨fun x => (wide_emb (both a b) 8 (headCols 8) x).symm,
    List.forall_mem_cons.mpr ⟨fun x => (wide_emb (both a b) 7 (headCols 7) x).symm,
    List.forall_mem_cons.mpr ⟨fun x => (wide_emb (both a b) 6 (headCols 6) x).symm,
    List.forall_mem_cons.mpr ⟨fun x => (wide_emb (both a b) 5 (headCols 5) x).symm,
    List.forall_mem_cons.mpr ⟨fun x => (wide_emb (both a b) 4 (headCols 4) x).symm,
    List.forall_mem_cons.mpr ⟨fun x => (wide_emb (both a b) 3 (headCols 3) x).symm,
    List.forall_mem_cons.mpr ⟨fun x => (wide_emb (both a b) 2 (headCols 2) x).symm,
    List.forall_mem_cons.mpr ⟨fun x => (wide_emb (both a b) 1 (headCols 1) x).symm,
    List.forall_mem_cons.mpr ⟨fun x => (wide_emb (both a b) 0 (headCols 0) x).symm,
    fun _ h => absurd h List.not_mem_nil⟩⟩⟩⟩⟩⟩⟩⟩⟩⟩⟩⟩⟩⟩⟩⟩⟩⟩⟩⟩⟩⟩⟩⟩⟩⟩⟩⟩

/-- The stores of a block's query codes, the last first. -/
def codeStores (v : Fin 28 → FVec F S1x1x128x128 .fp8e4m3) : List (View.Piece (Elt F) S1x28x128x128 .fp8e4m3) :=
  [⟨Rect.unit (s := S1x28x128x128) ![0, 27, 0, 0] S1x1x128x128.size (by decide), v 27⟩,
    ⟨Rect.unit (s := S1x28x128x128) ![0, 26, 0, 0] S1x1x128x128.size (by decide), v 26⟩,
    ⟨Rect.unit (s := S1x28x128x128) ![0, 25, 0, 0] S1x1x128x128.size (by decide), v 25⟩,
    ⟨Rect.unit (s := S1x28x128x128) ![0, 24, 0, 0] S1x1x128x128.size (by decide), v 24⟩,
    ⟨Rect.unit (s := S1x28x128x128) ![0, 23, 0, 0] S1x1x128x128.size (by decide), v 23⟩,
    ⟨Rect.unit (s := S1x28x128x128) ![0, 22, 0, 0] S1x1x128x128.size (by decide), v 22⟩,
    ⟨Rect.unit (s := S1x28x128x128) ![0, 21, 0, 0] S1x1x128x128.size (by decide), v 21⟩,
    ⟨Rect.unit (s := S1x28x128x128) ![0, 20, 0, 0] S1x1x128x128.size (by decide), v 20⟩,
    ⟨Rect.unit (s := S1x28x128x128) ![0, 19, 0, 0] S1x1x128x128.size (by decide), v 19⟩,
    ⟨Rect.unit (s := S1x28x128x128) ![0, 18, 0, 0] S1x1x128x128.size (by decide), v 18⟩,
    ⟨Rect.unit (s := S1x28x128x128) ![0, 17, 0, 0] S1x1x128x128.size (by decide), v 17⟩,
    ⟨Rect.unit (s := S1x28x128x128) ![0, 16, 0, 0] S1x1x128x128.size (by decide), v 16⟩,
    ⟨Rect.unit (s := S1x28x128x128) ![0, 15, 0, 0] S1x1x128x128.size (by decide), v 15⟩,
    ⟨Rect.unit (s := S1x28x128x128) ![0, 14, 0, 0] S1x1x128x128.size (by decide), v 14⟩,
    ⟨Rect.unit (s := S1x28x128x128) ![0, 13, 0, 0] S1x1x128x128.size (by decide), v 13⟩,
    ⟨Rect.unit (s := S1x28x128x128) ![0, 12, 0, 0] S1x1x128x128.size (by decide), v 12⟩,
    ⟨Rect.unit (s := S1x28x128x128) ![0, 11, 0, 0] S1x1x128x128.size (by decide), v 11⟩,
    ⟨Rect.unit (s := S1x28x128x128) ![0, 10, 0, 0] S1x1x128x128.size (by decide), v 10⟩,
    ⟨Rect.unit (s := S1x28x128x128) ![0, 9, 0, 0] S1x1x128x128.size (by decide), v 9⟩,
    ⟨Rect.unit (s := S1x28x128x128) ![0, 8, 0, 0] S1x1x128x128.size (by decide), v 8⟩,
    ⟨Rect.unit (s := S1x28x128x128) ![0, 7, 0, 0] S1x1x128x128.size (by decide), v 7⟩,
    ⟨Rect.unit (s := S1x28x128x128) ![0, 6, 0, 0] S1x1x128x128.size (by decide), v 6⟩,
    ⟨Rect.unit (s := S1x28x128x128) ![0, 5, 0, 0] S1x1x128x128.size (by decide), v 5⟩,
    ⟨Rect.unit (s := S1x28x128x128) ![0, 4, 0, 0] S1x1x128x128.size (by decide), v 4⟩,
    ⟨Rect.unit (s := S1x28x128x128) ![0, 3, 0, 0] S1x1x128x128.size (by decide), v 3⟩,
    ⟨Rect.unit (s := S1x28x128x128) ![0, 2, 0, 0] S1x1x128x128.size (by decide), v 2⟩,
    ⟨Rect.unit (s := S1x28x128x128) ![0, 1, 0, 0] S1x1x128x128.size (by decide), v 1⟩,
    ⟨Rect.unit (s := S1x28x128x128) ![0, 0, 0, 0] S1x1x128x128.size (by decide), v 0⟩]

/-- A head's query scales lie inside their array. -/
theorem scaleIn (i : grid0.Coords) (h : Fin 28) :
    ∀ a, (![h.val, (i 1).val, (i 0).val, 0] : Fin 4 → Nat) a + S1x1x1x128.size a ≤ S28x8x2x128.size a := by
  revert i h; decide +kernel

/-- The stores of a block's query scales, the last first. -/
def scaleStores (i : grid0.Coords) (v : Fin 28 → FVec F S1x1x1x128 .f32) : List (View.Piece (Elt F) S28x8x2x128 .f32) :=
  [⟨Rect.unit (s := S28x8x2x128) (k0_off30 i) S1x1x1x128.size (k0_off30_inb i), v 27⟩,
    ⟨Rect.unit (s := S28x8x2x128) (k0_off29 i) S1x1x1x128.size (k0_off29_inb i), v 26⟩,
    ⟨Rect.unit (s := S28x8x2x128) (k0_off28 i) S1x1x1x128.size (k0_off28_inb i), v 25⟩,
    ⟨Rect.unit (s := S28x8x2x128) (k0_off27 i) S1x1x1x128.size (k0_off27_inb i), v 24⟩,
    ⟨Rect.unit (s := S28x8x2x128) (k0_off26 i) S1x1x1x128.size (k0_off26_inb i), v 23⟩,
    ⟨Rect.unit (s := S28x8x2x128) (k0_off25 i) S1x1x1x128.size (k0_off25_inb i), v 22⟩,
    ⟨Rect.unit (s := S28x8x2x128) (k0_off24 i) S1x1x1x128.size (k0_off24_inb i), v 21⟩,
    ⟨Rect.unit (s := S28x8x2x128) (k0_off23 i) S1x1x1x128.size (k0_off23_inb i), v 20⟩,
    ⟨Rect.unit (s := S28x8x2x128) (k0_off22 i) S1x1x1x128.size (k0_off22_inb i), v 19⟩,
    ⟨Rect.unit (s := S28x8x2x128) (k0_off21 i) S1x1x1x128.size (k0_off21_inb i), v 18⟩,
    ⟨Rect.unit (s := S28x8x2x128) (k0_off20 i) S1x1x1x128.size (k0_off20_inb i), v 17⟩,
    ⟨Rect.unit (s := S28x8x2x128) (k0_off19 i) S1x1x1x128.size (k0_off19_inb i), v 16⟩,
    ⟨Rect.unit (s := S28x8x2x128) (k0_off18 i) S1x1x1x128.size (k0_off18_inb i), v 15⟩,
    ⟨Rect.unit (s := S28x8x2x128) (k0_off17 i) S1x1x1x128.size (k0_off17_inb i), v 14⟩,
    ⟨Rect.unit (s := S28x8x2x128) (k0_off16 i) S1x1x1x128.size (k0_off16_inb i), v 13⟩,
    ⟨Rect.unit (s := S28x8x2x128) (k0_off15 i) S1x1x1x128.size (k0_off15_inb i), v 12⟩,
    ⟨Rect.unit (s := S28x8x2x128) (k0_off14 i) S1x1x1x128.size (k0_off14_inb i), v 11⟩,
    ⟨Rect.unit (s := S28x8x2x128) (k0_off13 i) S1x1x1x128.size (k0_off13_inb i), v 10⟩,
    ⟨Rect.unit (s := S28x8x2x128) (k0_off12 i) S1x1x1x128.size (k0_off12_inb i), v 9⟩,
    ⟨Rect.unit (s := S28x8x2x128) (k0_off11 i) S1x1x1x128.size (k0_off11_inb i), v 8⟩,
    ⟨Rect.unit (s := S28x8x2x128) (k0_off10 i) S1x1x1x128.size (k0_off10_inb i), v 7⟩,
    ⟨Rect.unit (s := S28x8x2x128) (k0_off9 i) S1x1x1x128.size (k0_off9_inb i), v 6⟩,
    ⟨Rect.unit (s := S28x8x2x128) (k0_off8 i) S1x1x1x128.size (k0_off8_inb i), v 5⟩,
    ⟨Rect.unit (s := S28x8x2x128) (k0_off7 i) S1x1x1x128.size (k0_off7_inb i), v 4⟩,
    ⟨Rect.unit (s := S28x8x2x128) (k0_off6 i) S1x1x1x128.size (k0_off6_inb i), v 3⟩,
    ⟨Rect.unit (s := S28x8x2x128) (k0_off5 i) S1x1x1x128.size (k0_off5_inb i), v 2⟩,
    ⟨Rect.unit (s := S28x8x2x128) (k0_off4 i) S1x1x1x128.size (k0_off4_inb i), v 1⟩,
    ⟨Rect.unit (s := S28x8x2x128) (k0_off3 i) S1x1x1x128.size (k0_off3_inb i), v 0⟩]

/-- Stores at equal places are equal. -/
theorem piece_congr {off off' : Fin 4 → Nat} (e : off = off') (inb inb') (w : FVec F S1x1x1x128 .f32) :
    (⟨Rect.unit (s := S28x8x2x128) off S1x1x1x128.size inb, w⟩ : View.Piece (Elt F) S28x8x2x128 .f32) =
      ⟨Rect.unit (s := S28x8x2x128) off' S1x1x1x128.size inb', w⟩ := by
  subst e; rfl

/-- The offsets in closed form. -/
theorem scaleStores_eq (i : grid0.Coords) (v : Fin 28 → FVec F S1x1x1x128 .f32) :
    scaleStores i v = List.map (fun h : Fin 28 => (⟨Rect.unit (s := S28x8x2x128) ![h.val, (i 1).val, (i 0).val, 0] S1x1x1x128.size
      (scaleIn i h), v h⟩ : View.Piece (Elt F) S28x8x2x128 .f32))
      [27, 26, 25, 24, 23, 22, 21, 20, 19, 18, 17, 16, 15, 14, 13, 12, 11, 10, 9, 8, 7, 6, 5, 4, 3, 2, 1, 0] :=
  congrArg₂ List.cons (piece_congr (k0_off30_eq i) _ (scaleIn i 27) _) (
    congrArg₂ List.cons (piece_congr (k0_off29_eq i) _ (scaleIn i 26) _) (
    congrArg₂ List.cons (piece_congr (k0_off28_eq i) _ (scaleIn i 25) _) (
    congrArg₂ List.cons (piece_congr (k0_off27_eq i) _ (scaleIn i 24) _) (
    congrArg₂ List.cons (piece_congr (k0_off26_eq i) _ (scaleIn i 23) _) (
    congrArg₂ List.cons (piece_congr (k0_off25_eq i) _ (scaleIn i 22) _) (
    congrArg₂ List.cons (piece_congr (k0_off24_eq i) _ (scaleIn i 21) _) (
    congrArg₂ List.cons (piece_congr (k0_off23_eq i) _ (scaleIn i 20) _) (
    congrArg₂ List.cons (piece_congr (k0_off22_eq i) _ (scaleIn i 19) _) (
    congrArg₂ List.cons (piece_congr (k0_off21_eq i) _ (scaleIn i 18) _) (
    congrArg₂ List.cons (piece_congr (k0_off20_eq i) _ (scaleIn i 17) _) (
    congrArg₂ List.cons (piece_congr (k0_off19_eq i) _ (scaleIn i 16) _) (
    congrArg₂ List.cons (piece_congr (k0_off18_eq i) _ (scaleIn i 15) _) (
    congrArg₂ List.cons (piece_congr (k0_off17_eq i) _ (scaleIn i 14) _) (
    congrArg₂ List.cons (piece_congr (k0_off16_eq i) _ (scaleIn i 13) _) (
    congrArg₂ List.cons (piece_congr (k0_off15_eq i) _ (scaleIn i 12) _) (
    congrArg₂ List.cons (piece_congr (k0_off14_eq i) _ (scaleIn i 11) _) (
    congrArg₂ List.cons (piece_congr (k0_off13_eq i) _ (scaleIn i 10) _) (
    congrArg₂ List.cons (piece_congr (k0_off12_eq i) _ (scaleIn i 9) _) (
    congrArg₂ List.cons (piece_congr (k0_off11_eq i) _ (scaleIn i 8) _) (
    congrArg₂ List.cons (piece_congr (k0_off10_eq i) _ (scaleIn i 7) _) (
    congrArg₂ List.cons (piece_congr (k0_off9_eq i) _ (scaleIn i 6) _) (
    congrArg₂ List.cons (piece_congr (k0_off8_eq i) _ (scaleIn i 5) _) (
    congrArg₂ List.cons (piece_congr (k0_off7_eq i) _ (scaleIn i 4) _) (
    congrArg₂ List.cons (piece_congr (k0_off6_eq i) _ (scaleIn i 3) _) (
    congrArg₂ List.cons (piece_congr (k0_off5_eq i) _ (scaleIn i 2) _) (
    congrArg₂ List.cons (piece_congr (k0_off4_eq i) _ (scaleIn i 1) _) (
    congrArg₂ List.cons (piece_congr (k0_off3_eq i) _ (scaleIn i 0) _) (
    rfl))))))))))))))))))))))))))))

/-- The codes of a block of queries, the heads one after the other. -/
def stacked (v : Fin 28 → FVec F S1x1x128x128 .fp8e4m3) : FVec F S1x28x128x128 .fp8e4m3 :=
  fun y => v (y 1 : Fin 28) (ValueIdx.ix4 (0 : Fin 1) (0 : Fin 1) (y 2 : Fin 128) (y 3 : Fin 128))

/-- A head's query codes lie inside their block. -/
theorem codeRows (h : Fin 28) : ∀ a, (![0, h.val, 0, 0] : Fin 4 → Nat) a + S1x1x128x128.size a ≤ S1x28x128x128.size a := by
  revert h; decide

/-- A head's part of the block of query codes. -/
theorem stacked_emb (v : Fin 28 → FVec F S1x1x128x128 .fp8e4m3) (h : Fin 28) (inb)
    (x : S1x1x128x128.Idx) : stacked v ((Rect.unit (s := S1x28x128x128) ![0, h.val, 0, 0] S1x1x128x128.size inb).emb x) = v h x := by
  have e (a) : (((Rect.unit (s := S1x28x128x128) ![0, h.val, 0, 0] S1x1x128x128.size inb).emb x) a).val
      = (![0, h.val, 0, 0] : Fin 4 → Nat) a + (x a).val := ValueKit.rect_emb_unit_val _ _ inb x a
  have l1 : (x 1).val < 1 := (x 1).isLt
  have e1 : (((Rect.unit (s := S1x28x128x128) ![0, h.val, 0, 0] S1x1x128x128.size inb).emb x) 1).val = h.val + (x 1).val := e 1
  have e2 : (((Rect.unit (s := S1x28x128x128) ![0, h.val, 0, 0] S1x1x128x128.size inb).emb x) 2).val = 0 + (x 2).val := e 2
  have e3 : (((Rect.unit (s := S1x28x128x128) ![0, h.val, 0, 0] S1x1x128x128.size inb).emb x) 3).val = 0 + (x 3).val := e 3
  unfold stacked
  refine congr (congrArg v (Fin.ext (by rw [e1]; omega))) (funext fun a => ?_)
  match a with
  | ⟨0, _⟩ => exact Subsingleton.elim (α := Fin 1) _ _
  | ⟨1, _⟩ => exact Subsingleton.elim (α := Fin 1) _ _
  | ⟨2, _⟩ => exact Fin.ext (e2.trans (Nat.zero_add _))
  | ⟨3, _⟩ => exact Fin.ext (e3.trans (Nat.zero_add _))

/-- What a read finds after all heads' query codes are stored. -/
theorem read_codeStores {κ : Kind} {sp : Space} (w : View sig κ sp S1x28x128x128 .fp8e4m3) (f : w.ty.Contents (Elt F))
    (v : Fin 28 → FVec F S1x1x128x128 .fp8e4m3) :
    w.read (Elt F) (w.writes (Elt F) f (codeStores v)) = stacked v := by
  funext y
  refine View.read_writes_apply_of_pieces w f (stacked v) (codeStores v) ?_ y (View.cover_of_tiled (codeStores v) S1x1x128x128.size rfl y)
  unfold codeStores
  exact List.forall_mem_cons.mpr ⟨fun x => (stacked_emb v 27 (codeRows 27) x).symm,
    List.forall_mem_cons.mpr ⟨fun x => (stacked_emb v 26 (codeRows 26) x).symm,
    List.forall_mem_cons.mpr ⟨fun x => (stacked_emb v 25 (codeRows 25) x).symm,
    List.forall_mem_cons.mpr ⟨fun x => (stacked_emb v 24 (codeRows 24) x).symm,
    List.forall_mem_cons.mpr ⟨fun x => (stacked_emb v 23 (codeRows 23) x).symm,
    List.forall_mem_cons.mpr ⟨fun x => (stacked_emb v 22 (codeRows 22) x).symm,
    List.forall_mem_cons.mpr ⟨fun x => (stacked_emb v 21 (codeRows 21) x).symm,
    List.forall_mem_cons.mpr ⟨fun x => (stacked_emb v 20 (codeRows 20) x).symm,
    List.forall_mem_cons.mpr ⟨fun x => (stacked_emb v 19 (codeRows 19) x).symm,
    List.forall_mem_cons.mpr ⟨fun x => (stacked_emb v 18 (codeRows 18) x).symm,
    List.forall_mem_cons.mpr ⟨fun x => (stacked_emb v 17 (codeRows 17) x).symm,
    List.forall_mem_cons.mpr ⟨fun x => (stacked_emb v 16 (codeRows 16) x).symm,
    List.forall_mem_cons.mpr ⟨fun x => (stacked_emb v 15 (codeRows 15) x).symm,
    List.forall_mem_cons.mpr ⟨fun x => (stacked_emb v 14 (codeRows 14) x).symm,
    List.forall_mem_cons.mpr ⟨fun x => (stacked_emb v 13 (codeRows 13) x).symm,
    List.forall_mem_cons.mpr ⟨fun x => (stacked_emb v 12 (codeRows 12) x).symm,
    List.forall_mem_cons.mpr ⟨fun x => (stacked_emb v 11 (codeRows 11) x).symm,
    List.forall_mem_cons.mpr ⟨fun x => (stacked_emb v 10 (codeRows 10) x).symm,
    List.forall_mem_cons.mpr ⟨fun x => (stacked_emb v 9 (codeRows 9) x).symm,
    List.forall_mem_cons.mpr ⟨fun x => (stacked_emb v 8 (codeRows 8) x).symm,
    List.forall_mem_cons.mpr ⟨fun x => (stacked_emb v 7 (codeRows 7) x).symm,
    List.forall_mem_cons.mpr ⟨fun x => (stacked_emb v 6 (codeRows 6) x).symm,
    List.forall_mem_cons.mpr ⟨fun x => (stacked_emb v 5 (codeRows 5) x).symm,
    List.forall_mem_cons.mpr ⟨fun x => (stacked_emb v 4 (codeRows 4) x).symm,
    List.forall_mem_cons.mpr ⟨fun x => (stacked_emb v 3 (codeRows 3) x).symm,
    List.forall_mem_cons.mpr ⟨fun x => (stacked_emb v 2 (codeRows 2) x).symm,
    List.forall_mem_cons.mpr ⟨fun x => (stacked_emb v 1 (codeRows 1) x).symm,
    List.forall_mem_cons.mpr ⟨fun x => (stacked_emb v 0 (codeRows 0) x).symm,
    fun _ h => absurd h List.not_mem_nil⟩⟩⟩⟩⟩⟩⟩⟩⟩⟩⟩⟩⟩⟩⟩⟩⟩⟩⟩⟩⟩⟩⟩⟩⟩⟩⟩⟩

/-- Where an element of a head's query scales is stored. -/
theorem scale_emb (i : grid0.Coords) (h : Fin 28) (x : S1x1x1x128.Idx) (a : Fin S28x8x2x128.rank) :
    (((Rect.unit (s := S28x8x2x128) ![h.val, (i 1).val, (i 0).val, 0] S1x1x1x128.size (scaleIn i h)).emb x) a).val
      = (![h.val, (i 1).val, (i 0).val, 0] : Fin 4 → Nat) a + (x a).val := ValueKit.rect_emb_unit_val _ _ _ x a

/-- Every head is in the list of heads. -/
theorem mem_heads (h : Fin 28) : h ∈ ([27, 26, 25, 24, 23, 22, 21, 20, 19, 18, 17, 16, 15, 14, 13, 12, 11, 10, 9, 8, 7, 6, 5, 4, 3, 2, 1, 0] : List (Fin 28)) := by
  revert h; decide

/-- After a point's stores the rows of that point hold its scales, -/
theorem read_scaleStores_here {κ : Kind} {sp : Space} (w : View sig κ sp S28x8x2x128 .f32) (f : w.ty.Contents (Elt F))
    (i : grid0.Coords) (v : Fin 28 → FVec F S1x1x1x128 .f32) (y : S28x8x2x128.Idx)
    (h1 : (y 1).val = (i 1).val) (h0 : (y 2).val = (i 0).val) :
    w.read (Elt F) (w.writes (Elt F) f (scaleStores i v)) y
      = v (y 0 : Fin 28) (ValueIdx.ix4 (0 : Fin 1) (0 : Fin 1) (0 : Fin 1) (y 3 : Fin 128)) := by
  rw [scaleStores_eq]
  refine View.read_writes_apply_of_pieces w f
    (fun y : S28x8x2x128.Idx => v (y 0 : Fin 28) (ValueIdx.ix4 (0 : Fin 1) (0 : Fin 1) (0 : Fin 1) (y 3 : Fin 128))) _ ?_ y ?_
  · intro p hp x
    obtain ⟨h, -, rfl⟩ := List.mem_map.mp hp
    have l0 : (x 0).val < 1 := (x 0).isLt
    have e0 : _ = h.val + (x 0).val := scale_emb i h x 0
    have e3 : _ = 0 + (x 3).val := scale_emb i h x 3
    refine (congr (congrArg v (Fin.ext (e0.trans (by omega)))) (funext fun a => ?_)).symm
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => exact Fin.ext (e3.trans (Nat.zero_add _))
  · refine ⟨_, List.mem_map.mpr ⟨(y 0 : Fin 28), mem_heads _, rfl⟩, ?_⟩
    rw [← Rect.map_emb_univ]
    refine Finset.mem_map.mpr ⟨(ValueIdx.ix4 (0 : Fin 1) (0 : Fin 1) (0 : Fin 1) (y 3 : Fin 128)), Finset.mem_univ _, funext fun a => Fin.ext ?_⟩
    refine (scale_emb i (y 0) _ a).trans ?_
    match a with
    | ⟨0, _⟩ => exact Nat.add_zero _
    | ⟨1, _⟩ => exact (Nat.add_zero _).trans h1.symm
    | ⟨2, _⟩ => exact (Nat.add_zero _).trans h0.symm
    | ⟨3, _⟩ => exact Nat.zero_add _

/-- and every other row is as before. -/
theorem read_scaleStores_else {κ : Kind} {sp : Space} (w : View sig κ sp S28x8x2x128 .f32) (f : w.ty.Contents (Elt F))
    (i : grid0.Coords) (v : Fin 28 → FVec F S1x1x1x128 .f32) (y : S28x8x2x128.Idx)
    (hy : ¬((y 1).val = (i 1).val ∧ (y 2).val = (i 0).val)) :
    w.read (Elt F) (w.writes (Elt F) f (scaleStores i v)) y = w.read (Elt F) f y := by
  rw [scaleStores_eq]
  refine View.read_writes_apply_of_forall_not_mem w f y _ fun p hp hm => hy ?_
  obtain ⟨h, -, rfl⟩ := List.mem_map.mp hp
  rw [← Rect.map_emb_univ] at hm
  obtain ⟨x, -, rfl⟩ := Finset.mem_map.mp hm
  have l1 : (x 1).val < 1 := (x 1).isLt
  have l2 : (x 2).val < 1 := (x 2).isLt
  have e1 : _ = (i 1).val + (x 1).val := scale_emb i h x 1
  have e2 : _ = (i 0).val + (x 2).val := scale_emb i h x 2
  exact ⟨e1.trans (by omega), e2.trans (by omega)⟩

end Cert.KernelIdeal.Attn

end
-- ==== Proof.Prep.lean ====
/-
  The quantised queries, keys and values, and what the kernel keeps of them between blocks, as functions of the blocks it reads.
-/
module

public import proofs.«01_k».proof.Proof.Store

@[expose] public section

noncomputable section

namespace Cert.KernelIdeal.Attn

open Cert.KernelIdeal Cert.KernelIdeal.Gen Idealize.ShloMosaic

variable {F : FTy → Type} [FloatOps F] [Named F]

/-! ## Queries -/

section Queries
variable (X : FVec F S1x128x3584 .bf16)

/-- One head's rows of a block of queries. -/
def tile (h : Fin 28) : FVec F S128x128 .f32 :=
  extf .f32 (shapeCast S128x128
    (fun z => X ((Rect.unit (s := S1x128x3584) ![0, 0, 128 * h.val] S1x128x128.size (headCols h)).emb z) : FVec F S1x128x128 .bf16)
    shapeCasts_S1x128x128_S128x128) bitsLt_bf16_f32

/-- The exponent field of each row's scale. -/
def queryField (h : Fin 28) : IVec S128x1 32 :=
  field (over448 (shapeCast S128x1 (multiReduction (F := F) .maximumf [1] S128 (absf (tile X h)) 0xFF800000#32 reduces_S128x128_S128
    (.inl rfl) rfl) shapeCasts_S128_S128x1))

/-- A head's query codes. -/
def queryCodes (h : Fin 28) : FVec F S1x1x128x128 .fp8e4m3 :=
  shapeCast S1x1x128x128 (truncf .fp8e4m3 (clipped (tile X h)
    (broadcastTo S128x128 (inverse (queryField X h)) broadcasts_S128x1_S128x128)) bitsLt_fp8e4m3_f32) shapeCasts_S128x128_S1x1x128x128

/-- The scales put into the lane of their head. -/
def withLane (acc : FVec F S128x128 .f32) (h : Fin 28) : FVec F S128x128 .f32 :=
  select (cmpi .eq (iota .tc S128x128 32 [1] iota_S128x128_d1_w32) (broadcast S128x128 (BitVec.ofNat 32 h.val)))
    (broadcastTo S128x128 (shapeCast S128x1 (scale (queryField X h)) shapeCasts_S128x1_S128x1) broadcasts_S128x1_S128x128) acc

/-- All heads' scales, a row to a head. -/
def headScales : FVec F S128x128 .f32 :=
  transpose S128x128 [1, 0] (List.foldl (withLane X) (broadcast S128x128 (Scalar.ofBits .f32 0x3F800000#32))
    [0, 1, 2, 3, 4, 5, 6, 7, 8, 9, 10, 11, 12, 13, 14, 15, 16, 17, 18, 19, 20, 21, 22, 23, 24, 25, 26, 27])
    transposes_S128x128_p1_0_S128x128

/-- The same, as the scratch array holds it. -/
def heldScales : FVec F S128x128 .f32 := shapeCast S128x128 (headScales X) shapeCasts_S128x128_S128x128

/-- A head's row of scales lies inside the array. -/
theorem scaleRowSlices (h : Fin 28) : S128x128.Slices ![h.val, 0] S1x128 := by revert h; decide

/-- One head's scales. -/
def scaleRow (h : Fin 28) : FVec F S1x1x1x128 .f32 :=
  shapeCast S1x1x1x128 (shapeCast S1x1x128 (extractStridedSlice S1x128 ![h.val, 0] (headScales X) (scaleRowSlices h))
    shapeCasts_S1x128_S1x1x128) shapeCasts_S1x1x128_S1x1x1x128

end Queries

/-! ## Keys -/

section Keys
variable (X : FVec F S1x1024x128 .bf16)

/-- The keys or values of a batch. -/
def rows : FVec F S1024x128 .f32 := extf .f32 (shapeCast S1024x128
  (fun z => X ((Rect.unit (s := S1x1024x128) ![0, 0, 0] S1x1024x128.size inb_S1x1024x128_S1x1024x128_0_0_0).emb z) : FVec F S1x1024x128 .bf16)
  shapeCasts_S1x1024x128_S1024x128) bitsLt_bf16_f32

/-- The exponent field of each key's scale, in every lane. -/
def keyField : IVec S1024x128 32 :=
  field (over448 (broadcastTo S1024x128 (shapeCast S1024x1 (shapeCast S1024x1 (multiReduction (F := F) .maximumf [1] S1024 (absf (rows X))
    0xFF800000#32 reduces_S1024x128_S1024 (.inl rfl) rfl) shapeCasts_S1024_S1024x1) shapeCasts_S1024x1_S1024x1)
    broadcasts_S1024x1_S1024x128))

/-- The key codes. -/
def keyCodes : FVec F S1x1024x128 .fp8e4m3 :=
  shapeCast S1x1024x128 (truncf .fp8e4m3 (clipped (rows X) (inverse (keyField X))) bitsLt_fp8e4m3_f32) shapeCasts_S1024x128_S1x1024x128

/-- The keys' scales. -/
def keyScaleRow : FVec F S1x1024 .f32 :=
  extractStridedSlice S1x1024 ![0, 0] (transpose S128x1024 [1, 0] (scale (keyField X)) transposes_S1024x128_p1_0_S128x1024)
    slices_S128x1024_o0_0_S1x1024

/-- The largest. -/
def largest : FVec F S1x1 .f32 :=
  shapeCast S1x1 (multiReduction .maximumf [1] S1 (keyScaleRow X) 0xFF800000#32 reduces_S1x1024_S1 (.inl rfl) rfl) shapeCasts_S1_S1x1

/-- The largest, as the scratch array holds it. -/
def heldLargest : FVec F S8x128 .f32 :=
  shapeCast S8x128 (broadcastTo S8x128 (shapeCast S1x1 (largest X) shapeCasts_S1x1_S1x1) broadcasts_S1x1_S8x128) shapeCasts_S8x128_S8x128

/-- Each key's scale over the largest. -/
def heldKeyScales : FVec F S1024x128 .f32 :=
  shapeCast S1024x128 (divf (scale (keyField X)) (broadcastTo S1024x128 (largest X) broadcasts_S1x1_S1024x128))
    shapeCasts_S1024x128_S1024x128

end Keys

/-! ## Values -/

section Values
variable (X : FVec F S1x1024x128 .bf16)

/-- The exponent field of each channel's scale. -/
def valueField : IVec S1x128 32 :=
  field (over448 (shapeCast S1x128 (multiReduction (F := F) .maximumf [0] S128 (absf (rows X)) 0xFF800000#32 reduces_S1024x128_S128
    (.inl rfl) rfl) shapeCasts_S128_S1x128))

/-- The channels' scales. -/
def valueScaleRow : FVec F S1x128 .f32 := scale (valueField X)

/-- The values on their scales, clipped. -/
def clippedValues : FVec F S1024x128 .f32 :=
  clipped (rows X) (broadcastTo S1024x128 (inverse (valueField X)) broadcasts_S1x128_S1024x128)

/-- The value codes, -/
def valueCodes : FVec F S1x1024x128 .fp8e4m3 :=
  shapeCast S1x1024x128 (truncf .fp8e4m3 (clippedValues X) bitsLt_fp8e4m3_f32) shapeCasts_S1024x128_S1x1024x128

/-- transposed, -/
def heldValues : FVec F S128x1024 .fp8e4m3 :=
  shapeCast S128x1024 (truncf .fp8e4m3 (transpose S128x1024 [1, 0] (clippedValues X) transposes_S1024x128_p1_0_S128x1024)
    bitsLt_fp8e4m3_f32) shapeCasts_S128x1024_S128x1024

/-- and the scales, as the scratch array holds them. -/
def heldValueScales : FVec F S128x128 .f32 :=
  shapeCast S128x128 (transpose S128x128 [1, 0] (broadcastTo S128x128 (shapeCast S1x128 (valueScaleRow X) shapeCasts_S1x128_S1x128)
    broadcasts_S1x128_S128x128) transposes_S128x128_p1_0_S128x128) shapeCasts_S128x128_S128x128

end Values

end Cert.KernelIdeal.Attn

end
-- ==== Proof.Step.lean ====
/-
  What a point of the grid leaves in the blocks it writes, as functions of what it finds.
-/
module

public import proofs.«01_k».proof.Proof.Prep
public import Idealize.ShloMosaic.Lib.VecWindow

@[expose] public section

set_option maxRecDepth 16384

noncomputable section

namespace Cert.KernelIdeal.Attn

open Cert.KernelIdeal Cert.KernelIdeal.Gen Idealize.ShloMosaic

variable {F : FTy → Type} [FloatOps F] [Named F]

/-- One store over a whole array leaves what was stored. -/
theorem read_whole {κ : Kind} {sp : Space} {s : Shape} {e : EltTy} (w : View sig κ sp s e) (f : w.ty.Contents (Elt F))
    {off : Fin s.rank → Nat} (inb : ∀ a, off a + s.size a ≤ s.size a) (v : s.Idx → Elt F e) :
    w.read (Elt F) (w.writes (Elt F) f [⟨Rect.unit (s := s) off s.size inb, v⟩]) = v := by
  funext y
  refine View.read_writes_apply_of_pieces w f v _ ?_ y ?_
  · intro p hp x
    obtain rfl := List.mem_singleton.mp hp
    exact congrArg v (Rect.emb_unit_full inb x).symm
  · refine ⟨_, List.mem_singleton.mpr rfl, ?_⟩
    rw [← Rect.map_emb_univ]
    exact Finset.mem_map.mpr ⟨y, Finset.mem_univ _, Rect.emb_unit_full inb y⟩

section
variable (Q : FVec F S1x28x128x128 .fp8e4m3) (QST : FVec F S128x128 .f32) (KC : FVec F S1x1024x128 .fp8e4m3)
  (KSB : FVec F S1024x128 .f32) (KM : FVec F S8x128 .f32) (VT : FVec F S128x1024 .fp8e4m3) (VSB : FVec F S128x128 .f32)

/-- The output of block `j` of tokens, from the buffers: the block attends to the first `128 (j + 1)` keys, the last
    128 of them through the causal mask. -/
def attended (j : Fin 8) : FVec F S1x128x3584 .bf16 :=
  match j with
  | 0 => wide (both (blockOut0 fits128 mask0 Q QST KC KSB KM VT VSB) (blockOut1 fits128 mask0 Q QST KC KSB KM VT VSB))
  | 1 => wide (both (blockOut0 fits256 mask1 Q QST KC KSB KM VT VSB) (blockOut1 fits256 mask1 Q QST KC KSB KM VT VSB))
  | 2 => wide (both (blockOut0 fits384 mask2 Q QST KC KSB KM VT VSB) (blockOut1 fits384 mask2 Q QST KC KSB KM VT VSB))
  | 3 => wide (both (blockOut0 fits512 mask3 Q QST KC KSB KM VT VSB) (blockOut1 fits512 mask3 Q QST KC KSB KM VT VSB))
  | 4 => wide (both (blockOut0 fits640 mask4 Q QST KC KSB KM VT VSB) (blockOut1 fits640 mask4 Q QST KC KSB KM VT VSB))
  | 5 => wide (both (blockOut0 fits768 mask5 Q QST KC KSB KM VT VSB) (blockOut1 fits768 mask5 Q QST KC KSB KM VT VSB))
  | 6 => wide (both (blockOut0 fits896 mask6 Q QST KC KSB KM VT VSB) (blockOut1 fits896 mask6 Q QST KC KSB KM VT VSB))
  | 7 => wide (both (blockOut0 fits1024 mask7 Q QST KC KSB KM VT VSB) (blockOut1 fits1024 mask7 Q QST KC KSB KM VT VSB))
end

/-- The codes of a block of queries. -/
def codesOut (x : FVec F S1x128x3584 .bf16) : FVec F S1x28x128x128 .fp8e4m3 := stacked (queryCodes x)

/-- The array of query scales after a point: the rows of the point are new. -/
def scalesStep (i : grid0.Coords) (x : FVec F S1x128x3584 .bf16) (Y : FVec F S28x8x2x128 .f32) : FVec F S28x8x2x128 .f32 :=
  fun y => if (y 1).val = (i 1).val ∧ (y 2).val = (i 0).val
    then scaleRow x (y 0 : Fin 28) (ValueIdx.ix4 (0 : Fin 1) (0 : Fin 1) (0 : Fin 1) (y 3 : Fin 128)) else Y y

/-- What a read finds after the query scales are stored. -/
theorem read_scaleStores {κ : Kind} {sp : Space} (w : View sig κ sp S28x8x2x128 .f32) (f : w.ty.Contents (Elt F))
    (i : grid0.Coords) (x : FVec F S1x128x3584 .bf16) :
    w.read (Elt F) (w.writes (Elt F) f (scaleStores i (scaleRow x))) = scalesStep i x (w.read (Elt F) f) := by
  funext y
  unfold scalesStep
  split
  · rename_i h; exact read_scaleStores_here w f i (scaleRow x) y h.1 h.2
  · rename_i h; exact read_scaleStores_else w f i (scaleRow x) y h

/-- An array of two rows of which row `i 0` is replaced. -/
def rowStep {n : Nat} (i : grid0.Coords) (v : FVec F ⟨2, ![1, n]⟩ .f32) (Y : FVec F ⟨2, ![2, n]⟩ .f32) : FVec F ⟨2, ![2, n]⟩ .f32 :=
  fun y => if (y 0).val = (i 0).val then v (ValueIdx.ix2 (0 : Fin 1) (y 1 : Fin n)) else Y y

/-- What a read finds after one row is stored. -/
theorem read_rowStore {κ : Kind} {sp : Space} {n : Nat} (w : View sig κ sp ⟨2, ![2, n]⟩ .f32) (f : w.ty.Contents (Elt F))
    (i : grid0.Coords) (v : FVec F ⟨2, ![1, n]⟩ .f32) {off : Fin 2 → Nat} (ho : off = ![(i 0).val, 0])
    (inb : ∀ a, off a + (⟨2, ![1, n]⟩ : Shape).size a ≤ (⟨2, ![2, n]⟩ : Shape).size a) :
    w.read (Elt F) (w.writes (Elt F) f [⟨Rect.unit (s := ⟨2, ![2, n]⟩) off (⟨2, ![1, n]⟩ : Shape).size inb, v⟩])
      = rowStep i v (w.read (Elt F) f) := by
  subst ho
  have e (x : (⟨2, ![1, n]⟩ : Shape).Idx) (a) :
      (((Rect.unit (s := ⟨2, ![2, n]⟩) ![(i 0).val, 0] (⟨2, ![1, n]⟩ : Shape).size inb).emb x) a).val
        = (![(i 0).val, 0] : Fin 2 → Nat) a + (x a).val := ValueKit.rect_emb_unit_val _ _ inb x a
  funext y
  unfold rowStep
  split
  · rename_i h
    refine View.read_writes_apply_of_pieces w f
      (fun y : (⟨2, ![2, n]⟩ : Shape).Idx => v (ValueIdx.ix2 (0 : Fin 1) (y 1 : Fin n))) _ ?_ y ?_
    · intro p hp x
      obtain rfl := List.mem_singleton.mp hp
      refine congrArg v (funext fun a => ?_)
      match a with
      | ⟨0, _⟩ => exact Subsingleton.elim (α := Fin 1) _ _
      | ⟨1, _⟩ => exact Fin.ext ((Nat.zero_add _).symm.trans (e x 1).symm)
    · refine ⟨_, List.mem_singleton.mpr rfl, ?_⟩
      rw [← Rect.map_emb_univ]
      refine Finset.mem_map.mpr ⟨ValueIdx.ix2 (0 : Fin 1) (y 1 : Fin n), Finset.mem_univ _, funext fun a => Fin.ext ((e _ a).trans ?_)⟩
      match a with
      | ⟨0, _⟩ => exact (Nat.add_zero _).trans h.symm
      | ⟨1, _⟩ => exact Nat.zero_add _
  · rename_i h
    refine View.read_writes_apply_of_forall_not_mem w f y _ fun p hp hm => h ?_
    obtain rfl := List.mem_singleton.mp hp
    rw [← Rect.map_emb_univ] at hm
    obtain ⟨x, -, rfl⟩ := Finset.mem_map.mp hm
    have l0 : (x 0).val < 1 := (x 0).isLt
    have e0 : _ = (i 0).val + (x 0).val := e x 0
    exact e0.trans (by omega)

end Cert.KernelIdeal.Attn

end
-- ==== Proof.Cases.lean ====
/-
  Which point of the grid takes which branch of the body.
-/
module

public import proofs.«01_k».proof.Proof.Step
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Cert.KernelIdeal.Attn Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The condition of the body's `scf.if` 0 (`k0_h1`), from the grid coordinates. -/
abbrev cond0_0 (i : grid0.Coords) : Prop := k0_cond1 i = 1#1
/-- It holds at the points ≡ 0 (mod 8) — by arithmetic of the point. -/
theorem hcond0_0 : ∀ t : Fin cfg0.N, cond0_0 (grid0.coords t) ↔ t.val % 8 = 0 :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [cond0_0, k0_cond1, e0, e1]
    word_cmp
   : ∀ t : Fin grid0.N, cond0_0 (grid0.coords t) ↔ t.val % 8 = 0)

/-- The condition of the body's `scf.if` 1 (`k0_h2`), from the grid coordinates. -/
abbrev cond0_1 (i : grid0.Coords) : Prop := k0_cond2 i = 1#1
/-- It holds at the points ≡ 0 (mod 8) — by arithmetic of the point. -/
theorem hcond0_1 : ∀ t : Fin cfg0.N, cond0_1 (grid0.coords t) ↔ t.val % 8 = 0 :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [cond0_1, k0_cond2, e0, e1]
    word_cmp
   : ∀ t : Fin grid0.N, cond0_1 (grid0.coords t) ↔ t.val % 8 = 0)

/-- The condition of the body's `scf.if` 2 (`k0_h3`), from the grid coordinates. -/
abbrev cond0_2 (i : grid0.Coords) : Prop := k0_cond3 i = 1#1
/-- It holds at the points ≡ 1 (mod 8) — by arithmetic of the point. -/
theorem hcond0_2 : ∀ t : Fin cfg0.N, cond0_2 (grid0.coords t) ↔ t.val % 8 = 1 :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [cond0_2, k0_cond3, e0, e1]
    word_cmp
   : ∀ t : Fin grid0.N, cond0_2 (grid0.coords t) ↔ t.val % 8 = 1)

/-- The condition of the body's `scf.if` 3 (`k0_h4`), from the grid coordinates. -/
abbrev cond0_3 (i : grid0.Coords) : Prop := k0_cond4 i = 1#1
/-- It holds at the points ≡ 2 (mod 8) — by arithmetic of the point. -/
theorem hcond0_3 : ∀ t : Fin cfg0.N, cond0_3 (grid0.coords t) ↔ t.val % 8 = 2 :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [cond0_3, k0_cond4, e0, e1]
    word_cmp
   : ∀ t : Fin grid0.N, cond0_3 (grid0.coords t) ↔ t.val % 8 = 2)

/-- The condition of the body's `scf.if` 4 (`k0_h5`), from the grid coordinates. -/
abbrev cond0_4 (i : grid0.Coords) : Prop := k0_cond5 i = 1#1
/-- It holds at the points ≡ 3 (mod 8) — by arithmetic of the point. -/
theorem hcond0_4 : ∀ t : Fin cfg0.N, cond0_4 (grid0.coords t) ↔ t.val % 8 = 3 :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [cond0_4, k0_cond5, e0, e1]
    word_cmp
   : ∀ t : Fin grid0.N, cond0_4 (grid0.coords t) ↔ t.val % 8 = 3)

/-- The condition of the body's `scf.if` 5 (`k0_h6`), from the grid coordinates. -/
abbrev cond0_5 (i : grid0.Coords) : Prop := k0_cond6 i = 1#1
/-- It holds at the points ≡ 4 (mod 8) — by arithmetic of the point. -/
theorem hcond0_5 : ∀ t : Fin cfg0.N, cond0_5 (grid0.coords t) ↔ t.val % 8 = 4 :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [cond0_5, k0_cond6, e0, e1]
    word_cmp
   : ∀ t : Fin grid0.N, cond0_5 (grid0.coords t) ↔ t.val % 8 = 4)

/-- The condition of the body's `scf.if` 6 (`k0_h7`), from the grid coordinates. -/
abbrev cond0_6 (i : grid0.Coords) : Prop := k0_cond7 i = 1#1
/-- It holds at the points ≡ 5 (mod 8) — by arithmetic of the point. -/
theorem hcond0_6 : ∀ t : Fin cfg0.N, cond0_6 (grid0.coords t) ↔ t.val % 8 = 5 :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [cond0_6, k0_cond7, e0, e1]
    word_cmp
   : ∀ t : Fin grid0.N, cond0_6 (grid0.coords t) ↔ t.val % 8 = 5)

/-- The condition of the body's `scf.if` 7 (`k0_h8`), from the grid coordinates. -/
abbrev cond0_7 (i : grid0.Coords) : Prop := k0_cond8 i = 1#1
/-- It holds at the points ≡ 6 (mod 8) — by arithmetic of the point. -/
theorem hcond0_7 : ∀ t : Fin cfg0.N, cond0_7 (grid0.coords t) ↔ t.val % 8 = 6 :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [cond0_7, k0_cond8, e0, e1]
    word_cmp
   : ∀ t : Fin grid0.N, cond0_7 (grid0.coords t) ↔ t.val % 8 = 6)

/-- The condition of the body's `scf.if` 8 (`k0_h9`), from the grid coordinates. -/
abbrev cond0_8 (i : grid0.Coords) : Prop := k0_cond9 i = 1#1
/-- It holds at the points ≡ 7 (mod 8) — by arithmetic of the point. -/
theorem hcond0_8 : ∀ t : Fin cfg0.N, cond0_8 (grid0.coords t) ↔ t.val % 8 = 7 :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [cond0_8, k0_cond9, e0, e1]
    word_cmp
   : ∀ t : Fin grid0.N, cond0_8 (grid0.coords t) ↔ t.val % 8 = 7)

/-! ## Where the windows are idle (the printed configuration's table `Cfg.idle`) -/

end Cert.KernelIdeal.Gen

end
-- ==== Proof.Quantised.lean ====
/-
  The part of a point before its branch, at every block of tokens but the first: the queries are quantised.
-/
module

public import proofs.«01_k».proof.Proof.Prep
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Cert.KernelIdeal.Attn Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- The queries of a point are quantised. -/
theorem quantised (c : Dev nD) (i : grid0.Coords) (arg2 : Memref sig .tc .vmem S1x128x3584 .bf16) (harg2 : arg2.IsWhole) (arg3 : Memref sig .tc .vmem S1x1024x128 .bf16) (harg3 : arg3.IsWhole) (arg4 : Memref sig .tc .vmem S1x1024x128 .bf16) (harg4 : arg4.IsWhole) (arg5 : Memref sig .tc .vmem S1x128x3584 .bf16) (harg5 : arg5.IsWhole) (arg6 : Memref sig .tc .vmem S1x28x128x128 .fp8e4m3) (harg6 : arg6.IsWhole) (arg7 : Memref sig .tc .vmem S28x8x2x128 .f32) (harg7 : arg7.IsWhole) (arg8 : Memref sig .tc .vmem S1x1024x128 .fp8e4m3) (harg8 : arg8.IsWhole) (arg9 : Memref sig .tc .vmem S2x1024 .f32) (harg9 : arg9.IsWhole) (arg10 : Memref sig .tc .vmem S1x1024x128 .fp8e4m3) (harg10 : arg10.IsWhole) (arg11 : Memref sig .tc .vmem S2x128 .f32) (harg11 : arg11.IsWhole) (arg12 : Memref sig .tc .vmem S128x128 .f32) (harg12 : arg12.IsWhole) (arg13 : Memref sig .tc .vmem S1024x128 .f32) (harg13 : arg13.IsWhole) (arg14 : Memref sig .tc .vmem S8x128 .f32) (harg14 : arg14.IsWhole) (arg15 : Memref sig .tc .vmem S128x1024 .fp8e4m3) (harg15 : arg15.IsWhole) (arg16 : Memref sig .tc .vmem S128x128 .f32) (harg16 : arg16.IsWhole) (h1 : ¬ k0_cond1 i = 1#1) (h2 : ¬ k0_cond2 i = 1#1)
    (f2 : arg2.view.ty.Contents (Elt F)) (f6 : arg6.view.ty.Contents (Elt F)) (f7 : arg7.view.ty.Contents (Elt F)) (f12 : arg12.view.ty.Contents (Elt F)) (E : Set ℕ) (K : (Σ' (arg1 : BitVec 32), BitVec 32) → sProp 𝕄) (R : sProp 𝕄)
    (hK : ∀ L6 L7 L12 v, L6 = (codeStores (queryCodes (arg2.view.read (Elt F) f2))) → L7 = (scaleStores i (scaleRow (arg2.view.read (Elt F) f2))) → L12 = [⟨Rect.unit (s := S128x128) ![0, 0] S128x128.size (by decide), heldScales (arg2.view.read (Elt F) f2)⟩] → (iprop((View.loc (c : Thread nD τ) arg2.view ↦[arg2.view.set]{fullShare} f2) ∗ (View.loc (c : Thread nD τ) arg6.view ↦[arg6.view.set]{fullShare} arg6.view.writes (Elt F) f6 L6) ∗ (View.loc (c : Thread nD τ) arg7.view ↦[arg7.view.set]{fullShare} arg7.view.writes (Elt F) f7 L7) ∗ (View.loc (c : Thread nD τ) arg12.view ↦[arg12.view.set]{fullShare} arg12.view.writes (Elt F) f12 L12) ∗ R) ⊢ K v)) :
    iprop((View.loc (c : Thread nD τ) arg2.view ↦[arg2.view.set]{fullShare} f2) ∗ (View.loc (c : Thread nD τ) arg6.view ↦[arg6.view.set]{fullShare} f6) ∗ (View.loc (c : Thread nD τ) arg7.view ↦[arg7.view.set]{fullShare} f7) ∗ (View.loc (c : Thread nD τ) arg12.view ↦[arg12.view.set]{fullShare} f12) ∗ R) ⊢
      wp frame (wpE (defs₀ (F := F)) Variants.none c none) E (k0_part504 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [k0_part504_eq_skeleton, k0_part459_eq_skeleton, k0_part460_eq_skeleton, k0_part461_eq_skeleton, k0_part462_eq_skeleton, k0_part463_eq_skeleton, k0_part464_eq_skeleton, k0_part465_eq_skeleton, k0_part466_eq_skeleton, k0_part467_eq_skeleton, k0_part468_eq_skeleton, k0_part469_eq_skeleton, k0_part470_eq_skeleton, k0_part471_eq_skeleton, k0_part472_eq_skeleton, k0_part473_eq_skeleton, k0_part474_eq_skeleton, k0_part475_eq_skeleton, k0_part476_eq_skeleton, k0_part477_eq_skeleton, k0_part478_eq_skeleton, k0_part479_eq_skeleton, k0_part480_eq_skeleton, k0_part481_eq_skeleton, k0_part482_eq_skeleton, k0_part483_eq_skeleton, k0_part484_eq_skeleton, k0_part485_eq_skeleton, k0_part486_eq_skeleton, k0_part487_eq_skeleton, k0_part488_eq_skeleton, k0_part489_eq_skeleton, k0_part490_eq_skeleton, k0_part491_eq_skeleton, k0_part492_eq_skeleton, k0_part493_eq_skeleton, k0_part494_eq_skeleton, k0_part495_eq_skeleton, k0_part496_eq_skeleton, k0_part497_eq_skeleton, k0_part498_eq_skeleton, k0_part499_eq_skeleton, k0_part500_eq_skeleton, k0_part501_eq_skeleton, k0_part502_eq_skeleton, k0_part503_eq_skeleton]
  iintro ⟨H2, H6, H7, H12, HR⟩
  sl_exec (disch := first | sl_exact h1 | sl_exact h2)
  sl_step
  iapply hK
  rotate_left 3
  isplitl [H2]
  · iexact H2
  isplitl [H6]
  · iexact H6
  isplitl [H7]
  · iexact H7
  isplitl [H12]
  · iexact H12
  · iexact HR
  · rfl
  · rfl
  · rfl

/-- The same, for a continuation inside the logic. -/
theorem quantised_spec (c : Dev nD) (i : grid0.Coords) (arg2 : Memref sig .tc .vmem S1x128x3584 .bf16) (harg2 : arg2.IsWhole) (arg3 : Memref sig .tc .vmem S1x1024x128 .bf16) (harg3 : arg3.IsWhole) (arg4 : Memref sig .tc .vmem S1x1024x128 .bf16) (harg4 : arg4.IsWhole) (arg5 : Memref sig .tc .vmem S1x128x3584 .bf16) (harg5 : arg5.IsWhole) (arg6 : Memref sig .tc .vmem S1x28x128x128 .fp8e4m3) (harg6 : arg6.IsWhole) (arg7 : Memref sig .tc .vmem S28x8x2x128 .f32) (harg7 : arg7.IsWhole) (arg8 : Memref sig .tc .vmem S1x1024x128 .fp8e4m3) (harg8 : arg8.IsWhole) (arg9 : Memref sig .tc .vmem S2x1024 .f32) (harg9 : arg9.IsWhole) (arg10 : Memref sig .tc .vmem S1x1024x128 .fp8e4m3) (harg10 : arg10.IsWhole) (arg11 : Memref sig .tc .vmem S2x128 .f32) (harg11 : arg11.IsWhole) (arg12 : Memref sig .tc .vmem S128x128 .f32) (harg12 : arg12.IsWhole) (arg13 : Memref sig .tc .vmem S1024x128 .f32) (harg13 : arg13.IsWhole) (arg14 : Memref sig .tc .vmem S8x128 .f32) (harg14 : arg14.IsWhole) (arg15 : Memref sig .tc .vmem S128x1024 .fp8e4m3) (harg15 : arg15.IsWhole) (arg16 : Memref sig .tc .vmem S128x128 .f32) (harg16 : arg16.IsWhole) (h1 : ¬ k0_cond1 i = 1#1) (h2 : ¬ k0_cond2 i = 1#1)
    (f2 : arg2.view.ty.Contents (Elt F)) (f6 : arg6.view.ty.Contents (Elt F)) (f7 : arg7.view.ty.Contents (Elt F)) (f12 : arg12.view.ty.Contents (Elt F)) (E : Set ℕ) (K : (Σ' (arg1 : BitVec 32), BitVec 32) → sProp 𝕄) :
    iprop((View.loc (c : Thread nD τ) arg2.view ↦[arg2.view.set]{fullShare} f2) ∗ (View.loc (c : Thread nD τ) arg6.view ↦[arg6.view.set]{fullShare} f6) ∗ (View.loc (c : Thread nD τ) arg7.view ↦[arg7.view.set]{fullShare} f7) ∗ (View.loc (c : Thread nD τ) arg12.view ↦[arg12.view.set]{fullShare} f12) ∗ (∀ L6 L7 L12 v, ⌜L6 = (codeStores (queryCodes (arg2.view.read (Elt F) f2)))⌝ -∗ ⌜L7 = (scaleStores i (scaleRow (arg2.view.read (Elt F) f2)))⌝ -∗ ⌜L12 = [⟨Rect.unit (s := S128x128) ![0, 0] S128x128.size (by decide), heldScales (arg2.view.read (Elt F) f2)⟩]⌝ -∗ ((View.loc (c : Thread nD τ) arg2.view ↦[arg2.view.set]{fullShare} f2) ∗ (View.loc (c : Thread nD τ) arg6.view ↦[arg6.view.set]{fullShare} arg6.view.writes (Elt F) f6 L6) ∗ (View.loc (c : Thread nD τ) arg7.view ↦[arg7.view.set]{fullShare} arg7.view.writes (Elt F) f7 L7) ∗ (View.loc (c : Thread nD τ) arg12.view ↦[arg12.view.set]{fullShare} arg12.view.writes (Elt F) f12 L12)) -∗ K v)) ⊢
      wp frame (wpE (defs₀ (F := F)) Variants.none c none) E (k0_part504 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  refine quantised c i arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 f2 f6 f7 f12 E K _ fun L6 L7 L12 v h0 h1 h2 => ?_
  iintro ⟨H2, H6, H7, H12, HR⟩
  iapply HR $$ %L6 %L7 %L12 %v %h0 %h1 %h2
  isplitl [H2]
  · iexact H2
  isplitl [H6]
  · iexact H6
  isplitl [H7]
  · iexact H7
  iexact H12

end Cert.KernelIdeal.Gen

end
-- ==== Proof.Branch1.lean ====
/-
  The branch of a point whose block of tokens has number 1: 256 keys.
-/
module

public import proofs.«01_k».proof.Proof.Store
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Cert.KernelIdeal.Attn Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- The branch of blocks 1: all heads' stores but the last pair's. -/
theorem branch1 (c : Dev nD) (i : grid0.Coords) (arg2 : Memref sig .tc .vmem S1x128x3584 .bf16) (harg2 : arg2.IsWhole) (arg3 : Memref sig .tc .vmem S1x1024x128 .bf16) (harg3 : arg3.IsWhole) (arg4 : Memref sig .tc .vmem S1x1024x128 .bf16) (harg4 : arg4.IsWhole) (arg5 : Memref sig .tc .vmem S1x128x3584 .bf16) (harg5 : arg5.IsWhole) (arg6 : Memref sig .tc .vmem S1x28x128x128 .fp8e4m3) (harg6 : arg6.IsWhole) (arg7 : Memref sig .tc .vmem S28x8x2x128 .f32) (harg7 : arg7.IsWhole) (arg8 : Memref sig .tc .vmem S1x1024x128 .fp8e4m3) (harg8 : arg8.IsWhole) (arg9 : Memref sig .tc .vmem S2x1024 .f32) (harg9 : arg9.IsWhole) (arg10 : Memref sig .tc .vmem S1x1024x128 .fp8e4m3) (harg10 : arg10.IsWhole) (arg11 : Memref sig .tc .vmem S2x128 .f32) (harg11 : arg11.IsWhole) (arg12 : Memref sig .tc .vmem S128x128 .f32) (harg12 : arg12.IsWhole) (arg13 : Memref sig .tc .vmem S1024x128 .f32) (harg13 : arg13.IsWhole) (arg14 : Memref sig .tc .vmem S8x128 .f32) (harg14 : arg14.IsWhole) (arg15 : Memref sig .tc .vmem S128x1024 .fp8e4m3) (harg15 : arg15.IsWhole) (arg16 : Memref sig .tc .vmem S128x128 .f32) (harg16 : arg16.IsWhole)
    (f5 : arg5.view.ty.Contents (Elt F)) (f6 : arg6.view.ty.Contents (Elt F)) (f8 : arg8.view.ty.Contents (Elt F)) (f12 : arg12.view.ty.Contents (Elt F)) (f13 : arg13.view.ty.Contents (Elt F)) (f14 : arg14.view.ty.Contents (Elt F)) (f15 : arg15.view.ty.Contents (Elt F)) (f16 : arg16.view.ty.Contents (Elt F)) (E : Set ℕ) (K : (Σ' (v1886 : Vec F S128x256 .fp8e4m3) (v4138 : FVec F S1x128 .f32) (v4145 : FVec F S256x128 .fp8e4m3) (v4209 : FVec F S1x128 .f32), FVec F S256x128 .fp8e4m3) → sProp 𝕄) (R : sProp 𝕄)
    (hK : ∀ L v, L = (wideStores (blockOut0 fits256 mask1 (arg6.view.read (Elt F) f6) (arg12.view.read (Elt F) f12) (arg8.view.read (Elt F) f8) (arg13.view.read (Elt F) f13) (arg14.view.read (Elt F) f14) (arg15.view.read (Elt F) f15) (arg16.view.read (Elt F) f16)) (blockOut1 fits256 mask1 (arg6.view.read (Elt F) f6) (arg12.view.read (Elt F) f12) (arg8.view.read (Elt F) f8) (arg13.view.read (Elt F) f13) (arg14.view.read (Elt F) f14) (arg15.view.read (Elt F) f15) (arg16.view.read (Elt F) f16))).drop 2 → v = ⟨values fits256 (arg15.view.read (Elt F) f15), probScale fits256 (blockExps0 fits256 mask1 (arg6.view.read (Elt F) f6) (arg12.view.read (Elt F) f12) (arg8.view.read (Elt F) f8) (arg13.view.read (Elt F) f13) (arg14.view.read (Elt F) f14) 13), probCodes fits256 (blockExps0 fits256 mask1 (arg6.view.read (Elt F) f6) (arg12.view.read (Elt F) f12) (arg8.view.read (Elt F) f8) (arg13.view.read (Elt F) f13) (arg14.view.read (Elt F) f14) 13), probScale fits256 (blockExps1 fits256 mask1 (arg6.view.read (Elt F) f6) (arg12.view.read (Elt F) f12) (arg8.view.read (Elt F) f8) (arg13.view.read (Elt F) f13) (arg14.view.read (Elt F) f14) 13), probCodes fits256 (blockExps1 fits256 mask1 (arg6.view.read (Elt F) f6) (arg12.view.read (Elt F) f12) (arg8.view.read (Elt F) f8) (arg13.view.read (Elt F) f13) (arg14.view.read (Elt F) f14) 13)⟩ →
      (iprop((View.loc (c : Thread nD τ) arg5.view ↦[arg5.view.set]{fullShare} arg5.view.writes (Elt F) f5 L) ∗ (View.loc (c : Thread nD τ) arg6.view ↦[arg6.view.set]{fullShare} f6) ∗ (View.loc (c : Thread nD τ) arg8.view ↦[arg8.view.set]{fullShare} f8) ∗ (View.loc (c : Thread nD τ) arg12.view ↦[arg12.view.set]{fullShare} f12) ∗ (View.loc (c : Thread nD τ) arg13.view ↦[arg13.view.set]{fullShare} f13) ∗ (View.loc (c : Thread nD τ) arg14.view ↦[arg14.view.set]{fullShare} f14) ∗ (View.loc (c : Thread nD τ) arg15.view ↦[arg15.view.set]{fullShare} f15) ∗ (View.loc (c : Thread nD τ) arg16.view ↦[arg16.view.set]{fullShare} f16) ∗ R) ⊢ K v)) :
    iprop((View.loc (c : Thread nD τ) arg5.view ↦[arg5.view.set]{fullShare} f5) ∗ (View.loc (c : Thread nD τ) arg6.view ↦[arg6.view.set]{fullShare} f6) ∗ (View.loc (c : Thread nD τ) arg8.view ↦[arg8.view.set]{fullShare} f8) ∗ (View.loc (c : Thread nD τ) arg12.view ↦[arg12.view.set]{fullShare} f12) ∗ (View.loc (c : Thread nD τ) arg13.view ↦[arg13.view.set]{fullShare} f13) ∗ (View.loc (c : Thread nD τ) arg14.view ↦[arg14.view.set]{fullShare} f14) ∗ (View.loc (c : Thread nD τ) arg15.view ↦[arg15.view.set]{fullShare} f15) ∗ (View.loc (c : Thread nD τ) arg16.view ↦[arg16.view.set]{fullShare} f16) ∗ R) ⊢
      wp frame (wpE (defs₀ (F := F)) Variants.none c none) E (k0_part116 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [k0_part116_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton]
  iintro ⟨H5, H6, H8, H12, H13, H14, H15, H16, HR⟩
  sl_exec
  sl_step
  iapply hK
  rotate_left 2
  isplitl [H5]
  · iexact H5
  isplitl [H6]
  · iexact H6
  isplitl [H8]
  · iexact H8
  isplitl [H12]
  · iexact H12
  isplitl [H13]
  · iexact H13
  isplitl [H14]
  · iexact H14
  isplitl [H15]
  · iexact H15
  isplitl [H16]
  · iexact H16
  · iexact HR
  · rfl
  · rfl

/-- The same, for a continuation inside the logic. -/
theorem branch1_spec (c : Dev nD) (i : grid0.Coords) (arg2 : Memref sig .tc .vmem S1x128x3584 .bf16) (harg2 : arg2.IsWhole) (arg3 : Memref sig .tc .vmem S1x1024x128 .bf16) (harg3 : arg3.IsWhole) (arg4 : Memref sig .tc .vmem S1x1024x128 .bf16) (harg4 : arg4.IsWhole) (arg5 : Memref sig .tc .vmem S1x128x3584 .bf16) (harg5 : arg5.IsWhole) (arg6 : Memref sig .tc .vmem S1x28x128x128 .fp8e4m3) (harg6 : arg6.IsWhole) (arg7 : Memref sig .tc .vmem S28x8x2x128 .f32) (harg7 : arg7.IsWhole) (arg8 : Memref sig .tc .vmem S1x1024x128 .fp8e4m3) (harg8 : arg8.IsWhole) (arg9 : Memref sig .tc .vmem S2x1024 .f32) (harg9 : arg9.IsWhole) (arg10 : Memref sig .tc .vmem S1x1024x128 .fp8e4m3) (harg10 : arg10.IsWhole) (arg11 : Memref sig .tc .vmem S2x128 .f32) (harg11 : arg11.IsWhole) (arg12 : Memref sig .tc .vmem S128x128 .f32) (harg12 : arg12.IsWhole) (arg13 : Memref sig .tc .vmem S1024x128 .f32) (harg13 : arg13.IsWhole) (arg14 : Memref sig .tc .vmem S8x128 .f32) (harg14 : arg14.IsWhole) (arg15 : Memref sig .tc .vmem S128x1024 .fp8e4m3) (harg15 : arg15.IsWhole) (arg16 : Memref sig .tc .vmem S128x128 .f32) (harg16 : arg16.IsWhole)
    (f5 : arg5.view.ty.Contents (Elt F)) (f6 : arg6.view.ty.Contents (Elt F)) (f8 : arg8.view.ty.Contents (Elt F)) (f12 : arg12.view.ty.Contents (Elt F)) (f13 : arg13.view.ty.Contents (Elt F)) (f14 : arg14.view.ty.Contents (Elt F)) (f15 : arg15.view.ty.Contents (Elt F)) (f16 : arg16.view.ty.Contents (Elt F)) (E : Set ℕ) (K : (Σ' (v1886 : Vec F S128x256 .fp8e4m3) (v4138 : FVec F S1x128 .f32) (v4145 : FVec F S256x128 .fp8e4m3) (v4209 : FVec F S1x128 .f32), FVec F S256x128 .fp8e4m3) → sProp 𝕄) :
    iprop((View.loc (c : Thread nD τ) arg5.view ↦[arg5.view.set]{fullShare} f5) ∗ (View.loc (c : Thread nD τ) arg6.view ↦[arg6.view.set]{fullShare} f6) ∗ (View.loc (c : Thread nD τ) arg8.view ↦[arg8.view.set]{fullShare} f8) ∗ (View.loc (c : Thread nD τ) arg12.view ↦[arg12.view.set]{fullShare} f12) ∗ (View.loc (c : Thread nD τ) arg13.view ↦[arg13.view.set]{fullShare} f13) ∗ (View.loc (c : Thread nD τ) arg14.view ↦[arg14.view.set]{fullShare} f14) ∗ (View.loc (c : Thread nD τ) arg15.view ↦[arg15.view.set]{fullShare} f15) ∗ (View.loc (c : Thread nD τ) arg16.view ↦[arg16.view.set]{fullShare} f16) ∗ (∀ L v, ⌜L = (wideStores (blockOut0 fits256 mask1 (arg6.view.read (Elt F) f6) (arg12.view.read (Elt F) f12) (arg8.view.read (Elt F) f8) (arg13.view.read (Elt F) f13) (arg14.view.read (Elt F) f14) (arg15.view.read (Elt F) f15) (arg16.view.read (Elt F) f16)) (blockOut1 fits256 mask1 (arg6.view.read (Elt F) f6) (arg12.view.read (Elt F) f12) (arg8.view.read (Elt F) f8) (arg13.view.read (Elt F) f13) (arg14.view.read (Elt F) f14) (arg15.view.read (Elt F) f15) (arg16.view.read (Elt F) f16))).drop 2⌝ -∗ ⌜v = ⟨values fits256 (arg15.view.read (Elt F) f15), probScale fits256 (blockExps0 fits256 mask1 (arg6.view.read (Elt F) f6) (arg12.view.read (Elt F) f12) (arg8.view.read (Elt F) f8) (arg13.view.read (Elt F) f13) (arg14.view.read (Elt F) f14) 13), probCodes fits256 (blockExps0 fits256 mask1 (arg6.view.read (Elt F) f6) (arg12.view.read (Elt F) f12) (arg8.view.read (Elt F) f8) (arg13.view.read (Elt F) f13) (arg14.view.read (Elt F) f14) 13), probScale fits256 (blockExps1 fits256 mask1 (arg6.view.read (Elt F) f6) (arg12.view.read (Elt F) f12) (arg8.view.read (Elt F) f8) (arg13.view.read (Elt F) f13) (arg14.view.read (Elt F) f14) 13), probCodes fits256 (blockExps1 fits256 mask1 (arg6.view.read (Elt F) f6) (arg12.view.read (Elt F) f12) (arg8.view.read (Elt F) f8) (arg13.view.read (Elt F) f13) (arg14.view.read (Elt F) f14) 13)⟩⌝ -∗
      ((View.loc (c : Thread nD τ) arg5.view ↦[arg5.view.set]{fullShare} arg5.view.writes (Elt F) f5 L) ∗ (View.loc (c : Thread nD τ) arg6.view ↦[arg6.view.set]{fullShare} f6) ∗ (View.loc (c : Thread nD τ) arg8.view ↦[arg8.view.set]{fullShare} f8) ∗ (View.loc (c : Thread nD τ) arg12.view ↦[arg12.view.set]{fullShare} f12) ∗ (View.loc (c : Thread nD τ) arg13.view ↦[arg13.view.set]{fullShare} f13) ∗ (View.loc (c : Thread nD τ) arg14.view ↦[arg14.view.set]{fullShare} f14) ∗ (View.loc (c : Thread nD τ) arg15.view ↦[arg15.view.set]{fullShare} f15) ∗ (View.loc (c : Thread nD τ) arg16.view ↦[arg16.view.set]{fullShare} f16)) -∗ K v)) ⊢
      wp frame (wpE (defs₀ (F := F)) Variants.none c none) E (k0_part116 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  refine branch1 c i arg2 harg2 arg3 harg3 arg4 harg4 arg5 harg5 arg6 harg6 arg7 harg7 arg8 harg8 arg9 harg9 arg10 harg10 arg11 harg11 arg12 harg12 arg13 harg13 arg14 harg14 arg15 harg15 arg16 harg16 f5 f6 f8 f12 f13 f14 f15 f16 E K _ fun L v hL hv => ?_
  iintro ⟨H5, H6, H8, H12, H13, H14, H15, H16, HR⟩
  iapply HR $$ %L %v %hL %hv
  isplitl [H5]
  · iexact H5
  isplitl [H6]
  · iexact H6
  isplitl [H8]
  · iexact H8
  isplitl [H12]
  · iexact H12
  isplitl [H13]
  · iexact H13
  isplitl [H14]
  · iexact H14
  isplitl [H15]
  · iexact H15
  iexact H16

end Cert.KernelIdeal.Gen

end
-- ==== Proof.Body1.lean ====
/-
  A point of block 1 of tokens, run from its start to its end.
-/
module

public import proofs.«01_k».proof.Proof.Step
public import proofs.«01_k».proof.Proof.Quantised
public import proofs.«01_k».proof.Proof.Branch1
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Cert.KernelIdeal.Attn Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- A point of block 1 of tokens: it quantises its queries and attends to the first 256 keys of its batch. -/
theorem body1 (c : Dev nD) (i : grid0.Coords) (arg2 : Memref sig .tc .vmem S1x128x3584 .bf16) (harg2 : arg2.IsWhole) (arg3 : Memref sig .tc .vmem S1x1024x128 .bf16) (harg3 : arg3.IsWhole) (arg4 : Memref sig .tc .vmem S1x1024x128 .bf16) (harg4 : arg4.IsWhole) (arg5 : Memref sig .tc .vmem S1x128x3584 .bf16) (harg5 : arg5.IsWhole) (arg6 : Memref sig .tc .vmem S1x28x128x128 .fp8e4m3) (harg6 : arg6.IsWhole) (arg7 : Memref sig .tc .vmem S28x8x2x128 .f32) (harg7 : arg7.IsWhole) (arg8 : Memref sig .tc .vmem S1x1024x128 .fp8e4m3) (harg8 : arg8.IsWhole) (arg9 : Memref sig .tc .vmem S2x1024 .f32) (harg9 : arg9.IsWhole) (arg10 : Memref sig .tc .vmem S1x1024x128 .fp8e4m3) (harg10 : arg10.IsWhole) (arg11 : Memref sig .tc .vmem S2x128 .f32) (harg11 : arg11.IsWhole) (arg12 : Memref sig .tc .vmem S128x128 .f32) (harg12 : arg12.IsWhole) (arg13 : Memref sig .tc .vmem S1024x128 .f32) (harg13 : arg13.IsWhole) (arg14 : Memref sig .tc .vmem S8x128 .f32) (harg14 : arg14.IsWhole) (arg15 : Memref sig .tc .vmem S128x1024 .fp8e4m3) (harg15 : arg15.IsWhole) (arg16 : Memref sig .tc .vmem S128x128 .f32) (harg16 : arg16.IsWhole)
    (hc0 : ¬ k0_cond1 i = 1#1) (hc1 : ¬ k0_cond2 i = 1#1) (hc2 : k0_cond3 i = 1#1) (hc3 : ¬ k0_cond4 i = 1#1) (hc4 : ¬ k0_cond5 i = 1#1) (hc5 : ¬ k0_cond6 i = 1#1) (hc6 : ¬ k0_cond7 i = 1#1) (hc7 : ¬ k0_cond8 i = 1#1) (hc8 : ¬ k0_cond9 i = 1#1)
    (x2 : FVec F S1x128x3584 .bf16) (y7 : FVec F S28x8x2x128 .f32) (KC : FVec F S1x1024x128 .fp8e4m3)
    (KSB : FVec F S1024x128 .f32) (KM : FVec F S8x128 .f32) (VT : FVec F S128x1024 .fp8e4m3) (VSB : FVec F S128x128 .f32)
    (E : Set ℕ) (K : PUnit → sProp 𝕄) :
    iprop(owns (c : Thread nD τ) arg2 fullShare x2 ∗ (∃ d, owns (c : Thread nD τ) arg5 fullShare d) ∗ (∃ d, owns (c : Thread nD τ) arg6 fullShare d) ∗ owns (c : Thread nD τ) arg7 fullShare y7 ∗ owns (c : Thread nD τ) arg8 fullShare KC ∗ (∃ d, owns (c : Thread nD τ) arg12 fullShare d) ∗ owns (c : Thread nD τ) arg13 fullShare KSB ∗ owns (c : Thread nD τ) arg14 fullShare KM ∗ owns (c : Thread nD τ) arg15 fullShare VT ∗ owns (c : Thread nD τ) arg16 fullShare VSB ∗ ((owns (c : Thread nD τ) arg2 fullShare x2 ∗ owns (c : Thread nD τ) arg5 fullShare (attended (codesOut x2) (heldScales x2) KC KSB KM VT VSB 1) ∗ owns (c : Thread nD τ) arg6 fullShare (codesOut x2) ∗ owns (c : Thread nD τ) arg7 fullShare (scalesStep i x2 y7) ∗ owns (c : Thread nD τ) arg8 fullShare KC ∗ (∃ d, owns (c : Thread nD τ) arg12 fullShare d) ∗ owns (c : Thread nD τ) arg13 fullShare KSB ∗ owns (c : Thread nD τ) arg14 fullShare KM ∗ owns (c : Thread nD τ) arg15 fullShare VT ∗ owns (c : Thread nD τ) arg16 fullShare VSB) -∗ K ⟨⟩)) ⊢
      wp frame (wpE (defs₀ (F := F)) Variants.none c none) E (cc0_mqa_prefill_e4m3 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_mqa_prefill_e4m3_eq_skeleton]; unfold cc0_mqa_prefill_e4m3_skel
  unfold owns
  iintro ⟨⟨%f2, %h2, H2⟩, ⟨%d5, %f5, -, H5⟩, ⟨%d6, %f6, -, H6⟩, ⟨%f7, %h7, H7⟩, ⟨%f8, %h8, H8⟩, ⟨%d12, %f12, -, H12⟩, ⟨%f13, %h13, H13⟩, ⟨%f14, %h14, H14⟩, ⟨%f15, %h15, H15⟩, ⟨%f16, %h16, H16⟩, HK⟩
  subst h2 h7 h8 h13 h14 h15 h16
  set_option sl_exec.stopBefore "k0_part504" in sl_exec (disch := first | sl_exact hc0 | sl_exact hc1 | sl_exact hc2 | sl_exact hc3 | sl_exact hc4 | sl_exact hc5 | sl_exact hc6 | sl_exact hc7 | sl_exact hc8)
  rw [wp_bind]
  iapply (quantised_spec c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1)
  isplitl [H2]
  · iexact H2
  isplitl [H6]
  · iexact H6
  isplitl [H7]
  · iexact H7
  isplitl [H12]
  · iexact H12
  iintro %L6 %L7 %L12 %v %hL6 %hL7 %hL12 ⟨H2, H6, H7, H12⟩
  subst hL6 hL7 hL12
  set_option sl_exec.stopBefore "k0_part116" in sl_exec (disch := first | sl_exact hc0 | sl_exact hc1 | sl_exact hc2 | sl_exact hc3 | sl_exact hc4 | sl_exact hc5 | sl_exact hc6 | sl_exact hc7 | sl_exact hc8)
  rw [wp_bind]
  iapply (branch1_spec c i arg2 harg2 arg3 harg3 arg4 harg4 arg5 harg5 arg6 harg6 arg7 harg7 arg8 harg8 arg9 harg9 arg10 harg10 arg11 harg11 arg12 harg12 arg13 harg13 arg14 harg14 arg15 harg15 arg16 harg16)
  isplitl [H5]
  · iexact H5
  isplitl [H6]
  · iexact H6
  isplitl [H8]
  · iexact H8
  isplitl [H12]
  · iexact H12
  isplitl [H13]
  · iexact H13
  isplitl [H14]
  · iexact H14
  isplitl [H15]
  · iexact H15
  isplitl [H16]
  · iexact H16
  iintro %L %w %hL %hw ⟨H5, H6, H8, H12, H13, H14, H15, H16⟩
  rw [read_codeStores, read_whole] at hL
  rw [read_codeStores, read_whole] at hw
  subst hL hw
  sl_exec (disch := first | sl_exact hc0 | sl_exact hc1 | sl_exact hc2 | sl_exact hc3 | sl_exact hc4 | sl_exact hc5 | sl_exact hc6 | sl_exact hc7 | sl_exact hc8)
  sl_step
  iapply HK
  isplitl [H2]
  · iexists _; isplitr; swap; · iexact H2
    ipureintro; rfl
  isplitl [H5]
  · iexists _; isplitr; swap; · iexact H5
    ipureintro; exact read_wideStores _ _ _ _
  isplitl [H6]
  · iexists _; isplitr; swap; · iexact H6
    ipureintro; exact read_codeStores _ _ _
  isplitl [H7]
  · iexists _; isplitr; swap; · iexact H7
    ipureintro; exact read_scaleStores _ _ _ _
  isplitl [H8]
  · iexists _; isplitr; swap; · iexact H8
    ipureintro; rfl
  isplitl [H12]
  · iexists _, _; isplitr; swap; · iexact H12
    ipureintro; rfl
  isplitl [H13]
  · iexists _; isplitr; swap; · iexact H13
    ipureintro; rfl
  isplitl [H14]
  · iexists _; isplitr; swap; · iexact H14
    ipureintro; rfl
  isplitl [H15]
  · iexists _; isplitr; swap; · iexact H15
    ipureintro; rfl
  iexists _; isplitr; swap; · iexact H16
  ipureintro; rfl

end Cert.KernelIdeal.Gen

end
-- ==== Proof.Branch2.lean ====
/-
  The branch of a point whose block of tokens has number 2: 384 keys.
-/
module

public import proofs.«01_k».proof.Proof.Store
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Cert.KernelIdeal.Attn Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- The branch of blocks 2: all heads' stores but the last pair's. -/
theorem branch2 (c : Dev nD) (i : grid0.Coords) (arg2 : Memref sig .tc .vmem S1x128x3584 .bf16) (harg2 : arg2.IsWhole) (arg3 : Memref sig .tc .vmem S1x1024x128 .bf16) (harg3 : arg3.IsWhole) (arg4 : Memref sig .tc .vmem S1x1024x128 .bf16) (harg4 : arg4.IsWhole) (arg5 : Memref sig .tc .vmem S1x128x3584 .bf16) (harg5 : arg5.IsWhole) (arg6 : Memref sig .tc .vmem S1x28x128x128 .fp8e4m3) (harg6 : arg6.IsWhole) (arg7 : Memref sig .tc .vmem S28x8x2x128 .f32) (harg7 : arg7.IsWhole) (arg8 : Memref sig .tc .vmem S1x1024x128 .fp8e4m3) (harg8 : arg8.IsWhole) (arg9 : Memref sig .tc .vmem S2x1024 .f32) (harg9 : arg9.IsWhole) (arg10 : Memref sig .tc .vmem S1x1024x128 .fp8e4m3) (harg10 : arg10.IsWhole) (arg11 : Memref sig .tc .vmem S2x128 .f32) (harg11 : arg11.IsWhole) (arg12 : Memref sig .tc .vmem S128x128 .f32) (harg12 : arg12.IsWhole) (arg13 : Memref sig .tc .vmem S1024x128 .f32) (harg13 : arg13.IsWhole) (arg14 : Memref sig .tc .vmem S8x128 .f32) (harg14 : arg14.IsWhole) (arg15 : Memref sig .tc .vmem S128x1024 .fp8e4m3) (harg15 : arg15.IsWhole) (arg16 : Memref sig .tc .vmem S128x128 .f32) (harg16 : arg16.IsWhole)
    (f5 : arg5.view.ty.Contents (Elt F)) (f6 : arg6.view.ty.Contents (Elt F)) (f8 : arg8.view.ty.Contents (Elt F)) (f12 : arg12.view.ty.Contents (Elt F)) (f13 : arg13.view.ty.Contents (Elt F)) (f14 : arg14.view.ty.Contents (Elt F)) (f15 : arg15.view.ty.Contents (Elt F)) (f16 : arg16.view.ty.Contents (Elt F)) (E : Set ℕ) (K : (Σ' (v1886 : Vec F S128x384 .fp8e4m3) (v4138 : FVec F S1x128 .f32) (v4145 : FVec F S384x128 .fp8e4m3) (v4209 : FVec F S1x128 .f32), FVec F S384x128 .fp8e4m3) → sProp 𝕄) (R : sProp 𝕄)
    (hK : ∀ L v, L = (wideStores (blockOut0 fits384 mask2 (arg6.view.read (Elt F) f6) (arg12.view.read (Elt F) f12) (arg8.view.read (Elt F) f8) (arg13.view.read (Elt F) f13) (arg14.view.read (Elt F) f14) (arg15.view.read (Elt F) f15) (arg16.view.read (Elt F) f16)) (blockOut1 fits384 mask2 (arg6.view.read (Elt F) f6) (arg12.view.read (Elt F) f12) (arg8.view.read (Elt F) f8) (arg13.view.read (Elt F) f13) (arg14.view.read (Elt F) f14) (arg15.view.read (Elt F) f15) (arg16.view.read (Elt F) f16))).drop 2 → v = ⟨values fits384 (arg15.view.read (Elt F) f15), probScale fits384 (blockExps0 fits384 mask2 (arg6.view.read (Elt F) f6) (arg12.view.read (Elt F) f12) (arg8.view.read (Elt F) f8) (arg13.view.read (Elt F) f13) (arg14.view.read (Elt F) f14) 13), probCodes fits384 (blockExps0 fits384 mask2 (arg6.view.read (Elt F) f6) (arg12.view.read (Elt F) f12) (arg8.view.read (Elt F) f8) (arg13.view.read (Elt F) f13) (arg14.view.read (Elt F) f14) 13), probScale fits384 (blockExps1 fits384 mask2 (arg6.view.read (Elt F) f6) (arg12.view.read (Elt F) f12) (arg8.view.read (Elt F) f8) (arg13.view.read (Elt F) f13) (arg14.view.read (Elt F) f14) 13), probCodes fits384 (blockExps1 fits384 mask2 (arg6.view.read (Elt F) f6) (arg12.view.read (Elt F) f12) (arg8.view.read (Elt F) f8) (arg13.view.read (Elt F) f13) (arg14.view.read (Elt F) f14) 13)⟩ →
      (iprop((View.loc (c : Thread nD τ) arg5.view ↦[arg5.view.set]{fullShare} arg5.view.writes (Elt F) f5 L) ∗ (View.loc (c : Thread nD τ) arg6.view ↦[arg6.view.set]{fullShare} f6) ∗ (View.loc (c : Thread nD τ) arg8.view ↦[arg8.view.set]{fullShare} f8) ∗ (View.loc (c : Thread nD τ) arg12.view ↦[arg12.view.set]{fullShare} f12) ∗ (View.loc (c : Thread nD τ) arg13.view ↦[arg13.view.set]{fullShare} f13) ∗ (View.loc (c : Thread nD τ) arg14.view ↦[arg14.view.set]{fullShare} f14) ∗ (View.loc (c : Thread nD τ) arg15.view ↦[arg15.view.set]{fullShare} f15) ∗ (View.loc (c : Thread nD τ) arg16.view ↦[arg16.view.set]{fullShare} f16) ∗ R) ⊢ K v)) :
    iprop((View.loc (c : Thread nD τ) arg5.view ↦[arg5.view.set]{fullShare} f5) ∗ (View.loc (c : Thread nD τ) arg6.view ↦[arg6.view.set]{fullShare} f6) ∗ (View.loc (c : Thread nD τ) arg8.view ↦[arg8.view.set]{fullShare} f8) ∗ (View.loc (c : Thread nD τ) arg12.view ↦[arg12.view.set]{fullShare} f12) ∗ (View.loc (c : Thread nD τ) arg13.view ↦[arg13.view.set]{fullShare} f13) ∗ (View.loc (c : Thread nD τ) arg14.view ↦[arg14.view.set]{fullShare} f14) ∗ (View.loc (c : Thread nD τ) arg15.view ↦[arg15.view.set]{fullShare} f15) ∗ (View.loc (c : Thread nD τ) arg16.view ↦[arg16.view.set]{fullShare} f16) ∗ R) ⊢
      wp frame (wpE (defs₀ (F := F)) Variants.none c none) E (k0_part173 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [k0_part173_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton]
  iintro ⟨H5, H6, H8, H12, H13, H14, H15, H16, HR⟩
  sl_exec
  sl_step
  iapply hK
  rotate_left 2
  isplitl [H5]
  · iexact H5
  isplitl [H6]
  · iexact H6
  isplitl [H8]
  · iexact H8
  isplitl [H12]
  · iexact H12
  isplitl [H13]
  · iexact H13
  isplitl [H14]
  · iexact H14
  isplitl [H15]
  · iexact H15
  isplitl [H16]
  · iexact H16
  · iexact HR
  · rfl
  · rfl

/-- The same, for a continuation inside the logic. -/
theorem branch2_spec (c : Dev nD) (i : grid0.Coords) (arg2 : Memref sig .tc .vmem S1x128x3584 .bf16) (harg2 : arg2.IsWhole) (arg3 : Memref sig .tc .vmem S1x1024x128 .bf16) (harg3 : arg3.IsWhole) (arg4 : Memref sig .tc .vmem S1x1024x128 .bf16) (harg4 : arg4.IsWhole) (arg5 : Memref sig .tc .vmem S1x128x3584 .bf16) (harg5 : arg5.IsWhole) (arg6 : Memref sig .tc .vmem S1x28x128x128 .fp8e4m3) (harg6 : arg6.IsWhole) (arg7 : Memref sig .tc .vmem S28x8x2x128 .f32) (harg7 : arg7.IsWhole) (arg8 : Memref sig .tc .vmem S1x1024x128 .fp8e4m3) (harg8 : arg8.IsWhole) (arg9 : Memref sig .tc .vmem S2x1024 .f32) (harg9 : arg9.IsWhole) (arg10 : Memref sig .tc .vmem S1x1024x128 .fp8e4m3) (harg10 : arg10.IsWhole) (arg11 : Memref sig .tc .vmem S2x128 .f32) (harg11 : arg11.IsWhole) (arg12 : Memref sig .tc .vmem S128x128 .f32) (harg12 : arg12.IsWhole) (arg13 : Memref sig .tc .vmem S1024x128 .f32) (harg13 : arg13.IsWhole) (arg14 : Memref sig .tc .vmem S8x128 .f32) (harg14 : arg14.IsWhole) (arg15 : Memref sig .tc .vmem S128x1024 .fp8e4m3) (harg15 : arg15.IsWhole) (arg16 : Memref sig .tc .vmem S128x128 .f32) (harg16 : arg16.IsWhole)
    (f5 : arg5.view.ty.Contents (Elt F)) (f6 : arg6.view.ty.Contents (Elt F)) (f8 : arg8.view.ty.Contents (Elt F)) (f12 : arg12.view.ty.Contents (Elt F)) (f13 : arg13.view.ty.Contents (Elt F)) (f14 : arg14.view.ty.Contents (Elt F)) (f15 : arg15.view.ty.Contents (Elt F)) (f16 : arg16.view.ty.Contents (Elt F)) (E : Set ℕ) (K : (Σ' (v1886 : Vec F S128x384 .fp8e4m3) (v4138 : FVec F S1x128 .f32) (v4145 : FVec F S384x128 .fp8e4m3) (v4209 : FVec F S1x128 .f32), FVec F S384x128 .fp8e4m3) → sProp 𝕄) :
    iprop((View.loc (c : Thread nD τ) arg5.view ↦[arg5.view.set]{fullShare} f5) ∗ (View.loc (c : Thread nD τ) arg6.view ↦[arg6.view.set]{fullShare} f6) ∗ (View.loc (c : Thread nD τ) arg8.view ↦[arg8.view.set]{fullShare} f8) ∗ (View.loc (c : Thread nD τ) arg12.view ↦[arg12.view.set]{fullShare} f12) ∗ (View.loc (c : Thread nD τ) arg13.view ↦[arg13.view.set]{fullShare} f13) ∗ (View.loc (c : Thread nD τ) arg14.view ↦[arg14.view.set]{fullShare} f14) ∗ (View.loc (c : Thread nD τ) arg15.view ↦[arg15.view.set]{fullShare} f15) ∗ (View.loc (c : Thread nD τ) arg16.view ↦[arg16.view.set]{fullShare} f16) ∗ (∀ L v, ⌜L = (wideStores (blockOut0 fits384 mask2 (arg6.view.read (Elt F) f6) (arg12.view.read (Elt F) f12) (arg8.view.read (Elt F) f8) (arg13.view.read (Elt F) f13) (arg14.view.read (Elt F) f14) (arg15.view.read (Elt F) f15) (arg16.view.read (Elt F) f16)) (blockOut1 fits384 mask2 (arg6.view.read (Elt F) f6) (arg12.view.read (Elt F) f12) (arg8.view.read (Elt F) f8) (arg13.view.read (Elt F) f13) (arg14.view.read (Elt F) f14) (arg15.view.read (Elt F) f15) (arg16.view.read (Elt F) f16))).drop 2⌝ -∗ ⌜v = ⟨values fits384 (arg15.view.read (Elt F) f15), probScale fits384 (blockExps0 fits384 mask2 (arg6.view.read (Elt F) f6) (arg12.view.read (Elt F) f12) (arg8.view.read (Elt F) f8) (arg13.view.read (Elt F) f13) (arg14.view.read (Elt F) f14) 13), probCodes fits384 (blockExps0 fits384 mask2 (arg6.view.read (Elt F) f6) (arg12.view.read (Elt F) f12) (arg8.view.read (Elt F) f8) (arg13.view.read (Elt F) f13) (arg14.view.read (Elt F) f14) 13), probScale fits384 (blockExps1 fits384 mask2 (arg6.view.read (Elt F) f6) (arg12.view.read (Elt F) f12) (arg8.view.read (Elt F) f8) (arg13.view.read (Elt F) f13) (arg14.view.read (Elt F) f14) 13), probCodes fits384 (blockExps1 fits384 mask2 (arg6.view.read (Elt F) f6) (arg12.view.read (Elt F) f12) (arg8.view.read (Elt F) f8) (arg13.view.read (Elt F) f13) (arg14.view.read (Elt F) f14) 13)⟩⌝ -∗
      ((View.loc (c : Thread nD τ) arg5.view ↦[arg5.view.set]{fullShare} arg5.view.writes (Elt F) f5 L) ∗ (View.loc (c : Thread nD τ) arg6.view ↦[arg6.view.set]{fullShare} f6) ∗ (View.loc (c : Thread nD τ) arg8.view ↦[arg8.view.set]{fullShare} f8) ∗ (View.loc (c : Thread nD τ) arg12.view ↦[arg12.view.set]{fullShare} f12) ∗ (View.loc (c : Thread nD τ) arg13.view ↦[arg13.view.set]{fullShare} f13) ∗ (View.loc (c : Thread nD τ) arg14.view ↦[arg14.view.set]{fullShare} f14) ∗ (View.loc (c : Thread nD τ) arg15.view ↦[arg15.view.set]{fullShare} f15) ∗ (View.loc (c : Thread nD τ) arg16.view ↦[arg16.view.set]{fullShare} f16)) -∗ K v)) ⊢
      wp frame (wpE (defs₀ (F := F)) Variants.none c none) E (k0_part173 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  refine branch2 c i arg2 harg2 arg3 harg3 arg4 harg4 arg5 harg5 arg6 harg6 arg7 harg7 arg8 harg8 arg9 harg9 arg10 harg10 arg11 harg11 arg12 harg12 arg13 harg13 arg14 harg14 arg15 harg15 arg16 harg16 f5 f6 f8 f12 f13 f14 f15 f16 E K _ fun L v hL hv => ?_
  iintro ⟨H5, H6, H8, H12, H13, H14, H15, H16, HR⟩
  iapply HR $$ %L %v %hL %hv
  isplitl [H5]
  · iexact H5
  isplitl [H6]
  · iexact H6
  isplitl [H8]
  · iexact H8
  isplitl [H12]
  · iexact H12
  isplitl [H13]
  · iexact H13
  isplitl [H14]
  · iexact H14
  isplitl [H15]
  · iexact H15
  iexact H16

end Cert.KernelIdeal.Gen

end
-- ==== Proof.Body2.lean ====
/-
  A point of block 2 of tokens, run from its start to its end.
-/
module

public import proofs.«01_k».proof.Proof.Step
public import proofs.«01_k».proof.Proof.Quantised
public import proofs.«01_k».proof.Proof.Branch2
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Cert.KernelIdeal.Attn Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- A point of block 2 of tokens: it quantises its queries and attends to the first 384 keys of its batch. -/
theorem body2 (c : Dev nD) (i : grid0.Coords) (arg2 : Memref sig .tc .vmem S1x128x3584 .bf16) (harg2 : arg2.IsWhole) (arg3 : Memref sig .tc .vmem S1x1024x128 .bf16) (harg3 : arg3.IsWhole) (arg4 : Memref sig .tc .vmem S1x1024x128 .bf16) (harg4 : arg4.IsWhole) (arg5 : Memref sig .tc .vmem S1x128x3584 .bf16) (harg5 : arg5.IsWhole) (arg6 : Memref sig .tc .vmem S1x28x128x128 .fp8e4m3) (harg6 : arg6.IsWhole) (arg7 : Memref sig .tc .vmem S28x8x2x128 .f32) (harg7 : arg7.IsWhole) (arg8 : Memref sig .tc .vmem S1x1024x128 .fp8e4m3) (harg8 : arg8.IsWhole) (arg9 : Memref sig .tc .vmem S2x1024 .f32) (harg9 : arg9.IsWhole) (arg10 : Memref sig .tc .vmem S1x1024x128 .fp8e4m3) (harg10 : arg10.IsWhole) (arg11 : Memref sig .tc .vmem S2x128 .f32) (harg11 : arg11.IsWhole) (arg12 : Memref sig .tc .vmem S128x128 .f32) (harg12 : arg12.IsWhole) (arg13 : Memref sig .tc .vmem S1024x128 .f32) (harg13 : arg13.IsWhole) (arg14 : Memref sig .tc .vmem S8x128 .f32) (harg14 : arg14.IsWhole) (arg15 : Memref sig .tc .vmem S128x1024 .fp8e4m3) (harg15 : arg15.IsWhole) (arg16 : Memref sig .tc .vmem S128x128 .f32) (harg16 : arg16.IsWhole)
    (hc0 : ¬ k0_cond1 i = 1#1) (hc1 : ¬ k0_cond2 i = 1#1) (hc2 : ¬ k0_cond3 i = 1#1) (hc3 : k0_cond4 i = 1#1) (hc4 : ¬ k0_cond5 i = 1#1) (hc5 : ¬ k0_cond6 i = 1#1) (hc6 : ¬ k0_cond7 i = 1#1) (hc7 : ¬ k0_cond8 i = 1#1) (hc8 : ¬ k0_cond9 i = 1#1)
    (x2 : FVec F S1x128x3584 .bf16) (y7 : FVec F S28x8x2x128 .f32) (KC : FVec F S1x1024x128 .fp8e4m3)
    (KSB : FVec F S1024x128 .f32) (KM : FVec F S8x128 .f32) (VT : FVec F S128x1024 .fp8e4m3) (VSB : FVec F S128x128 .f32)
    (E : Set ℕ) (K : PUnit → sProp 𝕄) :
    iprop(owns (c : Thread nD τ) arg2 fullShare x2 ∗ (∃ d, owns (c : Thread nD τ) arg5 fullShare d) ∗ (∃ d, owns (c : Thread nD τ) arg6 fullShare d) ∗ owns (c : Thread nD τ) arg7 fullShare y7 ∗ owns (c : Thread nD τ) arg8 fullShare KC ∗ (∃ d, owns (c : Thread nD τ) arg12 fullShare d) ∗ owns (c : Thread nD τ) arg13 fullShare KSB ∗ owns (c : Thread nD τ) arg14 fullShare KM ∗ owns (c : Thread nD τ) arg15 fullShare VT ∗ owns (c : Thread nD τ) arg16 fullShare VSB ∗ ((owns (c : Thread nD τ) arg2 fullShare x2 ∗ owns (c : Thread nD τ) arg5 fullShare (attended (codesOut x2) (heldScales x2) KC KSB KM VT VSB 2) ∗ owns (c : Thread nD τ) arg6 fullShare (codesOut x2) ∗ owns (c : Thread nD τ) arg7 fullShare (scalesStep i x2 y7) ∗ owns (c : Thread nD τ) arg8 fullShare KC ∗ (∃ d, owns (c : Thread nD τ) arg12 fullShare d) ∗ owns (c : Thread nD τ) arg13 fullShare KSB ∗ owns (c : Thread nD τ) arg14 fullShare KM ∗ owns (c : Thread nD τ) arg15 fullShare VT ∗ owns (c : Thread nD τ) arg16 fullShare VSB) -∗ K ⟨⟩)) ⊢
      wp frame (wpE (defs₀ (F := F)) Variants.none c none) E (cc0_mqa_prefill_e4m3 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_mqa_prefill_e4m3_eq_skeleton]; unfold cc0_mqa_prefill_e4m3_skel
  unfold owns
  iintro ⟨⟨%f2, %h2, H2⟩, ⟨%d5, %f5, -, H5⟩, ⟨%d6, %f6, -, H6⟩, ⟨%f7, %h7, H7⟩, ⟨%f8, %h8, H8⟩, ⟨%d12, %f12, -, H12⟩, ⟨%f13, %h13, H13⟩, ⟨%f14, %h14, H14⟩, ⟨%f15, %h15, H15⟩, ⟨%f16, %h16, H16⟩, HK⟩
  subst h2 h7 h8 h13 h14 h15 h16
  set_option sl_exec.stopBefore "k0_part504" in sl_exec (disch := first | sl_exact hc0 | sl_exact hc1 | sl_exact hc2 | sl_exact hc3 | sl_exact hc4 | sl_exact hc5 | sl_exact hc6 | sl_exact hc7 | sl_exact hc8)
  rw [wp_bind]
  iapply (quantised_spec c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1)
  isplitl [H2]
  · iexact H2
  isplitl [H6]
  · iexact H6
  isplitl [H7]
  · iexact H7
  isplitl [H12]
  · iexact H12
  iintro %L6 %L7 %L12 %v %hL6 %hL7 %hL12 ⟨H2, H6, H7, H12⟩
  subst hL6 hL7 hL12
  set_option sl_exec.stopBefore "k0_part173" in sl_exec (disch := first | sl_exact hc0 | sl_exact hc1 | sl_exact hc2 | sl_exact hc3 | sl_exact hc4 | sl_exact hc5 | sl_exact hc6 | sl_exact hc7 | sl_exact hc8)
  rw [wp_bind]
  iapply (branch2_spec c i arg2 harg2 arg3 harg3 arg4 harg4 arg5 harg5 arg6 harg6 arg7 harg7 arg8 harg8 arg9 harg9 arg10 harg10 arg11 harg11 arg12 harg12 arg13 harg13 arg14 harg14 arg15 harg15 arg16 harg16)
  isplitl [H5]
  · iexact H5
  isplitl [H6]
  · iexact H6
  isplitl [H8]
  · iexact H8
  isplitl [H12]
  · iexact H12
  isplitl [H13]
  · iexact H13
  isplitl [H14]
  · iexact H14
  isplitl [H15]
  · iexact H15
  isplitl [H16]
  · iexact H16
  iintro %L %w %hL %hw ⟨H5, H6, H8, H12, H13, H14, H15, H16⟩
  rw [read_codeStores, read_whole] at hL
  rw [read_codeStores, read_whole] at hw
  subst hL hw
  sl_exec (disch := first | sl_exact hc0 | sl_exact hc1 | sl_exact hc2 | sl_exact hc3 | sl_exact hc4 | sl_exact hc5 | sl_exact hc6 | sl_exact hc7 | sl_exact hc8)
  sl_step
  iapply HK
  isplitl [H2]
  · iexists _; isplitr; swap; · iexact H2
    ipureintro; rfl
  isplitl [H5]
  · iexists _; isplitr; swap; · iexact H5
    ipureintro; exact read_wideStores _ _ _ _
  isplitl [H6]
  · iexists _; isplitr; swap; · iexact H6
    ipureintro; exact read_codeStores _ _ _
  isplitl [H7]
  · iexists _; isplitr; swap; · iexact H7
    ipureintro; exact read_scaleStores _ _ _ _
  isplitl [H8]
  · iexists _; isplitr; swap; · iexact H8
    ipureintro; rfl
  isplitl [H12]
  · iexists _, _; isplitr; swap; · iexact H12
    ipureintro; rfl
  isplitl [H13]
  · iexists _; isplitr; swap; · iexact H13
    ipureintro; rfl
  isplitl [H14]
  · iexists _; isplitr; swap; · iexact H14
    ipureintro; rfl
  isplitl [H15]
  · iexists _; isplitr; swap; · iexact H15
    ipureintro; rfl
  iexists _; isplitr; swap; · iexact H16
  ipureintro; rfl

end Cert.KernelIdeal.Gen

end
-- ==== Proof.Branch3.lean ====
/-
  The branch of a point whose block of tokens has number 3: 512 keys.
-/
module

public import proofs.«01_k».proof.Proof.Store
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Cert.KernelIdeal.Attn Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- The branch of blocks 3: all heads' stores but the last pair's. -/
theorem branch3 (c : Dev nD) (i : grid0.Coords) (arg2 : Memref sig .tc .vmem S1x128x3584 .bf16) (harg2 : arg2.IsWhole) (arg3 : Memref sig .tc .vmem S1x1024x128 .bf16) (harg3 : arg3.IsWhole) (arg4 : Memref sig .tc .vmem S1x1024x128 .bf16) (harg4 : arg4.IsWhole) (arg5 : Memref sig .tc .vmem S1x128x3584 .bf16) (harg5 : arg5.IsWhole) (arg6 : Memref sig .tc .vmem S1x28x128x128 .fp8e4m3) (harg6 : arg6.IsWhole) (arg7 : Memref sig .tc .vmem S28x8x2x128 .f32) (harg7 : arg7.IsWhole) (arg8 : Memref sig .tc .vmem S1x1024x128 .fp8e4m3) (harg8 : arg8.IsWhole) (arg9 : Memref sig .tc .vmem S2x1024 .f32) (harg9 : arg9.IsWhole) (arg10 : Memref sig .tc .vmem S1x1024x128 .fp8e4m3) (harg10 : arg10.IsWhole) (arg11 : Memref sig .tc .vmem S2x128 .f32) (harg11 : arg11.IsWhole) (arg12 : Memref sig .tc .vmem S128x128 .f32) (harg12 : arg12.IsWhole) (arg13 : Memref sig .tc .vmem S1024x128 .f32) (harg13 : arg13.IsWhole) (arg14 : Memref sig .tc .vmem S8x128 .f32) (harg14 : arg14.IsWhole) (arg15 : Memref sig .tc .vmem S128x1024 .fp8e4m3) (harg15 : arg15.IsWhole) (arg16 : Memref sig .tc .vmem S128x128 .f32) (harg16 : arg16.IsWhole)
    (f5 : arg5.view.ty.Contents (Elt F)) (f6 : arg6.view.ty.Contents (Elt F)) (f8 : arg8.view.ty.Contents (Elt F)) (f12 : arg12.view.ty.Contents (Elt F)) (f13 : arg13.view.ty.Contents (Elt F)) (f14 : arg14.view.ty.Contents (Elt F)) (f15 : arg15.view.ty.Contents (Elt F)) (f16 : arg16.view.ty.Contents (Elt F)) (E : Set ℕ) (K : (Σ' (v1886 : Vec F S128x512 .fp8e4m3) (v4138 : FVec F S1x128 .f32) (v4145 : FVec F S512x128 .fp8e4m3) (v4209 : FVec F S1x128 .f32), FVec F S512x128 .fp8e4m3) → sProp 𝕄) (R : sProp 𝕄)
    (hK : ∀ L v, L = (wideStores (blockOut0 fits512 mask3 (arg6.view.read (Elt F) f6) (arg12.view.read (Elt F) f12) (arg8.view.read (Elt F) f8) (arg13.view.read (Elt F) f13) (arg14.view.read (Elt F) f14) (arg15.view.read (Elt F) f15) (arg16.view.read (Elt F) f16)) (blockOut1 fits512 mask3 (arg6.view.read (Elt F) f6) (arg12.view.read (Elt F) f12) (arg8.view.read (Elt F) f8) (arg13.view.read (Elt F) f13) (arg14.view.read (Elt F) f14) (arg15.view.read (Elt F) f15) (arg16.view.read (Elt F) f16))).drop 2 → v = ⟨values fits512 (arg15.view.read (Elt F) f15), probScale fits512 (blockExps0 fits512 mask3 (arg6.view.read (Elt F) f6) (arg12.view.read (Elt F) f12) (arg8.view.read (Elt F) f8) (arg13.view.read (Elt F) f13) (arg14.view.read (Elt F) f14) 13), probCodes fits512 (blockExps0 fits512 mask3 (arg6.view.read (Elt F) f6) (arg12.view.read (Elt F) f12) (arg8.view.read (Elt F) f8) (arg13.view.read (Elt F) f13) (arg14.view.read (Elt F) f14) 13), probScale fits512 (blockExps1 fits512 mask3 (arg6.view.read (Elt F) f6) (arg12.view.read (Elt F) f12) (arg8.view.read (Elt F) f8) (arg13.view.read (Elt F) f13) (arg14.view.read (Elt F) f14) 13), probCodes fits512 (blockExps1 fits512 mask3 (arg6.view.read (Elt F) f6) (arg12.view.read (Elt F) f12) (arg8.view.read (Elt F) f8) (arg13.view.read (Elt F) f13) (arg14.view.read (Elt F) f14) 13)⟩ →
      (iprop((View.loc (c : Thread nD τ) arg5.view ↦[arg5.view.set]{fullShare} arg5.view.writes (Elt F) f5 L) ∗ (View.loc (c : Thread nD τ) arg6.view ↦[arg6.view.set]{fullShare} f6) ∗ (View.loc (c : Thread nD τ) arg8.view ↦[arg8.view.set]{fullShare} f8) ∗ (View.loc (c : Thread nD τ) arg12.view ↦[arg12.view.set]{fullShare} f12) ∗ (View.loc (c : Thread nD τ) arg13.view ↦[arg13.view.set]{fullShare} f13) ∗ (View.loc (c : Thread nD τ) arg14.view ↦[arg14.view.set]{fullShare} f14) ∗ (View.loc (c : Thread nD τ) arg15.view ↦[arg15.view.set]{fullShare} f15) ∗ (View.loc (c : Thread nD τ) arg16.view ↦[arg16.view.set]{fullShare} f16) ∗ R) ⊢ K v)) :
    iprop((View.loc (c : Thread nD τ) arg5.view ↦[arg5.view.set]{fullShare} f5) ∗ (View.loc (c : Thread nD τ) arg6.view ↦[arg6.view.set]{fullShare} f6) ∗ (View.loc (c : Thread nD τ) arg8.view ↦[arg8.view.set]{fullShare} f8) ∗ (View.loc (c : Thread nD τ) arg12.view ↦[arg12.view.set]{fullShare} f12) ∗ (View.loc (c : Thread nD τ) arg13.view ↦[arg13.view.set]{fullShare} f13) ∗ (View.loc (c : Thread nD τ) arg14.view ↦[arg14.view.set]{fullShare} f14) ∗ (View.loc (c : Thread nD τ) arg15.view ↦[arg15.view.set]{fullShare} f15) ∗ (View.loc (c : Thread nD τ) arg16.view ↦[arg16.view.set]{fullShare} f16) ∗ R) ⊢
      wp frame (wpE (defs₀ (F := F)) Variants.none c none) E (k0_part230 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [k0_part230_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton]
  iintro ⟨H5, H6, H8, H12, H13, H14, H15, H16, HR⟩
  sl_exec
  sl_step
  iapply hK
  rotate_left 2
  isplitl [H5]
  · iexact H5
  isplitl [H6]
  · iexact H6
  isplitl [H8]
  · iexact H8
  isplitl [H12]
  · iexact H12
  isplitl [H13]
  · iexact H13
  isplitl [H14]
  · iexact H14
  isplitl [H15]
  · iexact H15
  isplitl [H16]
  · iexact H16
  · iexact HR
  · rfl
  · rfl

/-- The same, for a continuation inside the logic. -/
theorem branch3_spec (c : Dev nD) (i : grid0.Coords) (arg2 : Memref sig .tc .vmem S1x128x3584 .bf16) (harg2 : arg2.IsWhole) (arg3 : Memref sig .tc .vmem S1x1024x128 .bf16) (harg3 : arg3.IsWhole) (arg4 : Memref sig .tc .vmem S1x1024x128 .bf16) (harg4 : arg4.IsWhole) (arg5 : Memref sig .tc .vmem S1x128x3584 .bf16) (harg5 : arg5.IsWhole) (arg6 : Memref sig .tc .vmem S1x28x128x128 .fp8e4m3) (harg6 : arg6.IsWhole) (arg7 : Memref sig .tc .vmem S28x8x2x128 .f32) (harg7 : arg7.IsWhole) (arg8 : Memref sig .tc .vmem S1x1024x128 .fp8e4m3) (harg8 : arg8.IsWhole) (arg9 : Memref sig .tc .vmem S2x1024 .f32) (harg9 : arg9.IsWhole) (arg10 : Memref sig .tc .vmem S1x1024x128 .fp8e4m3) (harg10 : arg10.IsWhole) (arg11 : Memref sig .tc .vmem S2x128 .f32) (harg11 : arg11.IsWhole) (arg12 : Memref sig .tc .vmem S128x128 .f32) (harg12 : arg12.IsWhole) (arg13 : Memref sig .tc .vmem S1024x128 .f32) (harg13 : arg13.IsWhole) (arg14 : Memref sig .tc .vmem S8x128 .f32) (harg14 : arg14.IsWhole) (arg15 : Memref sig .tc .vmem S128x1024 .fp8e4m3) (harg15 : arg15.IsWhole) (arg16 : Memref sig .tc .vmem S128x128 .f32) (harg16 : arg16.IsWhole)
    (f5 : arg5.view.ty.Contents (Elt F)) (f6 : arg6.view.ty.Contents (Elt F)) (f8 : arg8.view.ty.Contents (Elt F)) (f12 : arg12.view.ty.Contents (Elt F)) (f13 : arg13.view.ty.Contents (Elt F)) (f14 : arg14.view.ty.Contents (Elt F)) (f15 : arg15.view.ty.Contents (Elt F)) (f16 : arg16.view.ty.Contents (Elt F)) (E : Set ℕ) (K : (Σ' (v1886 : Vec F S128x512 .fp8e4m3) (v4138 : FVec F S1x128 .f32) (v4145 : FVec F S512x128 .fp8e4m3) (v4209 : FVec F S1x128 .f32), FVec F S512x128 .fp8e4m3) → sProp 𝕄) :
    iprop((View.loc (c : Thread nD τ) arg5.view ↦[arg5.view.set]{fullShare} f5) ∗ (View.loc (c : Thread nD τ) arg6.view ↦[arg6.view.set]{fullShare} f6) ∗ (View.loc (c : Thread nD τ) arg8.view ↦[arg8.view.set]{fullShare} f8) ∗ (View.loc (c : Thread nD τ) arg12.view ↦[arg12.view.set]{fullShare} f12) ∗ (View.loc (c : Thread nD τ) arg13.view ↦[arg13.view.set]{fullShare} f13) ∗ (View.loc (c : Thread nD τ) arg14.view ↦[arg14.view.set]{fullShare} f14) ∗ (View.loc (c : Thread nD τ) arg15.view ↦[arg15.view.set]{fullShare} f15) ∗ (View.loc (c : Thread nD τ) arg16.view ↦[arg16.view.set]{fullShare} f16) ∗ (∀ L v, ⌜L = (wideStores (blockOut0 fits512 mask3 (arg6.view.read (Elt F) f6) (arg12.view.read (Elt F) f12) (arg8.view.read (Elt F) f8) (arg13.view.read (Elt F) f13) (arg14.view.read (Elt F) f14) (arg15.view.read (Elt F) f15) (arg16.view.read (Elt F) f16)) (blockOut1 fits512 mask3 (arg6.view.read (Elt F) f6) (arg12.view.read (Elt F) f12) (arg8.view.read (Elt F) f8) (arg13.view.read (Elt F) f13) (arg14.view.read (Elt F) f14) (arg15.view.read (Elt F) f15) (arg16.view.read (Elt F) f16))).drop 2⌝ -∗ ⌜v = ⟨values fits512 (arg15.view.read (Elt F) f15), probScale fits512 (blockExps0 fits512 mask3 (arg6.view.read (Elt F) f6) (arg12.view.read (Elt F) f12) (arg8.view.read (Elt F) f8) (arg13.view.read (Elt F) f13) (arg14.view.read (Elt F) f14) 13), probCodes fits512 (blockExps0 fits512 mask3 (arg6.view.read (Elt F) f6) (arg12.view.read (Elt F) f12) (arg8.view.read (Elt F) f8) (arg13.view.read (Elt F) f13) (arg14.view.read (Elt F) f14) 13), probScale fits512 (blockExps1 fits512 mask3 (arg6.view.read (Elt F) f6) (arg12.view.read (Elt F) f12) (arg8.view.read (Elt F) f8) (arg13.view.read (Elt F) f13) (arg14.view.read (Elt F) f14) 13), probCodes fits512 (blockExps1 fits512 mask3 (arg6.view.read (Elt F) f6) (arg12.view.read (Elt F) f12) (arg8.view.read (Elt F) f8) (arg13.view.read (Elt F) f13) (arg14.view.read (Elt F) f14) 13)⟩⌝ -∗
      ((View.loc (c : Thread nD τ) arg5.view ↦[arg5.view.set]{fullShare} arg5.view.writes (Elt F) f5 L) ∗ (View.loc (c : Thread nD τ) arg6.view ↦[arg6.view.set]{fullShare} f6) ∗ (View.loc (c : Thread nD τ) arg8.view ↦[arg8.view.set]{fullShare} f8) ∗ (View.loc (c : Thread nD τ) arg12.view ↦[arg12.view.set]{fullShare} f12) ∗ (View.loc (c : Thread nD τ) arg13.view ↦[arg13.view.set]{fullShare} f13) ∗ (View.loc (c : Thread nD τ) arg14.view ↦[arg14.view.set]{fullShare} f14) ∗ (View.loc (c : Thread nD τ) arg15.view ↦[arg15.view.set]{fullShare} f15) ∗ (View.loc (c : Thread nD τ) arg16.view ↦[arg16.view.set]{fullShare} f16)) -∗ K v)) ⊢
      wp frame (wpE (defs₀ (F := F)) Variants.none c none) E (k0_part230 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  refine branch3 c i arg2 harg2 arg3 harg3 arg4 harg4 arg5 harg5 arg6 harg6 arg7 harg7 arg8 harg8 arg9 harg9 arg10 harg10 arg11 harg11 arg12 harg12 arg13 harg13 arg14 harg14 arg15 harg15 arg16 harg16 f5 f6 f8 f12 f13 f14 f15 f16 E K _ fun L v hL hv => ?_
  iintro ⟨H5, H6, H8, H12, H13, H14, H15, H16, HR⟩
  iapply HR $$ %L %v %hL %hv
  isplitl [H5]
  · iexact H5
  isplitl [H6]
  · iexact H6
  isplitl [H8]
  · iexact H8
  isplitl [H12]
  · iexact H12
  isplitl [H13]
  · iexact H13
  isplitl [H14]
  · iexact H14
  isplitl [H15]
  · iexact H15
  iexact H16

end Cert.KernelIdeal.Gen

end
-- ==== Proof.Body3.lean ====
/-
  A point of block 3 of tokens, run from its start to its end.
-/
module

public import proofs.«01_k».proof.Proof.Step
public import proofs.«01_k».proof.Proof.Quantised
public import proofs.«01_k».proof.Proof.Branch3
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Cert.KernelIdeal.Attn Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- A point of block 3 of tokens: it quantises its queries and attends to the first 512 keys of its batch. -/
theorem body3 (c : Dev nD) (i : grid0.Coords) (arg2 : Memref sig .tc .vmem S1x128x3584 .bf16) (harg2 : arg2.IsWhole) (arg3 : Memref sig .tc .vmem S1x1024x128 .bf16) (harg3 : arg3.IsWhole) (arg4 : Memref sig .tc .vmem S1x1024x128 .bf16) (harg4 : arg4.IsWhole) (arg5 : Memref sig .tc .vmem S1x128x3584 .bf16) (harg5 : arg5.IsWhole) (arg6 : Memref sig .tc .vmem S1x28x128x128 .fp8e4m3) (harg6 : arg6.IsWhole) (arg7 : Memref sig .tc .vmem S28x8x2x128 .f32) (harg7 : arg7.IsWhole) (arg8 : Memref sig .tc .vmem S1x1024x128 .fp8e4m3) (harg8 : arg8.IsWhole) (arg9 : Memref sig .tc .vmem S2x1024 .f32) (harg9 : arg9.IsWhole) (arg10 : Memref sig .tc .vmem S1x1024x128 .fp8e4m3) (harg10 : arg10.IsWhole) (arg11 : Memref sig .tc .vmem S2x128 .f32) (harg11 : arg11.IsWhole) (arg12 : Memref sig .tc .vmem S128x128 .f32) (harg12 : arg12.IsWhole) (arg13 : Memref sig .tc .vmem S1024x128 .f32) (harg13 : arg13.IsWhole) (arg14 : Memref sig .tc .vmem S8x128 .f32) (harg14 : arg14.IsWhole) (arg15 : Memref sig .tc .vmem S128x1024 .fp8e4m3) (harg15 : arg15.IsWhole) (arg16 : Memref sig .tc .vmem S128x128 .f32) (harg16 : arg16.IsWhole)
    (hc0 : ¬ k0_cond1 i = 1#1) (hc1 : ¬ k0_cond2 i = 1#1) (hc2 : ¬ k0_cond3 i = 1#1) (hc3 : ¬ k0_cond4 i = 1#1) (hc4 : k0_cond5 i = 1#1) (hc5 : ¬ k0_cond6 i = 1#1) (hc6 : ¬ k0_cond7 i = 1#1) (hc7 : ¬ k0_cond8 i = 1#1) (hc8 : ¬ k0_cond9 i = 1#1)
    (x2 : FVec F S1x128x3584 .bf16) (y7 : FVec F S28x8x2x128 .f32) (KC : FVec F S1x1024x128 .fp8e4m3)
    (KSB : FVec F S1024x128 .f32) (KM : FVec F S8x128 .f32) (VT : FVec F S128x1024 .fp8e4m3) (VSB : FVec F S128x128 .f32)
    (E : Set ℕ) (K : PUnit → sProp 𝕄) :
    iprop(owns (c : Thread nD τ) arg2 fullShare x2 ∗ (∃ d, owns (c : Thread nD τ) arg5 fullShare d) ∗ (∃ d, owns (c : Thread nD τ) arg6 fullShare d) ∗ owns (c : Thread nD τ) arg7 fullShare y7 ∗ owns (c : Thread nD τ) arg8 fullShare KC ∗ (∃ d, owns (c : Thread nD τ) arg12 fullShare d) ∗ owns (c : Thread nD τ) arg13 fullShare KSB ∗ owns (c : Thread nD τ) arg14 fullShare KM ∗ owns (c : Thread nD τ) arg15 fullShare VT ∗ owns (c : Thread nD τ) arg16 fullShare VSB ∗ ((owns (c : Thread nD τ) arg2 fullShare x2 ∗ owns (c : Thread nD τ) arg5 fullShare (attended (codesOut x2) (heldScales x2) KC KSB KM VT VSB 3) ∗ owns (c : Thread nD τ) arg6 fullShare (codesOut x2) ∗ owns (c : Thread nD τ) arg7 fullShare (scalesStep i x2 y7) ∗ owns (c : Thread nD τ) arg8 fullShare KC ∗ (∃ d, owns (c : Thread nD τ) arg12 fullShare d) ∗ owns (c : Thread nD τ) arg13 fullShare KSB ∗ owns (c : Thread nD τ) arg14 fullShare KM ∗ owns (c : Thread nD τ) arg15 fullShare VT ∗ owns (c : Thread nD τ) arg16 fullShare VSB) -∗ K ⟨⟩)) ⊢
      wp frame (wpE (defs₀ (F := F)) Variants.none c none) E (cc0_mqa_prefill_e4m3 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_mqa_prefill_e4m3_eq_skeleton]; unfold cc0_mqa_prefill_e4m3_skel
  unfold owns
  iintro ⟨⟨%f2, %h2, H2⟩, ⟨%d5, %f5, -, H5⟩, ⟨%d6, %f6, -, H6⟩, ⟨%f7, %h7, H7⟩, ⟨%f8, %h8, H8⟩, ⟨%d12, %f12, -, H12⟩, ⟨%f13, %h13, H13⟩, ⟨%f14, %h14, H14⟩, ⟨%f15, %h15, H15⟩, ⟨%f16, %h16, H16⟩, HK⟩
  subst h2 h7 h8 h13 h14 h15 h16
  set_option sl_exec.stopBefore "k0_part504" in sl_exec (disch := first | sl_exact hc0 | sl_exact hc1 | sl_exact hc2 | sl_exact hc3 | sl_exact hc4 | sl_exact hc5 | sl_exact hc6 | sl_exact hc7 | sl_exact hc8)
  rw [wp_bind]
  iapply (quantised_spec c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1)
  isplitl [H2]
  · iexact H2
  isplitl [H6]
  · iexact H6
  isplitl [H7]
  · iexact H7
  isplitl [H12]
  · iexact H12
  iintro %L6 %L7 %L12 %v %hL6 %hL7 %hL12 ⟨H2, H6, H7, H12⟩
  subst hL6 hL7 hL12
  set_option sl_exec.stopBefore "k0_part230" in sl_exec (disch := first | sl_exact hc0 | sl_exact hc1 | sl_exact hc2 | sl_exact hc3 | sl_exact hc4 | sl_exact hc5 | sl_exact hc6 | sl_exact hc7 | sl_exact hc8)
  rw [wp_bind]
  iapply (branch3_spec c i arg2 harg2 arg3 harg3 arg4 harg4 arg5 harg5 arg6 harg6 arg7 harg7 arg8 harg8 arg9 harg9 arg10 harg10 arg11 harg11 arg12 harg12 arg13 harg13 arg14 harg14 arg15 harg15 arg16 harg16)
  isplitl [H5]
  · iexact H5
  isplitl [H6]
  · iexact H6
  isplitl [H8]
  · iexact H8
  isplitl [H12]
  · iexact H12
  isplitl [H13]
  · iexact H13
  isplitl [H14]
  · iexact H14
  isplitl [H15]
  · iexact H15
  isplitl [H16]
  · iexact H16
  iintro %L %w %hL %hw ⟨H5, H6, H8, H12, H13, H14, H15, H16⟩
  rw [read_codeStores, read_whole] at hL
  rw [read_codeStores, read_whole] at hw
  subst hL hw
  sl_exec (disch := first | sl_exact hc0 | sl_exact hc1 | sl_exact hc2 | sl_exact hc3 | sl_exact hc4 | sl_exact hc5 | sl_exact hc6 | sl_exact hc7 | sl_exact hc8)
  sl_step
  iapply HK
  isplitl [H2]
  · iexists _; isplitr; swap; · iexact H2
    ipureintro; rfl
  isplitl [H5]
  · iexists _; isplitr; swap; · iexact H5
    ipureintro; exact read_wideStores _ _ _ _
  isplitl [H6]
  · iexists _; isplitr; swap; · iexact H6
    ipureintro; exact read_codeStores _ _ _
  isplitl [H7]
  · iexists _; isplitr; swap; · iexact H7
    ipureintro; exact read_scaleStores _ _ _ _
  isplitl [H8]
  · iexists _; isplitr; swap; · iexact H8
    ipureintro; rfl
  isplitl [H12]
  · iexists _, _; isplitr; swap; · iexact H12
    ipureintro; rfl
  isplitl [H13]
  · iexists _; isplitr; swap; · iexact H13
    ipureintro; rfl
  isplitl [H14]
  · iexists _; isplitr; swap; · iexact H14
    ipureintro; rfl
  isplitl [H15]
  · iexists _; isplitr; swap; · iexact H15
    ipureintro; rfl
  iexists _; isplitr; swap; · iexact H16
  ipureintro; rfl

end Cert.KernelIdeal.Gen

end
-- ==== Proof.Branch4.lean ====
/-
  The branch of a point whose block of tokens has number 4: 640 keys.
-/
module

public import proofs.«01_k».proof.Proof.Store
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Cert.KernelIdeal.Attn Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- The branch of blocks 4: all heads' stores but the last pair's. -/
theorem branch4 (c : Dev nD) (i : grid0.Coords) (arg2 : Memref sig .tc .vmem S1x128x3584 .bf16) (harg2 : arg2.IsWhole) (arg3 : Memref sig .tc .vmem S1x1024x128 .bf16) (harg3 : arg3.IsWhole) (arg4 : Memref sig .tc .vmem S1x1024x128 .bf16) (harg4 : arg4.IsWhole) (arg5 : Memref sig .tc .vmem S1x128x3584 .bf16) (harg5 : arg5.IsWhole) (arg6 : Memref sig .tc .vmem S1x28x128x128 .fp8e4m3) (harg6 : arg6.IsWhole) (arg7 : Memref sig .tc .vmem S28x8x2x128 .f32) (harg7 : arg7.IsWhole) (arg8 : Memref sig .tc .vmem S1x1024x128 .fp8e4m3) (harg8 : arg8.IsWhole) (arg9 : Memref sig .tc .vmem S2x1024 .f32) (harg9 : arg9.IsWhole) (arg10 : Memref sig .tc .vmem S1x1024x128 .fp8e4m3) (harg10 : arg10.IsWhole) (arg11 : Memref sig .tc .vmem S2x128 .f32) (harg11 : arg11.IsWhole) (arg12 : Memref sig .tc .vmem S128x128 .f32) (harg12 : arg12.IsWhole) (arg13 : Memref sig .tc .vmem S1024x128 .f32) (harg13 : arg13.IsWhole) (arg14 : Memref sig .tc .vmem S8x128 .f32) (harg14 : arg14.IsWhole) (arg15 : Memref sig .tc .vmem S128x1024 .fp8e4m3) (harg15 : arg15.IsWhole) (arg16 : Memref sig .tc .vmem S128x128 .f32) (harg16 : arg16.IsWhole)
    (f5 : arg5.view.ty.Contents (Elt F)) (f6 : arg6.view.ty.Contents (Elt F)) (f8 : arg8.view.ty.Contents (Elt F)) (f12 : arg12.view.ty.Contents (Elt F)) (f13 : arg13.view.ty.Contents (Elt F)) (f14 : arg14.view.ty.Contents (Elt F)) (f15 : arg15.view.ty.Contents (Elt F)) (f16 : arg16.view.ty.Contents (Elt F)) (E : Set ℕ) (K : (Σ' (v1886 : Vec F S128x640 .fp8e4m3) (v4138 : FVec F S1x128 .f32) (v4145 : FVec F S640x128 .fp8e4m3) (v4209 : FVec F S1x128 .f32), FVec F S640x128 .fp8e4m3) → sProp 𝕄) (R : sProp 𝕄)
    (hK : ∀ L v, L = (wideStores (blockOut0 fits640 mask4 (arg6.view.read (Elt F) f6) (arg12.view.read (Elt F) f12) (arg8.view.read (Elt F) f8) (arg13.view.read (Elt F) f13) (arg14.view.read (Elt F) f14) (arg15.view.read (Elt F) f15) (arg16.view.read (Elt F) f16)) (blockOut1 fits640 mask4 (arg6.view.read (Elt F) f6) (arg12.view.read (Elt F) f12) (arg8.view.read (Elt F) f8) (arg13.view.read (Elt F) f13) (arg14.view.read (Elt F) f14) (arg15.view.read (Elt F) f15) (arg16.view.read (Elt F) f16))).drop 2 → v = ⟨values fits640 (arg15.view.read (Elt F) f15), probScale fits640 (blockExps0 fits640 mask4 (arg6.view.read (Elt F) f6) (arg12.view.read (Elt F) f12) (arg8.view.read (Elt F) f8) (arg13.view.read (Elt F) f13) (arg14.view.read (Elt F) f14) 13), probCodes fits640 (blockExps0 fits640 mask4 (arg6.view.read (Elt F) f6) (arg12.view.read (Elt F) f12) (arg8.view.read (Elt F) f8) (arg13.view.read (Elt F) f13) (arg14.view.read (Elt F) f14) 13), probScale fits640 (blockExps1 fits640 mask4 (arg6.view.read (Elt F) f6) (arg12.view.read (Elt F) f12) (arg8.view.read (Elt F) f8) (arg13.view.read (Elt F) f13) (arg14.view.read (Elt F) f14) 13), probCodes fits640 (blockExps1 fits640 mask4 (arg6.view.read (Elt F) f6) (arg12.view.read (Elt F) f12) (arg8.view.read (Elt F) f8) (arg13.view.read (Elt F) f13) (arg14.view.read (Elt F) f14) 13)⟩ →
      (iprop((View.loc (c : Thread nD τ) arg5.view ↦[arg5.view.set]{fullShare} arg5.view.writes (Elt F) f5 L) ∗ (View.loc (c : Thread nD τ) arg6.view ↦[arg6.view.set]{fullShare} f6) ∗ (View.loc (c : Thread nD τ) arg8.view ↦[arg8.view.set]{fullShare} f8) ∗ (View.loc (c : Thread nD τ) arg12.view ↦[arg12.view.set]{fullShare} f12) ∗ (View.loc (c : Thread nD τ) arg13.view ↦[arg13.view.set]{fullShare} f13) ∗ (View.loc (c : Thread nD τ) arg14.view ↦[arg14.view.set]{fullShare} f14) ∗ (View.loc (c : Thread nD τ) arg15.view ↦[arg15.view.set]{fullShare} f15) ∗ (View.loc (c : Thread nD τ) arg16.view ↦[arg16.view.set]{fullShare} f16) ∗ R) ⊢ K v)) :
    iprop((View.loc (c : Thread nD τ) arg5.view ↦[arg5.view.set]{fullShare} f5) ∗ (View.loc (c : Thread nD τ) arg6.view ↦[arg6.view.set]{fullShare} f6) ∗ (View.loc (c : Thread nD τ) arg8.view ↦[arg8.view.set]{fullShare} f8) ∗ (View.loc (c : Thread nD τ) arg12.view ↦[arg12.view.set]{fullShare} f12) ∗ (View.loc (c : Thread nD τ) arg13.view ↦[arg13.view.set]{fullShare} f13) ∗ (View.loc (c : Thread nD τ) arg14.view ↦[arg14.view.set]{fullShare} f14) ∗ (View.loc (c : Thread nD τ) arg15.view ↦[arg15.view.set]{fullShare} f15) ∗ (View.loc (c : Thread nD τ) arg16.view ↦[arg16.view.set]{fullShare} f16) ∗ R) ⊢
      wp frame (wpE (defs₀ (F := F)) Variants.none c none) E (k0_part287 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [k0_part287_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton]
  iintro ⟨H5, H6, H8, H12, H13, H14, H15, H16, HR⟩
  sl_exec
  sl_step
  iapply hK
  rotate_left 2
  isplitl [H5]
  · iexact H5
  isplitl [H6]
  · iexact H6
  isplitl [H8]
  · iexact H8
  isplitl [H12]
  · iexact H12
  isplitl [H13]
  · iexact H13
  isplitl [H14]
  · iexact H14
  isplitl [H15]
  · iexact H15
  isplitl [H16]
  · iexact H16
  · iexact HR
  · rfl
  · rfl

/-- The same, for a continuation inside the logic. -/
theorem branch4_spec (c : Dev nD) (i : grid0.Coords) (arg2 : Memref sig .tc .vmem S1x128x3584 .bf16) (harg2 : arg2.IsWhole) (arg3 : Memref sig .tc .vmem S1x1024x128 .bf16) (harg3 : arg3.IsWhole) (arg4 : Memref sig .tc .vmem S1x1024x128 .bf16) (harg4 : arg4.IsWhole) (arg5 : Memref sig .tc .vmem S1x128x3584 .bf16) (harg5 : arg5.IsWhole) (arg6 : Memref sig .tc .vmem S1x28x128x128 .fp8e4m3) (harg6 : arg6.IsWhole) (arg7 : Memref sig .tc .vmem S28x8x2x128 .f32) (harg7 : arg7.IsWhole) (arg8 : Memref sig .tc .vmem S1x1024x128 .fp8e4m3) (harg8 : arg8.IsWhole) (arg9 : Memref sig .tc .vmem S2x1024 .f32) (harg9 : arg9.IsWhole) (arg10 : Memref sig .tc .vmem S1x1024x128 .fp8e4m3) (harg10 : arg10.IsWhole) (arg11 : Memref sig .tc .vmem S2x128 .f32) (harg11 : arg11.IsWhole) (arg12 : Memref sig .tc .vmem S128x128 .f32) (harg12 : arg12.IsWhole) (arg13 : Memref sig .tc .vmem S1024x128 .f32) (harg13 : arg13.IsWhole) (arg14 : Memref sig .tc .vmem S8x128 .f32) (harg14 : arg14.IsWhole) (arg15 : Memref sig .tc .vmem S128x1024 .fp8e4m3) (harg15 : arg15.IsWhole) (arg16 : Memref sig .tc .vmem S128x128 .f32) (harg16 : arg16.IsWhole)
    (f5 : arg5.view.ty.Contents (Elt F)) (f6 : arg6.view.ty.Contents (Elt F)) (f8 : arg8.view.ty.Contents (Elt F)) (f12 : arg12.view.ty.Contents (Elt F)) (f13 : arg13.view.ty.Contents (Elt F)) (f14 : arg14.view.ty.Contents (Elt F)) (f15 : arg15.view.ty.Contents (Elt F)) (f16 : arg16.view.ty.Contents (Elt F)) (E : Set ℕ) (K : (Σ' (v1886 : Vec F S128x640 .fp8e4m3) (v4138 : FVec F S1x128 .f32) (v4145 : FVec F S640x128 .fp8e4m3) (v4209 : FVec F S1x128 .f32), FVec F S640x128 .fp8e4m3) → sProp 𝕄) :
    iprop((View.loc (c : Thread nD τ) arg5.view ↦[arg5.view.set]{fullShare} f5) ∗ (View.loc (c : Thread nD τ) arg6.view ↦[arg6.view.set]{fullShare} f6) ∗ (View.loc (c : Thread nD τ) arg8.view ↦[arg8.view.set]{fullShare} f8) ∗ (View.loc (c : Thread nD τ) arg12.view ↦[arg12.view.set]{fullShare} f12) ∗ (View.loc (c : Thread nD τ) arg13.view ↦[arg13.view.set]{fullShare} f13) ∗ (View.loc (c : Thread nD τ) arg14.view ↦[arg14.view.set]{fullShare} f14) ∗ (View.loc (c : Thread nD τ) arg15.view ↦[arg15.view.set]{fullShare} f15) ∗ (View.loc (c : Thread nD τ) arg16.view ↦[arg16.view.set]{fullShare} f16) ∗ (∀ L v, ⌜L = (wideStores (blockOut0 fits640 mask4 (arg6.view.read (Elt F) f6) (arg12.view.read (Elt F) f12) (arg8.view.read (Elt F) f8) (arg13.view.read (Elt F) f13) (arg14.view.read (Elt F) f14) (arg15.view.read (Elt F) f15) (arg16.view.read (Elt F) f16)) (blockOut1 fits640 mask4 (arg6.view.read (Elt F) f6) (arg12.view.read (Elt F) f12) (arg8.view.read (Elt F) f8) (arg13.view.read (Elt F) f13) (arg14.view.read (Elt F) f14) (arg15.view.read (Elt F) f15) (arg16.view.read (Elt F) f16))).drop 2⌝ -∗ ⌜v = ⟨values fits640 (arg15.view.read (Elt F) f15), probScale fits640 (blockExps0 fits640 mask4 (arg6.view.read (Elt F) f6) (arg12.view.read (Elt F) f12) (arg8.view.read (Elt F) f8) (arg13.view.read (Elt F) f13) (arg14.view.read (Elt F) f14) 13), probCodes fits640 (blockExps0 fits640 mask4 (arg6.view.read (Elt F) f6) (arg12.view.read (Elt F) f12) (arg8.view.read (Elt F) f8) (arg13.view.read (Elt F) f13) (arg14.view.read (Elt F) f14) 13), probScale fits640 (blockExps1 fits640 mask4 (arg6.view.read (Elt F) f6) (arg12.view.read (Elt F) f12) (arg8.view.read (Elt F) f8) (arg13.view.read (Elt F) f13) (arg14.view.read (Elt F) f14) 13), probCodes fits640 (blockExps1 fits640 mask4 (arg6.view.read (Elt F) f6) (arg12.view.read (Elt F) f12) (arg8.view.read (Elt F) f8) (arg13.view.read (Elt F) f13) (arg14.view.read (Elt F) f14) 13)⟩⌝ -∗
      ((View.loc (c : Thread nD τ) arg5.view ↦[arg5.view.set]{fullShare} arg5.view.writes (Elt F) f5 L) ∗ (View.loc (c : Thread nD τ) arg6.view ↦[arg6.view.set]{fullShare} f6) ∗ (View.loc (c : Thread nD τ) arg8.view ↦[arg8.view.set]{fullShare} f8) ∗ (View.loc (c : Thread nD τ) arg12.view ↦[arg12.view.set]{fullShare} f12) ∗ (View.loc (c : Thread nD τ) arg13.view ↦[arg13.view.set]{fullShare} f13) ∗ (View.loc (c : Thread nD τ) arg14.view ↦[arg14.view.set]{fullShare} f14) ∗ (View.loc (c : Thread nD τ) arg15.view ↦[arg15.view.set]{fullShare} f15) ∗ (View.loc (c : Thread nD τ) arg16.view ↦[arg16.view.set]{fullShare} f16)) -∗ K v)) ⊢
      wp frame (wpE (defs₀ (F := F)) Variants.none c none) E (k0_part287 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  refine branch4 c i arg2 harg2 arg3 harg3 arg4 harg4 arg5 harg5 arg6 harg6 arg7 harg7 arg8 harg8 arg9 harg9 arg10 harg10 arg11 harg11 arg12 harg12 arg13 harg13 arg14 harg14 arg15 harg15 arg16 harg16 f5 f6 f8 f12 f13 f14 f15 f16 E K _ fun L v hL hv => ?_
  iintro ⟨H5, H6, H8, H12, H13, H14, H15, H16, HR⟩
  iapply HR $$ %L %v %hL %hv
  isplitl [H5]
  · iexact H5
  isplitl [H6]
  · iexact H6
  isplitl [H8]
  · iexact H8
  isplitl [H12]
  · iexact H12
  isplitl [H13]
  · iexact H13
  isplitl [H14]
  · iexact H14
  isplitl [H15]
  · iexact H15
  iexact H16

end Cert.KernelIdeal.Gen

end
-- ==== Proof.Body4.lean ====
/-
  A point of block 4 of tokens, run from its start to its end.
-/
module

public import proofs.«01_k».proof.Proof.Step
public import proofs.«01_k».proof.Proof.Quantised
public import proofs.«01_k».proof.Proof.Branch4
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Cert.KernelIdeal.Attn Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- A point of block 4 of tokens: it quantises its queries and attends to the first 640 keys of its batch. -/
theorem body4 (c : Dev nD) (i : grid0.Coords) (arg2 : Memref sig .tc .vmem S1x128x3584 .bf16) (harg2 : arg2.IsWhole) (arg3 : Memref sig .tc .vmem S1x1024x128 .bf16) (harg3 : arg3.IsWhole) (arg4 : Memref sig .tc .vmem S1x1024x128 .bf16) (harg4 : arg4.IsWhole) (arg5 : Memref sig .tc .vmem S1x128x3584 .bf16) (harg5 : arg5.IsWhole) (arg6 : Memref sig .tc .vmem S1x28x128x128 .fp8e4m3) (harg6 : arg6.IsWhole) (arg7 : Memref sig .tc .vmem S28x8x2x128 .f32) (harg7 : arg7.IsWhole) (arg8 : Memref sig .tc .vmem S1x1024x128 .fp8e4m3) (harg8 : arg8.IsWhole) (arg9 : Memref sig .tc .vmem S2x1024 .f32) (harg9 : arg9.IsWhole) (arg10 : Memref sig .tc .vmem S1x1024x128 .fp8e4m3) (harg10 : arg10.IsWhole) (arg11 : Memref sig .tc .vmem S2x128 .f32) (harg11 : arg11.IsWhole) (arg12 : Memref sig .tc .vmem S128x128 .f32) (harg12 : arg12.IsWhole) (arg13 : Memref sig .tc .vmem S1024x128 .f32) (harg13 : arg13.IsWhole) (arg14 : Memref sig .tc .vmem S8x128 .f32) (harg14 : arg14.IsWhole) (arg15 : Memref sig .tc .vmem S128x1024 .fp8e4m3) (harg15 : arg15.IsWhole) (arg16 : Memref sig .tc .vmem S128x128 .f32) (harg16 : arg16.IsWhole)
    (hc0 : ¬ k0_cond1 i = 1#1) (hc1 : ¬ k0_cond2 i = 1#1) (hc2 : ¬ k0_cond3 i = 1#1) (hc3 : ¬ k0_cond4 i = 1#1) (hc4 : ¬ k0_cond5 i = 1#1) (hc5 : k0_cond6 i = 1#1) (hc6 : ¬ k0_cond7 i = 1#1) (hc7 : ¬ k0_cond8 i = 1#1) (hc8 : ¬ k0_cond9 i = 1#1)
    (x2 : FVec F S1x128x3584 .bf16) (y7 : FVec F S28x8x2x128 .f32) (KC : FVec F S1x1024x128 .fp8e4m3)
    (KSB : FVec F S1024x128 .f32) (KM : FVec F S8x128 .f32) (VT : FVec F S128x1024 .fp8e4m3) (VSB : FVec F S128x128 .f32)
    (E : Set ℕ) (K : PUnit → sProp 𝕄) :
    iprop(owns (c : Thread nD τ) arg2 fullShare x2 ∗ (∃ d, owns (c : Thread nD τ) arg5 fullShare d) ∗ (∃ d, owns (c : Thread nD τ) arg6 fullShare d) ∗ owns (c : Thread nD τ) arg7 fullShare y7 ∗ owns (c : Thread nD τ) arg8 fullShare KC ∗ (∃ d, owns (c : Thread nD τ) arg12 fullShare d) ∗ owns (c : Thread nD τ) arg13 fullShare KSB ∗ owns (c : Thread nD τ) arg14 fullShare KM ∗ owns (c : Thread nD τ) arg15 fullShare VT ∗ owns (c : Thread nD τ) arg16 fullShare VSB ∗ ((owns (c : Thread nD τ) arg2 fullShare x2 ∗ owns (c : Thread nD τ) arg5 fullShare (attended (codesOut x2) (heldScales x2) KC KSB KM VT VSB 4) ∗ owns (c : Thread nD τ) arg6 fullShare (codesOut x2) ∗ owns (c : Thread nD τ) arg7 fullShare (scalesStep i x2 y7) ∗ owns (c : Thread nD τ) arg8 fullShare KC ∗ (∃ d, owns (c : Thread nD τ) arg12 fullShare d) ∗ owns (c : Thread nD τ) arg13 fullShare KSB ∗ owns (c : Thread nD τ) arg14 fullShare KM ∗ owns (c : Thread nD τ) arg15 fullShare VT ∗ owns (c : Thread nD τ) arg16 fullShare VSB) -∗ K ⟨⟩)) ⊢
      wp frame (wpE (defs₀ (F := F)) Variants.none c none) E (cc0_mqa_prefill_e4m3 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_mqa_prefill_e4m3_eq_skeleton]; unfold cc0_mqa_prefill_e4m3_skel
  unfold owns
  iintro ⟨⟨%f2, %h2, H2⟩, ⟨%d5, %f5, -, H5⟩, ⟨%d6, %f6, -, H6⟩, ⟨%f7, %h7, H7⟩, ⟨%f8, %h8, H8⟩, ⟨%d12, %f12, -, H12⟩, ⟨%f13, %h13, H13⟩, ⟨%f14, %h14, H14⟩, ⟨%f15, %h15, H15⟩, ⟨%f16, %h16, H16⟩, HK⟩
  subst h2 h7 h8 h13 h14 h15 h16
  set_option sl_exec.stopBefore "k0_part504" in sl_exec (disch := first | sl_exact hc0 | sl_exact hc1 | sl_exact hc2 | sl_exact hc3 | sl_exact hc4 | sl_exact hc5 | sl_exact hc6 | sl_exact hc7 | sl_exact hc8)
  rw [wp_bind]
  iapply (quantised_spec c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1)
  isplitl [H2]
  · iexact H2
  isplitl [H6]
  · iexact H6
  isplitl [H7]
  · iexact H7
  isplitl [H12]
  · iexact H12
  iintro %L6 %L7 %L12 %v %hL6 %hL7 %hL12 ⟨H2, H6, H7, H12⟩
  subst hL6 hL7 hL12
  set_option sl_exec.stopBefore "k0_part287" in sl_exec (disch := first | sl_exact hc0 | sl_exact hc1 | sl_exact hc2 | sl_exact hc3 | sl_exact hc4 | sl_exact hc5 | sl_exact hc6 | sl_exact hc7 | sl_exact hc8)
  rw [wp_bind]
  iapply (branch4_spec c i arg2 harg2 arg3 harg3 arg4 harg4 arg5 harg5 arg6 harg6 arg7 harg7 arg8 harg8 arg9 harg9 arg10 harg10 arg11 harg11 arg12 harg12 arg13 harg13 arg14 harg14 arg15 harg15 arg16 harg16)
  isplitl [H5]
  · iexact H5
  isplitl [H6]
  · iexact H6
  isplitl [H8]
  · iexact H8
  isplitl [H12]
  · iexact H12
  isplitl [H13]
  · iexact H13
  isplitl [H14]
  · iexact H14
  isplitl [H15]
  · iexact H15
  isplitl [H16]
  · iexact H16
  iintro %L %w %hL %hw ⟨H5, H6, H8, H12, H13, H14, H15, H16⟩
  rw [read_codeStores, read_whole] at hL
  rw [read_codeStores, read_whole] at hw
  subst hL hw
  sl_exec (disch := first | sl_exact hc0 | sl_exact hc1 | sl_exact hc2 | sl_exact hc3 | sl_exact hc4 | sl_exact hc5 | sl_exact hc6 | sl_exact hc7 | sl_exact hc8)
  sl_step
  iapply HK
  isplitl [H2]
  · iexists _; isplitr; swap; · iexact H2
    ipureintro; rfl
  isplitl [H5]
  · iexists _; isplitr; swap; · iexact H5
    ipureintro; exact read_wideStores _ _ _ _
  isplitl [H6]
  · iexists _; isplitr; swap; · iexact H6
    ipureintro; exact read_codeStores _ _ _
  isplitl [H7]
  · iexists _; isplitr; swap; · iexact H7
    ipureintro; exact read_scaleStores _ _ _ _
  isplitl [H8]
  · iexists _; isplitr; swap; · iexact H8
    ipureintro; rfl
  isplitl [H12]
  · iexists _, _; isplitr; swap; · iexact H12
    ipureintro; rfl
  isplitl [H13]
  · iexists _; isplitr; swap; · iexact H13
    ipureintro; rfl
  isplitl [H14]
  · iexists _; isplitr; swap; · iexact H14
    ipureintro; rfl
  isplitl [H15]
  · iexists _; isplitr; swap; · iexact H15
    ipureintro; rfl
  iexists _; isplitr; swap; · iexact H16
  ipureintro; rfl

end Cert.KernelIdeal.Gen

end
-- ==== Proof.Branch5.lean ====
/-
  The branch of a point whose block of tokens has number 5: 768 keys.
-/
module

public import proofs.«01_k».proof.Proof.Store
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Cert.KernelIdeal.Attn Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- The branch of blocks 5: all heads' stores but the last pair's. -/
theorem branch5 (c : Dev nD) (i : grid0.Coords) (arg2 : Memref sig .tc .vmem S1x128x3584 .bf16) (harg2 : arg2.IsWhole) (arg3 : Memref sig .tc .vmem S1x1024x128 .bf16) (harg3 : arg3.IsWhole) (arg4 : Memref sig .tc .vmem S1x1024x128 .bf16) (harg4 : arg4.IsWhole) (arg5 : Memref sig .tc .vmem S1x128x3584 .bf16) (harg5 : arg5.IsWhole) (arg6 : Memref sig .tc .vmem S1x28x128x128 .fp8e4m3) (harg6 : arg6.IsWhole) (arg7 : Memref sig .tc .vmem S28x8x2x128 .f32) (harg7 : arg7.IsWhole) (arg8 : Memref sig .tc .vmem S1x1024x128 .fp8e4m3) (harg8 : arg8.IsWhole) (arg9 : Memref sig .tc .vmem S2x1024 .f32) (harg9 : arg9.IsWhole) (arg10 : Memref sig .tc .vmem S1x1024x128 .fp8e4m3) (harg10 : arg10.IsWhole) (arg11 : Memref sig .tc .vmem S2x128 .f32) (harg11 : arg11.IsWhole) (arg12 : Memref sig .tc .vmem S128x128 .f32) (harg12 : arg12.IsWhole) (arg13 : Memref sig .tc .vmem S1024x128 .f32) (harg13 : arg13.IsWhole) (arg14 : Memref sig .tc .vmem S8x128 .f32) (harg14 : arg14.IsWhole) (arg15 : Memref sig .tc .vmem S128x1024 .fp8e4m3) (harg15 : arg15.IsWhole) (arg16 : Memref sig .tc .vmem S128x128 .f32) (harg16 : arg16.IsWhole)
    (f5 : arg5.view.ty.Contents (Elt F)) (f6 : arg6.view.ty.Contents (Elt F)) (f8 : arg8.view.ty.Contents (Elt F)) (f12 : arg12.view.ty.Contents (Elt F)) (f13 : arg13.view.ty.Contents (Elt F)) (f14 : arg14.view.ty.Contents (Elt F)) (f15 : arg15.view.ty.Contents (Elt F)) (f16 : arg16.view.ty.Contents (Elt F)) (E : Set ℕ) (K : (Σ' (v1886 : Vec F S128x768 .fp8e4m3) (v4138 : FVec F S1x128 .f32) (v4145 : FVec F S768x128 .fp8e4m3) (v4209 : FVec F S1x128 .f32), FVec F S768x128 .fp8e4m3) → sProp 𝕄) (R : sProp 𝕄)
    (hK : ∀ L v, L = (wideStores (blockOut0 fits768 mask5 (arg6.view.read (Elt F) f6) (arg12.view.read (Elt F) f12) (arg8.view.read (Elt F) f8) (arg13.view.read (Elt F) f13) (arg14.view.read (Elt F) f14) (arg15.view.read (Elt F) f15) (arg16.view.read (Elt F) f16)) (blockOut1 fits768 mask5 (arg6.view.read (Elt F) f6) (arg12.view.read (Elt F) f12) (arg8.view.read (Elt F) f8) (arg13.view.read (Elt F) f13) (arg14.view.read (Elt F) f14) (arg15.view.read (Elt F) f15) (arg16.view.read (Elt F) f16))).drop 2 → v = ⟨values fits768 (arg15.view.read (Elt F) f15), probScale fits768 (blockExps0 fits768 mask5 (arg6.view.read (Elt F) f6) (arg12.view.read (Elt F) f12) (arg8.view.read (Elt F) f8) (arg13.view.read (Elt F) f13) (arg14.view.read (Elt F) f14) 13), probCodes fits768 (blockExps0 fits768 mask5 (arg6.view.read (Elt F) f6) (arg12.view.read (Elt F) f12) (arg8.view.read (Elt F) f8) (arg13.view.read (Elt F) f13) (arg14.view.read (Elt F) f14) 13), probScale fits768 (blockExps1 fits768 mask5 (arg6.view.read (Elt F) f6) (arg12.view.read (Elt F) f12) (arg8.view.read (Elt F) f8) (arg13.view.read (Elt F) f13) (arg14.view.read (Elt F) f14) 13), probCodes fits768 (blockExps1 fits768 mask5 (arg6.view.read (Elt F) f6) (arg12.view.read (Elt F) f12) (arg8.view.read (Elt F) f8) (arg13.view.read (Elt F) f13) (arg14.view.read (Elt F) f14) 13)⟩ →
      (iprop((View.loc (c : Thread nD τ) arg5.view ↦[arg5.view.set]{fullShare} arg5.view.writes (Elt F) f5 L) ∗ (View.loc (c : Thread nD τ) arg6.view ↦[arg6.view.set]{fullShare} f6) ∗ (View.loc (c : Thread nD τ) arg8.view ↦[arg8.view.set]{fullShare} f8) ∗ (View.loc (c : Thread nD τ) arg12.view ↦[arg12.view.set]{fullShare} f12) ∗ (View.loc (c : Thread nD τ) arg13.view ↦[arg13.view.set]{fullShare} f13) ∗ (View.loc (c : Thread nD τ) arg14.view ↦[arg14.view.set]{fullShare} f14) ∗ (View.loc (c : Thread nD τ) arg15.view ↦[arg15.view.set]{fullShare} f15) ∗ (View.loc (c : Thread nD τ) arg16.view ↦[arg16.view.set]{fullShare} f16) ∗ R) ⊢ K v)) :
    iprop((View.loc (c : Thread nD τ) arg5.view ↦[arg5.view.set]{fullShare} f5) ∗ (View.loc (c : Thread nD τ) arg6.view ↦[arg6.view.set]{fullShare} f6) ∗ (View.loc (c : Thread nD τ) arg8.view ↦[arg8.view.set]{fullShare} f8) ∗ (View.loc (c : Thread nD τ) arg12.view ↦[arg12.view.set]{fullShare} f12) ∗ (View.loc (c : Thread nD τ) arg13.view ↦[arg13.view.set]{fullShare} f13) ∗ (View.loc (c : Thread nD τ) arg14.view ↦[arg14.view.set]{fullShare} f14) ∗ (View.loc (c : Thread nD τ) arg15.view ↦[arg15.view.set]{fullShare} f15) ∗ (View.loc (c : Thread nD τ) arg16.view ↦[arg16.view.set]{fullShare} f16) ∗ R) ⊢
      wp frame (wpE (defs₀ (F := F)) Variants.none c none) E (k0_part344 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [k0_part344_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton, k0_part302_eq_skeleton, k0_part303_eq_skeleton, k0_part304_eq_skeleton, k0_part305_eq_skeleton, k0_part306_eq_skeleton, k0_part307_eq_skeleton, k0_part308_eq_skeleton, k0_part309_eq_skeleton, k0_part310_eq_skeleton, k0_part311_eq_skeleton, k0_part312_eq_skeleton, k0_part313_eq_skeleton, k0_part314_eq_skeleton, k0_part315_eq_skeleton, k0_part316_eq_skeleton, k0_part317_eq_skeleton, k0_part318_eq_skeleton, k0_part319_eq_skeleton, k0_part320_eq_skeleton, k0_part321_eq_skeleton, k0_part322_eq_skeleton, k0_part323_eq_skeleton, k0_part324_eq_skeleton, k0_part325_eq_skeleton, k0_part326_eq_skeleton, k0_part327_eq_skeleton, k0_part328_eq_skeleton, k0_part329_eq_skeleton, k0_part330_eq_skeleton, k0_part331_eq_skeleton, k0_part332_eq_skeleton, k0_part333_eq_skeleton, k0_part334_eq_skeleton, k0_part335_eq_skeleton, k0_part336_eq_skeleton, k0_part337_eq_skeleton, k0_part338_eq_skeleton, k0_part339_eq_skeleton, k0_part340_eq_skeleton, k0_part341_eq_skeleton, k0_part342_eq_skeleton, k0_part343_eq_skeleton]
  iintro ⟨H5, H6, H8, H12, H13, H14, H15, H16, HR⟩
  sl_exec
  sl_step
  iapply hK
  rotate_left 2
  isplitl [H5]
  · iexact H5
  isplitl [H6]
  · iexact H6
  isplitl [H8]
  · iexact H8
  isplitl [H12]
  · iexact H12
  isplitl [H13]
  · iexact H13
  isplitl [H14]
  · iexact H14
  isplitl [H15]
  · iexact H15
  isplitl [H16]
  · iexact H16
  · iexact HR
  · rfl
  · rfl

/-- The same, for a continuation inside the logic. -/
theorem branch5_spec (c : Dev nD) (i : grid0.Coords) (arg2 : Memref sig .tc .vmem S1x128x3584 .bf16) (harg2 : arg2.IsWhole) (arg3 : Memref sig .tc .vmem S1x1024x128 .bf16) (harg3 : arg3.IsWhole) (arg4 : Memref sig .tc .vmem S1x1024x128 .bf16) (harg4 : arg4.IsWhole) (arg5 : Memref sig .tc .vmem S1x128x3584 .bf16) (harg5 : arg5.IsWhole) (arg6 : Memref sig .tc .vmem S1x28x128x128 .fp8e4m3) (harg6 : arg6.IsWhole) (arg7 : Memref sig .tc .vmem S28x8x2x128 .f32) (harg7 : arg7.IsWhole) (arg8 : Memref sig .tc .vmem S1x1024x128 .fp8e4m3) (harg8 : arg8.IsWhole) (arg9 : Memref sig .tc .vmem S2x1024 .f32) (harg9 : arg9.IsWhole) (arg10 : Memref sig .tc .vmem S1x1024x128 .fp8e4m3) (harg10 : arg10.IsWhole) (arg11 : Memref sig .tc .vmem S2x128 .f32) (harg11 : arg11.IsWhole) (arg12 : Memref sig .tc .vmem S128x128 .f32) (harg12 : arg12.IsWhole) (arg13 : Memref sig .tc .vmem S1024x128 .f32) (harg13 : arg13.IsWhole) (arg14 : Memref sig .tc .vmem S8x128 .f32) (harg14 : arg14.IsWhole) (arg15 : Memref sig .tc .vmem S128x1024 .fp8e4m3) (harg15 : arg15.IsWhole) (arg16 : Memref sig .tc .vmem S128x128 .f32) (harg16 : arg16.IsWhole)
    (f5 : arg5.view.ty.Contents (Elt F)) (f6 : arg6.view.ty.Contents (Elt F)) (f8 : arg8.view.ty.Contents (Elt F)) (f12 : arg12.view.ty.Contents (Elt F)) (f13 : arg13.view.ty.Contents (Elt F)) (f14 : arg14.view.ty.Contents (Elt F)) (f15 : arg15.view.ty.Contents (Elt F)) (f16 : arg16.view.ty.Contents (Elt F)) (E : Set ℕ) (K : (Σ' (v1886 : Vec F S128x768 .fp8e4m3) (v4138 : FVec F S1x128 .f32) (v4145 : FVec F S768x128 .fp8e4m3) (v4209 : FVec F S1x128 .f32), FVec F S768x128 .fp8e4m3) → sProp 𝕄) :
    iprop((View.loc (c : Thread nD τ) arg5.view ↦[arg5.view.set]{fullShare} f5) ∗ (View.loc (c : Thread nD τ) arg6.view ↦[arg6.view.set]{fullShare} f6) ∗ (View.loc (c : Thread nD τ) arg8.view ↦[arg8.view.set]{fullShare} f8) ∗ (View.loc (c : Thread nD τ) arg12.view ↦[arg12.view.set]{fullShare} f12) ∗ (View.loc (c : Thread nD τ) arg13.view ↦[arg13.view.set]{fullShare} f13) ∗ (View.loc (c : Thread nD τ) arg14.view ↦[arg14.view.set]{fullShare} f14) ∗ (View.loc (c : Thread nD τ) arg15.view ↦[arg15.view.set]{fullShare} f15) ∗ (View.loc (c : Thread nD τ) arg16.view ↦[arg16.view.set]{fullShare} f16) ∗ (∀ L v, ⌜L = (wideStores (blockOut0 fits768 mask5 (arg6.view.read (Elt F) f6) (arg12.view.read (Elt F) f12) (arg8.view.read (Elt F) f8) (arg13.view.read (Elt F) f13) (arg14.view.read (Elt F) f14) (arg15.view.read (Elt F) f15) (arg16.view.read (Elt F) f16)) (blockOut1 fits768 mask5 (arg6.view.read (Elt F) f6) (arg12.view.read (Elt F) f12) (arg8.view.read (Elt F) f8) (arg13.view.read (Elt F) f13) (arg14.view.read (Elt F) f14) (arg15.view.read (Elt F) f15) (arg16.view.read (Elt F) f16))).drop 2⌝ -∗ ⌜v = ⟨values fits768 (arg15.view.read (Elt F) f15), probScale fits768 (blockExps0 fits768 mask5 (arg6.view.read (Elt F) f6) (arg12.view.read (Elt F) f12) (arg8.view.read (Elt F) f8) (arg13.view.read (Elt F) f13) (arg14.view.read (Elt F) f14) 13), probCodes fits768 (blockExps0 fits768 mask5 (arg6.view.read (Elt F) f6) (arg12.view.read (Elt F) f12) (arg8.view.read (Elt F) f8) (arg13.view.read (Elt F) f13) (arg14.view.read (Elt F) f14) 13), probScale fits768 (blockExps1 fits768 mask5 (arg6.view.read (Elt F) f6) (arg12.view.read (Elt F) f12) (arg8.view.read (Elt F) f8) (arg13.view.read (Elt F) f13) (arg14.view.read (Elt F) f14) 13), probCodes fits768 (blockExps1 fits768 mask5 (arg6.view.read (Elt F) f6) (arg12.view.read (Elt F) f12) (arg8.view.read (Elt F) f8) (arg13.view.read (Elt F) f13) (arg14.view.read (Elt F) f14) 13)⟩⌝ -∗
      ((View.loc (c : Thread nD τ) arg5.view ↦[arg5.view.set]{fullShare} arg5.view.writes (Elt F) f5 L) ∗ (View.loc (c : Thread nD τ) arg6.view ↦[arg6.view.set]{fullShare} f6) ∗ (View.loc (c : Thread nD τ) arg8.view ↦[arg8.view.set]{fullShare} f8) ∗ (View.loc (c : Thread nD τ) arg12.view ↦[arg12.view.set]{fullShare} f12) ∗ (View.loc (c : Thread nD τ) arg13.view ↦[arg13.view.set]{fullShare} f13) ∗ (View.loc (c : Thread nD τ) arg14.view ↦[arg14.view.set]{fullShare} f14) ∗ (View.loc (c : Thread nD τ) arg15.view ↦[arg15.view.set]{fullShare} f15) ∗ (View.loc (c : Thread nD τ) arg16.view ↦[arg16.view.set]{fullShare} f16)) -∗ K v)) ⊢
      wp frame (wpE (defs₀ (F := F)) Variants.none c none) E (k0_part344 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  refine branch5 c i arg2 harg2 arg3 harg3 arg4 harg4 arg5 harg5 arg6 harg6 arg7 harg7 arg8 harg8 arg9 harg9 arg10 harg10 arg11 harg11 arg12 harg12 arg13 harg13 arg14 harg14 arg15 harg15 arg16 harg16 f5 f6 f8 f12 f13 f14 f15 f16 E K _ fun L v hL hv => ?_
  iintro ⟨H5, H6, H8, H12, H13, H14, H15, H16, HR⟩
  iapply HR $$ %L %v %hL %hv
  isplitl [H5]
  · iexact H5
  isplitl [H6]
  · iexact H6
  isplitl [H8]
  · iexact H8
  isplitl [H12]
  · iexact H12
  isplitl [H13]
  · iexact H13
  isplitl [H14]
  · iexact H14
  isplitl [H15]
  · iexact H15
  iexact H16

end Cert.KernelIdeal.Gen

end
-- ==== Proof.Body5.lean ====
/-
  A point of block 5 of tokens, run from its start to its end.
-/
module

public import proofs.«01_k».proof.Proof.Step
public import proofs.«01_k».proof.Proof.Quantised
public import proofs.«01_k».proof.Proof.Branch5
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Cert.KernelIdeal.Attn Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- A point of block 5 of tokens: it quantises its queries and attends to the first 768 keys of its batch. -/
theorem body5 (c : Dev nD) (i : grid0.Coords) (arg2 : Memref sig .tc .vmem S1x128x3584 .bf16) (harg2 : arg2.IsWhole) (arg3 : Memref sig .tc .vmem S1x1024x128 .bf16) (harg3 : arg3.IsWhole) (arg4 : Memref sig .tc .vmem S1x1024x128 .bf16) (harg4 : arg4.IsWhole) (arg5 : Memref sig .tc .vmem S1x128x3584 .bf16) (harg5 : arg5.IsWhole) (arg6 : Memref sig .tc .vmem S1x28x128x128 .fp8e4m3) (harg6 : arg6.IsWhole) (arg7 : Memref sig .tc .vmem S28x8x2x128 .f32) (harg7 : arg7.IsWhole) (arg8 : Memref sig .tc .vmem S1x1024x128 .fp8e4m3) (harg8 : arg8.IsWhole) (arg9 : Memref sig .tc .vmem S2x1024 .f32) (harg9 : arg9.IsWhole) (arg10 : Memref sig .tc .vmem S1x1024x128 .fp8e4m3) (harg10 : arg10.IsWhole) (arg11 : Memref sig .tc .vmem S2x128 .f32) (harg11 : arg11.IsWhole) (arg12 : Memref sig .tc .vmem S128x128 .f32) (harg12 : arg12.IsWhole) (arg13 : Memref sig .tc .vmem S1024x128 .f32) (harg13 : arg13.IsWhole) (arg14 : Memref sig .tc .vmem S8x128 .f32) (harg14 : arg14.IsWhole) (arg15 : Memref sig .tc .vmem S128x1024 .fp8e4m3) (harg15 : arg15.IsWhole) (arg16 : Memref sig .tc .vmem S128x128 .f32) (harg16 : arg16.IsWhole)
    (hc0 : ¬ k0_cond1 i = 1#1) (hc1 : ¬ k0_cond2 i = 1#1) (hc2 : ¬ k0_cond3 i = 1#1) (hc3 : ¬ k0_cond4 i = 1#1) (hc4 : ¬ k0_cond5 i = 1#1) (hc5 : ¬ k0_cond6 i = 1#1) (hc6 : k0_cond7 i = 1#1) (hc7 : ¬ k0_cond8 i = 1#1) (hc8 : ¬ k0_cond9 i = 1#1)
    (x2 : FVec F S1x128x3584 .bf16) (y7 : FVec F S28x8x2x128 .f32) (KC : FVec F S1x1024x128 .fp8e4m3)
    (KSB : FVec F S1024x128 .f32) (KM : FVec F S8x128 .f32) (VT : FVec F S128x1024 .fp8e4m3) (VSB : FVec F S128x128 .f32)
    (E : Set ℕ) (K : PUnit → sProp 𝕄) :
    iprop(owns (c : Thread nD τ) arg2 fullShare x2 ∗ (∃ d, owns (c : Thread nD τ) arg5 fullShare d) ∗ (∃ d, owns (c : Thread nD τ) arg6 fullShare d) ∗ owns (c : Thread nD τ) arg7 fullShare y7 ∗ owns (c : Thread nD τ) arg8 fullShare KC ∗ (∃ d, owns (c : Thread nD τ) arg12 fullShare d) ∗ owns (c : Thread nD τ) arg13 fullShare KSB ∗ owns (c : Thread nD τ) arg14 fullShare KM ∗ owns (c : Thread nD τ) arg15 fullShare VT ∗ owns (c : Thread nD τ) arg16 fullShare VSB ∗ ((owns (c : Thread nD τ) arg2 fullShare x2 ∗ owns (c : Thread nD τ) arg5 fullShare (attended (codesOut x2) (heldScales x2) KC KSB KM VT VSB 5) ∗ owns (c : Thread nD τ) arg6 fullShare (codesOut x2) ∗ owns (c : Thread nD τ) arg7 fullShare (scalesStep i x2 y7) ∗ owns (c : Thread nD τ) arg8 fullShare KC ∗ (∃ d, owns (c : Thread nD τ) arg12 fullShare d) ∗ owns (c : Thread nD τ) arg13 fullShare KSB ∗ owns (c : Thread nD τ) arg14 fullShare KM ∗ owns (c : Thread nD τ) arg15 fullShare VT ∗ owns (c : Thread nD τ) arg16 fullShare VSB) -∗ K ⟨⟩)) ⊢
      wp frame (wpE (defs₀ (F := F)) Variants.none c none) E (cc0_mqa_prefill_e4m3 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_mqa_prefill_e4m3_eq_skeleton]; unfold cc0_mqa_prefill_e4m3_skel
  unfold owns
  iintro ⟨⟨%f2, %h2, H2⟩, ⟨%d5, %f5, -, H5⟩, ⟨%d6, %f6, -, H6⟩, ⟨%f7, %h7, H7⟩, ⟨%f8, %h8, H8⟩, ⟨%d12, %f12, -, H12⟩, ⟨%f13, %h13, H13⟩, ⟨%f14, %h14, H14⟩, ⟨%f15, %h15, H15⟩, ⟨%f16, %h16, H16⟩, HK⟩
  subst h2 h7 h8 h13 h14 h15 h16
  set_option sl_exec.stopBefore "k0_part504" in sl_exec (disch := first | sl_exact hc0 | sl_exact hc1 | sl_exact hc2 | sl_exact hc3 | sl_exact hc4 | sl_exact hc5 | sl_exact hc6 | sl_exact hc7 | sl_exact hc8)
  rw [wp_bind]
  iapply (quantised_spec c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1)
  isplitl [H2]
  · iexact H2
  isplitl [H6]
  · iexact H6
  isplitl [H7]
  · iexact H7
  isplitl [H12]
  · iexact H12
  iintro %L6 %L7 %L12 %v %hL6 %hL7 %hL12 ⟨H2, H6, H7, H12⟩
  subst hL6 hL7 hL12
  set_option sl_exec.stopBefore "k0_part344" in sl_exec (disch := first | sl_exact hc0 | sl_exact hc1 | sl_exact hc2 | sl_exact hc3 | sl_exact hc4 | sl_exact hc5 | sl_exact hc6 | sl_exact hc7 | sl_exact hc8)
  rw [wp_bind]
  iapply (branch5_spec c i arg2 harg2 arg3 harg3 arg4 harg4 arg5 harg5 arg6 harg6 arg7 harg7 arg8 harg8 arg9 harg9 arg10 harg10 arg11 harg11 arg12 harg12 arg13 harg13 arg14 harg14 arg15 harg15 arg16 harg16)
  isplitl [H5]
  · iexact H5
  isplitl [H6]
  · iexact H6
  isplitl [H8]
  · iexact H8
  isplitl [H12]
  · iexact H12
  isplitl [H13]
  · iexact H13
  isplitl [H14]
  · iexact H14
  isplitl [H15]
  · iexact H15
  isplitl [H16]
  · iexact H16
  iintro %L %w %hL %hw ⟨H5, H6, H8, H12, H13, H14, H15, H16⟩
  rw [read_codeStores, read_whole] at hL
  rw [read_codeStores, read_whole] at hw
  subst hL hw
  sl_exec (disch := first | sl_exact hc0 | sl_exact hc1 | sl_exact hc2 | sl_exact hc3 | sl_exact hc4 | sl_exact hc5 | sl_exact hc6 | sl_exact hc7 | sl_exact hc8)
  sl_step
  iapply HK
  isplitl [H2]
  · iexists _; isplitr; swap; · iexact H2
    ipureintro; rfl
  isplitl [H5]
  · iexists _; isplitr; swap; · iexact H5
    ipureintro; exact read_wideStores _ _ _ _
  isplitl [H6]
  · iexists _; isplitr; swap; · iexact H6
    ipureintro; exact read_codeStores _ _ _
  isplitl [H7]
  · iexists _; isplitr; swap; · iexact H7
    ipureintro; exact read_scaleStores _ _ _ _
  isplitl [H8]
  · iexists _; isplitr; swap; · iexact H8
    ipureintro; rfl
  isplitl [H12]
  · iexists _, _; isplitr; swap; · iexact H12
    ipureintro; rfl
  isplitl [H13]
  · iexists _; isplitr; swap; · iexact H13
    ipureintro; rfl
  isplitl [H14]
  · iexists _; isplitr; swap; · iexact H14
    ipureintro; rfl
  isplitl [H15]
  · iexists _; isplitr; swap; · iexact H15
    ipureintro; rfl
  iexists _; isplitr; swap; · iexact H16
  ipureintro; rfl

end Cert.KernelIdeal.Gen

end
-- ==== Proof.Branch6.lean ====
/-
  The branch of a point whose block of tokens has number 6: 896 keys.
-/
module

public import proofs.«01_k».proof.Proof.Store
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Cert.KernelIdeal.Attn Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- The branch of blocks 6: all heads' stores but the last pair's. -/
theorem branch6 (c : Dev nD) (i : grid0.Coords) (arg2 : Memref sig .tc .vmem S1x128x3584 .bf16) (harg2 : arg2.IsWhole) (arg3 : Memref sig .tc .vmem S1x1024x128 .bf16) (harg3 : arg3.IsWhole) (arg4 : Memref sig .tc .vmem S1x1024x128 .bf16) (harg4 : arg4.IsWhole) (arg5 : Memref sig .tc .vmem S1x128x3584 .bf16) (harg5 : arg5.IsWhole) (arg6 : Memref sig .tc .vmem S1x28x128x128 .fp8e4m3) (harg6 : arg6.IsWhole) (arg7 : Memref sig .tc .vmem S28x8x2x128 .f32) (harg7 : arg7.IsWhole) (arg8 : Memref sig .tc .vmem S1x1024x128 .fp8e4m3) (harg8 : arg8.IsWhole) (arg9 : Memref sig .tc .vmem S2x1024 .f32) (harg9 : arg9.IsWhole) (arg10 : Memref sig .tc .vmem S1x1024x128 .fp8e4m3) (harg10 : arg10.IsWhole) (arg11 : Memref sig .tc .vmem S2x128 .f32) (harg11 : arg11.IsWhole) (arg12 : Memref sig .tc .vmem S128x128 .f32) (harg12 : arg12.IsWhole) (arg13 : Memref sig .tc .vmem S1024x128 .f32) (harg13 : arg13.IsWhole) (arg14 : Memref sig .tc .vmem S8x128 .f32) (harg14 : arg14.IsWhole) (arg15 : Memref sig .tc .vmem S128x1024 .fp8e4m3) (harg15 : arg15.IsWhole) (arg16 : Memref sig .tc .vmem S128x128 .f32) (harg16 : arg16.IsWhole)
    (f5 : arg5.view.ty.Contents (Elt F)) (f6 : arg6.view.ty.Contents (Elt F)) (f8 : arg8.view.ty.Contents (Elt F)) (f12 : arg12.view.ty.Contents (Elt F)) (f13 : arg13.view.ty.Contents (Elt F)) (f14 : arg14.view.ty.Contents (Elt F)) (f15 : arg15.view.ty.Contents (Elt F)) (f16 : arg16.view.ty.Contents (Elt F)) (E : Set ℕ) (K : (Σ' (v1886 : Vec F S128x896 .fp8e4m3) (v4138 : FVec F S1x128 .f32) (v4145 : FVec F S896x128 .fp8e4m3) (v4209 : FVec F S1x128 .f32), FVec F S896x128 .fp8e4m3) → sProp 𝕄) (R : sProp 𝕄)
    (hK : ∀ L v, L = (wideStores (blockOut0 fits896 mask6 (arg6.view.read (Elt F) f6) (arg12.view.read (Elt F) f12) (arg8.view.read (Elt F) f8) (arg13.view.read (Elt F) f13) (arg14.view.read (Elt F) f14) (arg15.view.read (Elt F) f15) (arg16.view.read (Elt F) f16)) (blockOut1 fits896 mask6 (arg6.view.read (Elt F) f6) (arg12.view.read (Elt F) f12) (arg8.view.read (Elt F) f8) (arg13.view.read (Elt F) f13) (arg14.view.read (Elt F) f14) (arg15.view.read (Elt F) f15) (arg16.view.read (Elt F) f16))).drop 2 → v = ⟨values fits896 (arg15.view.read (Elt F) f15), probScale fits896 (blockExps0 fits896 mask6 (arg6.view.read (Elt F) f6) (arg12.view.read (Elt F) f12) (arg8.view.read (Elt F) f8) (arg13.view.read (Elt F) f13) (arg14.view.read (Elt F) f14) 13), probCodes fits896 (blockExps0 fits896 mask6 (arg6.view.read (Elt F) f6) (arg12.view.read (Elt F) f12) (arg8.view.read (Elt F) f8) (arg13.view.read (Elt F) f13) (arg14.view.read (Elt F) f14) 13), probScale fits896 (blockExps1 fits896 mask6 (arg6.view.read (Elt F) f6) (arg12.view.read (Elt F) f12) (arg8.view.read (Elt F) f8) (arg13.view.read (Elt F) f13) (arg14.view.read (Elt F) f14) 13), probCodes fits896 (blockExps1 fits896 mask6 (arg6.view.read (Elt F) f6) (arg12.view.read (Elt F) f12) (arg8.view.read (Elt F) f8) (arg13.view.read (Elt F) f13) (arg14.view.read (Elt F) f14) 13)⟩ →
      (iprop((View.loc (c : Thread nD τ) arg5.view ↦[arg5.view.set]{fullShare} arg5.view.writes (Elt F) f5 L) ∗ (View.loc (c : Thread nD τ) arg6.view ↦[arg6.view.set]{fullShare} f6) ∗ (View.loc (c : Thread nD τ) arg8.view ↦[arg8.view.set]{fullShare} f8) ∗ (View.loc (c : Thread nD τ) arg12.view ↦[arg12.view.set]{fullShare} f12) ∗ (View.loc (c : Thread nD τ) arg13.view ↦[arg13.view.set]{fullShare} f13) ∗ (View.loc (c : Thread nD τ) arg14.view ↦[arg14.view.set]{fullShare} f14) ∗ (View.loc (c : Thread nD τ) arg15.view ↦[arg15.view.set]{fullShare} f15) ∗ (View.loc (c : Thread nD τ) arg16.view ↦[arg16.view.set]{fullShare} f16) ∗ R) ⊢ K v)) :
    iprop((View.loc (c : Thread nD τ) arg5.view ↦[arg5.view.set]{fullShare} f5) ∗ (View.loc (c : Thread nD τ) arg6.view ↦[arg6.view.set]{fullShare} f6) ∗ (View.loc (c : Thread nD τ) arg8.view ↦[arg8.view.set]{fullShare} f8) ∗ (View.loc (c : Thread nD τ) arg12.view ↦[arg12.view.set]{fullShare} f12) ∗ (View.loc (c : Thread nD τ) arg13.view ↦[arg13.view.set]{fullShare} f13) ∗ (View.loc (c : Thread nD τ) arg14.view ↦[arg14.view.set]{fullShare} f14) ∗ (View.loc (c : Thread nD τ) arg15.view ↦[arg15.view.set]{fullShare} f15) ∗ (View.loc (c : Thread nD τ) arg16.view ↦[arg16.view.set]{fullShare} f16) ∗ R) ⊢
      wp frame (wpE (defs₀ (F := F)) Variants.none c none) E (k0_part401 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [k0_part401_eq_skeleton, k0_part345_eq_skeleton, k0_part346_eq_skeleton, k0_part347_eq_skeleton, k0_part348_eq_skeleton, k0_part349_eq_skeleton, k0_part350_eq_skeleton, k0_part351_eq_skeleton, k0_part352_eq_skeleton, k0_part353_eq_skeleton, k0_part354_eq_skeleton, k0_part355_eq_skeleton, k0_part356_eq_skeleton, k0_part357_eq_skeleton, k0_part358_eq_skeleton, k0_part359_eq_skeleton, k0_part360_eq_skeleton, k0_part361_eq_skeleton, k0_part362_eq_skeleton, k0_part363_eq_skeleton, k0_part364_eq_skeleton, k0_part365_eq_skeleton, k0_part366_eq_skeleton, k0_part367_eq_skeleton, k0_part368_eq_skeleton, k0_part369_eq_skeleton, k0_part370_eq_skeleton, k0_part371_eq_skeleton, k0_part372_eq_skeleton, k0_part373_eq_skeleton, k0_part374_eq_skeleton, k0_part375_eq_skeleton, k0_part376_eq_skeleton, k0_part377_eq_skeleton, k0_part378_eq_skeleton, k0_part379_eq_skeleton, k0_part380_eq_skeleton, k0_part381_eq_skeleton, k0_part382_eq_skeleton, k0_part383_eq_skeleton, k0_part384_eq_skeleton, k0_part385_eq_skeleton, k0_part386_eq_skeleton, k0_part387_eq_skeleton, k0_part388_eq_skeleton, k0_part389_eq_skeleton, k0_part390_eq_skeleton, k0_part391_eq_skeleton, k0_part392_eq_skeleton, k0_part393_eq_skeleton, k0_part394_eq_skeleton, k0_part395_eq_skeleton, k0_part396_eq_skeleton, k0_part397_eq_skeleton, k0_part398_eq_skeleton, k0_part399_eq_skeleton, k0_part400_eq_skeleton]
  iintro ⟨H5, H6, H8, H12, H13, H14, H15, H16, HR⟩
  sl_exec
  sl_step
  iapply hK
  rotate_left 2
  isplitl [H5]
  · iexact H5
  isplitl [H6]
  · iexact H6
  isplitl [H8]
  · iexact H8
  isplitl [H12]
  · iexact H12
  isplitl [H13]
  · iexact H13
  isplitl [H14]
  · iexact H14
  isplitl [H15]
  · iexact H15
  isplitl [H16]
  · iexact H16
  · iexact HR
  · rfl
  · rfl

/-- The same, for a continuation inside the logic. -/
theorem branch6_spec (c : Dev nD) (i : grid0.Coords) (arg2 : Memref sig .tc .vmem S1x128x3584 .bf16) (harg2 : arg2.IsWhole) (arg3 : Memref sig .tc .vmem S1x1024x128 .bf16) (harg3 : arg3.IsWhole) (arg4 : Memref sig .tc .vmem S1x1024x128 .bf16) (harg4 : arg4.IsWhole) (arg5 : Memref sig .tc .vmem S1x128x3584 .bf16) (harg5 : arg5.IsWhole) (arg6 : Memref sig .tc .vmem S1x28x128x128 .fp8e4m3) (harg6 : arg6.IsWhole) (arg7 : Memref sig .tc .vmem S28x8x2x128 .f32) (harg7 : arg7.IsWhole) (arg8 : Memref sig .tc .vmem S1x1024x128 .fp8e4m3) (harg8 : arg8.IsWhole) (arg9 : Memref sig .tc .vmem S2x1024 .f32) (harg9 : arg9.IsWhole) (arg10 : Memref sig .tc .vmem S1x1024x128 .fp8e4m3) (harg10 : arg10.IsWhole) (arg11 : Memref sig .tc .vmem S2x128 .f32) (harg11 : arg11.IsWhole) (arg12 : Memref sig .tc .vmem S128x128 .f32) (harg12 : arg12.IsWhole) (arg13 : Memref sig .tc .vmem S1024x128 .f32) (harg13 : arg13.IsWhole) (arg14 : Memref sig .tc .vmem S8x128 .f32) (harg14 : arg14.IsWhole) (arg15 : Memref sig .tc .vmem S128x1024 .fp8e4m3) (harg15 : arg15.IsWhole) (arg16 : Memref sig .tc .vmem S128x128 .f32) (harg16 : arg16.IsWhole)
    (f5 : arg5.view.ty.Contents (Elt F)) (f6 : arg6.view.ty.Contents (Elt F)) (f8 : arg8.view.ty.Contents (Elt F)) (f12 : arg12.view.ty.Contents (Elt F)) (f13 : arg13.view.ty.Contents (Elt F)) (f14 : arg14.view.ty.Contents (Elt F)) (f15 : arg15.view.ty.Contents (Elt F)) (f16 : arg16.view.ty.Contents (Elt F)) (E : Set ℕ) (K : (Σ' (v1886 : Vec F S128x896 .fp8e4m3) (v4138 : FVec F S1x128 .f32) (v4145 : FVec F S896x128 .fp8e4m3) (v4209 : FVec F S1x128 .f32), FVec F S896x128 .fp8e4m3) → sProp 𝕄) :
    iprop((View.loc (c : Thread nD τ) arg5.view ↦[arg5.view.set]{fullShare} f5) ∗ (View.loc (c : Thread nD τ) arg6.view ↦[arg6.view.set]{fullShare} f6) ∗ (View.loc (c : Thread nD τ) arg8.view ↦[arg8.view.set]{fullShare} f8) ∗ (View.loc (c : Thread nD τ) arg12.view ↦[arg12.view.set]{fullShare} f12) ∗ (View.loc (c : Thread nD τ) arg13.view ↦[arg13.view.set]{fullShare} f13) ∗ (View.loc (c : Thread nD τ) arg14.view ↦[arg14.view.set]{fullShare} f14) ∗ (View.loc (c : Thread nD τ) arg15.view ↦[arg15.view.set]{fullShare} f15) ∗ (View.loc (c : Thread nD τ) arg16.view ↦[arg16.view.set]{fullShare} f16) ∗ (∀ L v, ⌜L = (wideStores (blockOut0 fits896 mask6 (arg6.view.read (Elt F) f6) (arg12.view.read (Elt F) f12) (arg8.view.read (Elt F) f8) (arg13.view.read (Elt F) f13) (arg14.view.read (Elt F) f14) (arg15.view.read (Elt F) f15) (arg16.view.read (Elt F) f16)) (blockOut1 fits896 mask6 (arg6.view.read (Elt F) f6) (arg12.view.read (Elt F) f12) (arg8.view.read (Elt F) f8) (arg13.view.read (Elt F) f13) (arg14.view.read (Elt F) f14) (arg15.view.read (Elt F) f15) (arg16.view.read (Elt F) f16))).drop 2⌝ -∗ ⌜v = ⟨values fits896 (arg15.view.read (Elt F) f15), probScale fits896 (blockExps0 fits896 mask6 (arg6.view.read (Elt F) f6) (arg12.view.read (Elt F) f12) (arg8.view.read (Elt F) f8) (arg13.view.read (Elt F) f13) (arg14.view.read (Elt F) f14) 13), probCodes fits896 (blockExps0 fits896 mask6 (arg6.view.read (Elt F) f6) (arg12.view.read (Elt F) f12) (arg8.view.read (Elt F) f8) (arg13.view.read (Elt F) f13) (arg14.view.read (Elt F) f14) 13), probScale fits896 (blockExps1 fits896 mask6 (arg6.view.read (Elt F) f6) (arg12.view.read (Elt F) f12) (arg8.view.read (Elt F) f8) (arg13.view.read (Elt F) f13) (arg14.view.read (Elt F) f14) 13), probCodes fits896 (blockExps1 fits896 mask6 (arg6.view.read (Elt F) f6) (arg12.view.read (Elt F) f12) (arg8.view.read (Elt F) f8) (arg13.view.read (Elt F) f13) (arg14.view.read (Elt F) f14) 13)⟩⌝ -∗
      ((View.loc (c : Thread nD τ) arg5.view ↦[arg5.view.set]{fullShare} arg5.view.writes (Elt F) f5 L) ∗ (View.loc (c : Thread nD τ) arg6.view ↦[arg6.view.set]{fullShare} f6) ∗ (View.loc (c : Thread nD τ) arg8.view ↦[arg8.view.set]{fullShare} f8) ∗ (View.loc (c : Thread nD τ) arg12.view ↦[arg12.view.set]{fullShare} f12) ∗ (View.loc (c : Thread nD τ) arg13.view ↦[arg13.view.set]{fullShare} f13) ∗ (View.loc (c : Thread nD τ) arg14.view ↦[arg14.view.set]{fullShare} f14) ∗ (View.loc (c : Thread nD τ) arg15.view ↦[arg15.view.set]{fullShare} f15) ∗ (View.loc (c : Thread nD τ) arg16.view ↦[arg16.view.set]{fullShare} f16)) -∗ K v)) ⊢
      wp frame (wpE (defs₀ (F := F)) Variants.none c none) E (k0_part401 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  refine branch6 c i arg2 harg2 arg3 harg3 arg4 harg4 arg5 harg5 arg6 harg6 arg7 harg7 arg8 harg8 arg9 harg9 arg10 harg10 arg11 harg11 arg12 harg12 arg13 harg13 arg14 harg14 arg15 harg15 arg16 harg16 f5 f6 f8 f12 f13 f14 f15 f16 E K _ fun L v hL hv => ?_
  iintro ⟨H5, H6, H8, H12, H13, H14, H15, H16, HR⟩
  iapply HR $$ %L %v %hL %hv
  isplitl [H5]
  · iexact H5
  isplitl [H6]
  · iexact H6
  isplitl [H8]
  · iexact H8
  isplitl [H12]
  · iexact H12
  isplitl [H13]
  · iexact H13
  isplitl [H14]
  · iexact H14
  isplitl [H15]
  · iexact H15
  iexact H16

end Cert.KernelIdeal.Gen

end
-- ==== Proof.Body6.lean ====
/-
  A point of block 6 of tokens, run from its start to its end.
-/
module

public import proofs.«01_k».proof.Proof.Step
public import proofs.«01_k».proof.Proof.Quantised
public import proofs.«01_k».proof.Proof.Branch6
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Cert.KernelIdeal.Attn Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- A point of block 6 of tokens: it quantises its queries and attends to the first 896 keys of its batch. -/
theorem body6 (c : Dev nD) (i : grid0.Coords) (arg2 : Memref sig .tc .vmem S1x128x3584 .bf16) (harg2 : arg2.IsWhole) (arg3 : Memref sig .tc .vmem S1x1024x128 .bf16) (harg3 : arg3.IsWhole) (arg4 : Memref sig .tc .vmem S1x1024x128 .bf16) (harg4 : arg4.IsWhole) (arg5 : Memref sig .tc .vmem S1x128x3584 .bf16) (harg5 : arg5.IsWhole) (arg6 : Memref sig .tc .vmem S1x28x128x128 .fp8e4m3) (harg6 : arg6.IsWhole) (arg7 : Memref sig .tc .vmem S28x8x2x128 .f32) (harg7 : arg7.IsWhole) (arg8 : Memref sig .tc .vmem S1x1024x128 .fp8e4m3) (harg8 : arg8.IsWhole) (arg9 : Memref sig .tc .vmem S2x1024 .f32) (harg9 : arg9.IsWhole) (arg10 : Memref sig .tc .vmem S1x1024x128 .fp8e4m3) (harg10 : arg10.IsWhole) (arg11 : Memref sig .tc .vmem S2x128 .f32) (harg11 : arg11.IsWhole) (arg12 : Memref sig .tc .vmem S128x128 .f32) (harg12 : arg12.IsWhole) (arg13 : Memref sig .tc .vmem S1024x128 .f32) (harg13 : arg13.IsWhole) (arg14 : Memref sig .tc .vmem S8x128 .f32) (harg14 : arg14.IsWhole) (arg15 : Memref sig .tc .vmem S128x1024 .fp8e4m3) (harg15 : arg15.IsWhole) (arg16 : Memref sig .tc .vmem S128x128 .f32) (harg16 : arg16.IsWhole)
    (hc0 : ¬ k0_cond1 i = 1#1) (hc1 : ¬ k0_cond2 i = 1#1) (hc2 : ¬ k0_cond3 i = 1#1) (hc3 : ¬ k0_cond4 i = 1#1) (hc4 : ¬ k0_cond5 i = 1#1) (hc5 : ¬ k0_cond6 i = 1#1) (hc6 : ¬ k0_cond7 i = 1#1) (hc7 : k0_cond8 i = 1#1) (hc8 : ¬ k0_cond9 i = 1#1)
    (x2 : FVec F S1x128x3584 .bf16) (y7 : FVec F S28x8x2x128 .f32) (KC : FVec F S1x1024x128 .fp8e4m3)
    (KSB : FVec F S1024x128 .f32) (KM : FVec F S8x128 .f32) (VT : FVec F S128x1024 .fp8e4m3) (VSB : FVec F S128x128 .f32)
    (E : Set ℕ) (K : PUnit → sProp 𝕄) :
    iprop(owns (c : Thread nD τ) arg2 fullShare x2 ∗ (∃ d, owns (c : Thread nD τ) arg5 fullShare d) ∗ (∃ d, owns (c : Thread nD τ) arg6 fullShare d) ∗ owns (c : Thread nD τ) arg7 fullShare y7 ∗ owns (c : Thread nD τ) arg8 fullShare KC ∗ (∃ d, owns (c : Thread nD τ) arg12 fullShare d) ∗ owns (c : Thread nD τ) arg13 fullShare KSB ∗ owns (c : Thread nD τ) arg14 fullShare KM ∗ owns (c : Thread nD τ) arg15 fullShare VT ∗ owns (c : Thread nD τ) arg16 fullShare VSB ∗ ((owns (c : Thread nD τ) arg2 fullShare x2 ∗ owns (c : Thread nD τ) arg5 fullShare (attended (codesOut x2) (heldScales x2) KC KSB KM VT VSB 6) ∗ owns (c : Thread nD τ) arg6 fullShare (codesOut x2) ∗ owns (c : Thread nD τ) arg7 fullShare (scalesStep i x2 y7) ∗ owns (c : Thread nD τ) arg8 fullShare KC ∗ (∃ d, owns (c : Thread nD τ) arg12 fullShare d) ∗ owns (c : Thread nD τ) arg13 fullShare KSB ∗ owns (c : Thread nD τ) arg14 fullShare KM ∗ owns (c : Thread nD τ) arg15 fullShare VT ∗ owns (c : Thread nD τ) arg16 fullShare VSB) -∗ K ⟨⟩)) ⊢
      wp frame (wpE (defs₀ (F := F)) Variants.none c none) E (cc0_mqa_prefill_e4m3 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_mqa_prefill_e4m3_eq_skeleton]; unfold cc0_mqa_prefill_e4m3_skel
  unfold owns
  iintro ⟨⟨%f2, %h2, H2⟩, ⟨%d5, %f5, -, H5⟩, ⟨%d6, %f6, -, H6⟩, ⟨%f7, %h7, H7⟩, ⟨%f8, %h8, H8⟩, ⟨%d12, %f12, -, H12⟩, ⟨%f13, %h13, H13⟩, ⟨%f14, %h14, H14⟩, ⟨%f15, %h15, H15⟩, ⟨%f16, %h16, H16⟩, HK⟩
  subst h2 h7 h8 h13 h14 h15 h16
  set_option sl_exec.stopBefore "k0_part504" in sl_exec (disch := first | sl_exact hc0 | sl_exact hc1 | sl_exact hc2 | sl_exact hc3 | sl_exact hc4 | sl_exact hc5 | sl_exact hc6 | sl_exact hc7 | sl_exact hc8)
  rw [wp_bind]
  iapply (quantised_spec c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1)
  isplitl [H2]
  · iexact H2
  isplitl [H6]
  · iexact H6
  isplitl [H7]
  · iexact H7
  isplitl [H12]
  · iexact H12
  iintro %L6 %L7 %L12 %v %hL6 %hL7 %hL12 ⟨H2, H6, H7, H12⟩
  subst hL6 hL7 hL12
  set_option sl_exec.stopBefore "k0_part401" in sl_exec (disch := first | sl_exact hc0 | sl_exact hc1 | sl_exact hc2 | sl_exact hc3 | sl_exact hc4 | sl_exact hc5 | sl_exact hc6 | sl_exact hc7 | sl_exact hc8)
  rw [wp_bind]
  iapply (branch6_spec c i arg2 harg2 arg3 harg3 arg4 harg4 arg5 harg5 arg6 harg6 arg7 harg7 arg8 harg8 arg9 harg9 arg10 harg10 arg11 harg11 arg12 harg12 arg13 harg13 arg14 harg14 arg15 harg15 arg16 harg16)
  isplitl [H5]
  · iexact H5
  isplitl [H6]
  · iexact H6
  isplitl [H8]
  · iexact H8
  isplitl [H12]
  · iexact H12
  isplitl [H13]
  · iexact H13
  isplitl [H14]
  · iexact H14
  isplitl [H15]
  · iexact H15
  isplitl [H16]
  · iexact H16
  iintro %L %w %hL %hw ⟨H5, H6, H8, H12, H13, H14, H15, H16⟩
  rw [read_codeStores, read_whole] at hL
  rw [read_codeStores, read_whole] at hw
  subst hL hw
  sl_exec (disch := first | sl_exact hc0 | sl_exact hc1 | sl_exact hc2 | sl_exact hc3 | sl_exact hc4 | sl_exact hc5 | sl_exact hc6 | sl_exact hc7 | sl_exact hc8)
  sl_step
  iapply HK
  isplitl [H2]
  · iexists _; isplitr; swap; · iexact H2
    ipureintro; rfl
  isplitl [H5]
  · iexists _; isplitr; swap; · iexact H5
    ipureintro; exact read_wideStores _ _ _ _
  isplitl [H6]
  · iexists _; isplitr; swap; · iexact H6
    ipureintro; exact read_codeStores _ _ _
  isplitl [H7]
  · iexists _; isplitr; swap; · iexact H7
    ipureintro; exact read_scaleStores _ _ _ _
  isplitl [H8]
  · iexists _; isplitr; swap; · iexact H8
    ipureintro; rfl
  isplitl [H12]
  · iexists _, _; isplitr; swap; · iexact H12
    ipureintro; rfl
  isplitl [H13]
  · iexists _; isplitr; swap; · iexact H13
    ipureintro; rfl
  isplitl [H14]
  · iexists _; isplitr; swap; · iexact H14
    ipureintro; rfl
  isplitl [H15]
  · iexists _; isplitr; swap; · iexact H15
    ipureintro; rfl
  iexists _; isplitr; swap; · iexact H16
  ipureintro; rfl

end Cert.KernelIdeal.Gen

end
-- ==== Proof.Branch7.lean ====
/-
  The branch of a point whose block of tokens has number 7: 1024 keys.
-/
module

public import proofs.«01_k».proof.Proof.Store
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Cert.KernelIdeal.Attn Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- The branch of blocks 7: all heads' stores but the last pair's. -/
theorem branch7 (c : Dev nD) (i : grid0.Coords) (arg2 : Memref sig .tc .vmem S1x128x3584 .bf16) (harg2 : arg2.IsWhole) (arg3 : Memref sig .tc .vmem S1x1024x128 .bf16) (harg3 : arg3.IsWhole) (arg4 : Memref sig .tc .vmem S1x1024x128 .bf16) (harg4 : arg4.IsWhole) (arg5 : Memref sig .tc .vmem S1x128x3584 .bf16) (harg5 : arg5.IsWhole) (arg6 : Memref sig .tc .vmem S1x28x128x128 .fp8e4m3) (harg6 : arg6.IsWhole) (arg7 : Memref sig .tc .vmem S28x8x2x128 .f32) (harg7 : arg7.IsWhole) (arg8 : Memref sig .tc .vmem S1x1024x128 .fp8e4m3) (harg8 : arg8.IsWhole) (arg9 : Memref sig .tc .vmem S2x1024 .f32) (harg9 : arg9.IsWhole) (arg10 : Memref sig .tc .vmem S1x1024x128 .fp8e4m3) (harg10 : arg10.IsWhole) (arg11 : Memref sig .tc .vmem S2x128 .f32) (harg11 : arg11.IsWhole) (arg12 : Memref sig .tc .vmem S128x128 .f32) (harg12 : arg12.IsWhole) (arg13 : Memref sig .tc .vmem S1024x128 .f32) (harg13 : arg13.IsWhole) (arg14 : Memref sig .tc .vmem S8x128 .f32) (harg14 : arg14.IsWhole) (arg15 : Memref sig .tc .vmem S128x1024 .fp8e4m3) (harg15 : arg15.IsWhole) (arg16 : Memref sig .tc .vmem S128x128 .f32) (harg16 : arg16.IsWhole)
    (f5 : arg5.view.ty.Contents (Elt F)) (f6 : arg6.view.ty.Contents (Elt F)) (f8 : arg8.view.ty.Contents (Elt F)) (f12 : arg12.view.ty.Contents (Elt F)) (f13 : arg13.view.ty.Contents (Elt F)) (f14 : arg14.view.ty.Contents (Elt F)) (f15 : arg15.view.ty.Contents (Elt F)) (f16 : arg16.view.ty.Contents (Elt F)) (E : Set ℕ) (K : (Σ' (v1886 : Vec F S128x1024 .fp8e4m3) (v4138 : FVec F S1x128 .f32) (v4145 : FVec F S1024x128 .fp8e4m3) (v4209 : FVec F S1x128 .f32), FVec F S1024x128 .fp8e4m3) → sProp 𝕄) (R : sProp 𝕄)
    (hK : ∀ L v, L = (wideStores (blockOut0 fits1024 mask7 (arg6.view.read (Elt F) f6) (arg12.view.read (Elt F) f12) (arg8.view.read (Elt F) f8) (arg13.view.read (Elt F) f13) (arg14.view.read (Elt F) f14) (arg15.view.read (Elt F) f15) (arg16.view.read (Elt F) f16)) (blockOut1 fits1024 mask7 (arg6.view.read (Elt F) f6) (arg12.view.read (Elt F) f12) (arg8.view.read (Elt F) f8) (arg13.view.read (Elt F) f13) (arg14.view.read (Elt F) f14) (arg15.view.read (Elt F) f15) (arg16.view.read (Elt F) f16))).drop 2 → v = ⟨values fits1024 (arg15.view.read (Elt F) f15), probScale fits1024 (blockExps0 fits1024 mask7 (arg6.view.read (Elt F) f6) (arg12.view.read (Elt F) f12) (arg8.view.read (Elt F) f8) (arg13.view.read (Elt F) f13) (arg14.view.read (Elt F) f14) 13), probCodes fits1024 (blockExps0 fits1024 mask7 (arg6.view.read (Elt F) f6) (arg12.view.read (Elt F) f12) (arg8.view.read (Elt F) f8) (arg13.view.read (Elt F) f13) (arg14.view.read (Elt F) f14) 13), probScale fits1024 (blockExps1 fits1024 mask7 (arg6.view.read (Elt F) f6) (arg12.view.read (Elt F) f12) (arg8.view.read (Elt F) f8) (arg13.view.read (Elt F) f13) (arg14.view.read (Elt F) f14) 13), probCodes fits1024 (blockExps1 fits1024 mask7 (arg6.view.read (Elt F) f6) (arg12.view.read (Elt F) f12) (arg8.view.read (Elt F) f8) (arg13.view.read (Elt F) f13) (arg14.view.read (Elt F) f14) 13)⟩ →
      (iprop((View.loc (c : Thread nD τ) arg5.view ↦[arg5.view.set]{fullShare} arg5.view.writes (Elt F) f5 L) ∗ (View.loc (c : Thread nD τ) arg6.view ↦[arg6.view.set]{fullShare} f6) ∗ (View.loc (c : Thread nD τ) arg8.view ↦[arg8.view.set]{fullShare} f8) ∗ (View.loc (c : Thread nD τ) arg12.view ↦[arg12.view.set]{fullShare} f12) ∗ (View.loc (c : Thread nD τ) arg13.view ↦[arg13.view.set]{fullShare} f13) ∗ (View.loc (c : Thread nD τ) arg14.view ↦[arg14.view.set]{fullShare} f14) ∗ (View.loc (c : Thread nD τ) arg15.view ↦[arg15.view.set]{fullShare} f15) ∗ (View.loc (c : Thread nD τ) arg16.view ↦[arg16.view.set]{fullShare} f16) ∗ R) ⊢ K v)) :
    iprop((View.loc (c : Thread nD τ) arg5.view ↦[arg5.view.set]{fullShare} f5) ∗ (View.loc (c : Thread nD τ) arg6.view ↦[arg6.view.set]{fullShare} f6) ∗ (View.loc (c : Thread nD τ) arg8.view ↦[arg8.view.set]{fullShare} f8) ∗ (View.loc (c : Thread nD τ) arg12.view ↦[arg12.view.set]{fullShare} f12) ∗ (View.loc (c : Thread nD τ) arg13.view ↦[arg13.view.set]{fullShare} f13) ∗ (View.loc (c : Thread nD τ) arg14.view ↦[arg14.view.set]{fullShare} f14) ∗ (View.loc (c : Thread nD τ) arg15.view ↦[arg15.view.set]{fullShare} f15) ∗ (View.loc (c : Thread nD τ) arg16.view ↦[arg16.view.set]{fullShare} f16) ∗ R) ⊢
      wp frame (wpE (defs₀ (F := F)) Variants.none c none) E (k0_part458 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [k0_part458_eq_skeleton, k0_part402_eq_skeleton, k0_part403_eq_skeleton, k0_part404_eq_skeleton, k0_part405_eq_skeleton, k0_part406_eq_skeleton, k0_part407_eq_skeleton, k0_part408_eq_skeleton, k0_part409_eq_skeleton, k0_part410_eq_skeleton, k0_part411_eq_skeleton, k0_part412_eq_skeleton, k0_part413_eq_skeleton, k0_part414_eq_skeleton, k0_part415_eq_skeleton, k0_part416_eq_skeleton, k0_part417_eq_skeleton, k0_part418_eq_skeleton, k0_part419_eq_skeleton, k0_part420_eq_skeleton, k0_part421_eq_skeleton, k0_part422_eq_skeleton, k0_part423_eq_skeleton, k0_part424_eq_skeleton, k0_part425_eq_skeleton, k0_part426_eq_skeleton, k0_part427_eq_skeleton, k0_part428_eq_skeleton, k0_part429_eq_skeleton, k0_part430_eq_skeleton, k0_part431_eq_skeleton, k0_part432_eq_skeleton, k0_part433_eq_skeleton, k0_part434_eq_skeleton, k0_part435_eq_skeleton, k0_part436_eq_skeleton, k0_part437_eq_skeleton, k0_part438_eq_skeleton, k0_part439_eq_skeleton, k0_part440_eq_skeleton, k0_part441_eq_skeleton, k0_part442_eq_skeleton, k0_part443_eq_skeleton, k0_part444_eq_skeleton, k0_part445_eq_skeleton, k0_part446_eq_skeleton, k0_part447_eq_skeleton, k0_part448_eq_skeleton, k0_part449_eq_skeleton, k0_part450_eq_skeleton, k0_part451_eq_skeleton, k0_part452_eq_skeleton, k0_part453_eq_skeleton, k0_part454_eq_skeleton, k0_part455_eq_skeleton, k0_part456_eq_skeleton, k0_part457_eq_skeleton]
  iintro ⟨H5, H6, H8, H12, H13, H14, H15, H16, HR⟩
  sl_exec
  sl_step
  iapply hK
  rotate_left 2
  isplitl [H5]
  · iexact H5
  isplitl [H6]
  · iexact H6
  isplitl [H8]
  · iexact H8
  isplitl [H12]
  · iexact H12
  isplitl [H13]
  · iexact H13
  isplitl [H14]
  · iexact H14
  isplitl [H15]
  · iexact H15
  isplitl [H16]
  · iexact H16
  · iexact HR
  · rfl
  · rfl

/-- The same, for a continuation inside the logic. -/
theorem branch7_spec (c : Dev nD) (i : grid0.Coords) (arg2 : Memref sig .tc .vmem S1x128x3584 .bf16) (harg2 : arg2.IsWhole) (arg3 : Memref sig .tc .vmem S1x1024x128 .bf16) (harg3 : arg3.IsWhole) (arg4 : Memref sig .tc .vmem S1x1024x128 .bf16) (harg4 : arg4.IsWhole) (arg5 : Memref sig .tc .vmem S1x128x3584 .bf16) (harg5 : arg5.IsWhole) (arg6 : Memref sig .tc .vmem S1x28x128x128 .fp8e4m3) (harg6 : arg6.IsWhole) (arg7 : Memref sig .tc .vmem S28x8x2x128 .f32) (harg7 : arg7.IsWhole) (arg8 : Memref sig .tc .vmem S1x1024x128 .fp8e4m3) (harg8 : arg8.IsWhole) (arg9 : Memref sig .tc .vmem S2x1024 .f32) (harg9 : arg9.IsWhole) (arg10 : Memref sig .tc .vmem S1x1024x128 .fp8e4m3) (harg10 : arg10.IsWhole) (arg11 : Memref sig .tc .vmem S2x128 .f32) (harg11 : arg11.IsWhole) (arg12 : Memref sig .tc .vmem S128x128 .f32) (harg12 : arg12.IsWhole) (arg13 : Memref sig .tc .vmem S1024x128 .f32) (harg13 : arg13.IsWhole) (arg14 : Memref sig .tc .vmem S8x128 .f32) (harg14 : arg14.IsWhole) (arg15 : Memref sig .tc .vmem S128x1024 .fp8e4m3) (harg15 : arg15.IsWhole) (arg16 : Memref sig .tc .vmem S128x128 .f32) (harg16 : arg16.IsWhole)
    (f5 : arg5.view.ty.Contents (Elt F)) (f6 : arg6.view.ty.Contents (Elt F)) (f8 : arg8.view.ty.Contents (Elt F)) (f12 : arg12.view.ty.Contents (Elt F)) (f13 : arg13.view.ty.Contents (Elt F)) (f14 : arg14.view.ty.Contents (Elt F)) (f15 : arg15.view.ty.Contents (Elt F)) (f16 : arg16.view.ty.Contents (Elt F)) (E : Set ℕ) (K : (Σ' (v1886 : Vec F S128x1024 .fp8e4m3) (v4138 : FVec F S1x128 .f32) (v4145 : FVec F S1024x128 .fp8e4m3) (v4209 : FVec F S1x128 .f32), FVec F S1024x128 .fp8e4m3) → sProp 𝕄) :
    iprop((View.loc (c : Thread nD τ) arg5.view ↦[arg5.view.set]{fullShare} f5) ∗ (View.loc (c : Thread nD τ) arg6.view ↦[arg6.view.set]{fullShare} f6) ∗ (View.loc (c : Thread nD τ) arg8.view ↦[arg8.view.set]{fullShare} f8) ∗ (View.loc (c : Thread nD τ) arg12.view ↦[arg12.view.set]{fullShare} f12) ∗ (View.loc (c : Thread nD τ) arg13.view ↦[arg13.view.set]{fullShare} f13) ∗ (View.loc (c : Thread nD τ) arg14.view ↦[arg14.view.set]{fullShare} f14) ∗ (View.loc (c : Thread nD τ) arg15.view ↦[arg15.view.set]{fullShare} f15) ∗ (View.loc (c : Thread nD τ) arg16.view ↦[arg16.view.set]{fullShare} f16) ∗ (∀ L v, ⌜L = (wideStores (blockOut0 fits1024 mask7 (arg6.view.read (Elt F) f6) (arg12.view.read (Elt F) f12) (arg8.view.read (Elt F) f8) (arg13.view.read (Elt F) f13) (arg14.view.read (Elt F) f14) (arg15.view.read (Elt F) f15) (arg16.view.read (Elt F) f16)) (blockOut1 fits1024 mask7 (arg6.view.read (Elt F) f6) (arg12.view.read (Elt F) f12) (arg8.view.read (Elt F) f8) (arg13.view.read (Elt F) f13) (arg14.view.read (Elt F) f14) (arg15.view.read (Elt F) f15) (arg16.view.read (Elt F) f16))).drop 2⌝ -∗ ⌜v = ⟨values fits1024 (arg15.view.read (Elt F) f15), probScale fits1024 (blockExps0 fits1024 mask7 (arg6.view.read (Elt F) f6) (arg12.view.read (Elt F) f12) (arg8.view.read (Elt F) f8) (arg13.view.read (Elt F) f13) (arg14.view.read (Elt F) f14) 13), probCodes fits1024 (blockExps0 fits1024 mask7 (arg6.view.read (Elt F) f6) (arg12.view.read (Elt F) f12) (arg8.view.read (Elt F) f8) (arg13.view.read (Elt F) f13) (arg14.view.read (Elt F) f14) 13), probScale fits1024 (blockExps1 fits1024 mask7 (arg6.view.read (Elt F) f6) (arg12.view.read (Elt F) f12) (arg8.view.read (Elt F) f8) (arg13.view.read (Elt F) f13) (arg14.view.read (Elt F) f14) 13), probCodes fits1024 (blockExps1 fits1024 mask7 (arg6.view.read (Elt F) f6) (arg12.view.read (Elt F) f12) (arg8.view.read (Elt F) f8) (arg13.view.read (Elt F) f13) (arg14.view.read (Elt F) f14) 13)⟩⌝ -∗
      ((View.loc (c : Thread nD τ) arg5.view ↦[arg5.view.set]{fullShare} arg5.view.writes (Elt F) f5 L) ∗ (View.loc (c : Thread nD τ) arg6.view ↦[arg6.view.set]{fullShare} f6) ∗ (View.loc (c : Thread nD τ) arg8.view ↦[arg8.view.set]{fullShare} f8) ∗ (View.loc (c : Thread nD τ) arg12.view ↦[arg12.view.set]{fullShare} f12) ∗ (View.loc (c : Thread nD τ) arg13.view ↦[arg13.view.set]{fullShare} f13) ∗ (View.loc (c : Thread nD τ) arg14.view ↦[arg14.view.set]{fullShare} f14) ∗ (View.loc (c : Thread nD τ) arg15.view ↦[arg15.view.set]{fullShare} f15) ∗ (View.loc (c : Thread nD τ) arg16.view ↦[arg16.view.set]{fullShare} f16)) -∗ K v)) ⊢
      wp frame (wpE (defs₀ (F := F)) Variants.none c none) E (k0_part458 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  refine branch7 c i arg2 harg2 arg3 harg3 arg4 harg4 arg5 harg5 arg6 harg6 arg7 harg7 arg8 harg8 arg9 harg9 arg10 harg10 arg11 harg11 arg12 harg12 arg13 harg13 arg14 harg14 arg15 harg15 arg16 harg16 f5 f6 f8 f12 f13 f14 f15 f16 E K _ fun L v hL hv => ?_
  iintro ⟨H5, H6, H8, H12, H13, H14, H15, H16, HR⟩
  iapply HR $$ %L %v %hL %hv
  isplitl [H5]
  · iexact H5
  isplitl [H6]
  · iexact H6
  isplitl [H8]
  · iexact H8
  isplitl [H12]
  · iexact H12
  isplitl [H13]
  · iexact H13
  isplitl [H14]
  · iexact H14
  isplitl [H15]
  · iexact H15
  iexact H16

end Cert.KernelIdeal.Gen

end
-- ==== Proof.Body7.lean ====
/-
  A point of block 7 of tokens, run from its start to its end.
-/
module

public import proofs.«01_k».proof.Proof.Step
public import proofs.«01_k».proof.Proof.Quantised
public import proofs.«01_k».proof.Proof.Branch7
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Cert.KernelIdeal.Attn Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- A point of block 7 of tokens: it quantises its queries and attends to the first 1024 keys of its batch. -/
theorem body7 (c : Dev nD) (i : grid0.Coords) (arg2 : Memref sig .tc .vmem S1x128x3584 .bf16) (harg2 : arg2.IsWhole) (arg3 : Memref sig .tc .vmem S1x1024x128 .bf16) (harg3 : arg3.IsWhole) (arg4 : Memref sig .tc .vmem S1x1024x128 .bf16) (harg4 : arg4.IsWhole) (arg5 : Memref sig .tc .vmem S1x128x3584 .bf16) (harg5 : arg5.IsWhole) (arg6 : Memref sig .tc .vmem S1x28x128x128 .fp8e4m3) (harg6 : arg6.IsWhole) (arg7 : Memref sig .tc .vmem S28x8x2x128 .f32) (harg7 : arg7.IsWhole) (arg8 : Memref sig .tc .vmem S1x1024x128 .fp8e4m3) (harg8 : arg8.IsWhole) (arg9 : Memref sig .tc .vmem S2x1024 .f32) (harg9 : arg9.IsWhole) (arg10 : Memref sig .tc .vmem S1x1024x128 .fp8e4m3) (harg10 : arg10.IsWhole) (arg11 : Memref sig .tc .vmem S2x128 .f32) (harg11 : arg11.IsWhole) (arg12 : Memref sig .tc .vmem S128x128 .f32) (harg12 : arg12.IsWhole) (arg13 : Memref sig .tc .vmem S1024x128 .f32) (harg13 : arg13.IsWhole) (arg14 : Memref sig .tc .vmem S8x128 .f32) (harg14 : arg14.IsWhole) (arg15 : Memref sig .tc .vmem S128x1024 .fp8e4m3) (harg15 : arg15.IsWhole) (arg16 : Memref sig .tc .vmem S128x128 .f32) (harg16 : arg16.IsWhole)
    (hc0 : ¬ k0_cond1 i = 1#1) (hc1 : ¬ k0_cond2 i = 1#1) (hc2 : ¬ k0_cond3 i = 1#1) (hc3 : ¬ k0_cond4 i = 1#1) (hc4 : ¬ k0_cond5 i = 1#1) (hc5 : ¬ k0_cond6 i = 1#1) (hc6 : ¬ k0_cond7 i = 1#1) (hc7 : ¬ k0_cond8 i = 1#1) (hc8 : k0_cond9 i = 1#1)
    (x2 : FVec F S1x128x3584 .bf16) (y7 : FVec F S28x8x2x128 .f32) (KC : FVec F S1x1024x128 .fp8e4m3)
    (KSB : FVec F S1024x128 .f32) (KM : FVec F S8x128 .f32) (VT : FVec F S128x1024 .fp8e4m3) (VSB : FVec F S128x128 .f32)
    (E : Set ℕ) (K : PUnit → sProp 𝕄) :
    iprop(owns (c : Thread nD τ) arg2 fullShare x2 ∗ (∃ d, owns (c : Thread nD τ) arg5 fullShare d) ∗ (∃ d, owns (c : Thread nD τ) arg6 fullShare d) ∗ owns (c : Thread nD τ) arg7 fullShare y7 ∗ owns (c : Thread nD τ) arg8 fullShare KC ∗ (∃ d, owns (c : Thread nD τ) arg12 fullShare d) ∗ owns (c : Thread nD τ) arg13 fullShare KSB ∗ owns (c : Thread nD τ) arg14 fullShare KM ∗ owns (c : Thread nD τ) arg15 fullShare VT ∗ owns (c : Thread nD τ) arg16 fullShare VSB ∗ ((owns (c : Thread nD τ) arg2 fullShare x2 ∗ owns (c : Thread nD τ) arg5 fullShare (attended (codesOut x2) (heldScales x2) KC KSB KM VT VSB 7) ∗ owns (c : Thread nD τ) arg6 fullShare (codesOut x2) ∗ owns (c : Thread nD τ) arg7 fullShare (scalesStep i x2 y7) ∗ owns (c : Thread nD τ) arg8 fullShare KC ∗ (∃ d, owns (c : Thread nD τ) arg12 fullShare d) ∗ owns (c : Thread nD τ) arg13 fullShare KSB ∗ owns (c : Thread nD τ) arg14 fullShare KM ∗ owns (c : Thread nD τ) arg15 fullShare VT ∗ owns (c : Thread nD τ) arg16 fullShare VSB) -∗ K ⟨⟩)) ⊢
      wp frame (wpE (defs₀ (F := F)) Variants.none c none) E (cc0_mqa_prefill_e4m3 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_mqa_prefill_e4m3_eq_skeleton]; unfold cc0_mqa_prefill_e4m3_skel
  unfold owns
  iintro ⟨⟨%f2, %h2, H2⟩, ⟨%d5, %f5, -, H5⟩, ⟨%d6, %f6, -, H6⟩, ⟨%f7, %h7, H7⟩, ⟨%f8, %h8, H8⟩, ⟨%d12, %f12, -, H12⟩, ⟨%f13, %h13, H13⟩, ⟨%f14, %h14, H14⟩, ⟨%f15, %h15, H15⟩, ⟨%f16, %h16, H16⟩, HK⟩
  subst h2 h7 h8 h13 h14 h15 h16
  set_option sl_exec.stopBefore "k0_part504" in sl_exec (disch := first | sl_exact hc0 | sl_exact hc1 | sl_exact hc2 | sl_exact hc3 | sl_exact hc4 | sl_exact hc5 | sl_exact hc6 | sl_exact hc7 | sl_exact hc8)
  rw [wp_bind]
  iapply (quantised_spec c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1)
  isplitl [H2]
  · iexact H2
  isplitl [H6]
  · iexact H6
  isplitl [H7]
  · iexact H7
  isplitl [H12]
  · iexact H12
  iintro %L6 %L7 %L12 %v %hL6 %hL7 %hL12 ⟨H2, H6, H7, H12⟩
  subst hL6 hL7 hL12
  set_option sl_exec.stopBefore "k0_part458" in sl_exec (disch := first | sl_exact hc0 | sl_exact hc1 | sl_exact hc2 | sl_exact hc3 | sl_exact hc4 | sl_exact hc5 | sl_exact hc6 | sl_exact hc7 | sl_exact hc8)
  rw [wp_bind]
  iapply (branch7_spec c i arg2 harg2 arg3 harg3 arg4 harg4 arg5 harg5 arg6 harg6 arg7 harg7 arg8 harg8 arg9 harg9 arg10 harg10 arg11 harg11 arg12 harg12 arg13 harg13 arg14 harg14 arg15 harg15 arg16 harg16)
  isplitl [H5]
  · iexact H5
  isplitl [H6]
  · iexact H6
  isplitl [H8]
  · iexact H8
  isplitl [H12]
  · iexact H12
  isplitl [H13]
  · iexact H13
  isplitl [H14]
  · iexact H14
  isplitl [H15]
  · iexact H15
  isplitl [H16]
  · iexact H16
  iintro %L %w %hL %hw ⟨H5, H6, H8, H12, H13, H14, H15, H16⟩
  rw [read_codeStores, read_whole] at hL
  rw [read_codeStores, read_whole] at hw
  subst hL hw
  sl_exec (disch := first | sl_exact hc0 | sl_exact hc1 | sl_exact hc2 | sl_exact hc3 | sl_exact hc4 | sl_exact hc5 | sl_exact hc6 | sl_exact hc7 | sl_exact hc8)
  sl_step
  iapply HK
  isplitl [H2]
  · iexists _; isplitr; swap; · iexact H2
    ipureintro; rfl
  isplitl [H5]
  · iexists _; isplitr; swap; · iexact H5
    ipureintro; exact read_wideStores _ _ _ _
  isplitl [H6]
  · iexists _; isplitr; swap; · iexact H6
    ipureintro; exact read_codeStores _ _ _
  isplitl [H7]
  · iexists _; isplitr; swap; · iexact H7
    ipureintro; exact read_scaleStores _ _ _ _
  isplitl [H8]
  · iexists _; isplitr; swap; · iexact H8
    ipureintro; rfl
  isplitl [H12]
  · iexists _, _; isplitr; swap; · iexact H12
    ipureintro; rfl
  isplitl [H13]
  · iexists _; isplitr; swap; · iexact H13
    ipureintro; rfl
  isplitl [H14]
  · iexists _; isplitr; swap; · iexact H14
    ipureintro; rfl
  isplitl [H15]
  · iexists _; isplitr; swap; · iexact H15
    ipureintro; rfl
  iexists _; isplitr; swap; · iexact H16
  ipureintro; rfl

end Cert.KernelIdeal.Gen

end
-- ==== Proof.Later.lean ====
/-
  A point of the grid other than the first of its batch, whichever it is.
-/
module

public import proofs.«01_k».proof.Proof.Step
public import proofs.«01_k».proof.Proof.Cases
public import proofs.«01_k».proof.Proof.Body1
public import proofs.«01_k».proof.Proof.Body2
public import proofs.«01_k».proof.Proof.Body3
public import proofs.«01_k».proof.Proof.Body4
public import proofs.«01_k».proof.Proof.Body5
public import proofs.«01_k».proof.Proof.Body6
public import proofs.«01_k».proof.Proof.Body7
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Cert.KernelIdeal.Attn Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- A point that is not the first of its batch quantises its queries and attends, with the keys and values it finds prepared. -/
theorem later (c : Dev nD) (t : Fin cfg0.N) (ht : t.val % 8 ≠ 0) (arg2 : Memref sig .tc .vmem S1x128x3584 .bf16) (harg2 : arg2.IsWhole) (arg3 : Memref sig .tc .vmem S1x1024x128 .bf16) (harg3 : arg3.IsWhole) (arg4 : Memref sig .tc .vmem S1x1024x128 .bf16) (harg4 : arg4.IsWhole) (arg5 : Memref sig .tc .vmem S1x128x3584 .bf16) (harg5 : arg5.IsWhole) (arg6 : Memref sig .tc .vmem S1x28x128x128 .fp8e4m3) (harg6 : arg6.IsWhole) (arg7 : Memref sig .tc .vmem S28x8x2x128 .f32) (harg7 : arg7.IsWhole) (arg8 : Memref sig .tc .vmem S1x1024x128 .fp8e4m3) (harg8 : arg8.IsWhole) (arg9 : Memref sig .tc .vmem S2x1024 .f32) (harg9 : arg9.IsWhole) (arg10 : Memref sig .tc .vmem S1x1024x128 .fp8e4m3) (harg10 : arg10.IsWhole) (arg11 : Memref sig .tc .vmem S2x128 .f32) (harg11 : arg11.IsWhole) (arg12 : Memref sig .tc .vmem S128x128 .f32) (harg12 : arg12.IsWhole) (arg13 : Memref sig .tc .vmem S1024x128 .f32) (harg13 : arg13.IsWhole) (arg14 : Memref sig .tc .vmem S8x128 .f32) (harg14 : arg14.IsWhole) (arg15 : Memref sig .tc .vmem S128x1024 .fp8e4m3) (harg15 : arg15.IsWhole) (arg16 : Memref sig .tc .vmem S128x128 .f32) (harg16 : arg16.IsWhole)
    (x2 : FVec F S1x128x3584 .bf16) (y7 : FVec F S28x8x2x128 .f32) (KC : FVec F S1x1024x128 .fp8e4m3)
    (KSB : FVec F S1024x128 .f32) (KM : FVec F S8x128 .f32) (VT : FVec F S128x1024 .fp8e4m3) (VSB : FVec F S128x128 .f32)
    (E : Set ℕ) (K : PUnit → sProp 𝕄) :
    iprop(owns (c : Thread nD τ) arg2 fullShare x2 ∗ (∃ d, owns (c : Thread nD τ) arg5 fullShare d) ∗ (∃ d, owns (c : Thread nD τ) arg6 fullShare d) ∗ owns (c : Thread nD τ) arg7 fullShare y7 ∗ owns (c : Thread nD τ) arg8 fullShare KC ∗ (∃ d, owns (c : Thread nD τ) arg12 fullShare d) ∗ owns (c : Thread nD τ) arg13 fullShare KSB ∗ owns (c : Thread nD τ) arg14 fullShare KM ∗ owns (c : Thread nD τ) arg15 fullShare VT ∗ owns (c : Thread nD τ) arg16 fullShare VSB ∗ ((owns (c : Thread nD τ) arg2 fullShare x2 ∗ owns (c : Thread nD τ) arg5 fullShare (attended (codesOut x2) (heldScales x2) KC KSB KM VT VSB ⟨t.val % 8, Nat.mod_lt _ (by decide)⟩) ∗ owns (c : Thread nD τ) arg6 fullShare (codesOut x2) ∗ owns (c : Thread nD τ) arg7 fullShare (scalesStep (grid0.coords t) x2 y7) ∗ owns (c : Thread nD τ) arg8 fullShare KC ∗ (∃ d, owns (c : Thread nD τ) arg12 fullShare d) ∗ owns (c : Thread nD τ) arg13 fullShare KSB ∗ owns (c : Thread nD τ) arg14 fullShare KM ∗ owns (c : Thread nD τ) arg15 fullShare VT ∗ owns (c : Thread nD τ) arg16 fullShare VSB) -∗ K ⟨⟩)) ⊢
      wp frame (wpE (defs₀ (F := F)) Variants.none c none) E (cc0_mqa_prefill_e4m3 (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  have hlt : t.val % 8 < 8 := Nat.mod_lt _ (by decide)
  obtain h | h | h | h | h | h | h : t.val % 8 = 1 ∨ t.val % 8 = 2 ∨ t.val % 8 = 3 ∨ t.val % 8 = 4 ∨ t.val % 8 = 5 ∨ t.val % 8 = 6 ∨ t.val % 8 = 7 := by omega
  · rw [show (⟨t.val % 8, Nat.mod_lt _ (by decide)⟩ : Fin 8) = 1 from Fin.ext h]
    exact body1 c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 (fun g => absurd ((hcond0_0 t).mp g) (by omega)) (fun g => absurd ((hcond0_1 t).mp g) (by omega)) ((hcond0_2 t).mpr h) (fun g => absurd ((hcond0_3 t).mp g) (by omega)) (fun g => absurd ((hcond0_4 t).mp g) (by omega)) (fun g => absurd ((hcond0_5 t).mp g) (by omega)) (fun g => absurd ((hcond0_6 t).mp g) (by omega)) (fun g => absurd ((hcond0_7 t).mp g) (by omega)) (fun g => absurd ((hcond0_8 t).mp g) (by omega))
      x2 y7 KC KSB KM VT VSB E K
  · rw [show (⟨t.val % 8, Nat.mod_lt _ (by decide)⟩ : Fin 8) = 2 from Fin.ext h]
    exact body2 c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 (fun g => absurd ((hcond0_0 t).mp g) (by omega)) (fun g => absurd ((hcond0_1 t).mp g) (by omega)) (fun g => absurd ((hcond0_2 t).mp g) (by omega)) ((hcond0_3 t).mpr h) (fun g => absurd ((hcond0_4 t).mp g) (by omega)) (fun g => absurd ((hcond0_5 t).mp g) (by omega)) (fun g => absurd ((hcond0_6 t).mp g) (by omega)) (fun g => absurd ((hcond0_7 t).mp g) (by omega)) (fun g => absurd ((hcond0_8 t).mp g) (by omega))
      x2 y7 KC KSB KM VT VSB E K
  · rw [show (⟨t.val % 8, Nat.mod_lt _ (by decide)⟩ : Fin 8) = 3 from Fin.ext h]
    exact body3 c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 (fun g => absurd ((hcond0_0 t).mp g) (by omega)) (fun g => absurd ((hcond0_1 t).mp g) (by omega)) (fun g => absurd ((hcond0_2 t).mp g) (by omega)) (fun g => absurd ((hcond0_3 t).mp g) (by omega)) ((hcond0_4 t).mpr h) (fun g => absurd ((hcond0_5 t).mp g) (by omega)) (fun g => absurd ((hcond0_6 t).mp g) (by omega)) (fun g => absurd ((hcond0_7 t).mp g) (by omega)) (fun g => absurd ((hcond0_8 t).mp g) (by omega))
      x2 y7 KC KSB KM VT VSB E K
  · rw [show (⟨t.val % 8, Nat.mod_lt _ (by decide)⟩ : Fin 8) = 4 from Fin.ext h]
    exact body4 c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 (fun g => absurd ((hcond0_0 t).mp g) (by omega)) (fun g => absurd ((hcond0_1 t).mp g) (by omega)) (fun g => absurd ((hcond0_2 t).mp g) (by omega)) (fun g => absurd ((hcond0_3 t).mp g) (by omega)) (fun g => absurd ((hcond0_4 t).mp g) (by omega)) ((hcond0_5 t).mpr h) (fun g => absurd ((hcond0_6 t).mp g) (by omega)) (fun g => absurd ((hcond0_7 t).mp g) (by omega)) (fun g => absurd ((hcond0_8 t).mp g) (by omega))
      x2 y7 KC KSB KM VT VSB E K
  · rw [show (⟨t.val % 8, Nat.mod_lt _ (by decide)⟩ : Fin 8) = 5 from Fin.ext h]
    exact body5 c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 (fun g => absurd ((hcond0_0 t).mp g) (by omega)) (fun g => absurd ((hcond0_1 t).mp g) (by omega)) (fun g => absurd ((hcond0_2 t).mp g) (by omega)) (fun g => absurd ((hcond0_3 t).mp g) (by omega)) (fun g => absurd ((hcond0_4 t).mp g) (by omega)) (fun g => absurd ((hcond0_5 t).mp g) (by omega)) ((hcond0_6 t).mpr h) (fun g => absurd ((hcond0_7 t).mp g) (by omega)) (fun g => absurd ((hcond0_8 t).mp g) (by omega))
      x2 y7 KC KSB KM VT VSB E K
  · rw [show (⟨t.val % 8, Nat.mod_lt _ (by decide)⟩ : Fin 8) = 6 from Fin.ext h]
    exact body6 c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 (fun g => absurd ((hcond0_0 t).mp g) (by omega)) (fun g => absurd ((hcond0_1 t).mp g) (by omega)) (fun g => absurd ((hcond0_2 t).mp g) (by omega)) (fun g => absurd ((hcond0_3 t).mp g) (by omega)) (fun g => absurd ((hcond0_4 t).mp g) (by omega)) (fun g => absurd ((hcond0_5 t).mp g) (by omega)) (fun g => absurd ((hcond0_6 t).mp g) (by omega)) ((hcond0_7 t).mpr h) (fun g => absurd ((hcond0_8 t).mp g) (by omega))
      x2 y7 KC KSB KM VT VSB E K
  · rw [show (⟨t.val % 8, Nat.mod_lt _ (by decide)⟩ : Fin 8) = 7 from Fin.ext h]
    exact body7 c (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 (fun g => absurd ((hcond0_0 t).mp g) (by omega)) (fun g => absurd ((hcond0_1 t).mp g) (by omega)) (fun g => absurd ((hcond0_2 t).mp g) (by omega)) (fun g => absurd ((hcond0_3 t).mp g) (by omega)) (fun g => absurd ((hcond0_4 t).mp g) (by omega)) (fun g => absurd ((hcond0_5 t).mp g) (by omega)) (fun g => absurd ((hcond0_6 t).mp g) (by omega)) (fun g => absurd ((hcond0_7 t).mp g) (by omega)) ((hcond0_8 t).mpr h)
      x2 y7 KC KSB KM VT VSB E K

end Cert.KernelIdeal.Gen

end
-- ==== Proof.Branch0.lean ====
/-
  The branch of a point whose block of tokens has number 0: 128 keys.
-/
module

public import proofs.«01_k».proof.Proof.Store
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Cert.KernelIdeal.Attn Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- The branch of blocks 0: all heads' stores but the last pair's. -/
theorem branch0 (c : Dev nD) (i : grid0.Coords) (arg2 : Memref sig .tc .vmem S1x128x3584 .bf16) (harg2 : arg2.IsWhole) (arg3 : Memref sig .tc .vmem S1x1024x128 .bf16) (harg3 : arg3.IsWhole) (arg4 : Memref sig .tc .vmem S1x1024x128 .bf16) (harg4 : arg4.IsWhole) (arg5 : Memref sig .tc .vmem S1x128x3584 .bf16) (harg5 : arg5.IsWhole) (arg6 : Memref sig .tc .vmem S1x28x128x128 .fp8e4m3) (harg6 : arg6.IsWhole) (arg7 : Memref sig .tc .vmem S28x8x2x128 .f32) (harg7 : arg7.IsWhole) (arg8 : Memref sig .tc .vmem S1x1024x128 .fp8e4m3) (harg8 : arg8.IsWhole) (arg9 : Memref sig .tc .vmem S2x1024 .f32) (harg9 : arg9.IsWhole) (arg10 : Memref sig .tc .vmem S1x1024x128 .fp8e4m3) (harg10 : arg10.IsWhole) (arg11 : Memref sig .tc .vmem S2x128 .f32) (harg11 : arg11.IsWhole) (arg12 : Memref sig .tc .vmem S128x128 .f32) (harg12 : arg12.IsWhole) (arg13 : Memref sig .tc .vmem S1024x128 .f32) (harg13 : arg13.IsWhole) (arg14 : Memref sig .tc .vmem S8x128 .f32) (harg14 : arg14.IsWhole) (arg15 : Memref sig .tc .vmem S128x1024 .fp8e4m3) (harg15 : arg15.IsWhole) (arg16 : Memref sig .tc .vmem S128x128 .f32) (harg16 : arg16.IsWhole)
    (f5 : arg5.view.ty.Contents (Elt F)) (f6 : arg6.view.ty.Contents (Elt F)) (f8 : arg8.view.ty.Contents (Elt F)) (f12 : arg12.view.ty.Contents (Elt F)) (f13 : arg13.view.ty.Contents (Elt F)) (f14 : arg14.view.ty.Contents (Elt F)) (f15 : arg15.view.ty.Contents (Elt F)) (f16 : arg16.view.ty.Contents (Elt F)) (E : Set ℕ) (K : (Σ' (v4147 : FVec F S128x128 .f32), Vec F S128x128 .f32) → sProp 𝕄) (R : sProp 𝕄)
    (hK : ∀ L v, L = (wideStores (blockOut0 fits128 mask0 (arg6.view.read (Elt F) f6) (arg12.view.read (Elt F) f12) (arg8.view.read (Elt F) f8) (arg13.view.read (Elt F) f13) (arg14.view.read (Elt F) f14) (arg15.view.read (Elt F) f15) (arg16.view.read (Elt F) f16)) (blockOut1 fits128 mask0 (arg6.view.read (Elt F) f6) (arg12.view.read (Elt F) f12) (arg8.view.read (Elt F) f8) (arg13.view.read (Elt F) f13) (arg14.view.read (Elt F) f14) (arg15.view.read (Elt F) f15) (arg16.view.read (Elt F) f16))).drop 1 → k0_pay2642 v.1 v.2 = blockOut1 fits128 mask0 (arg6.view.read (Elt F) f6) (arg12.view.read (Elt F) f12) (arg8.view.read (Elt F) f8) (arg13.view.read (Elt F) f13) (arg14.view.read (Elt F) f14) (arg15.view.read (Elt F) f15) (arg16.view.read (Elt F) f16) 13 →
      (iprop((View.loc (c : Thread nD τ) arg5.view ↦[arg5.view.set]{fullShare} arg5.view.writes (Elt F) f5 L) ∗ (View.loc (c : Thread nD τ) arg6.view ↦[arg6.view.set]{fullShare} f6) ∗ (View.loc (c : Thread nD τ) arg8.view ↦[arg8.view.set]{fullShare} f8) ∗ (View.loc (c : Thread nD τ) arg12.view ↦[arg12.view.set]{fullShare} f12) ∗ (View.loc (c : Thread nD τ) arg13.view ↦[arg13.view.set]{fullShare} f13) ∗ (View.loc (c : Thread nD τ) arg14.view ↦[arg14.view.set]{fullShare} f14) ∗ (View.loc (c : Thread nD τ) arg15.view ↦[arg15.view.set]{fullShare} f15) ∗ (View.loc (c : Thread nD τ) arg16.view ↦[arg16.view.set]{fullShare} f16) ∗ R) ⊢ K v)) :
    iprop((View.loc (c : Thread nD τ) arg5.view ↦[arg5.view.set]{fullShare} f5) ∗ (View.loc (c : Thread nD τ) arg6.view ↦[arg6.view.set]{fullShare} f6) ∗ (View.loc (c : Thread nD τ) arg8.view ↦[arg8.view.set]{fullShare} f8) ∗ (View.loc (c : Thread nD τ) arg12.view ↦[arg12.view.set]{fullShare} f12) ∗ (View.loc (c : Thread nD τ) arg13.view ↦[arg13.view.set]{fullShare} f13) ∗ (View.loc (c : Thread nD τ) arg14.view ↦[arg14.view.set]{fullShare} f14) ∗ (View.loc (c : Thread nD τ) arg15.view ↦[arg15.view.set]{fullShare} f15) ∗ (View.loc (c : Thread nD τ) arg16.view ↦[arg16.view.set]{fullShare} f16) ∗ R) ⊢
      wp frame (wpE (defs₀ (F := F)) Variants.none c none) E (k0_part59 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [k0_part59_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton]
  iintro ⟨H5, H6, H8, H12, H13, H14, H15, H16, HR⟩
  sl_exec
  sl_step
  iapply hK
  rotate_left 2
  isplitl [H5]
  · iexact H5
  isplitl [H6]
  · iexact H6
  isplitl [H8]
  · iexact H8
  isplitl [H12]
  · iexact H12
  isplitl [H13]
  · iexact H13
  isplitl [H14]
  · iexact H14
  isplitl [H15]
  · iexact H15
  isplitl [H16]
  · iexact H16
  · iexact HR
  · rfl
  · rfl

/-- The same, for a continuation inside the logic. -/
theorem branch0_spec (c : Dev nD) (i : grid0.Coords) (arg2 : Memref sig .tc .vmem S1x128x3584 .bf16) (harg2 : arg2.IsWhole) (arg3 : Memref sig .tc .vmem S1x1024x128 .bf16) (harg3 : arg3.IsWhole) (arg4 : Memref sig .tc .vmem S1x1024x128 .bf16) (harg4 : arg4.IsWhole) (arg5 : Memref sig .tc .vmem S1x128x3584 .bf16) (harg5 : arg5.IsWhole) (arg6 : Memref sig .tc .vmem S1x28x128x128 .fp8e4m3) (harg6 : arg6.IsWhole) (arg7 : Memref sig .tc .vmem S28x8x2x128 .f32) (harg7 : arg7.IsWhole) (arg8 : Memref sig .tc .vmem S1x1024x128 .fp8e4m3) (harg8 : arg8.IsWhole) (arg9 : Memref sig .tc .vmem S2x1024 .f32) (harg9 : arg9.IsWhole) (arg10 : Memref sig .tc .vmem S1x1024x128 .fp8e4m3) (harg10 : arg10.IsWhole) (arg11 : Memref sig .tc .vmem S2x128 .f32) (harg11 : arg11.IsWhole) (arg12 : Memref sig .tc .vmem S128x128 .f32) (harg12 : arg12.IsWhole) (arg13 : Memref sig .tc .vmem S1024x128 .f32) (harg13 : arg13.IsWhole) (arg14 : Memref sig .tc .vmem S8x128 .f32) (harg14 : arg14.IsWhole) (arg15 : Memref sig .tc .vmem S128x1024 .fp8e4m3) (harg15 : arg15.IsWhole) (arg16 : Memref sig .tc .vmem S128x128 .f32) (harg16 : arg16.IsWhole)
    (f5 : arg5.view.ty.Contents (Elt F)) (f6 : arg6.view.ty.Contents (Elt F)) (f8 : arg8.view.ty.Contents (Elt F)) (f12 : arg12.view.ty.Contents (Elt F)) (f13 : arg13.view.ty.Contents (Elt F)) (f14 : arg14.view.ty.Contents (Elt F)) (f15 : arg15.view.ty.Contents (Elt F)) (f16 : arg16.view.ty.Contents (Elt F)) (E : Set ℕ) (K : (Σ' (v4147 : FVec F S128x128 .f32), Vec F S128x128 .f32) → sProp 𝕄) :
    iprop((View.loc (c : Thread nD τ) arg5.view ↦[arg5.view.set]{fullShare} f5) ∗ (View.loc (c : Thread nD τ) arg6.view ↦[arg6.view.set]{fullShare} f6) ∗ (View.loc (c : Thread nD τ) arg8.view ↦[arg8.view.set]{fullShare} f8) ∗ (View.loc (c : Thread nD τ) arg12.view ↦[arg12.view.set]{fullShare} f12) ∗ (View.loc (c : Thread nD τ) arg13.view ↦[arg13.view.set]{fullShare} f13) ∗ (View.loc (c : Thread nD τ) arg14.view ↦[arg14.view.set]{fullShare} f14) ∗ (View.loc (c : Thread nD τ) arg15.view ↦[arg15.view.set]{fullShare} f15) ∗ (View.loc (c : Thread nD τ) arg16.view ↦[arg16.view.set]{fullShare} f16) ∗ (∀ L v, ⌜L = (wideStores (blockOut0 fits128 mask0 (arg6.view.read (Elt F) f6) (arg12.view.read (Elt F) f12) (arg8.view.read (Elt F) f8) (arg13.view.read (Elt F) f13) (arg14.view.read (Elt F) f14) (arg15.view.read (Elt F) f15) (arg16.view.read (Elt F) f16)) (blockOut1 fits128 mask0 (arg6.view.read (Elt F) f6) (arg12.view.read (Elt F) f12) (arg8.view.read (Elt F) f8) (arg13.view.read (Elt F) f13) (arg14.view.read (Elt F) f14) (arg15.view.read (Elt F) f15) (arg16.view.read (Elt F) f16))).drop 1⌝ -∗ ⌜k0_pay2642 v.1 v.2 = blockOut1 fits128 mask0 (arg6.view.read (Elt F) f6) (arg12.view.read (Elt F) f12) (arg8.view.read (Elt F) f8) (arg13.view.read (Elt F) f13) (arg14.view.read (Elt F) f14) (arg15.view.read (Elt F) f15) (arg16.view.read (Elt F) f16) 13⌝ -∗
      ((View.loc (c : Thread nD τ) arg5.view ↦[arg5.view.set]{fullShare} arg5.view.writes (Elt F) f5 L) ∗ (View.loc (c : Thread nD τ) arg6.view ↦[arg6.view.set]{fullShare} f6) ∗ (View.loc (c : Thread nD τ) arg8.view ↦[arg8.view.set]{fullShare} f8) ∗ (View.loc (c : Thread nD τ) arg12.view ↦[arg12.view.set]{fullShare} f12) ∗ (View.loc (c : Thread nD τ) arg13.view ↦[arg13.view.set]{fullShare} f13) ∗ (View.loc (c : Thread nD τ) arg14.view ↦[arg14.view.set]{fullShare} f14) ∗ (View.loc (c : Thread nD τ) arg15.view ↦[arg15.view.set]{fullShare} f15) ∗ (View.loc (c : Thread nD τ) arg16.view ↦[arg16.view.set]{fullShare} f16)) -∗ K v)) ⊢
      wp frame (wpE (defs₀ (F := F)) Variants.none c none) E (k0_part59 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  refine branch0 c i arg2 harg2 arg3 harg3 arg4 harg4 arg5 harg5 arg6 harg6 arg7 harg7 arg8 harg8 arg9 harg9 arg10 harg10 arg11 harg11 arg12 harg12 arg13 harg13 arg14 harg14 arg15 harg15 arg16 harg16 f5 f6 f8 f12 f13 f14 f15 f16 E K _ fun L v hL hv => ?_
  iintro ⟨H5, H6, H8, H12, H13, H14, H15, H16, HR⟩
  iapply HR $$ %L %v %hL %hv
  isplitl [H5]
  · iexact H5
  isplitl [H6]
  · iexact H6
  isplitl [H8]
  · iexact H8
  isplitl [H12]
  · iexact H12
  isplitl [H13]
  · iexact H13
  isplitl [H14]
  · iexact H14
  isplitl [H15]
  · iexact H15
  iexact H16

end Cert.KernelIdeal.Gen

end
-- ==== Proof.First.lean ====
/-
  The first point of a batch: keys and values are prepared, the queries quantised, and the first block attended to.
-/
module

public import proofs.«01_k».proof.Proof.Prep
public import proofs.«01_k».proof.Proof.Branch0
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Cert.KernelIdeal.Attn Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- The first point of a batch: what every array holds after it. -/
theorem first (c : Dev nD) (i : grid0.Coords) (arg2 : Memref sig .tc .vmem S1x128x3584 .bf16) (harg2 : arg2.IsWhole) (arg3 : Memref sig .tc .vmem S1x1024x128 .bf16) (harg3 : arg3.IsWhole) (arg4 : Memref sig .tc .vmem S1x1024x128 .bf16) (harg4 : arg4.IsWhole) (arg5 : Memref sig .tc .vmem S1x128x3584 .bf16) (harg5 : arg5.IsWhole) (arg6 : Memref sig .tc .vmem S1x28x128x128 .fp8e4m3) (harg6 : arg6.IsWhole) (arg7 : Memref sig .tc .vmem S28x8x2x128 .f32) (harg7 : arg7.IsWhole) (arg8 : Memref sig .tc .vmem S1x1024x128 .fp8e4m3) (harg8 : arg8.IsWhole) (arg9 : Memref sig .tc .vmem S2x1024 .f32) (harg9 : arg9.IsWhole) (arg10 : Memref sig .tc .vmem S1x1024x128 .fp8e4m3) (harg10 : arg10.IsWhole) (arg11 : Memref sig .tc .vmem S2x128 .f32) (harg11 : arg11.IsWhole) (arg12 : Memref sig .tc .vmem S128x128 .f32) (harg12 : arg12.IsWhole) (arg13 : Memref sig .tc .vmem S1024x128 .f32) (harg13 : arg13.IsWhole) (arg14 : Memref sig .tc .vmem S8x128 .f32) (harg14 : arg14.IsWhole) (arg15 : Memref sig .tc .vmem S128x1024 .fp8e4m3) (harg15 : arg15.IsWhole) (arg16 : Memref sig .tc .vmem S128x128 .f32) (harg16 : arg16.IsWhole) (h1 : k0_cond1 i = 1#1) (h2 : k0_cond2 i = 1#1)
    (f2 : arg2.view.ty.Contents (Elt F)) (f3 : arg3.view.ty.Contents (Elt F)) (f4 : arg4.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) (f11 : arg11.view.ty.Contents (Elt F)) (f12 : arg12.view.ty.Contents (Elt F)) (f13 : arg13.view.ty.Contents (Elt F)) (f14 : arg14.view.ty.Contents (Elt F)) (f15 : arg15.view.ty.Contents (Elt F)) (f16 : arg16.view.ty.Contents (Elt F)) (f5 : arg5.view.ty.Contents (Elt F)) (E : Set ℕ) (K : (Σ' (arg1 : BitVec 32), BitVec 32) → sProp 𝕄) (R : sProp 𝕄)
    (hK : ∀ L6 L7 L8 L9 L10 L11 L12 L13 L14 L15 L16 v, L6 = (codeStores (queryCodes (arg2.view.read (Elt F) f2))) → L7 = (scaleStores i (scaleRow (arg2.view.read (Elt F) f2))) → L8 = [⟨Rect.unit (s := S1x1024x128) ![0, 0, 0] S1x1024x128.size (by decide), keyCodes (arg3.view.read (Elt F) f3)⟩] → L9 = [⟨Rect.unit (s := S2x1024) (k0_off1 i) S1x1024.size (k0_off1_inb i h1), keyScaleRow (arg3.view.read (Elt F) f3)⟩] → L10 = [⟨Rect.unit (s := S1x1024x128) ![0, 0, 0] S1x1024x128.size (by decide), valueCodes (arg4.view.read (Elt F) f4)⟩] → L11 = [⟨Rect.unit (s := S2x128) (k0_off2 i) S1x128.size (k0_off2_inb i h1), valueScaleRow (arg4.view.read (Elt F) f4)⟩] → L12 = [⟨Rect.unit (s := S128x128) ![0, 0] S128x128.size (by decide), heldScales (arg2.view.read (Elt F) f2)⟩] → L13 = [⟨Rect.unit (s := S1024x128) ![0, 0] S1024x128.size (by decide), heldKeyScales (arg3.view.read (Elt F) f3)⟩] → L14 = [⟨Rect.unit (s := S8x128) ![0, 0] S8x128.size (by decide), heldLargest (arg3.view.read (Elt F) f3)⟩] → L15 = [⟨Rect.unit (s := S128x1024) ![0, 0] S128x1024.size (by decide), heldValues (arg4.view.read (Elt F) f4)⟩] → L16 = [⟨Rect.unit (s := S128x128) ![0, 0] S128x128.size (by decide), heldValueScales (arg4.view.read (Elt F) f4)⟩] → (iprop((View.loc (c : Thread nD τ) arg2.view ↦[arg2.view.set]{fullShare} f2) ∗ (View.loc (c : Thread nD τ) arg3.view ↦[arg3.view.set]{fullShare} f3) ∗ (View.loc (c : Thread nD τ) arg4.view ↦[arg4.view.set]{fullShare} f4) ∗ (View.loc (c : Thread nD τ) arg6.view ↦[arg6.view.set]{fullShare} arg6.view.writes (Elt F) f6 L6) ∗ (View.loc (c : Thread nD τ) arg7.view ↦[arg7.view.set]{fullShare} arg7.view.writes (Elt F) f7 L7) ∗ (View.loc (c : Thread nD τ) arg8.view ↦[arg8.view.set]{fullShare} arg8.view.writes (Elt F) f8 L8) ∗ (View.loc (c : Thread nD τ) arg9.view ↦[arg9.view.set]{fullShare} arg9.view.writes (Elt F) f9 L9) ∗ (View.loc (c : Thread nD τ) arg10.view ↦[arg10.view.set]{fullShare} arg10.view.writes (Elt F) f10 L10) ∗ (View.loc (c : Thread nD τ) arg11.view ↦[arg11.view.set]{fullShare} arg11.view.writes (Elt F) f11 L11) ∗ (View.loc (c : Thread nD τ) arg12.view ↦[arg12.view.set]{fullShare} arg12.view.writes (Elt F) f12 L12) ∗ (View.loc (c : Thread nD τ) arg13.view ↦[arg13.view.set]{fullShare} arg13.view.writes (Elt F) f13 L13) ∗ (View.loc (c : Thread nD τ) arg14.view ↦[arg14.view.set]{fullShare} arg14.view.writes (Elt F) f14 L14) ∗ (View.loc (c : Thread nD τ) arg15.view ↦[arg15.view.set]{fullShare} arg15.view.writes (Elt F) f15 L15) ∗ (View.loc (c : Thread nD τ) arg16.view ↦[arg16.view.set]{fullShare} arg16.view.writes (Elt F) f16 L16) ∗ (View.loc (c : Thread nD τ) arg5.view ↦[arg5.view.set]{fullShare} arg5.view.writes (Elt F) f5 (wideStores (blockOut0 fits128 mask0 (arg6.view.read (Elt F) (arg6.view.writes (Elt F) f6 L6)) (arg12.view.read (Elt F) (arg12.view.writes (Elt F) f12 L12)) (arg8.view.read (Elt F) (arg8.view.writes (Elt F) f8 L8)) (arg13.view.read (Elt F) (arg13.view.writes (Elt F) f13 L13)) (arg14.view.read (Elt F) (arg14.view.writes (Elt F) f14 L14)) (arg15.view.read (Elt F) (arg15.view.writes (Elt F) f15 L15)) (arg16.view.read (Elt F) (arg16.view.writes (Elt F) f16 L16))) (blockOut1 fits128 mask0 (arg6.view.read (Elt F) (arg6.view.writes (Elt F) f6 L6)) (arg12.view.read (Elt F) (arg12.view.writes (Elt F) f12 L12)) (arg8.view.read (Elt F) (arg8.view.writes (Elt F) f8 L8)) (arg13.view.read (Elt F) (arg13.view.writes (Elt F) f13 L13)) (arg14.view.read (Elt F) (arg14.view.writes (Elt F) f14 L14)) (arg15.view.read (Elt F) (arg15.view.writes (Elt F) f15 L15)) (arg16.view.read (Elt F) (arg16.view.writes (Elt F) f16 L16))))) ∗ R) ⊢ K v)) :
    iprop((View.loc (c : Thread nD τ) arg2.view ↦[arg2.view.set]{fullShare} f2) ∗ (View.loc (c : Thread nD τ) arg3.view ↦[arg3.view.set]{fullShare} f3) ∗ (View.loc (c : Thread nD τ) arg4.view ↦[arg4.view.set]{fullShare} f4) ∗ (View.loc (c : Thread nD τ) arg6.view ↦[arg6.view.set]{fullShare} f6) ∗ (View.loc (c : Thread nD τ) arg7.view ↦[arg7.view.set]{fullShare} f7) ∗ (View.loc (c : Thread nD τ) arg8.view ↦[arg8.view.set]{fullShare} f8) ∗ (View.loc (c : Thread nD τ) arg9.view ↦[arg9.view.set]{fullShare} f9) ∗ (View.loc (c : Thread nD τ) arg10.view ↦[arg10.view.set]{fullShare} f10) ∗ (View.loc (c : Thread nD τ) arg11.view ↦[arg11.view.set]{fullShare} f11) ∗ (View.loc (c : Thread nD τ) arg12.view ↦[arg12.view.set]{fullShare} f12) ∗ (View.loc (c : Thread nD τ) arg13.view ↦[arg13.view.set]{fullShare} f13) ∗ (View.loc (c : Thread nD τ) arg14.view ↦[arg14.view.set]{fullShare} f14) ∗ (View.loc (c : Thread nD τ) arg15.view ↦[arg15.view.set]{fullShare} f15) ∗ (View.loc (c : Thread nD τ) arg16.view ↦[arg16.view.set]{fullShare} f16) ∗ (View.loc (c : Thread nD τ) arg5.view ↦[arg5.view.set]{fullShare} f5) ∗ R) ⊢
      wp frame (wpE (defs₀ (F := F)) Variants.none c none) E (k0_part504 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [k0_part504_eq_skeleton, k0_part459_eq_skeleton, k0_part1_eq_skeleton, k0_part2_eq_skeleton, k0_part3_eq_skeleton, k0_part460_eq_skeleton, k0_part461_eq_skeleton, k0_part462_eq_skeleton, k0_part463_eq_skeleton, k0_part464_eq_skeleton, k0_part465_eq_skeleton, k0_part466_eq_skeleton, k0_part467_eq_skeleton, k0_part468_eq_skeleton, k0_part469_eq_skeleton, k0_part470_eq_skeleton, k0_part471_eq_skeleton, k0_part472_eq_skeleton, k0_part473_eq_skeleton, k0_part474_eq_skeleton, k0_part475_eq_skeleton, k0_part476_eq_skeleton, k0_part477_eq_skeleton, k0_part478_eq_skeleton, k0_part479_eq_skeleton, k0_part480_eq_skeleton, k0_part481_eq_skeleton, k0_part482_eq_skeleton, k0_part483_eq_skeleton, k0_part484_eq_skeleton, k0_part485_eq_skeleton, k0_part486_eq_skeleton, k0_part487_eq_skeleton, k0_part488_eq_skeleton, k0_part489_eq_skeleton, k0_part490_eq_skeleton, k0_part491_eq_skeleton, k0_part492_eq_skeleton, k0_part493_eq_skeleton, k0_part494_eq_skeleton, k0_part495_eq_skeleton, k0_part496_eq_skeleton, k0_part497_eq_skeleton, k0_part498_eq_skeleton, k0_part499_eq_skeleton, k0_part500_eq_skeleton, k0_part501_eq_skeleton, k0_part502_eq_skeleton, k0_part503_eq_skeleton]
  iintro ⟨H2, H3, H4, H6, H7, H8, H9, H10, H11, H12, H13, H14, H15, H16, H5, HR⟩
  set_option sl_exec.stopBefore "k0_part59" in sl_exec (disch := first | sl_exact h1 | sl_exact h2)
  rw [wp_bind]
  iapply branch0_spec
  isplitl [H5]
  · iexact H5
  isplitl [H6]
  · iexact H6
  isplitl [H8]
  · iexact H8
  isplitl [H12]
  · iexact H12
  isplitl [H13]
  · iexact H13
  isplitl [H14]
  · iexact H14
  isplitl [H15]
  · iexact H15
  isplitl [H16]
  · iexact H16
  iintro %L %v %hL %hv ⟨H5, H6, H8, H12, H13, H14, H15, H16⟩
  subst hL
  obtain ⟨v1, v2⟩ := v
  replace hv : k0_pay2642 v1 v2 = _ := hv
  sl_exec (disch := first | sl_exact h1 | sl_exact h2)
  sl_step
  rw [hv]
  iapply hK
  rotate_left 11
  isplitl [H2]
  · iexact H2
  isplitl [H3]
  · iexact H3
  isplitl [H4]
  · iexact H4
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H5]
  · iexact H5
  · iexact HR
  · rfl
  · rfl
  · rfl
  · rfl
  · rfl
  · rfl
  · rfl
  · rfl
  · rfl
  · rfl
  · rfl

/-- The same, for a continuation inside the logic. -/
theorem first_spec (c : Dev nD) (i : grid0.Coords) (arg2 : Memref sig .tc .vmem S1x128x3584 .bf16) (harg2 : arg2.IsWhole) (arg3 : Memref sig .tc .vmem S1x1024x128 .bf16) (harg3 : arg3.IsWhole) (arg4 : Memref sig .tc .vmem S1x1024x128 .bf16) (harg4 : arg4.IsWhole) (arg5 : Memref sig .tc .vmem S1x128x3584 .bf16) (harg5 : arg5.IsWhole) (arg6 : Memref sig .tc .vmem S1x28x128x128 .fp8e4m3) (harg6 : arg6.IsWhole) (arg7 : Memref sig .tc .vmem S28x8x2x128 .f32) (harg7 : arg7.IsWhole) (arg8 : Memref sig .tc .vmem S1x1024x128 .fp8e4m3) (harg8 : arg8.IsWhole) (arg9 : Memref sig .tc .vmem S2x1024 .f32) (harg9 : arg9.IsWhole) (arg10 : Memref sig .tc .vmem S1x1024x128 .fp8e4m3) (harg10 : arg10.IsWhole) (arg11 : Memref sig .tc .vmem S2x128 .f32) (harg11 : arg11.IsWhole) (arg12 : Memref sig .tc .vmem S128x128 .f32) (harg12 : arg12.IsWhole) (arg13 : Memref sig .tc .vmem S1024x128 .f32) (harg13 : arg13.IsWhole) (arg14 : Memref sig .tc .vmem S8x128 .f32) (harg14 : arg14.IsWhole) (arg15 : Memref sig .tc .vmem S128x1024 .fp8e4m3) (harg15 : arg15.IsWhole) (arg16 : Memref sig .tc .vmem S128x128 .f32) (harg16 : arg16.IsWhole) (h1 : k0_cond1 i = 1#1) (h2 : k0_cond2 i = 1#1)
    (f2 : arg2.view.ty.Contents (Elt F)) (f3 : arg3.view.ty.Contents (Elt F)) (f4 : arg4.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) (f11 : arg11.view.ty.Contents (Elt F)) (f12 : arg12.view.ty.Contents (Elt F)) (f13 : arg13.view.ty.Contents (Elt F)) (f14 : arg14.view.ty.Contents (Elt F)) (f15 : arg15.view.ty.Contents (Elt F)) (f16 : arg16.view.ty.Contents (Elt F)) (f5 : arg5.view.ty.Contents (Elt F)) (E : Set ℕ) (K : (Σ' (arg1 : BitVec 32), BitVec 32) → sProp 𝕄) :
    iprop((View.loc (c : Thread nD τ) arg2.view ↦[arg2.view.set]{fullShare} f2) ∗ (View.loc (c : Thread nD τ) arg3.view ↦[arg3.view.set]{fullShare} f3) ∗ (View.loc (c : Thread nD τ) arg4.view ↦[arg4.view.set]{fullShare} f4) ∗ (View.loc (c : Thread nD τ) arg6.view ↦[arg6.view.set]{fullShare} f6) ∗ (View.loc (c : Thread nD τ) arg7.view ↦[arg7.view.set]{fullShare} f7) ∗ (View.loc (c : Thread nD τ) arg8.view ↦[arg8.view.set]{fullShare} f8) ∗ (View.loc (c : Thread nD τ) arg9.view ↦[arg9.view.set]{fullShare} f9) ∗ (View.loc (c : Thread nD τ) arg10.view ↦[arg10.view.set]{fullShare} f10) ∗ (View.loc (c : Thread nD τ) arg11.view ↦[arg11.view.set]{fullShare} f11) ∗ (View.loc (c : Thread nD τ) arg12.view ↦[arg12.view.set]{fullShare} f12) ∗ (View.loc (c : Thread nD τ) arg13.view ↦[arg13.view.set]{fullShare} f13) ∗ (View.loc (c : Thread nD τ) arg14.view ↦[arg14.view.set]{fullShare} f14) ∗ (View.loc (c : Thread nD τ) arg15.view ↦[arg15.view.set]{fullShare} f15) ∗ (View.loc (c : Thread nD τ) arg16.view ↦[arg16.view.set]{fullShare} f16) ∗ (View.loc (c : Thread nD τ) arg5.view ↦[arg5.view.set]{fullShare} f5) ∗ (∀ L6 L7 L8 L9 L10 L11 L12 L13 L14 L15 L16 v, ⌜L6 = (codeStores (queryCodes (arg2.view.read (Elt F) f2)))⌝ -∗ ⌜L7 = (scaleStores i (scaleRow (arg2.view.read (Elt F) f2)))⌝ -∗ ⌜L8 = [⟨Rect.unit (s := S1x1024x128) ![0, 0, 0] S1x1024x128.size (by decide), keyCodes (arg3.view.read (Elt F) f3)⟩]⌝ -∗ ⌜L9 = [⟨Rect.unit (s := S2x1024) (k0_off1 i) S1x1024.size (k0_off1_inb i h1), keyScaleRow (arg3.view.read (Elt F) f3)⟩]⌝ -∗ ⌜L10 = [⟨Rect.unit (s := S1x1024x128) ![0, 0, 0] S1x1024x128.size (by decide), valueCodes (arg4.view.read (Elt F) f4)⟩]⌝ -∗ ⌜L11 = [⟨Rect.unit (s := S2x128) (k0_off2 i) S1x128.size (k0_off2_inb i h1), valueScaleRow (arg4.view.read (Elt F) f4)⟩]⌝ -∗ ⌜L12 = [⟨Rect.unit (s := S128x128) ![0, 0] S128x128.size (by decide), heldScales (arg2.view.read (Elt F) f2)⟩]⌝ -∗ ⌜L13 = [⟨Rect.unit (s := S1024x128) ![0, 0] S1024x128.size (by decide), heldKeyScales (arg3.view.read (Elt F) f3)⟩]⌝ -∗ ⌜L14 = [⟨Rect.unit (s := S8x128) ![0, 0] S8x128.size (by decide), heldLargest (arg3.view.read (Elt F) f3)⟩]⌝ -∗ ⌜L15 = [⟨Rect.unit (s := S128x1024) ![0, 0] S128x1024.size (by decide), heldValues (arg4.view.read (Elt F) f4)⟩]⌝ -∗ ⌜L16 = [⟨Rect.unit (s := S128x128) ![0, 0] S128x128.size (by decide), heldValueScales (arg4.view.read (Elt F) f4)⟩]⌝ -∗ ((View.loc (c : Thread nD τ) arg2.view ↦[arg2.view.set]{fullShare} f2) ∗ (View.loc (c : Thread nD τ) arg3.view ↦[arg3.view.set]{fullShare} f3) ∗ (View.loc (c : Thread nD τ) arg4.view ↦[arg4.view.set]{fullShare} f4) ∗ (View.loc (c : Thread nD τ) arg6.view ↦[arg6.view.set]{fullShare} arg6.view.writes (Elt F) f6 L6) ∗ (View.loc (c : Thread nD τ) arg7.view ↦[arg7.view.set]{fullShare} arg7.view.writes (Elt F) f7 L7) ∗ (View.loc (c : Thread nD τ) arg8.view ↦[arg8.view.set]{fullShare} arg8.view.writes (Elt F) f8 L8) ∗ (View.loc (c : Thread nD τ) arg9.view ↦[arg9.view.set]{fullShare} arg9.view.writes (Elt F) f9 L9) ∗ (View.loc (c : Thread nD τ) arg10.view ↦[arg10.view.set]{fullShare} arg10.view.writes (Elt F) f10 L10) ∗ (View.loc (c : Thread nD τ) arg11.view ↦[arg11.view.set]{fullShare} arg11.view.writes (Elt F) f11 L11) ∗ (View.loc (c : Thread nD τ) arg12.view ↦[arg12.view.set]{fullShare} arg12.view.writes (Elt F) f12 L12) ∗ (View.loc (c : Thread nD τ) arg13.view ↦[arg13.view.set]{fullShare} arg13.view.writes (Elt F) f13 L13) ∗ (View.loc (c : Thread nD τ) arg14.view ↦[arg14.view.set]{fullShare} arg14.view.writes (Elt F) f14 L14) ∗ (View.loc (c : Thread nD τ) arg15.view ↦[arg15.view.set]{fullShare} arg15.view.writes (Elt F) f15 L15) ∗ (View.loc (c : Thread nD τ) arg16.view ↦[arg16.view.set]{fullShare} arg16.view.writes (Elt F) f16 L16) ∗ (View.loc (c : Thread nD τ) arg5.view ↦[arg5.view.set]{fullShare} arg5.view.writes (Elt F) f5 (wideStores (blockOut0 fits128 mask0 (arg6.view.read (Elt F) (arg6.view.writes (Elt F) f6 L6)) (arg12.view.read (Elt F) (arg12.view.writes (Elt F) f12 L12)) (arg8.view.read (Elt F) (arg8.view.writes (Elt F) f8 L8)) (arg13.view.read (Elt F) (arg13.view.writes (Elt F) f13 L13)) (arg14.view.read (Elt F) (arg14.view.writes (Elt F) f14 L14)) (arg15.view.read (Elt F) (arg15.view.writes (Elt F) f15 L15)) (arg16.view.read (Elt F) (arg16.view.writes (Elt F) f16 L16))) (blockOut1 fits128 mask0 (arg6.view.read (Elt F) (arg6.view.writes (Elt F) f6 L6)) (arg12.view.read (Elt F) (arg12.view.writes (Elt F) f12 L12)) (arg8.view.read (Elt F) (arg8.view.writes (Elt F) f8 L8)) (arg13.view.read (Elt F) (arg13.view.writes (Elt F) f13 L13)) (arg14.view.read (Elt F) (arg14.view.writes (Elt F) f14 L14)) (arg15.view.read (Elt F) (arg15.view.writes (Elt F) f15 L15)) (arg16.view.read (Elt F) (arg16.view.writes (Elt F) f16 L16)))))) -∗ K v)) ⊢
      wp frame (wpE (defs₀ (F := F)) Variants.none c none) E (k0_part504 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  refine first c i arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 f2 f3 f4 f6 f7 f8 f9 f10 f11 f12 f13 f14 f15 f16 f5 E K _ fun L6 L7 L8 L9 L10 L11 L12 L13 L14 L15 L16 v h0 h1 h2 h3 h4 h5 h6 h7 h8 h9 h10 => ?_
  iintro ⟨H2, H3, H4, H6, H7, H8, H9, H10, H11, H12, H13, H14, H15, H16, H5, HR⟩
  iapply HR $$ %L6 %L7 %L8 %L9 %L10 %L11 %L12 %L13 %L14 %L15 %L16 %v %h0 %h1 %h2 %h3 %h4 %h5 %h6 %h7 %h8 %h9 %h10
  isplitl [H2]
  · iexact H2
  isplitl [H3]
  · iexact H3
  isplitl [H4]
  · iexact H4
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  iexact H5

end Cert.KernelIdeal.Gen

end
-- ==== Proof.Body0.lean ====
/-
  The first point of a batch, run from its start to its end.
-/
module

public import proofs.«01_k».proof.Proof.Step
public import proofs.«01_k».proof.Proof.First
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Cert.KernelIdeal.Attn Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- The first point of a batch: it prepares the keys and values, quantises its queries and attends to the first 128 keys. -/
theorem body0 (c : Dev nD) (i : grid0.Coords) (arg2 : Memref sig .tc .vmem S1x128x3584 .bf16) (harg2 : arg2.IsWhole) (arg3 : Memref sig .tc .vmem S1x1024x128 .bf16) (harg3 : arg3.IsWhole) (arg4 : Memref sig .tc .vmem S1x1024x128 .bf16) (harg4 : arg4.IsWhole) (arg5 : Memref sig .tc .vmem S1x128x3584 .bf16) (harg5 : arg5.IsWhole) (arg6 : Memref sig .tc .vmem S1x28x128x128 .fp8e4m3) (harg6 : arg6.IsWhole) (arg7 : Memref sig .tc .vmem S28x8x2x128 .f32) (harg7 : arg7.IsWhole) (arg8 : Memref sig .tc .vmem S1x1024x128 .fp8e4m3) (harg8 : arg8.IsWhole) (arg9 : Memref sig .tc .vmem S2x1024 .f32) (harg9 : arg9.IsWhole) (arg10 : Memref sig .tc .vmem S1x1024x128 .fp8e4m3) (harg10 : arg10.IsWhole) (arg11 : Memref sig .tc .vmem S2x128 .f32) (harg11 : arg11.IsWhole) (arg12 : Memref sig .tc .vmem S128x128 .f32) (harg12 : arg12.IsWhole) (arg13 : Memref sig .tc .vmem S1024x128 .f32) (harg13 : arg13.IsWhole) (arg14 : Memref sig .tc .vmem S8x128 .f32) (harg14 : arg14.IsWhole) (arg15 : Memref sig .tc .vmem S128x1024 .fp8e4m3) (harg15 : arg15.IsWhole) (arg16 : Memref sig .tc .vmem S128x128 .f32) (harg16 : arg16.IsWhole)
    (hc0 : k0_cond1 i = 1#1) (hc1 : k0_cond2 i = 1#1) (hc2 : ¬ k0_cond3 i = 1#1) (hc3 : ¬ k0_cond4 i = 1#1) (hc4 : ¬ k0_cond5 i = 1#1) (hc5 : ¬ k0_cond6 i = 1#1) (hc6 : ¬ k0_cond7 i = 1#1) (hc7 : ¬ k0_cond8 i = 1#1) (hc8 : ¬ k0_cond9 i = 1#1)
    (x2 : FVec F S1x128x3584 .bf16) (x3 x4 : FVec F S1x1024x128 .bf16) (y7 : FVec F S28x8x2x128 .f32)
    (y9 : FVec F S2x1024 .f32) (y11 : FVec F S2x128 .f32)
    (E : Set ℕ) (K : PUnit → sProp 𝕄) :
    iprop(owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ owns (c : Thread nD τ) arg7 fullShare y7 ∗ (∃ d, owns (c : Thread nD τ) arg8 fullShare d) ∗ owns (c : Thread nD τ) arg9 fullShare y9 ∗ (∃ d, owns (c : Thread nD τ) arg10 fullShare d) ∗ owns (c : Thread nD τ) arg11 fullShare y11 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ ((owns (c : Thread nD τ) arg2 fullShare x2 ∗ owns (c : Thread nD τ) arg3 fullShare x3 ∗ owns (c : Thread nD τ) arg4 fullShare x4 ∗ owns (c : Thread nD τ) arg5 fullShare (attended (codesOut x2) (heldScales x2) (keyCodes x3) (heldKeyScales x3) (heldLargest x3) (heldValues x4) (heldValueScales x4) 0) ∗ owns (c : Thread nD τ) arg6 fullShare (codesOut x2) ∗ owns (c : Thread nD τ) arg7 fullShare (scalesStep i x2 y7) ∗ owns (c : Thread nD τ) arg8 fullShare (keyCodes x3) ∗ owns (c : Thread nD τ) arg9 fullShare (rowStep i (keyScaleRow x3) y9) ∗ owns (c : Thread nD τ) arg10 fullShare (valueCodes x4) ∗ owns (c : Thread nD τ) arg11 fullShare (rowStep i (valueScaleRow x4) y11) ∗ (∃ d, owns (c : Thread nD τ) arg12 fullShare d) ∗ owns (c : Thread nD τ) arg13 fullShare (heldKeyScales x3) ∗ owns (c : Thread nD τ) arg14 fullShare (heldLargest x3) ∗ owns (c : Thread nD τ) arg15 fullShare (heldValues x4) ∗ owns (c : Thread nD τ) arg16 fullShare (heldValueScales x4)) -∗ K ⟨⟩)) ⊢
      wp frame (wpE (defs₀ (F := F)) Variants.none c none) E (cc0_mqa_prefill_e4m3 i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_mqa_prefill_e4m3_eq_skeleton]; unfold cc0_mqa_prefill_e4m3_skel
  unfold owns
  iintro ⟨⟨%f2, %h2, H2⟩, ⟨%f3, %h3, H3⟩, ⟨%f4, %h4, H4⟩, ⟨%d5, %f5, -, H5⟩, ⟨%d6, %f6, -, H6⟩, ⟨%f7, %h7, H7⟩, ⟨%d8, %f8, -, H8⟩, ⟨%f9, %h9, H9⟩, ⟨%d10, %f10, -, H10⟩, ⟨%f11, %h11, H11⟩, ⟨%d12, %f12, -, H12⟩, ⟨%d13, %f13, -, H13⟩, ⟨%d14, %f14, -, H14⟩, ⟨%d15, %f15, -, H15⟩, ⟨%d16, %f16, -, H16⟩, HK⟩
  subst h2 h3 h4 h7 h9 h11
  set_option sl_exec.stopBefore "k0_part504" in sl_exec (disch := first | sl_exact hc0 | sl_exact hc1 | sl_exact hc2 | sl_exact hc3 | sl_exact hc4 | sl_exact hc5 | sl_exact hc6 | sl_exact hc7 | sl_exact hc8)
  rw [wp_bind]
  iapply (first_spec c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1)
  isplitl [H2]
  · iexact H2
  isplitl [H3]
  · iexact H3
  isplitl [H4]
  · iexact H4
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H5]
  · iexact H5
  iintro %L6 %L7 %L8 %L9 %L10 %L11 %L12 %L13 %L14 %L15 %L16 %v %hL6 %hL7 %hL8 %hL9 %hL10 %hL11 %hL12 %hL13 %hL14 %hL15 %hL16 ⟨H2, H3, H4, H6, H7, H8, H9, H10, H11, H12, H13, H14, H15, H16, H5⟩
  have e6 : arg6.view.read (Elt F) (arg6.view.writes (Elt F) f6 L6) = codesOut (arg2.view.read (Elt F) f2) := by rw [hL6]; exact read_codeStores _ _ _
  have e8 : arg8.view.read (Elt F) (arg8.view.writes (Elt F) f8 L8) = keyCodes (arg3.view.read (Elt F) f3) := by rw [hL8]; exact read_whole _ _ _ _
  have e12 : arg12.view.read (Elt F) (arg12.view.writes (Elt F) f12 L12) = heldScales (arg2.view.read (Elt F) f2) := by rw [hL12]; exact read_whole _ _ _ _
  have e13 : arg13.view.read (Elt F) (arg13.view.writes (Elt F) f13 L13) = heldKeyScales (arg3.view.read (Elt F) f3) := by rw [hL13]; exact read_whole _ _ _ _
  have e14 : arg14.view.read (Elt F) (arg14.view.writes (Elt F) f14 L14) = heldLargest (arg3.view.read (Elt F) f3) := by rw [hL14]; exact read_whole _ _ _ _
  have e15 : arg15.view.read (Elt F) (arg15.view.writes (Elt F) f15 L15) = heldValues (arg4.view.read (Elt F) f4) := by rw [hL15]; exact read_whole _ _ _ _
  have e16 : arg16.view.read (Elt F) (arg16.view.writes (Elt F) f16 L16) = heldValueScales (arg4.view.read (Elt F) f4) := by rw [hL16]; exact read_whole _ _ _ _
  rw [e6, e8, e12, e13, e14, e15, e16]
  subst hL6 hL7 hL8 hL9 hL10 hL11 hL12 hL13 hL14 hL15 hL16
  sl_exec (disch := first | sl_exact hc0 | sl_exact hc1 | sl_exact hc2 | sl_exact hc3 | sl_exact hc4 | sl_exact hc5 | sl_exact hc6 | sl_exact hc7 | sl_exact hc8)
  sl_step
  iapply HK
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; exact read_wideStores (F := F) _ _ _ _
  isplitl [H6]
  · iexists _; isplitr; swap; · iexact H6
    ipureintro; exact read_codeStores _ _ _
  isplitl [H7]
  · iexists _; isplitr; swap; · iexact H7
    ipureintro; exact read_scaleStores _ _ _ _
  isplitl [H8]
  · iexists _; isplitr; swap; · iexact H8
    ipureintro; exact read_whole _ _ _ _
  isplitl [H9]
  · iexists _; isplitr; swap; · iexact H9
    ipureintro; exact read_rowStore _ _ _ _ (k0_off1_eq i) _
  isplitl [H10]
  · iexists _; isplitr; swap; · iexact H10
    ipureintro; exact read_whole _ _ _ _
  isplitl [H11]
  · iexists _; isplitr; swap; · iexact H11
    ipureintro; exact read_rowStore _ _ _ _ (k0_off2_eq i) _
  isplitl [H12]
  · iexists _, _; isplitr; swap; · iexact H12
    ipureintro; rfl
  isplitl [H13]
  · iexists _; isplitr; swap; · iexact H13
    ipureintro; exact read_whole _ _ _ _
  isplitl [H14]
  · iexists _; isplitr; swap; · iexact H14
    ipureintro; exact read_whole _ _ _ _
  isplitl [H15]
  · iexists _; isplitr; swap; · iexact H15
    ipureintro; exact read_whole _ _ _ _
  iexists _; isplitr; swap; · iexact H16
  ipureintro; exact read_whole _ _ _ _

end Cert.KernelIdeal.Gen

end
-- ==== Proof.Data.lean ====
/-
  The run of the whole grid: what each block holds after each point, from what it holds before it.
-/
module

public import proofs.«01_k».proof.Proof.Later
public import proofs.«01_k».proof.Proof.Body0
public import proofs.«01_k».proof.Proof.Gen.KernelIdeal.Frame
public import Idealize.ShloMosaic.Lib.Pipeline.Frame
public import Idealize.ShloMosaic.Lib.Pipeline.ArrRel
public import proofs.«01_k».proof.Proof.Gen.KernelIdeal.Launch
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Cert.KernelIdeal.Attn Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Each window's current staging memref at point `t`, spelled as the pipeline passes it (`bodyAt0`), and its wholeness. -/
abbrev ms0_0 (t : Fin cfg0.N) : Memref sig .tc .vmem S1x128x3584 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x3584 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x28x128x128 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S28x8x2x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024x128 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1024x128 .fp8e4m3 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S2x128 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S128x128 .f32 := Memref.whole cc0_scratch0
abbrev scM0_1 : Memref sig .tc .vmem S1024x128 .f32 := Memref.whole cc0_scratch1
abbrev scM0_2 : Memref sig .tc .vmem S8x128 .f32 := Memref.whole cc0_scratch2
abbrev scM0_3 : Memref sig .tc .vmem S128x1024 .fp8e4m3 := Memref.whole cc0_scratch3
abbrev scM0_4 : Memref sig .tc .vmem S128x128 .f32 := Memref.whole cc0_scratch4

/-- The invariant between points, with the scratch operands owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

/-- The first point of the batch that point `n` is of. -/
def start (n : Nat) : Fin cfg0.N := ⟨n / 8 % 2 * 8, lt_of_lt_of_eq (by omega : n / 8 % 2 * 8 < 16) (N_0.symm)⟩

/-- The queries of a point, -/
abbrev queriesAt (c : Dev nD) (t : Fin cfg0.N) : FVec F S1x128x3584 .bf16 := iblk m c 0 t
/-- and the keys -/
abbrev keysAt (c : Dev nD) (n : Nat) : FVec F S1x1024x128 .bf16 := iblk m c 1 (start n)
/-- and values of its batch. -/
abbrev valuesAt (c : Dev nD) (n : Nat) : FVec F S1x1024x128 .bf16 := iblk m c 2 (start n)

/-- The output of a point. -/
def outAt (c : Dev nD) (t : Fin cfg0.N) : FVec F S1x128x3584 .bf16 :=
  attended (codesOut (queriesAt m c t)) (heldScales (queriesAt m c t)) (keyCodes (keysAt m c t.val)) (heldKeyScales (keysAt m c t.val))
    (heldLargest (keysAt m c t.val)) (heldValues (valuesAt m c t.val)) (heldValueScales (valuesAt m c t.val)) ⟨t.val % 8, Nat.mod_lt _ (by decide)⟩

/-- Between the points of a batch the scratch buffers hold what the first of them prepared. -/
def kept (c : Dev nD) (n : Nat) : sProp 𝕄 :=
  iprop(((∃ d, owns (c : Thread nD τ) scM0_0 fullShare d) ∗ owns (c : Thread nD τ) scM0_1 fullShare (heldKeyScales (keysAt m c n))
      ∗ owns (c : Thread nD τ) scM0_2 fullShare (heldLargest (keysAt m c n)) ∗ owns (c : Thread nD τ) scM0_3 fullShare (heldValues (valuesAt m c n))
      ∗ owns (c : Thread nD τ) scM0_4 fullShare (heldValueScales (valuesAt m c n))) ∗ (∃ r, prngReg c r))

/-- What a point leaves in each block, from what it finds there. -/
def leaves (c : Dev nD) : (w : Fin cfg0.W) → (t : Fin cfg0.N) → ((cfg0.win w).block.Idx → Elt F (cfg0.win w).elt) →
    ((cfg0.win w).block.Idx → Elt F (cfg0.win w).elt) → Prop
  | 0, t, _, X => X = queriesAt m c t
  | 1, t, _, X => X = keysAt m c t.val
  | 2, t, _, X => X = valuesAt m c t.val
  | 3, t, _, X => X = outAt m c t
  | 4, t, _, X => X = codesOut (queriesAt m c t)
  | 5, t, Y, X => X = scalesStep (grid0.coords t) (queriesAt m c t) Y
  | 6, t, _, X => X = keyCodes (keysAt m c t.val)
  | 7, t, Y, X => X = if t.val % 8 = 0 then rowStep (n := 1024) (grid0.coords t) (keyScaleRow (keysAt m c t.val)) Y else Y
  | 8, t, _, X => X = valueCodes (valuesAt m c t.val)
  | 9, t, Y, X => X = if t.val % 8 = 0 then rowStep (n := 128) (grid0.coords t) (valueScaleRow (valuesAt m c t.val)) Y else Y

/-- The proof data of the run. -/
def rdat (c : Dev nD) : Pipeline.RDat τ (Elt F) Unit ℕ (UR sig nD τ) ℕ cfg0 c where
  A w := V m c (Pipeline.arrRef spec0 w)
  after := leaves m c
  Φ t := if t.val % 8 = 0 then Pipeline.ΦA spec0 c else kept m c t.val
  q _ := fullShare
  owed _ := 0

/-- A batch's first point is its own start. -/
theorem start_of_first (t : Fin cfg0.N) (h : t.val % 8 = 0) : start t.val = t := by
  have := lt_of_lt_of_eq t.isLt (show cfg0.N = 16 from N_0)
  exact Fin.ext (show t.val / 8 % 2 * 8 = t.val by omega)

/-- The point before a later point of a batch has the same start. -/
theorem start_pred (n : Nat) (h : n % 8 ≠ 0) : start (n - 1) = start n :=
  Fin.ext (show (n - 1) / 8 % 2 * 8 = n / 8 % 2 * 8 by omega)

/-- The next point of the same batch has the same start. -/
theorem start_succ (n : Nat) (h : (n + 1) % 8 ≠ 0) : start (n + 1) = start n :=
  Fin.ext (show (n + 1) / 8 % 2 * 8 = n / 8 % 2 * 8 by omega)

/-- Every point finds its queries, -/
theorem finds_queries (c : Dev nD) (t : Fin cfg0.N) (Y) (h : (rdat m c).Finds 0 t Y) : Y = queriesAt m c t := by
  obtain ⟨d, rfl⟩ := ((rdat m c).finds_of_fetch (fetch0_0 t) Y).mp h
  rfl

/-- the keys of its batch, -/
theorem finds_keys (c : Dev nD) (t : Fin cfg0.N) (Y) (h : (rdat m c).Finds 1 t Y) : Y = keysAt m c t.val := by
  by_cases h8 : t.val % 8 = 0
  · obtain ⟨d, rfl⟩ := ((rdat m c).finds_of_fetch ((fetch0_1 t).mpr h8) Y).mp h
    unfold keysAt; rw [start_of_first t h8]; rfl
  · have hf : (cfg0.win 1).fetch t = false := Bool.eq_false_iff.mpr fun g => h8 ((fetch0_1 t).mp g)
    obtain h | ⟨_, _, h⟩ := ((rdat m c).finds_of_pos hf (by omega) Y).mp h
    · exact absurd h (by rw [show (cfg0.win 1).flush _ = false from rfl]; exact Bool.false_ne_true)
    · exact Eq.trans h (by show keysAt m c (t.val - 1) = _; unfold keysAt; rw [start_pred t.val h8])

/-- its values, -/
theorem finds_values (c : Dev nD) (t : Fin cfg0.N) (Y) (h : (rdat m c).Finds 2 t Y) : Y = valuesAt m c t.val := by
  by_cases h8 : t.val % 8 = 0
  · obtain ⟨d, rfl⟩ := ((rdat m c).finds_of_fetch ((fetch0_2 t).mpr h8) Y).mp h
    unfold valuesAt; rw [start_of_first t h8]; rfl
  · have hf : (cfg0.win 2).fetch t = false := Bool.eq_false_iff.mpr fun g => h8 ((fetch0_2 t).mp g)
    obtain h | ⟨_, _, h⟩ := ((rdat m c).finds_of_pos hf (by omega) Y).mp h
    · exact absurd h (by rw [show (cfg0.win 2).flush _ = false from rfl]; exact Bool.false_ne_true)
    · exact Eq.trans h (by show valuesAt m c (t.val - 1) = _; unfold valuesAt; rw [start_pred t.val h8])

/-- and, unless it is the first of its batch, the codes of the keys. -/
theorem finds_keyCodes (c : Dev nD) (t : Fin cfg0.N) (h8 : t.val % 8 ≠ 0) (Y) (h : (rdat m c).Finds 6 t Y) :
    Y = keyCodes (keysAt m c t.val) := by
  obtain h | ⟨_, _, h⟩ := ((rdat m c).finds_of_pos (show (cfg0.win 6).fetch t = false from rfl) (by omega) Y).mp h
  · exact absurd ((flush0_6 _).mp h) (by show ¬ (t.val - 1) % 8 = 7; omega)
  · exact Eq.trans h (by show keyCodes (keysAt m c (t.val - 1)) = _; unfold keysAt; rw [start_pred t.val h8])

/-- A later point of a batch finds the batch's value codes. -/
theorem finds_valueCodes (c : Dev nD) (t : Fin cfg0.N) (h8 : t.val % 8 ≠ 0) (Y) (h : (rdat m c).Finds 8 t Y) :
    Y = valueCodes (valuesAt m c t.val) := by
  obtain h | ⟨_, _, h⟩ := ((rdat m c).finds_of_pos (show (cfg0.win 8).fetch t = false from rfl) (by omega) Y).mp h
  · exact absurd ((flush0_8 _).mp h) (by show ¬ (t.val - 1) % 8 = 7; omega)
  · exact Eq.trans h (by show valueCodes (valuesAt m c (t.val - 1)) = _; unfold valuesAt; rw [start_pred t.val h8])

/-- After a point that is not the last of its batch the scratch buffers hold what the batch's first point prepared; after the last, anything. -/
theorem kept_next (c : Dev nD) (t : Fin cfg0.N) : kept m c t.val ⊢ (rdat m c).Φ t.succ := by
  show _ ⊢ if (t.val + 1) % 8 = 0 then Pipeline.ΦA spec0 c else kept m c (t.val + 1)
  split
  · rw [PhiA0_eq]; unfold kept
    iintro ⟨⟨H0, H1, H2, H3, H4⟩, Hg⟩
    isplitl [H0 H1 H2 H3 H4]
    · isplitl [H0]; · iexact H0
      isplitl [H1]; · iexists _; iexact H1
      isplitl [H2]; · iexists _; iexact H2
      isplitl [H3]; · iexists _; iexact H3
      iexists _; iexact H4
    iexact Hg
  · rename_i h
    unfold kept keysAt valuesAt
    rw [start_succ t.val h]

/-- A point's run, between the blocks as it finds them and as it leaves them. -/
theorem point (c : Dev nD) (t : Fin cfg0.N) (Y : (w : Fin cfg0.W) → (cfg0.win w).block.Idx → Elt F (cfg0.win w).elt)
    (hY : ∀ w, (rdat m c).Finds w t (Y w)) :
    iprop((rdat m c).Φ t.castSucc ∗ (rdat m c).owesAt () t.castSucc
        ∗ owns (c : Thread nD τ) (ms0_0 t) fullShare (Y 0) ∗ owns (c : Thread nD τ) (ms0_1 t) fullShare (Y 1) ∗ owns (c : Thread nD τ) (ms0_2 t) fullShare (Y 2) ∗ owns (c : Thread nD τ) (ms0_3 t) fullShare (Y 3) ∗ owns (c : Thread nD τ) (ms0_4 t) fullShare (Y 4) ∗ owns (c : Thread nD τ) (ms0_5 t) fullShare (Y 5) ∗ owns (c : Thread nD τ) (ms0_6 t) fullShare (Y 6) ∗ owns (c : Thread nD τ) (ms0_7 t) fullShare (Y 7) ∗ owns (c : Thread nD τ) (ms0_8 t) fullShare (Y 8) ∗ owns (c : Thread nD τ) (ms0_9 t) fullShare (Y 9))
      ⊢ wp frame (wpE (defs₀ (F := F)) Variants.none c none) Set.univ (bodyAt0 t) fun _ =>
          iprop((rdat m c).Φ t.succ ∗ (rdat m c).owesAt () t.succ
            ∗ (∃ X, ⌜(rdat m c).after 0 t (Y 0) X⌝ ∗ owns (c : Thread nD τ) (ms0_0 t) fullShare X) ∗ (∃ X, ⌜(rdat m c).after 1 t (Y 1) X⌝ ∗ owns (c : Thread nD τ) (ms0_1 t) fullShare X) ∗ (∃ X, ⌜(rdat m c).after 2 t (Y 2) X⌝ ∗ owns (c : Thread nD τ) (ms0_2 t) fullShare X) ∗ (∃ X, ⌜(rdat m c).after 3 t (Y 3) X⌝ ∗ owns (c : Thread nD τ) (ms0_3 t) fullShare X) ∗ (∃ X, ⌜(rdat m c).after 4 t (Y 4) X⌝ ∗ owns (c : Thread nD τ) (ms0_4 t) fullShare X) ∗ (∃ X, ⌜(rdat m c).after 5 t (Y 5) X⌝ ∗ owns (c : Thread nD τ) (ms0_5 t) fullShare X) ∗ (∃ X, ⌜(rdat m c).after 6 t (Y 6) X⌝ ∗ owns (c : Thread nD τ) (ms0_6 t) fullShare X) ∗ (∃ X, ⌜(rdat m c).after 7 t (Y 7) X⌝ ∗ owns (c : Thread nD τ) (ms0_7 t) fullShare X) ∗ (∃ X, ⌜(rdat m c).after 8 t (Y 8) X⌝ ∗ owns (c : Thread nD τ) (ms0_8 t) fullShare X) ∗ (∃ X, ⌜(rdat m c).after 9 t (Y 9) X⌝ ∗ owns (c : Thread nD τ) (ms0_9 t) fullShare X)) := by
  have e0 := finds_queries m c t _ (hY 0)
  have e1 := finds_keys m c t _ (hY 1)
  have e2 := finds_values m c t _ (hY 2)
  rw [show (rdat m c).owesAt () t.succ = (rdat m c).owesAt () t.castSucc from rfl,
    show (rdat m c).Φ t.castSucc = if t.val % 8 = 0 then Pipeline.ΦA spec0 c else kept m c t.val from rfl]
  rw [e0, e1, e2]
  by_cases h : t.val % 8 = 0
  · rw [if_pos h, PhiA0_eq]
    iintro ⟨⟨⟨S0, S1, S2, S3, S4⟩, Hg⟩, Ho, H0, H1, H2, H3, H4, H5, H6, H7, H8, H9⟩
    iapply (body0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _) ((hcond0_0 t).mpr h) ((hcond0_1 t).mpr h) (fun g => absurd ((hcond0_2 t).mp g) (by omega)) (fun g => absurd ((hcond0_3 t).mp g) (by omega)) (fun g => absurd ((hcond0_4 t).mp g) (by omega)) (fun g => absurd ((hcond0_5 t).mp g) (by omega)) (fun g => absurd ((hcond0_6 t).mp g) (by omega)) (fun g => absurd ((hcond0_7 t).mp g) (by omega)) (fun g => absurd ((hcond0_8 t).mp g) (by omega))
      (queriesAt m c t) (keysAt m c t.val) (valuesAt m c t.val) (Y 5) (Y 7) (Y 9) Set.univ _)
    isplitl [H0]; · iexact H0
    isplitl [H1]; · iexact H1
    isplitl [H2]; · iexact H2
    isplitl [H3]; · iexists _; iexact H3
    isplitl [H4]; · iexists _; iexact H4
    isplitl [H5]; · iexact H5
    isplitl [H6]; · iexists _; iexact H6
    isplitl [H7]; · iexact H7
    isplitl [H8]; · iexists _; iexact H8
    isplitl [H9]; · iexact H9
    isplitl [S0]; · iexact S0
    isplitl [S1]; · iexact S1
    isplitl [S2]; · iexact S2
    isplitl [S3]; · iexact S3
    isplitl [S4]; · iexact S4
    iintro ⟨H0, H1, H2, H3, H4, H5, H6, H7, H8, H9, S0, S1, S2, S3, S4⟩
    isplitl [S0 S1 S2 S3 S4 Hg]
    · iapply (kept_next m c t)
      unfold kept
      isplitl [S0 S1 S2 S3 S4]
      · isplitl [S0]; · iexact S0
        isplitl [S1]; · iexact S1
        isplitl [S2]; · iexact S2
        isplitl [S3]; · iexact S3
        iexact S4
      iexact Hg
    isplitl [Ho]; · iexact Ho
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; show _ = outAt m c t; unfold outAt; rw [show (⟨t.val % 8, Nat.mod_lt _ (by decide)⟩ : Fin 8) = 0 from Fin.ext h]
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; exact (if_pos h).symm
    isplitl [H8]
    · iexists _; isplitr; swap; · iexact H8
      ipureintro; rfl
    iexists _; isplitr; swap; · iexact H9
    ipureintro; exact (if_pos h).symm
  · rw [if_neg h]
    have e6 := finds_keyCodes m c t h _ (hY 6)
    have e8 := finds_valueCodes m c t h _ (hY 8)
    rw [e6, e8]
    unfold kept
    iintro ⟨⟨⟨S0, S1, S2, S3, S4⟩, Hg⟩, Ho, H0, H1, H2, H3, H4, H5, H6, H7, H8, H9⟩
    iapply (later c t h (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) scM0_4 (Memref.isWhole_whole _)
      (queriesAt m c t) (Y 5) (keyCodes (keysAt m c t.val)) (heldKeyScales (keysAt m c t.val)) (heldLargest (keysAt m c t.val))
      (heldValues (valuesAt m c t.val)) (heldValueScales (valuesAt m c t.val)) Set.univ _)
    isplitl [H0]; · iexact H0
    isplitl [H3]; · iexists _; iexact H3
    isplitl [H4]; · iexists _; iexact H4
    isplitl [H5]; · iexact H5
    isplitl [H6]; · iexact H6
    isplitl [S0]; · iexact S0
    isplitl [S1]; · iexact S1
    isplitl [S2]; · iexact S2
    isplitl [S3]; · iexact S3
    isplitl [S4]; · iexact S4
    iintro ⟨H0, H3, H4, H5, H6, S0, S1, S2, S3, S4⟩
    isplitl [S0 S1 S2 S3 S4 Hg]
    · iapply (kept_next m c t)
      unfold kept
      isplitl [S0 S1 S2 S3 S4]
      · isplitl [S0]; · iexact S0
        isplitl [S1]; · iexact S1
        isplitl [S2]; · iexact S2
        isplitl [S3]; · iexact S3
        iexact S4
      iexact Hg
    isplitl [Ho]; · iexact Ho
    isplitl [H0]
    · iexists _; isplitr; swap; · iexact H0
      ipureintro; rfl
    isplitl [H1]
    · iexists _; isplitr; swap; · iexact H1
      ipureintro; rfl
    isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; exact (if_neg h).symm
    isplitl [H8]
    · iexists _; isplitr; swap; · iexact H8
      ipureintro; rfl
    iexists _; isplitr; swap; · iexact H9
    ipureintro; exact (if_neg h).symm

/-- The body table's row at a point is the body there. -/
theorem defs₀_row (t : Fin cfg0.N) : defs₀ (F := F) .tc cfg0.body (cfg0.bodyArgs t (cfg0.slots t)) = bodyAt0 t := by
  unfold defs₀; rw [Defs.onTc_tc]

/-- Every point keeps the data. -/
theorem body_obligation (c : Dev nD) : (rdat (F := F) m c).BodyObligation (defs₀ (F := F)) Variants.none () Set.univ := fun t Y hY => by
  rw [bigSep_W0, bigSep_W0, defs₀_row]
  exact triple_restated (point m c t Y hY) rfl .rfl fun _ => .rfl

set_option backward.isDefEq.respectTransparency.types false in
/-- The run: every array ends at contents the data allow, every other buffer as launched, and every counter at zero. -/
theorem run_main : θ_run defs (onTc (τ := τ) (main (F := F))) (s₀ m ρ)
    (fun r => Pipeline.RDat.FramePost (cfgs 0) (rdat m) (V m) r ∧ r.2.sem = fun _ => 0) :=
  Pipeline.RDat.θ_run_frame_track (Q' := _) cfgs (0 : Fin 1) launch0 defs₀ Variants.none (rdat m) m ρ main
    (hbody := body_obligation m) (hshare := fun c => (rdat m c).share_full fun _ => rfl)
    (howed := fun _ _ => rfl) (V := V m) (hmain := hmain m Variants.none) (hA := fun _ _ => rfl)
    (hin := fun c => .rfl) (hout := fun c => by
      show (if (cfg0.N) % 8 = 0 then Pipeline.ΦA spec0 c else kept m c cfg0.N) ⊢ _
      rw [if_pos (by rw [show cfg0.N = 16 from N_0])])

end Cert.KernelIdeal.Gen

end
-- ==== Proof.Final.lean ====
/-
  The arrays the run leaves, as functions of the argument arrays.
-/
module

public import proofs.«01_k».proof.Proof.Data
public import Idealize.ShloMosaic.Lib.Pipeline.ValueKit.Geometry
public import Idealize.ShloMosaic.PureOps.Ideal
public import Idealize.ShloMosaic.Lib.Pointwise

@[expose] public section

set_option maxRecDepth 16384

noncomputable section

namespace Cert.KernelIdeal.Gen

open Cert.KernelIdeal.Attn Idealize.ShloMosaic Idealize.ShloMosaic.TcCoe Idealize.ShloMosaic.Tactic
open Idealize.SL Idealize.SL.RA Idealize.SL.BI
open Idealize.ShloMosaic.Pipeline (Dat Cfg Window)

section
variable {F : FTy → Type} [FloatOps F] [Named F]

/-- Block `i` of the tokens of batch `b`. -/
def tokens (x : FVec F S2x1024x3584 .bf16) (b : Fin 2) (i : Fin 8) : FVec F S1x128x3584 .bf16 :=
  fun z => x (ix3 b (⟨128 * i.val + (z 1).val, by have : (z 1).val < 128 := (z 1).isLt; omega⟩ : Fin 1024) (z 2 : Fin 3584))

/-- The keys or values of batch `b`. -/
def batch (k : FVec F S2x1024x128 .bf16) (b : Fin 2) : FVec F S1x1024x128 .bf16 :=
  fun z => k (ix3 b (z 1 : Fin 1024) (z 2 : Fin 128))

/-- The block a token is in, -/
def blockOf (n : Fin 1024) : Fin 8 := ⟨n.val / 128, by omega⟩
/-- and its place there. -/
def placeOf (n : Fin 1024) : Fin 128 := ⟨n.val % 128, Nat.mod_lt _ (by decide)⟩

variable (x : FVec F S2x1024x3584 .bf16) (k v : FVec F S2x1024x128 .bf16)

/-- The attention output. -/
def outResult : FVec F S2x1024x3584 .bf16 := fun y =>
  attended (codesOut (tokens x (y 0 : Fin 2) (blockOf (y 1 : Fin 1024)))) (heldScales (tokens x (y 0 : Fin 2) (blockOf (y 1 : Fin 1024))))
    (keyCodes (batch k (y 0 : Fin 2))) (heldKeyScales (batch k (y 0 : Fin 2))) (heldLargest (batch k (y 0 : Fin 2)))
    (heldValues (batch v (y 0 : Fin 2))) (heldValueScales (batch v (y 0 : Fin 2))) (blockOf (y 1 : Fin 1024))
    (ix3 (0 : Fin 1) (placeOf (y 1 : Fin 1024)) (y 2 : Fin 3584))
/-- The query codes. -/
def queryCodesResult : FVec F S2x28x1024x128 .fp8e4m3 := fun y =>
  queryCodes (tokens x (y 0 : Fin 2) (blockOf (y 2 : Fin 1024))) (y 1 : Fin 28) (ix4 (0 : Fin 1) (0 : Fin 1) (placeOf (y 2 : Fin 1024)) (y 3 : Fin 128))
/-- The query scales. -/
def queryScalesResult : FVec F S28x8x2x128 .f32 := fun y =>
  scaleRow (tokens x (y 2 : Fin 2) (y 1 : Fin 8)) (y 0 : Fin 28) (ix4 (0 : Fin 1) (0 : Fin 1) (0 : Fin 1) (y 3 : Fin 128))
/-- The key codes. -/
def keyCodesResult : FVec F S2x1024x128 .fp8e4m3 := fun y =>
  keyCodes (batch k (y 0 : Fin 2)) (ix3 (0 : Fin 1) (y 1 : Fin 1024) (y 2 : Fin 128))
/-- The key scales. -/
def keyScalesResult : FVec F S2x1024 .f32 := fun y =>
  keyScaleRow (batch k (y 0 : Fin 2)) (ix2 (0 : Fin 1) (y 1 : Fin 1024))
/-- The value codes. -/
def valueCodesResult : FVec F S2x1024x128 .fp8e4m3 := fun y =>
  valueCodes (batch v (y 0 : Fin 2)) (ix3 (0 : Fin 1) (y 1 : Fin 1024) (y 2 : Fin 128))
/-- The value scales. -/
def valueScalesResult : FVec F S2x128 .f32 := fun y =>
  valueScaleRow (batch v (y 0 : Fin 2)) (ix2 (0 : Fin 1) (y 1 : Fin 128))

end

section
variable {F : FTy → Type} [FloatOps F] [Named F]
variable (m : (ℓ : Loc nD τ sig) → Buf (Elt F) ℓ)

/-- The block of queries a point reads: its batch, its block of tokens. -/
theorem index0 : ∀ t : Fin cfg0.N, win0_0.index t = ![t.val / 8, t.val % 8, 0] := (by decide +kernel : ∀ t : Fin grid0.N, _)
/-- The block of keys a point reads: its batch. -/
theorem index1 : ∀ t : Fin cfg0.N, win0_1.index t = ![t.val / 8, 0, 0] := (by decide +kernel : ∀ t : Fin grid0.N, _)
/-- The block of values a point reads: its batch. -/
theorem index2 : ∀ t : Fin cfg0.N, win0_2.index t = ![t.val / 8, 0, 0] := (by decide +kernel : ∀ t : Fin grid0.N, _)
/-- The block of the output a point writes. -/
theorem index3 : ∀ t : Fin cfg0.N, win0_3.index t = ![t.val / 8, t.val % 8, 0] := (by decide +kernel : ∀ t : Fin grid0.N, _)
/-- The block of the query codes a point writes. -/
theorem index4 : ∀ t : Fin cfg0.N, win0_4.index t = ![t.val / 8, 0, t.val % 8, 0] := (by decide +kernel : ∀ t : Fin grid0.N, _)
/-- The block of the key codes a point writes. -/
theorem index6 : ∀ t : Fin cfg0.N, win0_6.index t = ![t.val / 8, 0, 0] := (by decide +kernel : ∀ t : Fin grid0.N, _)
/-- The block of the value codes a point writes. -/
theorem index8 : ∀ t : Fin cfg0.N, win0_8.index t = ![t.val / 8, 0, 0] := (by decide +kernel : ∀ t : Fin grid0.N, _)
/-- A point's batch and its block of tokens, from its number. -/
theorem coords0 : ∀ t : Fin cfg0.N, (grid0.coords t 0).val = t.val / 8 ∧ (grid0.coords t 1).val = t.val % 8 :=
  (by decide +kernel : ∀ t : Fin grid0.N, _)

/-- There are 16 points. -/
theorem lt16 (t : Fin cfg0.N) : t.val < 16 := lt_of_lt_of_eq t.isLt (show cfg0.N = 16 from N_0)

/-- The batch of a point, -/
def batchOf (t : Fin cfg0.N) : Fin 2 := ⟨t.val / 8, by have := lt16 t; omega⟩
/-- and its block of tokens. -/
def rowOf (t : Fin cfg0.N) : Fin 8 := ⟨t.val % 8, Nat.mod_lt _ (by decide)⟩

/-- The queries a point reads, as part of the argument. -/
theorem queriesAt_eq (c : Dev nD) (t : Fin cfg0.N) :
    queriesAt m c t = tokens (m ((c : Thread nD τ).loc main_arg0)) (batchOf t) (rowOf t) := by
  funext z
  unfold queriesAt tokens
  blk_simp [iblk, V]
  refine congrArg _ ?_
  blk_ext [index0 t]
  · rfl
  · show t.val % 8 * 128 + (z 1).val = 128 * (t.val % 8) + (z 1).val
    omega

/-- The keys a point reads, as part of the argument. -/
theorem keysAt_eq (c : Dev nD) (n : Nat) (t : Fin cfg0.N) (h : n / 8 % 2 = t.val / 8) :
    keysAt m c n = batch (m ((c : Thread nD τ).loc main_arg1)) (batchOf t) := by
  funext z
  unfold keysAt batch
  blk_simp [iblk, V]
  refine congrArg _ ?_
  blk_ext [index1 (start n)]
  · show n / 8 % 2 * 8 / 8 = t.val / 8
    omega

/-- The values a point reads, as part of the argument. -/
theorem valuesAt_eq (c : Dev nD) (n : Nat) (t : Fin cfg0.N) (h : n / 8 % 2 = t.val / 8) :
    valuesAt m c n = batch (m ((c : Thread nD τ).loc main_arg2)) (batchOf t) := by
  funext z
  unfold valuesAt batch
  blk_simp [iblk, V]
  refine congrArg _ ?_
  blk_ext [index2 (start n)]
  · show n / 8 % 2 * 8 / 8 = t.val / 8
    omega

/-- A point's batch is one of two. -/
theorem key_batch (t : Fin cfg0.N) : t.val / 8 % 2 = t.val / 8 := by have := lt16 t; omega

/-- After a point the array of query scales holds the rows of the points so far. -/
theorem leaves_queryScales (c : Dev nD) : ∀ (n : Nat) (t : Fin cfg0.N), t.val = n → ∀ X, (rdat m c).Leaves 5 t X →
    ∀ y : S28x8x2x128.Idx, 8 * (y 2).val + (y 1).val ≤ n → X y = queryScalesResult (m ((c : Thread nD τ).loc main_arg0)) y := by
  intro n
  induction n with
  | zero =>
    rintro t ht X ⟨Y, -, hX⟩ y hy
    have hX : X = scalesStep (grid0.coords t) (queriesAt m c t) Y := hX
    have b1 : (y 1).val < 8 := (y 1).isLt
    have b2 : (y 2).val < 2 := (y 2).isLt
    obtain ⟨c0, c1⟩ := coords0 t
    rw [hX, queriesAt_eq]
    unfold scalesStep queryScalesResult
    rw [if_pos (by rw [c0, c1]; omega)]
    have e1 : batchOf t = (y 2 : Fin 2) := Fin.ext (show t.val / 8 = (y 2).val by omega)
    have e2 : rowOf t = (y 1 : Fin 8) := Fin.ext (show t.val % 8 = (y 1).val by omega)
    rw [e1, e2]; exact congrArg _ (ix4_eq_valueIdx _ _ _ _).symm
  | succ n ih =>
    rintro t ht X ⟨Y, hY, hX⟩ y hy
    have hX : X = scalesStep (grid0.coords t) (queriesAt m c t) Y := hX
    have b1 : (y 1).val < 8 := (y 1).isLt
    have b2 : (y 2).val < 2 := (y 2).isLt
    have h16 := lt16 t
    obtain ⟨c0, c1⟩ := coords0 t
    rw [hX, queriesAt_eq]
    unfold scalesStep
    by_cases hq : 8 * (y 2).val + (y 1).val = t.val
    · rw [if_pos (by rw [c0, c1]; omega)]
      unfold queryScalesResult
      have e1 : batchOf t = (y 2 : Fin 2) := Fin.ext (show t.val / 8 = (y 2).val by omega)
      have e2 : rowOf t = (y 1 : Fin 8) := Fin.ext (show t.val % 8 = (y 1).val by omega)
      rw [e1, e2]; exact congrArg _ (ix4_eq_valueIdx _ _ _ _).symm
    · rw [if_neg (by rw [c0, c1]; omega)]
      obtain h | h := ((rdat m c).finds_of_pos (show (cfg0.win 5).fetch t = false from rfl) (by omega) Y).mp hY
      · exact absurd ((flush0_5 _).mp h) (by show ¬ (t.val - 1) % 16 = 15; omega)
      · exact ih ⟨t.val - 1, by omega⟩ (by show t.val - 1 = n; omega) Y h y (by omega)

/-- After a point the array of key scales holds the rows of the batches so far, -/
theorem leaves_keyScales (c : Dev nD) : ∀ (n : Nat) (t : Fin cfg0.N), t.val = n → ∀ X, (rdat m c).Leaves 7 t X →
    ∀ y : S2x1024.Idx, 8 * (y 0).val ≤ n → X y = keyScalesResult (m ((c : Thread nD τ).loc main_arg1)) y := by
  intro n
  induction n with
  | zero =>
    rintro t ht X ⟨Y, -, hX⟩ y hy
    have hX : X = if t.val % 8 = 0 then rowStep (n := 1024) (grid0.coords t) (keyScaleRow (keysAt m c t.val)) Y else Y := hX
    obtain ⟨c0, c1⟩ := coords0 t
    rw [hX, if_pos (by omega), keysAt_eq m c t.val t (key_batch t)]
    unfold rowStep keyScalesResult
    rw [if_pos (by rw [c0]; omega)]
    have e1 : batchOf t = (y 0 : Fin 2) := Fin.ext (show t.val / 8 = (y 0).val by omega)
    rw [e1]; exact congrArg _ (ix2_eq_valueIdx _ _).symm
  | succ n ih =>
    rintro t ht X ⟨Y, hY, hX⟩ y hy
    have hX : X = if t.val % 8 = 0 then rowStep (n := 1024) (grid0.coords t) (keyScaleRow (keysAt m c t.val)) Y else Y := hX
    have b1 : (y 0).val < 2 := (y 0).isLt
    have h16 := lt16 t
    obtain ⟨c0, c1⟩ := coords0 t
    by_cases hq : 8 * (y 0).val = t.val
    · rw [hX, if_pos (by omega), keysAt_eq m c t.val t (key_batch t)]
      unfold rowStep keyScalesResult
      rw [if_pos (by rw [c0]; omega)]
      have e1 : batchOf t = (y 0 : Fin 2) := Fin.ext (show t.val / 8 = (y 0).val by omega)
      rw [e1]; exact congrArg _ (ix2_eq_valueIdx _ _).symm
    · have hXY : X y = Y y := by
        rw [hX]
        split
        · unfold rowStep
          rw [if_neg (by rw [c0]; omega)]
        · rfl
      rw [hXY]
      obtain h | h := ((rdat m c).finds_of_pos (show (cfg0.win 7).fetch t = false from rfl) (by omega) Y).mp hY
      · exact absurd ((flush0_7 _).mp h) (by show ¬ (t.val - 1) % 16 = 15; omega)
      · exact ih ⟨t.val - 1, by omega⟩ (by show t.val - 1 = n; omega) Y h y (by omega)

/-- and the array of value scales. -/
theorem leaves_valueScales (c : Dev nD) : ∀ (n : Nat) (t : Fin cfg0.N), t.val = n → ∀ X, (rdat m c).Leaves 9 t X →
    ∀ y : S2x128.Idx, 8 * (y 0).val ≤ n → X y = valueScalesResult (m ((c : Thread nD τ).loc main_arg2)) y := by
  intro n
  induction n with
  | zero =>
    rintro t ht X ⟨Y, -, hX⟩ y hy
    have hX : X = if t.val % 8 = 0 then rowStep (n := 128) (grid0.coords t) (valueScaleRow (valuesAt m c t.val)) Y else Y := hX
    obtain ⟨c0, c1⟩ := coords0 t
    rw [hX, if_pos (by omega), valuesAt_eq m c t.val t (key_batch t)]
    unfold rowStep valueScalesResult
    rw [if_pos (by rw [c0]; omega)]
    have e1 : batchOf t = (y 0 : Fin 2) := Fin.ext (show t.val / 8 = (y 0).val by omega)
    rw [e1]; exact congrArg _ (ix2_eq_valueIdx _ _).symm
  | succ n ih =>
    rintro t ht X ⟨Y, hY, hX⟩ y hy
    have hX : X = if t.val % 8 = 0 then rowStep (n := 128) (grid0.coords t) (valueScaleRow (valuesAt m c t.val)) Y else Y := hX
    have b1 : (y 0).val < 2 := (y 0).isLt
    have h16 := lt16 t
    obtain ⟨c0, c1⟩ := coords0 t
    by_cases hq : 8 * (y 0).val = t.val
    · rw [hX, if_pos (by omega), valuesAt_eq m c t.val t (key_batch t)]
      unfold rowStep valueScalesResult
      rw [if_pos (by rw [c0]; omega)]
      have e1 : batchOf t = (y 0 : Fin 2) := Fin.ext (show t.val / 8 = (y 0).val by omega)
      rw [e1]; exact congrArg _ (ix2_eq_valueIdx _ _).symm
    · have hXY : X y = Y y := by
        rw [hX]
        split
        · unfold rowStep
          rw [if_neg (by rw [c0]; omega)]
        · rfl
      rw [hXY]
      obtain h | h := ((rdat m c).finds_of_pos (show (cfg0.win 9).fetch t = false from rfl) (by omega) Y).mp hY
      · exact absurd ((flush0_9 _).mp h) (by show ¬ (t.val - 1) % 16 = 15; omega)
      · exact ih ⟨t.val - 1, by omega⟩ (by show t.val - 1 = n; omega) Y h y (by omega)

/-- The token a point's row is. -/
def tokenOf (t : Fin cfg0.N) (l : Fin 128) : Fin 1024 := ⟨128 * (t.val % 8) + l.val, by omega⟩

/-- A point's token lies in the point's block of tokens. -/
theorem blockOf_tokenOf (t : Fin cfg0.N) (l : Fin 128) : blockOf (tokenOf t l) = rowOf t :=
  Fin.ext (show (128 * (t.val % 8) + l.val) / 128 = t.val % 8 by omega)
/-- A point's token is at its own place in the block. -/
theorem placeOf_tokenOf (t : Fin cfg0.N) (l : Fin 128) : placeOf (tokenOf t l) = l :=
  Fin.ext (show (128 * (t.val % 8) + l.val) % 128 = l.val by omega)

/-- A point writes its rows of the attention output, -/
theorem outAt_eq (c : Dev nD) (t : Fin cfg0.N) (l : Fin 128) (n : Fin 3584) :
    outAt m c t (ix3 (0 : Fin 1) l n) = outResult (m ((c : Thread nD τ).loc main_arg0)) (m ((c : Thread nD τ).loc main_arg1)) (m ((c : Thread nD τ).loc main_arg2))
      (ix3 (batchOf t) (tokenOf t l) n) := by
  show _ = attended (codesOut (tokens _ (batchOf t) (blockOf (tokenOf t l)))) (heldScales (tokens _ (batchOf t) (blockOf (tokenOf t l))))
    (keyCodes (batch _ (batchOf t))) (heldKeyScales (batch _ (batchOf t))) (heldLargest (batch _ (batchOf t)))
    (heldValues (batch _ (batchOf t))) (heldValueScales (batch _ (batchOf t))) (blockOf (tokenOf t l))
    (ix3 (0 : Fin 1) (placeOf (tokenOf t l)) n)
  rw [blockOf_tokenOf, placeOf_tokenOf]
  unfold outAt
  rw [queriesAt_eq, keysAt_eq m c t.val t (key_batch t), valuesAt_eq m c t.val t (key_batch t)]
  rfl

/-- of the query codes, -/
theorem codesAt_eq (c : Dev nD) (t : Fin cfg0.N) (h : Fin 28) (l n : Fin 128) :
    codesOut (queriesAt m c t) (ix4 (0 : Fin 1) h l n) = queryCodesResult (m ((c : Thread nD τ).loc main_arg0))
      (ix4 (batchOf t) h (tokenOf t l) n) := by
  show _ = queryCodes (tokens _ (batchOf t) (blockOf (tokenOf t l))) h (ix4 (0 : Fin 1) (0 : Fin 1) (placeOf (tokenOf t l)) n)
  rw [blockOf_tokenOf, placeOf_tokenOf, queriesAt_eq]
  rfl

/-- The run leaves the arguments as it found them. -/
theorem arguments (r : PUnit × MemSt nD τ sig (Elt F)) (h : Pipeline.RDat.FramePost (cfgs 0) (rdat m) (V m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) := by
  have a0 := (h c).1 0
  have a1 := (h c).1 1
  have a2 := (h c).1 2
  rw [(rdat m c).ArrAt_in 0 rfl] at a0
  rw [(rdat m c).ArrAt_in 1 rfl] at a1
  rw [(rdat m c).ArrAt_in 2 rfl] at a2
  exact ⟨a0, a1, a2⟩

end

/-! ## The arrays after the run -/

variable (m : (ℓ : Loc nD τ sig) → Buf (Elt Ideal) ℓ)

/-- The last point. -/
abbrev lastPoint : Fin cfg0.N := ⟨15, by rw [show cfg0.N = 16 from N_0]; decide⟩

/-- What the run leaves in the arrays of results. -/
theorem results (r : PUnit × MemSt nD τ sig (Elt Ideal)) (h : Pipeline.RDat.FramePost (cfgs 0) (rdat m) (V m) r) (c : Dev nD) :
    r.2.mem ((c : Thread nD τ).loc main_v0_0) = outResult (F := Ideal) (m ((c : Thread nD τ).loc main_arg0)) (m ((c : Thread nD τ).loc main_arg1)) (m ((c : Thread nD τ).loc main_arg2))
    ∧ r.2.mem ((c : Thread nD τ).loc main_v0_1) = queryCodesResult (F := Ideal) (m ((c : Thread nD τ).loc main_arg0))
    ∧ r.2.mem ((c : Thread nD τ).loc main_v0_2) = queryScalesResult (F := Ideal) (m ((c : Thread nD τ).loc main_arg0))
    ∧ r.2.mem ((c : Thread nD τ).loc main_v0_3) = keyCodesResult (F := Ideal) (m ((c : Thread nD τ).loc main_arg1))
    ∧ r.2.mem ((c : Thread nD τ).loc main_v0_4) = keyScalesResult (F := Ideal) (m ((c : Thread nD τ).loc main_arg1))
    ∧ r.2.mem ((c : Thread nD τ).loc main_v0_5) = valueCodesResult (F := Ideal) (m ((c : Thread nD τ).loc main_arg2))
    ∧ r.2.mem ((c : Thread nD τ).loc main_v0_6) = valueScalesResult (F := Ideal) (m ((c : Thread nD τ).loc main_arg2)) := by
  obtain ⟨after, hL, hA⟩ := Pipeline.RDat.FramePost.exists_exact h c
  refine ⟨(hA 3).trans ?_, (hA 4).trans ?_, (hA 5).trans ?_, (hA 6).trans ?_, (hA 7).trans ?_, (hA 8).trans ?_, (hA 9).trans ?_⟩
  · refine ((rdat m c).withAfter after).arrAt_eq_of_covers 3 _ (by decide +kernel) fun t hf y => ?_
    obtain ⟨_, _, e⟩ := hL 3 t hf
    blk_simp
    refine (congrFun e y).trans ?_
    have hz : y = ix3 (0 : Fin 1) (y 1 : Fin 128) (y 2 : Fin 3584) := by
      funext d; fin_cases d
      · exact Subsingleton.elim (α := Fin 1) _ _
      · rfl
      · rfl
    refine (congrArg (outAt m c t) hz).trans ((outAt_eq m c t _ _).trans (congrArg _ ?_))
    blk_ext [index3 t]
    · rfl
    · show 128 * (t.val % 8) + (y 1).val = t.val % 8 * 128 + (y 1).val
      omega
  · refine ((rdat m c).withAfter after).arrAt_eq_of_covers 4 _ (by decide +kernel) fun t hf y => ?_
    obtain ⟨_, _, e⟩ := hL 4 t hf
    blk_simp
    refine (congrFun e y).trans ?_
    have hz : y = ix4 (0 : Fin 1) (y 1 : Fin 28) (y 2 : Fin 128) (y 3 : Fin 128) := by
      funext d; fin_cases d
      · exact Subsingleton.elim (α := Fin 1) _ _
      · rfl
      · rfl
      · rfl
    refine (congrArg (codesOut (queriesAt m c t)) hz).trans ((codesAt_eq m c t _ _ _).trans (congrArg _ ?_))
    blk_ext [index4 t]
    · rfl
    · show 128 * (t.val % 8) + (y 2).val = t.val % 8 * 128 + (y 2).val
      omega
  · refine ((rdat m c).withAfter after).arrAt_eq_of_after_last 5 lastPoint (by decide +kernel) _ fun y => ?_
    have e := leaves_queryScales m c 15 lastPoint rfl _ (hL 5 lastPoint ((flush0_5 _).mpr rfl)) y
    blk_simp
    refine Eq.trans (e ?_) rfl
    have b1 : (y 1).val < 8 := (y 1).isLt
    have b2 : (y 2).val < 2 := (y 2).isLt
    omega
  · refine ((rdat m c).withAfter after).arrAt_eq_of_covers 6 _ (by decide +kernel) fun t hf y => ?_
    obtain ⟨_, _, e⟩ := hL 6 t hf
    blk_simp
    refine (congrFun e y).trans ?_
    show keyCodes (keysAt m c t.val) y = _
    rw [keysAt_eq m c t.val t (key_batch t)]
    have hy : (win0_6.blk t).view.emb y = ix3 (batchOf t) (y 1 : Fin 1024) (y 2 : Fin 128) := by
      blk_ext [index6 t]
      all_goals rfl
    have hz : y = ix3 (0 : Fin 1) (y 1 : Fin 1024) (y 2 : Fin 128) := by
      funext d; fin_cases d
      · exact Subsingleton.elim (α := Fin 1) _ _
      · rfl
      · rfl
    rw [hy]
    exact congrArg _ hz
  · refine ((rdat m c).withAfter after).arrAt_eq_of_after_last 7 lastPoint (by decide +kernel) _ fun y => ?_
    have e := leaves_keyScales m c 15 lastPoint rfl _ (hL 7 lastPoint ((flush0_7 _).mpr rfl)) y
    blk_simp
    refine Eq.trans (e ?_) rfl
    have b1 : (y 0).val < 2 := (y 0).isLt
    omega
  · refine ((rdat m c).withAfter after).arrAt_eq_of_covers 8 _ (by decide +kernel) fun t hf y => ?_
    obtain ⟨_, _, e⟩ := hL 8 t hf
    blk_simp
    refine (congrFun e y).trans ?_
    show valueCodes (valuesAt m c t.val) y = _
    rw [valuesAt_eq m c t.val t (key_batch t)]
    have hy : (win0_8.blk t).view.emb y = ix3 (batchOf t) (y 1 : Fin 1024) (y 2 : Fin 128) := by
      blk_ext [index8 t]
      all_goals rfl
    have hz : y = ix3 (0 : Fin 1) (y 1 : Fin 1024) (y 2 : Fin 128) := by
      funext d; fin_cases d
      · exact Subsingleton.elim (α := Fin 1) _ _
      · rfl
      · rfl
    rw [hy]
    exact congrArg _ hz
  · refine ((rdat m c).withAfter after).arrAt_eq_of_after_last 9 lastPoint (by decide +kernel) _ fun y => ?_
    have e := leaves_valueScales m c 15 lastPoint rfl _ (hL 9 lastPoint ((flush0_9 _).mpr rfl)) y
    blk_simp
    refine Eq.trans (e ?_) rfl
    have b1 : (y 0).val < 2 := (y 0).isLt
    omega

end Cert.KernelIdeal.Gen

end
-- ==== Proof.Scale.lean ====
/-
  The scale of a quantised group, in extended reals: a power of two, one above the exponent of `a / 448`.
-/
module

public import proofs.«01_k».proof.Proof.Head
public import Idealize.ShloMosaic.PureOps.IdealRules
public import Idealize.ShloMosaic.PureOps.Ideal.Laws
public import Idealize.ShloMosaic.Lib.Pointwise

@[expose] public section

noncomputable section

namespace Cert.KernelIdeal.Attn

open Idealize.ShloMosaic

/-- The exponent of a positive number: the floor of its logarithm to the base two. -/
def lg (r : ℝ) : ℤ := ⌊Real.log r * (Real.log 2)⁻¹⌋

/-- The scale of a group whose largest magnitude is `a`. -/
def step (a : ℝ) : ℝ := if a = 0 then 1 else (2 : ℝ) ^ (lg (a / 448) + 1)

/-- The step is positive. -/
theorem step_pos (a : ℝ) : 0 < step a := by unfold step; split <;> positivity

/-- The magnitudes the format's exponent arithmetic reaches. -/
def InRange (a : ℝ) : Prop := a = 0 ∨ ((2 : ℝ) ^ (-117 : ℤ) ≤ a ∧ a ≤ (2 : ℝ) ^ (128 : ℤ))

/-- The named constant `1 / 448`. -/
theorem inv448 : Named.named (F := Ideal) κ "inv_e4m3_max" (φ := .f32) 0x3B124925#32 = ((1 / 448 : ℝ) : EReal) :=
  IdealRules.named_const.ideal_named_scalar _ _ _ _ rfl
/-- The named constant `log2 e`. -/
theorem log2e : Named.named (F := Ideal) κ "log2e" (φ := .f32) 0x3FB8AA3B#32 = (((Real.log 2)⁻¹ : ℝ) : EReal) :=
  IdealRules.named_const.ideal_named_scalar _ _ _ _ rfl
/-- The named constant `log2 e / sqrt 128`. -/
theorem scoreScale : Named.named (F := Ideal) κ "score_scale_log2e" (φ := .f32) 0x3E0293EE#32
    = (((Real.sqrt 128)⁻¹ * (Real.log 2)⁻¹ : ℝ) : EReal) :=
  IdealRules.named_const.ideal_named_scalar _ _ _ _ rfl

/-- The sign and the exponent field of a word made of an exponent alone. -/
theorem powerFields : ∀ n : Fin 255, (BitVec.ofNat 32 n.val <<< 23).extractLsb' 31 1 = 0#1
    ∧ ((BitVec.ofNat 32 n.val <<< 23).extractLsb' 23 8).toNat = n.val
    ∧ ((BitVec.ofNat 32 n.val <<< 23).extractLsb' 0 23).toNat = 0 := by decide +kernel

/-- An exponent field with nothing under it is a power of two. -/
theorem ofBits_power (n : Nat) (h1 : 1 ≤ n) (h2 : n ≤ 254) :
    Ideal.ofBits .f32 (BitVec.ofNat 32 n <<< 23) = (((2 : ℝ) ^ ((n : ℤ) - 127) : ℝ) : EReal) := by
  have hf := powerFields ⟨n, by omega⟩
  generalize BitVec.ofNat 32 n <<< 23 = w at *
  obtain ⟨a, b, c⟩ := hf
  have e : Ideal.ofBits .f32 w = Ideal.ieee 8 23 w := rfl
  rw [e]
  unfold Ideal.ieee
  have b' : (BitVec.extractLsb' 23 8 w).toNat = n := b
  dsimp only
  rw [show (8 : ℕ) + 23 = 31 from rfl, a, b', c, if_neg (by omega), if_neg (by omega)]
  congr 1
  have h23 : (((2 : ℕ) ^ 23 + 0 : ℕ) : ℝ) = (2 : ℝ) ^ (23 : ℤ) := by norm_num
  rw [h23, if_neg (by decide), one_mul, ← zpow_add₀ (by norm_num)]
  congr 1
  push_cast
  ring

/-- A selection by a proposition's bit. -/
theorem select_ofBool {α : Type} (p : Prop) [Decidable p] (x y : α) :
    Scalar.select (BitVec.ofBool (decide p)) x y = if p then x else y := by
  unfold Scalar.select
  by_cases h : p <;> simp [h]

/-- The word of `2^-126`. -/
theorem ofBits_tiny : Ideal.ofBits .f32 0x00800000#32 = (((2 : ℝ) ^ (-126 : ℤ) : ℝ) : EReal) := by
  have := ofBits_power 1 (by omega) (by omega)
  simpa using this
/-- The word of 1. -/
theorem ofBits_one : Ideal.ofBits .f32 0x3F800000#32 = ((1 : ℝ) : EReal) := by
  have := ofBits_power 127 (by omega) (by omega)
  simpa using this
/-- The word of `2^-10`. -/
theorem ofBits_margin : Ideal.ofBits .f32 0x3A800000#32 = (((2 : ℝ) ^ (-10 : ℤ) : ℝ) : EReal) := by
  have := ofBits_power 117 (by omega) (by omega)
  simpa using this

/-- A power of two is at most `r` just when its exponent is at most the floor of `log2 r`. -/
theorem le_two_zpow {r : ℝ} (hr : 0 < r) (e : ℤ) : (2 : ℝ) ^ e ≤ r ↔ e ≤ lg r := by
  have l2 : 0 < Real.log 2 := Real.log_pos (by norm_num)
  unfold lg
  rw [Int.le_floor, ← div_eq_mul_inv, le_div_iff₀ l2, ← Real.log_zpow, Real.log_le_log_iff (by positivity) hr]

section
variable {s : Shape}

/-- The guess, at a positive number: its floor taken a little lower. -/
theorem low_apply (y : FVec Ideal s .f32) (j : s.Idx) (r : ℝ) (hy : y j = (r : EReal)) (e : ℤ)
    (he : ⌊Real.log (max r ((2 : ℝ) ^ (-126 : ℤ))) * (Real.log 2)⁻¹ - (2 : ℝ) ^ (-10 : ℤ)⌋ = e) (h0 : -127 ≤ e) (h1 : e ≤ 127) :
    low y j = BitVec.ofNat 32 (e + 127).toNat := by
  have hlog : Ideal.log ((max r ((2 : ℝ) ^ (-126 : ℤ)) : ℝ) : EReal) = ((Real.log (max r ((2 : ℝ) ^ (-126 : ℤ))) : ℝ) : EReal) := by
    rw [Ideal.log_coe, if_neg (not_le.2 (lt_of_lt_of_le (by positivity) (le_max_right _ _)))]
  have e1 : low y j = Ideal.fptosi 32 (Ideal.liftRound Int.floor
      (Ideal.log (max (y j) (Ideal.ofBits .f32 0x00800000#32)) * Named.named (F := Ideal) κ "log2e" (φ := .f32) 0x3FB8AA3B#32
        - Ideal.ofBits .f32 0x3A800000#32)) + 127#32 := rfl
  rw [e1, hy, ofBits_tiny, ofBits_margin, log2e, ← EReal.coe_strictMono.monotone.map_max, hlog, ← EReal.coe_mul, ← EReal.coe_sub,
    Ideal.liftRound_coe, he]
  unfold Ideal.fptosi
  rw [Ideal.toIntClamped_coe]
  have : (if (0 : ℝ) ≤ (e : ℝ) then ⌊(e : ℝ)⌋ else ⌈(e : ℝ)⌉) = e := by split <;> simp
  rw [this, max_eq_right (by norm_num; omega), min_eq_right (by norm_num; omega)]
  rw [show (127#32 : BitVec 32) = BitVec.ofInt 32 127 from rfl, ← BitVec.ofInt_add, ← BitVec.ofInt_natCast]
  congr 1
  omega

/-- The exponent field, at one element. -/
theorem field_def (y : FVec Ideal s .f32) (j : s.Idx) : field y j
    = if Ideal.ofBits .f32 ((low y j + 1#32) <<< 23) ≤ y j then low y j + 1#32 else low y j := by
  have e1 : field y j = Scalar.select (Ideal.cmp .oge (y j) (Ideal.ofBits .f32 (IntOp.shli .vector (low y j + 1#32) 23#32)))
    (low y j + 1#32) (low y j) := rfl
  have e2 : IntOp.shli .vector (low y j + 1#32) 23#32 = (low y j + 1#32) <<< 23 := rfl
  rw [e1, e2]
  exact select_ofBool _ _ _

/-- The exponent field of a normal number. -/
theorem field_apply (y : FVec Ideal s .f32) (j : s.Idx) (r : ℝ) (hy : y j = (r : EReal)) (h0 : (2 : ℝ) ^ (-126 : ℤ) ≤ r)
    (h1 : r ≤ (2 : ℝ) ^ (121 : ℤ)) : field y j = BitVec.ofNat 32 (lg r + 127).toNat := by
  have hr : 0 < r := lt_of_lt_of_le (by positivity) h0
  have hlo : -126 ≤ lg r := (le_two_zpow hr _).1 h0
  have hhi : lg r ≤ 121 := by
    by_contra hc
    have := (le_two_zpow hr 122).2 (by omega)
    have h3 : (2 : ℝ) ^ (121 : ℤ) < (2 : ℝ) ^ (122 : ℤ) := by norm_num
    linarith
  have hf : ⌊Real.log r * (Real.log 2)⁻¹⌋ = lg r := rfl
  have fl : ((lg r : ℤ) : ℝ) ≤ Real.log r * (Real.log 2)⁻¹ := by rw [← hf]; exact Int.floor_le _
  have fu : Real.log r * (Real.log 2)⁻¹ < ((lg r : ℤ) : ℝ) + 1 := by rw [← hf]; exact Int.lt_floor_add_one _
  have hm : max r ((2 : ℝ) ^ (-126 : ℤ)) = r := max_eq_left h0
  generalize hE : lg r = E at *
  have cases : ⌊Real.log r * (Real.log 2)⁻¹ - (2 : ℝ) ^ (-10 : ℤ)⌋ = E ∨ ⌊Real.log r * (Real.log 2)⁻¹ - (2 : ℝ) ^ (-10 : ℤ)⌋ = E - 1 := by
    have a1 : E - 1 ≤ ⌊Real.log r * (Real.log 2)⁻¹ - (2 : ℝ) ^ (-10 : ℤ)⌋ := Int.le_floor.2 (by push_cast; norm_num; linarith)
    have a2 : ⌊Real.log r * (Real.log 2)⁻¹ - (2 : ℝ) ^ (-10 : ℤ)⌋ < E + 1 := Int.floor_lt.2 (by push_cast; norm_num; linarith)
    omega
  have up : ∀ k : ℤ, 0 ≤ k → BitVec.ofNat 32 k.toNat + 1#32 = BitVec.ofNat 32 (k + 1).toNat := by
    intro k hk
    rw [show (k + 1).toNat = k.toNat + 1 by omega, BitVec.ofNat_add]
  have cmp : ∀ k : ℤ, 1 ≤ k → k ≤ 254 → (Ideal.ofBits .f32 (BitVec.ofNat 32 k.toNat <<< 23) ≤ y j ↔ k - 127 ≤ E) := by
    intro k hk hk'
    rw [ofBits_power _ (by omega) (by omega), hy, EReal.coe_le_coe_iff, le_two_zpow hr, hE]
    constructor <;> intro h <;> omega
  rcases cases with h | h
  · rw [field_def, low_apply y j r hy E (by rw [hm]; exact h) (by omega) (by omega), up _ (by omega),
      if_neg (by rw [cmp _ (by omega) (by omega)]; omega)]
  · rw [field_def, low_apply y j r hy (E - 1) (by rw [hm]; exact h) (by omega) (by omega), up _ (by omega),
      if_pos (by rw [cmp _ (by omega) (by omega)]; omega)]
    congr 2; omega

/-- Zero has the field zero. -/
theorem field_zero (y : FVec Ideal s .f32) (j : s.Idx) (hy : y j = ((0 : ℝ) : EReal)) : field y j = 0#32 := by
  have hm : max (0 : ℝ) ((2 : ℝ) ^ (-126 : ℤ)) = (2 : ℝ) ^ (-126 : ℤ) := max_eq_right (by positivity)
  have hl : Real.log ((2 : ℝ) ^ (-126 : ℤ)) * (Real.log 2)⁻¹ = (-126 : ℤ) := by
    rw [Real.log_zpow, mul_assoc, mul_inv_cancel₀ (Real.log_pos (by norm_num)).ne', mul_one]
  have hfl : ⌊Real.log (max (0 : ℝ) ((2 : ℝ) ^ (-126 : ℤ))) * (Real.log 2)⁻¹ - (2 : ℝ) ^ (-10 : ℤ)⌋ = -127 := by
    rw [hm, hl, Int.floor_eq_iff]; constructor <;> push_cast <;> norm_num
  have hlow := low_apply y j 0 hy (-127) hfl (by omega) (by omega)
  rw [field_def, hlow, if_neg]
  · rfl
  · have := ofBits_power 1 (by omega) (by omega)
    rw [show BitVec.ofNat 32 ((-127 : ℤ) + 127).toNat + 1#32 = BitVec.ofNat 32 1 from rfl, this, hy, EReal.coe_le_coe_iff]
    exact not_le.2 (by positivity)

/-- The scale, at one element. -/
theorem scale_def (f : IVec s 32) (j : s.Idx) : scale (F := Ideal) f j
    = if f j = 0#32 then ((1 : ℝ) : EReal) else Ideal.ofBits .f32 ((f j + 1#32) <<< 23) := by
  have e1 : scale (F := Ideal) f j = Ideal.ofBits .f32 (Scalar.select (IntOp.cmpi .eq (f j) 0#32) 1065353216#32
    (IntOp.shli .vector (f j + 1#32) 23#32)) := rfl
  have e2 : IntOp.shli .vector (f j + 1#32) 23#32 = (f j + 1#32) <<< 23 := rfl
  rw [e1, e2, ← ofBits_one]
  rw [show IntOp.cmpi .eq (f j) 0#32 = BitVec.ofBool (decide (f j = 0#32)) from rfl, select_ofBool]
  split <;> rfl

/-- The inverse scale, at one element. -/
theorem inverse_def (f : IVec s 32) (j : s.Idx) : inverse (F := Ideal) f j
    = if f j = 0#32 then ((1 : ℝ) : EReal) else Ideal.ofBits .f32 ((253#32 - f j) <<< 23) := by
  have e1 : inverse (F := Ideal) f j = Ideal.ofBits .f32 (Scalar.select (IntOp.cmpi .eq (f j) 0#32) 1065353216#32
    (IntOp.shli .vector (253#32 - f j) 23#32)) := rfl
  have e2 : IntOp.shli .vector (253#32 - f j) 23#32 = (253#32 - f j) <<< 23 := rfl
  rw [e1, e2, ← ofBits_one]
  rw [show IntOp.cmpi .eq (f j) 0#32 = BitVec.ofBool (decide (f j = 0#32)) from rfl, select_ofBool]
  split <;> rfl

/-- The quotient by 448, at one element. -/
theorem over448_apply (A : FVec Ideal s .f32) (j : s.Idx) (a : ℝ) (hA : A j = (a : EReal)) :
    over448 A j = ((a / 448 : ℝ) : EReal) := by
  have e1 : over448 A j = A j * Named.named (F := Ideal) κ "inv_e4m3_max" (φ := .f32) 0x3B124925#32 := rfl
  rw [e1, inv448, hA, ← EReal.coe_mul]; congr 1; ring

/-- The quotient by 448 stays in the range of normal numbers. -/
theorem bounds_over {a : ℝ} (h0 : (2 : ℝ) ^ (-117 : ℤ) ≤ a) (h1 : a ≤ (2 : ℝ) ^ (128 : ℤ)) :
    (2 : ℝ) ^ (-126 : ℤ) ≤ a / 448 ∧ a / 448 ≤ (2 : ℝ) ^ (120 : ℤ) := by
  have p : (2 : ℝ) ^ (-126 : ℤ) = (2 : ℝ) ^ (-117 : ℤ) / 512 := by norm_num
  have q : (2 : ℝ) ^ (120 : ℤ) = (2 : ℝ) ^ (128 : ℤ) / 256 := by norm_num
  have pos : (0 : ℝ) < (2 : ℝ) ^ (-117 : ℤ) := by positivity
  constructor
  · rw [p, div_le_div_iff₀ (by norm_num) (by norm_num)]; nlinarith
  · rw [q, div_le_div_iff₀ (by norm_num) (by norm_num)]; nlinarith

/-- So does its exponent. -/
theorem log_bounds {a : ℝ} (h0 : (2 : ℝ) ^ (-117 : ℤ) ≤ a) (h1 : a ≤ (2 : ℝ) ^ (128 : ℤ)) :
    -126 ≤ lg (a / 448) ∧ lg (a / 448) ≤ 120 := by
  obtain ⟨p, q⟩ := bounds_over h0 h1
  have hr : 0 < a / 448 := lt_of_lt_of_le (by positivity) p
  refine ⟨(le_two_zpow hr _).1 p, ?_⟩
  by_contra hc
  have := (le_two_zpow hr 121).2 (by omega)
  have h3 : (2 : ℝ) ^ (120 : ℤ) < (2 : ℝ) ^ (121 : ℤ) := by norm_num
  linarith

/-- The kernel's scale. -/
theorem scale_apply (A : FVec Ideal s .f32) (j : s.Idx) (a : ℝ) (hA : A j = (a : EReal)) (ha : InRange a) :
    scale (F := Ideal) (field (over448 A)) j = ((step a : ℝ) : EReal) := by
  have hy := over448_apply A j a hA
  rw [scale_def]
  rcases ha with rfl | ⟨h0, h1⟩
  · rw [field_zero _ _ (by rw [hy]; norm_num)]; simp [step]
  · have hpos : 0 < a := lt_of_lt_of_le (by positivity) h0
    obtain ⟨b0, b1⟩ := bounds_over h0 h1
    obtain ⟨l0, l1⟩ := log_bounds h0 h1
    have b2 : a / 448 ≤ (2 : ℝ) ^ (121 : ℤ) := b1.trans (by norm_num)
    rw [field_apply _ _ _ hy b0 b2]
    generalize hE : lg (a / 448) = E at *
    rw [if_neg (by intro h; have := congrArg BitVec.toNat h; simp at this; omega),
      show BitVec.ofNat 32 (E + 127).toNat + 1#32 = BitVec.ofNat 32 (E + 128).toNat by
        rw [show (E + 128).toNat = (E + 127).toNat + 1 by omega, BitVec.ofNat_add],
      ofBits_power _ (by omega) (by omega), step, if_neg hpos.ne', hE]
    congr 2; omega

/-- The kernel's reciprocal scale. -/
theorem inverse_apply (A : FVec Ideal s .f32) (j : s.Idx) (a : ℝ) (hA : A j = (a : EReal)) (ha : InRange a) :
    inverse (F := Ideal) (field (over448 A)) j = ((1 / step a : ℝ) : EReal) := by
  have hy := over448_apply A j a hA
  rw [inverse_def]
  rcases ha with rfl | ⟨h0, h1⟩
  · rw [field_zero _ _ (by rw [hy]; norm_num)]; simp [step]
  · have hpos : 0 < a := lt_of_lt_of_le (by positivity) h0
    obtain ⟨b0, b1⟩ := bounds_over h0 h1
    obtain ⟨l0, l1⟩ := log_bounds h0 h1
    have b2 : a / 448 ≤ (2 : ℝ) ^ (121 : ℤ) := b1.trans (by norm_num)
    rw [field_apply _ _ _ hy b0 b2]
    generalize hE : lg (a / 448) = E at *
    rw [if_neg (by intro h; have := congrArg BitVec.toNat h; simp at this; omega),
      show 253#32 - BitVec.ofNat 32 (E + 127).toNat = BitVec.ofNat 32 (126 - E).toNat by
        apply BitVec.eq_of_toNat_eq; simp [BitVec.toNat_sub, BitVec.toNat_ofNat]; omega,
      ofBits_power _ (by omega) (by omega), step, if_neg hpos.ne', hE, one_div, ← zpow_neg]
    congr 2; omega

end

/-- The reference's scale, by logarithm and exponential. -/
theorem step_eq_exp (a : ℝ) (ha : InRange a) :
    Ideal.exp ((if ((a : ℝ) : EReal) = 0 then 0 else
      Ideal.liftRound Int.floor (Ideal.div (Ideal.log (Ideal.div (a : EReal) ((448 : ℝ) : EReal))) (Ideal.log ((2 : ℝ) : EReal)))
        + ((1 : ℝ) : EReal)) * Ideal.log ((2 : ℝ) : EReal)) = ((step a : ℝ) : EReal) := by
  have hl2 : Ideal.log ((2 : ℝ) : EReal) = ((Real.log 2 : ℝ) : EReal) := by rw [Ideal.log_coe, if_neg (by norm_num)]
  have l2 : Real.log 2 ≠ 0 := (Real.log_pos (by norm_num)).ne'
  rcases ha with rfl | ⟨h0, h1⟩
  · rw [if_pos (by simp), zero_mul]
    rw [show (0 : EReal) = ((0 : ℝ) : EReal) from rfl, Ideal.exp_coe]; simp [step]
  · have hpos : 0 < a := lt_of_lt_of_le (by positivity) h0
    have hr : 0 < a / 448 := by positivity
    rw [if_neg (by exact_mod_cast hpos.ne'), hl2, Ideal.div_coe (show (448 : ℝ) ≠ 0 by norm_num), ← EReal.coe_mul,
      show a * (1 / 448) = a / 448 by ring, Ideal.log_coe, if_neg (not_le.2 hr), Ideal.div_coe l2, ← EReal.coe_mul,
      one_div, Ideal.liftRound_coe, show ⌊Real.log (a / 448) * (Real.log 2)⁻¹⌋ = lg (a / 448) from rfl, ← EReal.coe_add, ← EReal.coe_mul, Ideal.exp_coe, step, if_neg hpos.ne']
    congr 1
    rw [mul_comm, Real.exp_mul, Real.exp_log (by norm_num), ← Real.rpow_intCast]; congr 1; push_cast; ring

end Cert.KernelIdeal.Attn

end
-- ==== Proof.Spec.lean ====
/-
  The quantiser over extended reals: the largest magnitude of a group, its scale and its codes.
-/
module

public import proofs.«01_k».proof.Proof.Scale

@[expose] public section

noncomputable section

namespace Cert.KernelIdeal.Attn

open Idealize.ShloMosaic

/-- The largest magnitude of a group. -/
def absMax {n : Nat} (f : Fin n → EReal) : EReal := Finset.univ.fold max ⊥ (fun k => max (f k) (-(f k)))

/-- A real number whose magnitude is zero or in the range of the format's exponents. -/
def Tame (z : EReal) : Prop := ∃ r : ℝ, z = (r : EReal) ∧ InRange |r|

/-- The largest of a family is one of its members, and no member is above it. -/
theorem fold_max_spec {n : Nat} (g : Fin (n + 1) → ℝ) :
    ∃ k, Finset.univ.fold max ⊥ (fun k => (g k : EReal)) = (g k : EReal) ∧ ∀ l, g l ≤ g k := by
  obtain ⟨k, -, hk⟩ := Finset.exists_max_image Finset.univ g ⟨0, Finset.mem_univ _⟩
  refine ⟨k, le_antisymm ?_ ?_, fun l => hk l (Finset.mem_univ l)⟩
  · rw [Finset.fold_max_le]
    exact ⟨bot_le, fun l hl => EReal.coe_le_coe_iff.2 (hk l hl)⟩
  · rw [Finset.le_fold_max]
    exact .inr ⟨k, Finset.mem_univ k, le_rfl⟩

/-- The larger of a number and its negative is its magnitude. -/
theorem max_neg_coe (r : ℝ) : max (r : EReal) (-(r : EReal)) = ((|r| : ℝ) : EReal) := by
  rw [← EReal.coe_neg, ← EReal.coe_strictMono.monotone.map_max]; rfl

/-- The largest magnitude of a group of numbers in range is in range. -/
theorem absMax_spec {n : Nat} (f : Fin (n + 1) → EReal) (hf : ∀ k, Tame (f k)) : ∃ a : ℝ, absMax f = (a : EReal) ∧ InRange a := by
  choose g hg hr using hf
  obtain ⟨k, hk, -⟩ := fold_max_spec (fun k => |g k|)
  refine ⟨|g k|, ?_, hr k⟩
  rw [← hk]
  unfold absMax
  congr 1
  funext k
  rw [hg, max_neg_coe]

/-- A group's scale. -/
def stepOf {n : Nat} (f : Fin n → EReal) : ℝ := step (absMax f).toReal

/-- A group's step is positive. -/
theorem stepOf_pos {n : Nat} (f : Fin n → EReal) : 0 < stepOf f := step_pos _

/-- The code of a number on a scale: the quotient, clipped to the format's range. -/
def code (v : EReal) (S : ℝ) : EReal := min ((448 : ℝ) : EReal) (max ((-448 : ℝ) : EReal) (v * ((1 / S : ℝ) : EReal)))

/-- The word of 448. -/
theorem ofBits_448 : Ideal.ofBits .f32 0x43E00000#32 = ((448 : ℝ) : EReal) := by
  simp [Ideal.ofBits, Ideal.ieee]; rw [← EReal.coe_mul]; norm_num
/-- The word of -448. -/
theorem ofBits_neg448 : Ideal.ofBits .f32 0xC3E00000#32 = ((-448 : ℝ) : EReal) := by
  simp [Ideal.ofBits, Ideal.ieee]; rw [← EReal.coe_mul]; norm_num
/-- The word of 2. -/
theorem ofBits_two : Ideal.ofBits .f32 0x40000000#32 = ((2 : ℝ) : EReal) := by
  have := ofBits_power 128 (by omega) (by omega)
  simpa using this
/-- The word of minus infinity. -/
theorem ofBits_bot : Ideal.ofBits .f32 0xFF800000#32 = ⊥ := by
  simp [Ideal.ofBits, Ideal.ieee]
/-- The bf16 word of minus infinity. -/
theorem ofBits_bot16 : Ideal.ofBits .bf16 0xFF80#16 = ⊥ := by
  simp [Ideal.ofBits, Ideal.ieee]

/-- The code as the reference divides it out. -/
theorem code_eq_div (v : EReal) {S : ℝ} (hS : 0 < S) :
    min ((448 : ℝ) : EReal) (max ((-448 : ℝ) : EReal) (Ideal.div v (S : EReal))) = code v S := by
  rw [Ideal.div_coe hS.ne']; rfl

section
variable {s : Shape}

/-- The kernel's scale of a group. -/
theorem scale_of_group (A : FVec Ideal s .f32) (j : s.Idx) {n : Nat} (f : Fin (n + 1) → EReal) (hf : ∀ k, Tame (f k))
    (hA : A j = absMax f) : scale (F := Ideal) (field (over448 A)) j = ((stepOf f : ℝ) : EReal) := by
  obtain ⟨a, ha, hr⟩ := absMax_spec f hf
  rw [scale_apply A j a (hA.trans ha) hr, stepOf, ha]; rfl

/-- The kernel's reciprocal scale. -/
theorem inverse_of_group (A : FVec Ideal s .f32) (j : s.Idx) {n : Nat} (f : Fin (n + 1) → EReal) (hf : ∀ k, Tame (f k))
    (hA : A j = absMax f) : inverse (F := Ideal) (field (over448 A)) j = ((1 / stepOf f : ℝ) : EReal) := by
  obtain ⟨a, ha, hr⟩ := absMax_spec f hf
  rw [inverse_apply A j a (hA.trans ha) hr, stepOf, ha]; rfl

/-- The kernel's code. -/
theorem clipped_apply (v inv : FVec Ideal s .f32) (j : s.Idx) (S : ℝ) (h : inv j = ((1 / S : ℝ) : EReal)) :
    clipped v inv j = code (v j) S := by
  have e : clipped v inv j = min (Ideal.ofBits .f32 0x43E00000#32) (max (Ideal.ofBits .f32 0xC3E00000#32) (v j * inv j)) := rfl
  rw [e, h, ofBits_448, ofBits_neg448]; rfl

end

/-- The reference's scale of a group. -/
theorem step_of_group {n : Nat} (f : Fin (n + 1) → EReal) (hf : ∀ k, Tame (f k)) (A : EReal) (hA : A = absMax f) :
    Ideal.exp ((if A = 0 then 0 else
      Ideal.liftRound Int.floor (Ideal.div (Ideal.log (Ideal.div A ((448 : ℝ) : EReal))) (Ideal.log ((2 : ℝ) : EReal)))
        + ((1 : ℝ) : EReal)) * Ideal.log ((2 : ℝ) : EReal)) = ((stepOf f : ℝ) : EReal) := by
  obtain ⟨a, ha, hr⟩ := absMax_spec f hf
  rw [hA, ha, step_eq_exp a hr, stepOf, ha]; rfl

end Cert.KernelIdeal.Attn

end
-- ==== Proof.Codes.lean ====
/-
  The kernel's codes and scales, read element by element: they are the quantiser's.
-/
module

public import proofs.«01_k».proof.Proof.Final
public import proofs.«01_k».proof.Proof.Spec

@[expose] public section

noncomputable section

namespace Cert.KernelIdeal.Attn

open Cert.KernelIdeal Cert.KernelIdeal.Gen Idealize.ShloMosaic

/-- A head's part of a token. -/
def headPart (x : FVec Ideal S2x1024x3584 .bf16) (b : Fin 2) (n : Fin 1024) (h : Fin 28) : Fin 128 → EReal :=
  fun l => x (ix3 b n (⟨128 * h.val + l.val, by omega⟩ : Fin 3584))
/-- A key, or one token's values. -/
def rowOfKeys (k : FVec Ideal S2x1024x128 .bf16) (b : Fin 2) (n : Fin 1024) : Fin 128 → EReal := fun l => k (ix3 b n l)
/-- A channel's values. -/
def channel (v : FVec Ideal S2x1024x128 .bf16) (b : Fin 2) (d : Fin 128) : Fin 1024 → EReal := fun n => v (ix3 b n d)

/-- A token, from its block and its place there. -/
def token (i : Fin 8) (r : Fin 128) : Fin 1024 := ⟨128 * i.val + r.val, by omega⟩

/-- A token is the token at its place in its block. -/
theorem token_blockOf (n : Fin 1024) : token (blockOf n) (placeOf n) = n :=
  Fin.ext (show 128 * (n.val / 128) + n.val % 128 = n.val by omega)

/-! ## Queries -/

section Queries
variable (x : FVec Ideal S2x1024x3584 .bf16) (b : Fin 2) (i : Fin 8)

/-- A head's tile holds that head's part of each token. -/
theorem tile_apply (h : Fin 28) (r l : Fin 128) : tile (tokens x b i) h (ix2 r l) = headPart x b (token i r) h l := by
  pointwise [tile, tokens]
  unfold headPart
  refine congrArg x ?_
  funext d
  fin_cases d
  · rfl
  · exact Fin.ext (show 128 * i.val + (0 + 1 * r.val) = 128 * i.val + r.val by omega)
  · exact Fin.ext (show 128 * h.val + 1 * l.val = 128 * h.val + l.val by omega)

/-- The largest magnitude of a head's part of a token. -/
theorem tileMax_apply (h : Fin 28) (r : Fin 128) :
    (shapeCast S128x1 (multiReduction (F := Ideal) .maximumf [1] S128 (absf (tile (tokens x b i) h)) 0xFF800000#32 reduces_S128x128_S128
      (.inl rfl) rfl) shapeCasts_S128_S128x1) (ix2 r (0 : Fin 1)) = absMax (headPart x b (token i r) h) := by
  pointwise []
  simp only [tile_apply]
  rw [ofBits_bot]; rfl

/-- The query codes of a block. -/
theorem queryCodes_apply (h : Fin 28) (r l : Fin 128) (hx : ∀ l, Tame (headPart x b (token i r) h l)) :
    queryCodes (tokens x b i) h (ix4 (0 : Fin 1) (0 : Fin 1) r l)
      = code (headPart x b (token i r) h l) (stepOf (headPart x b (token i r) h)) := by
  pointwise [queryCodes]
  rw [clipped_apply _ _ _ _ _, tile_apply]
  pointwise [queryField]
  exact inverse_of_group _ _ _ hx (tileMax_apply x b i h r)

/-- The query scale the kernel computes is the quantiser's. -/
theorem queryScale_apply (h : Fin 28) (r : Fin 128) (hx : ∀ l, Tame (headPart x b (token i r) h l)) :
    scale (F := Ideal) (queryField (tokens x b i) h) (ix2 r (0 : Fin 1)) = ((stepOf (headPart x b (token i r) h) : ℝ) : EReal) :=
  scale_of_group _ _ _ hx (tileMax_apply x b i h r)

/-- Writing one head's scales changes that head's lane alone. -/
theorem withLane_apply (X : FVec Ideal S1x128x3584 .bf16) (acc : FVec Ideal S128x128 .f32) (h : Fin 28) (r l : Fin 128) :
    withLane X acc h (ix2 r l) = if l.val = h.val then scale (F := Ideal) (queryField X h) (ix2 r (0 : Fin 1)) else acc (ix2 r l) := by
  pointwise [withLane]
  have e : IntOp.cmpi CmpIPredicate.eq (BitVec.ofNat 32 l.val) (BitVec.ofNat 32 h.val) = BitVec.ofBool (decide (l.val = h.val)) := by
    show BitVec.ofBool (BitVec.ofNat 32 l.val == BitVec.ofNat 32 h.val) = _
    congr 1
    rw [Bool.eq_iff_iff, beq_iff_eq, decide_eq_true_iff]
    constructor
    · intro q
      have q := congrArg BitVec.toNat q
      rw [BitVec.toNat_ofNat, BitVec.toNat_ofNat] at q
      omega
    · intro q; rw [q]
  rw [e, select_ofBool]

/-- After a list of heads, the lane of a head of the list holds its scale. -/
theorem lanes_apply (X : FVec Ideal S1x128x3584 .bf16) (h : Fin 28) (r l : Fin 128) (hl : l.val = h.val) (L : List (Fin 28)) :
    ∀ acc : FVec Ideal S128x128 .f32, (h ∈ L ∨ acc (ix2 r l) = scale (F := Ideal) (queryField X h) (ix2 r (0 : Fin 1))) →
      (L.foldl (withLane X) acc) (ix2 r l) = scale (F := Ideal) (queryField X h) (ix2 r (0 : Fin 1)) := by
  induction L with
  | nil => intro acc q; exact q.resolve_left (by simp)
  | cons g L ih =>
    intro acc q
    refine ih _ ?_
    rw [withLane_apply]
    by_cases e : g = h
    · right; rw [e, if_pos hl]
    · rcases q with q | q
      · exact .inl ((List.mem_cons.1 q).resolve_left (fun w => e w.symm))
      · right
        rw [if_neg (fun w => e (Fin.ext (w.symm.trans hl))), q]

/-- The list of all heads. -/
theorem allHeads : ∀ h : Fin 28, h ∈ ([0, 1, 2, 3, 4, 5, 6, 7, 8, 9, 10, 11, 12, 13, 14, 15, 16, 17, 18, 19, 20, 21, 22, 23, 24, 25, 26, 27] : List (Fin 28)) := by
  decide

/-- A block's scales, in the row of their head. -/
theorem headScales_apply (h : Fin 28) (l r : Fin 128) (hl : l.val = h.val) (hx : ∀ l, Tame (headPart x b (token i r) h l)) :
    headScales (tokens x b i) (ix2 l r) = ((stepOf (headPart x b (token i r) h) : ℝ) : EReal) := by
  rw [← queryScale_apply x b i h r hx]
  pointwise [headScales]
  exact lanes_apply _ h r l hl _ _ (.inl (allHeads h))

/-- The query scales of a block. -/
theorem scaleRow_apply (h : Fin 28) (r : Fin 128) (hx : ∀ l, Tame (headPart x b (token i r) h l)) :
    scaleRow (tokens x b i) h (ix4 (0 : Fin 1) (0 : Fin 1) (0 : Fin 1) r) = ((stepOf (headPart x b (token i r) h) : ℝ) : EReal) := by
  rw [← headScales_apply x b i h ⟨h.val, by omega⟩ r rfl hx]
  pointwise [scaleRow]

end Queries

/-! ## Keys -/

section Keys
variable (k : FVec Ideal S2x1024x128 .bf16) (b : Fin 2)

/-- A batch's rows, element by element. -/
theorem rows_apply (n : Fin 1024) (l : Fin 128) : rows (batch k b) (ix2 n l) = k (ix3 b n l) := by
  pointwise [rows, batch]
  refine congrArg k ?_
  funext d
  fin_cases d
  · rfl
  · exact Fin.ext (show 0 + 1 * n.val = n.val by omega)
  · exact Fin.ext (show 0 + 1 * l.val = l.val by omega)

/-- The largest magnitude of a key, in every lane of its row. -/
theorem keyMax_apply (n : Fin 1024) (l : Fin 128) :
    broadcastTo S1024x128 (shapeCast S1024x1 (shapeCast S1024x1 (multiReduction (F := Ideal) .maximumf [1] S1024 (absf (rows (batch k b)))
      0xFF800000#32 reduces_S1024x128_S1024 (.inl rfl) rfl) shapeCasts_S1024_S1024x1) shapeCasts_S1024x1_S1024x1)
      broadcasts_S1024x1_S1024x128 (ix2 n l) = absMax (rowOfKeys k b n) := by
  pointwise []
  simp only [rows_apply]
  rw [ofBits_bot]; rfl

variable (hk : ∀ n l, Tame (k (ix3 b n l)))
include hk

/-- The key scale the kernel computes is the quantiser's. -/
theorem keyScale_apply (n : Fin 1024) (l : Fin 128) :
    scale (F := Ideal) (keyField (batch k b)) (ix2 n l) = ((stepOf (rowOfKeys k b n) : ℝ) : EReal) :=
  scale_of_group _ _ _ (hk n) (keyMax_apply k b n l)

/-- The key codes of a batch. -/
theorem keyCodes_apply (n : Fin 1024) (l : Fin 128) :
    keyCodes (batch k b) (ix3 (0 : Fin 1) n l) = code (k (ix3 b n l)) (stepOf (rowOfKeys k b n)) := by
  pointwise [keyCodes]
  rw [clipped_apply _ _ _ (stepOf (rowOfKeys k b n)) _, rows_apply]
  exact inverse_of_group _ _ _ (hk n) (keyMax_apply k b n l)

/-- The key scales of a batch. -/
theorem keyScaleRow_apply (n : Fin 1024) :
    keyScaleRow (batch k b) (ix2 (0 : Fin 1) n) = ((stepOf (rowOfKeys k b n) : ℝ) : EReal) := by
  rw [← keyScale_apply k b hk n 0]
  pointwise [keyScaleRow]

/-- The largest of them. -/
theorem largest_apply : ∃ K : ℝ, (∃ n, K = stepOf (rowOfKeys k b n)) ∧ ∀ i j, largest (batch k b) (ix2 (i : Fin 1) (j : Fin 1)) = (K : EReal) := by
  obtain ⟨n, hn, -⟩ := fold_max_spec (fun n : Fin 1024 => stepOf (rowOfKeys k b n))
  refine ⟨_, ⟨n, rfl⟩, fun i j => ?_⟩
  obtain rfl := Subsingleton.elim i 0
  obtain rfl := Subsingleton.elim j 0
  pointwise [largest]
  simp only [keyScaleRow_apply k b hk]
  rw [ofBits_bot]; exact hn

end Keys

/-! ## Values -/

section Values
variable (v : FVec Ideal S2x1024x128 .bf16) (b : Fin 2)

/-- The largest magnitude of a channel of the values. -/
theorem valueMax_apply (d : Fin 128) :
    (shapeCast S1x128 (multiReduction (F := Ideal) .maximumf [0] S128 (absf (rows (batch v b))) 0xFF800000#32 reduces_S1024x128_S128
      (.inl rfl) rfl) shapeCasts_S128_S1x128) (ix2 (0 : Fin 1) d) = absMax (channel v b d) := by
  pointwise []
  simp only [rows_apply]
  rw [ofBits_bot]; rfl

variable (hv : ∀ n l, Tame (v (ix3 b n l)))
include hv

/-- The value scales of a batch. -/
theorem valueScaleRow_apply (d : Fin 128) :
    valueScaleRow (batch v b) (ix2 (0 : Fin 1) d) = ((stepOf (channel v b d) : ℝ) : EReal) :=
  scale_of_group _ _ _ (fun n => hv n d) (valueMax_apply v b d)

/-- The clipped values are the quantiser's codes. -/
theorem clippedValues_apply (n : Fin 1024) (d : Fin 128) :
    clippedValues (batch v b) (ix2 n d) = code (v (ix3 b n d)) (stepOf (channel v b d)) := by
  unfold clippedValues
  rw [clipped_apply _ _ _ (stepOf (channel v b d)) _, rows_apply]
  pointwise [valueField]
  exact inverse_of_group _ _ _ (fun n => hv n d) (valueMax_apply v b d)

/-- The value codes of a batch, -/
theorem valueCodes_apply (n : Fin 1024) (d : Fin 128) :
    valueCodes (batch v b) (ix3 (0 : Fin 1) n d) = code (v (ix3 b n d)) (stepOf (channel v b d)) := by
  rw [← clippedValues_apply v b hv n d]
  pointwise [valueCodes]

/-- transposed, -/
theorem heldValues_apply (d : Fin 128) (n : Fin 1024) :
    heldValues (batch v b) (ix2 d n) = code (v (ix3 b n d)) (stepOf (channel v b d)) := by
  rw [← clippedValues_apply v b hv n d]
  pointwise [heldValues]

/-- and the scales, spread over the tokens. -/
theorem heldValueScales_apply (d r : Fin 128) :
    heldValueScales (batch v b) (ix2 d r) = ((stepOf (channel v b d) : ℝ) : EReal) := by
  rw [← valueScaleRow_apply v b hv d]
  pointwise [heldValueScales]

end Values

end Cert.KernelIdeal.Attn

end
-- ==== Proof.HostScale.lean ====
/-
  The reference's scale and codes at an element, for any shape.
-/
module

public import proofs.«01_k».proof.Proof.Spec

@[expose] public section

noncomputable section

namespace Cert.KernelIdeal.Attn

open Idealize.ShloMosaic

variable {s : Shape}

/-- The reference's scale of a group whose largest magnitude is at `j`. -/
theorem hostScale (A c0 z0 c448 l2 one l2' : FVec Ideal s .f32) (j : s.Idx) {n : Nat} (f : Fin (n + 1) → EReal) (hf : ∀ k, Tame (f k))
    (hA : A j = absMax f) (h0 : c0 j = Ideal.ofBits .f32 0#32) (hz : z0 j = Ideal.ofBits .f32 0#32)
    (h448 : c448 j = Ideal.ofBits .f32 0x43E00000#32) (hl : l2 j = Ideal.log (Ideal.ofBits .f32 0x40000000#32))
    (h1 : one j = Ideal.ofBits .f32 0x3F800000#32) (hl' : l2' j = Ideal.log (Ideal.ofBits .f32 0x40000000#32)) :
    Host.exp (mulf (select (cmpf .oeq A c0) z0 (addf (Host.floor (Host.divf (Host.log (Host.divf A c448)) l2)) one)) l2') j
      = ((stepOf f : ℝ) : EReal) := by
  have e : Host.exp (mulf (select (cmpf .oeq A c0) z0 (addf (Host.floor (Host.divf (Host.log (Host.divf A c448)) l2)) one)) l2') j
    = Ideal.exp (Scalar.select (Ideal.cmp .oeq (A j) (c0 j)) (z0 j)
        (Ideal.liftRound Int.floor (Ideal.div (Ideal.log (Ideal.div (A j) (c448 j))) (l2 j)) + one j) * l2' j) := rfl
  have e2 : Ideal.cmp .oeq (A j) 0 = BitVec.ofBool (decide (A j = 0)) := rfl
  rw [e, h0, hz, h448, hl, h1, hl', Ideal.ofBits_zero_f32, e2, select_ofBool, ofBits_448, ofBits_two, ofBits_one]
  exact step_of_group f hf _ hA

/-- The same at a largest magnitude known as a number. -/
theorem hostScaleAt (A c0 z0 c448 l2 one l2' : FVec Ideal s .f32) (j : s.Idx) (a : ℝ) (ha : InRange a)
    (hA : A j = (a : EReal)) (h0 : c0 j = Ideal.ofBits .f32 0#32) (hz : z0 j = Ideal.ofBits .f32 0#32)
    (h448 : c448 j = Ideal.ofBits .f32 0x43E00000#32) (hl : l2 j = Ideal.log (Ideal.ofBits .f32 0x40000000#32))
    (h1 : one j = Ideal.ofBits .f32 0x3F800000#32) (hl' : l2' j = Ideal.log (Ideal.ofBits .f32 0x40000000#32)) :
    Host.exp (mulf (select (cmpf .oeq A c0) z0 (addf (Host.floor (Host.divf (Host.log (Host.divf A c448)) l2)) one)) l2') j
      = ((step a : ℝ) : EReal) := by
  have e : Host.exp (mulf (select (cmpf .oeq A c0) z0 (addf (Host.floor (Host.divf (Host.log (Host.divf A c448)) l2)) one)) l2') j
    = Ideal.exp (Scalar.select (Ideal.cmp .oeq (A j) (c0 j)) (z0 j)
        (Ideal.liftRound Int.floor (Ideal.div (Ideal.log (Ideal.div (A j) (c448 j))) (l2 j)) + one j) * l2' j) := rfl
  have e2 : Ideal.cmp .oeq (A j) 0 = BitVec.ofBool (decide (A j = 0)) := rfl
  rw [e, h0, hz, h448, hl, h1, hl', Ideal.ofBits_zero_f32, e2, select_ofBool, ofBits_448, ofBits_two, ofBits_one, hA]
  exact step_eq_exp a ha

/-- The reference's code. -/
theorem hostCode (c d v q : FVec Ideal s .f32) (j : s.Idx) (S : ℝ) (hS : 0 < S) (hc : c j = Ideal.ofBits .f32 0x43E00000#32)
    (hd : d j = Ideal.ofBits .f32 0xC3E00000#32) (hq : q j = ((S : ℝ) : EReal)) :
    minimumf c (maximumf d (Host.divf v q)) j = code (v j) S := by
  have e : minimumf c (maximumf d (Host.divf v q)) j = min (c j) (max (d j) (Ideal.div (v j) (q j))) := rfl
  rw [e, hc, hd, hq, ofBits_448, ofBits_neg448, code_eq_div _ hS]

end Cert.KernelIdeal.Attn

end
-- ==== Proof.RefCodes.lean ====
/-
  The reference's codes and scales, read element by element: they are the quantiser's.
-/
module

public import proofs.«01_k».proof.Proof.Codes
public import proofs.«01_k».proof.Proof.HostScale
public import proofs.«01_k».proof.Proof.Gen.ReferenceIdeal.Run

@[expose] public section

noncomputable section

namespace Cert.ReferenceIdeal.Read

open Cert.ReferenceIdeal Cert.ReferenceIdeal.Gen Cert.ReferenceIdeal.Value Idealize.ShloMosaic
open Cert.KernelIdeal.Attn (headPart rowOfKeys channel absMax Tame stepOf code step_of_group ofBits_bot ofBits_bot16 ofBits_448 ofBits_neg448 ofBits_two code_eq_div stepOf_pos hostScale hostCode)

variable (V0 : Valuation τ sig (Elt Ideal))

/-- The argument arrays. -/
abbrev argX : FVec Ideal S2x1024x3584 .bf16 := V0 (Proc.devRef .tc main_arg0)
abbrev argK : FVec Ideal S2x1024x128 .bf16 := V0 (Proc.devRef .tc main_arg1)
abbrev argV : FVec Ideal S2x1024x128 .bf16 := V0 (Proc.devRef .tc main_arg2)

/-- The queries by head. -/
theorem res_x (b : Fin 2) (n : Fin 1024) (h : Fin 28) (l : Fin 128) :
    res_main_v0 V0 (ix4 b n h l) = headPart (argX V0) b n h l := by
  have e : (res_main_v0 V0 : FVec Ideal S2x1024x28x128 .bf16) (ix4 b n h l) = headPart (argX V0) b n h l := by
    pointwise [res_main_v0]
    unfold headPart
    refine congrArg _ ?_
    funext d
    fin_cases d
    · rfl
    · rfl
    · exact Fin.ext (show h.val * 128 + l.val = 128 * h.val + l.val by omega)
  exact e

/-! ## Queries -/

/-- The largest magnitude along the head size. -/
theorem absMax_heads (y : FVec Ideal S2x1024x28x128 .bf16) (b : Fin 2) (n : Fin 1024) (h : Fin 28) :
    Host.reduce FloatOps.maximumf (Host.absf y) (constant S_ .bf16 0xFF80#16) reducesTo_S2x1024x28x128_S2x1024x28_d3 h_S_ (ix3 b n h)
      = absMax (fun l => y (ix4 b n h (l : Fin 128))) := by
  rw [Host.reduce_eq_fold, Shape.ReducesTo.fold_fiber_r4_a3, show constant (F := Ideal) S_ FTy.bf16 0xFF80#16 (Shape.Idx.first h_S_) = ⊥ from ofBits_bot16]
  rfl

/-- The reduced axis put back, for heads. -/
theorem keep_heads (z : FVec Ideal S2x1024x28 .bf16) (b : Fin 2) (n : Fin 1024) (h : Fin 28) :
    (extf .f32 (broadcastInDim S2x1024x28x1 ![0, 1, 2] bcast_S2x1024x28_S2x1024x28x1_0_1_2 z) bitsLt_bf16_f32 : FVec Ideal S2x1024x28x1 .f32) (ix4 b n h (0 : Fin 1)) = z (ix3 b n h) := by
  pointwise []

/-- One number per token and head, spread along the head size. -/
theorem spread_heads (z : FVec Ideal S2x1024x28x1 .f32) (b : Fin 2) (n : Fin 1024) (h : Fin 28) (l : Fin 128) :
    broadcastInDim S2x1024x28x128 ![0, 1, 2, 3] bcast_S2x1024x28x1_S2x1024x28x128_0_1_2_3 z (ix4 b n h l) = z (ix4 b n h (0 : Fin 1)) := by
  pointwise []

/-- The reference's largest magnitude of a head's part of a token. -/
theorem largest_heads (b : Fin 2) (n : Fin 1024) (h : Fin 28) : (res_main_v4 V0 : FVec Ideal S2x1024x28x1 .f32) (ix4 b n h (0 : Fin 1)) = absMax (headPart (argX V0) b n h) := by
  unfold res_main_v4
  refine (keep_heads _ b n h).trans ((absMax_heads _ b n h).trans ?_)
  exact congrArg absMax (funext fun l => res_x V0 b n h l)

/-- The scales. -/
theorem scale_heads (b : Fin 2) (n : Fin 1024) (h : Fin 28) (hx : ∀ l, Tame ((headPart (argX V0) b n h) l)) :
    (res_main_v19 V0 : FVec Ideal S2x1024x28x1 .f32) (ix4 b n h (0 : Fin 1)) = ((stepOf (headPart (argX V0) b n h) : ℝ) : EReal) := by
  unfold res_main_v19
  exact hostScale _ _ _ _ _ _ _ _ _ hx (largest_heads V0 b n h) rfl rfl rfl rfl rfl rfl

/-- The codes. -/
theorem codes_heads (b : Fin 2) (n : Fin 1024) (h : Fin 28) (l : Fin 128) (hx : ∀ l, Tame ((headPart (argX V0) b n h) l)) :
    (res_main_v23 V0 : FVec Ideal S2x1024x28x128 .f32) (ix4 b n h l) = code ((headPart (argX V0) b n h) l) (stepOf (headPart (argX V0) b n h)) := by
  unfold res_main_v23
  refine (hostCode _ _ _ _ _ _ (stepOf_pos _) rfl rfl ((spread_heads _ b n h l).trans (scale_heads V0 b n h hx))).trans ?_
  exact congrArg (fun w => code w _) (res_x V0 b n h l)

/-! ## Keys -/

/-- The largest magnitude along a key. -/
theorem absMax_keys (y : FVec Ideal S2x1024x128 .bf16) (b : Fin 2) (n : Fin 1024) :
    Host.reduce FloatOps.maximumf (Host.absf y) (constant S_ .bf16 0xFF80#16) reducesTo_S2x1024x128_S2x1024_d2 h_S_ (ix2 b n)
      = absMax (fun l => y (ix3 b n (l : Fin 128))) := by
  rw [Host.reduce_eq_fold, Shape.ReducesTo.fold_fiber_r3_a2, show constant (F := Ideal) S_ FTy.bf16 0xFF80#16 (Shape.Idx.first h_S_) = ⊥ from ofBits_bot16]
  rfl

/-- The reduced axis put back, for keys. -/
theorem keep_keys (z : FVec Ideal S2x1024 .bf16) (b : Fin 2) (n : Fin 1024) :
    (extf .f32 (broadcastInDim S2x1024x1 ![0, 1] bcast_S2x1024_S2x1024x1_0_1 z) bitsLt_bf16_f32 : FVec Ideal S2x1024x1 .f32) (ix3 b n (0 : Fin 1)) = z (ix2 b n) := by
  pointwise []

/-- One number per key, spread along the key. -/
theorem spread_keys (z : FVec Ideal S2x1024x1 .f32) (b : Fin 2) (n : Fin 1024) (l : Fin 128) :
    broadcastInDim S2x1024x128 ![0, 1, 2] bcast_S2x1024x1_S2x1024x128_0_1_2 z (ix3 b n l) = z (ix3 b n (0 : Fin 1)) := by
  pointwise []

/-- The reference's largest magnitude of a key. -/
theorem largest_keys (b : Fin 2) (n : Fin 1024) : (res_main_v28 V0 : FVec Ideal S2x1024x1 .f32) (ix3 b n (0 : Fin 1)) = absMax (rowOfKeys (argK V0) b n) := by
  unfold res_main_v28
  refine (keep_keys _ b n).trans ((absMax_keys _ b n).trans ?_)
  rfl

/-- The scales. -/
theorem scale_keys (b : Fin 2) (n : Fin 1024) (hx : ∀ l, Tame ((rowOfKeys (argK V0) b n) l)) :
    (res_main_v43 V0 : FVec Ideal S2x1024x1 .f32) (ix3 b n (0 : Fin 1)) = ((stepOf (rowOfKeys (argK V0) b n) : ℝ) : EReal) := by
  unfold res_main_v43
  exact hostScale _ _ _ _ _ _ _ _ _ hx (largest_keys V0 b n) rfl rfl rfl rfl rfl rfl

/-- The codes. -/
theorem codes_keys (b : Fin 2) (n : Fin 1024) (l : Fin 128) (hx : ∀ l, Tame ((rowOfKeys (argK V0) b n) l)) :
    (res_main_v47 V0 : FVec Ideal S2x1024x128 .f32) (ix3 b n l) = code ((rowOfKeys (argK V0) b n) l) (stepOf (rowOfKeys (argK V0) b n)) := by
  unfold res_main_v47
  refine (hostCode _ _ _ _ _ _ (stepOf_pos _) rfl rfl ((spread_keys _ b n l).trans (scale_keys V0 b n hx))).trans ?_
  rfl

/-! ## Values -/

/-- The largest magnitude along the tokens. -/
theorem absMax_values (y : FVec Ideal S2x1024x128 .bf16) (b : Fin 2) (d : Fin 128) :
    Host.reduce FloatOps.maximumf (Host.absf y) (constant S_ .bf16 0xFF80#16) reducesTo_S2x1024x128_S2x128_d1 h_S_ (ix2 b d)
      = absMax (fun l => y (ix3 b (l : Fin 1024) d)) := by
  rw [Host.reduce_eq_fold, Shape.ReducesTo.fold_fiber_r3_a1, show constant (F := Ideal) S_ FTy.bf16 0xFF80#16 (Shape.Idx.first h_S_) = ⊥ from ofBits_bot16]
  rfl

/-- The reduced axis put back, for values. -/
theorem keep_values (z : FVec Ideal S2x128 .bf16) (b : Fin 2) (d : Fin 128) :
    (extf .f32 (broadcastInDim S2x1x128 ![0, 2] bcast_S2x128_S2x1x128_0_2 z) bitsLt_bf16_f32 : FVec Ideal S2x1x128 .f32) (ix3 b (0 : Fin 1) d) = z (ix2 b d) := by
  pointwise []

/-- One number per channel, spread along the tokens. -/
theorem spread_values (z : FVec Ideal S2x1x128 .f32) (b : Fin 2) (d : Fin 128) (l : Fin 1024) :
    broadcastInDim S2x1024x128 ![0, 1, 2] bcast_S2x1x128_S2x1024x128_0_1_2 z (ix3 b l d) = z (ix3 b (0 : Fin 1) d) := by
  pointwise []

/-- The reference's largest magnitude of a channel. -/
theorem largest_values (b : Fin 2) (d : Fin 128) : (res_main_v52 V0 : FVec Ideal S2x1x128 .f32) (ix3 b (0 : Fin 1) d) = absMax (channel (argV V0) b d) := by
  unfold res_main_v52
  refine (keep_values _ b d).trans ((absMax_values _ b d).trans ?_)
  rfl

/-- The scales. -/
theorem scale_values (b : Fin 2) (d : Fin 128) (hx : ∀ l, Tame ((channel (argV V0) b d) l)) :
    (res_main_v67 V0 : FVec Ideal S2x1x128 .f32) (ix3 b (0 : Fin 1) d) = ((stepOf (channel (argV V0) b d) : ℝ) : EReal) := by
  unfold res_main_v67
  exact hostScale _ _ _ _ _ _ _ _ _ hx (largest_values V0 b d) rfl rfl rfl rfl rfl rfl

/-- The codes. -/
theorem codes_values (b : Fin 2) (d : Fin 128) (l : Fin 1024) (hx : ∀ l, Tame ((channel (argV V0) b d) l)) :
    (res_main_v71 V0 : FVec Ideal S2x1024x128 .f32) (ix3 b l d) = code ((channel (argV V0) b d) l) (stepOf (channel (argV V0) b d)) := by
  unfold res_main_v71
  refine (hostCode _ _ _ _ _ _ (stepOf_pos _) rfl rfl ((spread_values _ b d l).trans (scale_values V0 b d hx))).trans ?_
  rfl

end Cert.ReferenceIdeal.Read

end
-- ==== Proof.RefMoves.lean ====
/-
  The reference's movements of data in the attention, its products and its reductions, each read at an element.
-/
module

public import proofs.«01_k».proof.Proof.Spec
public import proofs.«01_k».proof.Proof.Gen.ReferenceIdeal.Run

@[expose] public section

noncomputable section

namespace Cert.ReferenceIdeal.Read

open Cert.ReferenceIdeal Cert.ReferenceIdeal.Gen Cert.ReferenceIdeal.Value Idealize.ShloMosaic
open Cert.KernelIdeal.Attn (absMax ofBits_bot)

variable (b : Fin 2) (n : Fin 1024) (h : Fin 28) (m : Fin 1024) (d : Fin 128)

/-- Queries against keys. -/
theorem dot_keys (y : FVec Ideal S2x1024x28x128 .f32) (z : FVec Ideal S2x1024x128 .f32) :
    Host.dotGeneral dot_S2x1024x28x128_S2x1024x128_S2x1024x28x1024_3_2_12_1_0_0 none y z (ix4 b n h m)
      = ∑ l : Fin 128, y (ix4 b n h l) * z (ix3 b m l) := by
  pointwise []

/-- Probabilities against values. -/
theorem dot_values (y : FVec Ideal S2x1024x28x1024 .f32) (z : FVec Ideal S2x1024x128 .f32) :
    Host.dotGeneral dot_S2x1024x28x1024_S2x1024x128_S2x1024x28x128_3_1_12_2_0_0 none y z (ix4 b n h d)
      = ∑ m : Fin 1024, y (ix4 b n h m) * z (ix3 b m d) := by
  pointwise []

/-- The causal condition. -/
theorem causal (u : IVec S1024 32) :
    broadcastInDim S2x1024x28x1024 ![0, 1, 2, 3] bcast_S1x1024x1x1024_S2x1024x28x1024_0_1_2_3 (broadcastInDim S1x1024x1x1024 ![1, 3] bcast_S1024x1024_S1x1024x1x1024_1_3 (cmpi .sle (broadcastInDim S1024x1024 ![0, 1] bcast_S1x1024_S1024x1024_0_1 (broadcastInDim S1x1024 ![1] bcast_S1024_S1x1024_1 u)) (broadcastInDim S1024x1024 ![0, 1] bcast_S1024x1_S1024x1024_0_1 (broadcastInDim S1024x1 ![0] bcast_S1024_S1024x1_0 u)))) (ix4 b n h m)
      = IntOp.cmpi .sle (u (ix1 m)) (u (ix1 n)) := by
  pointwise []

/-- One number per token and head, spread over the keys. -/
theorem to_tokens (y : FVec Ideal S2x1024x28 .f32) :
    broadcastInDim S2x1024x28x1024 ![0, 1, 2, 3] bcast_S2x1024x28x1_S2x1024x28x1024_0_1_2_3 (broadcastInDim S2x1024x28x1 ![0, 1, 2] bcast_S2x1024x28_S2x1024x28x1_0_1_2 y) (ix4 b n h m) = y (ix3 b n h) := by
  pointwise []

/-- One number per token and head, as a column. -/
theorem to_column (y : FVec Ideal S2x1024x28 .f32) :
    broadcastInDim S2x1024x28x1 ![0, 1, 2] bcast_S2x1024x28_S2x1024x28x1_0_1_2 y (ix4 b n h (0 : Fin 1)) = y (ix3 b n h) := by
  pointwise []

/-- A column, as one number per token and head. -/
theorem from_column (y : FVec Ideal S2x1024x28x1 .f32) : shapeCast S2x1024x28 y shapeCasts_S2x1024x28x1_S2x1024x28 (ix3 b n h) = y (ix4 b n h (0 : Fin 1)) := by
  pointwise []

/-- A column, spread over the keys. -/
theorem spread_column (y : FVec Ideal S2x1024x28x1 .f32) :
    broadcastInDim S2x1024x28x1024 ![0, 1, 2, 3] bcast_S2x1024x28x1_S2x1024x28x1024_0_1_2_3 y (ix4 b n h m) = y (ix4 b n h (0 : Fin 1)) := by
  pointwise []

/-- One number per key, spread over tokens and heads. -/
theorem to_keys (y : FVec Ideal S2x1024x1 .f32) :
    broadcastInDim S2x1024x28x1024 ![0, 1, 2, 3] bcast_S2x1x1x1024_S2x1024x28x1024_0_1_2_3 (broadcastInDim S2x1x1x1024 ![0, 3] bcast_S2x1024_S2x1x1x1024_0_3 (shapeCast _ y shapeCasts_S2x1024x1_S2x1024)) (ix4 b n h m) = y (ix3 b m (0 : Fin 1)) := by
  pointwise []

/-- One number per channel, spread over tokens and heads. -/
theorem to_channels (y : FVec Ideal S2x1x128 .f32) :
    broadcastInDim S2x1024x28x128 ![0, 1, 2, 3] bcast_S2x1x1x128_S2x1024x28x128_0_1_2_3 (broadcastInDim S2x1x1x128 ![0, 3] bcast_S2x128_S2x1x1x128_0_3 (shapeCast _ y shapeCasts_S2x1x128_S2x128)) (ix4 b n h d) = y (ix3 b (0 : Fin 1) d) := by
  pointwise []

/-- One number per token and head, spread over the channels. -/
theorem to_heads (y : FVec Ideal S2x1024x28x1 .f32) :
    broadcastInDim S2x1024x28x128 ![0, 1, 2, 3] bcast_S2x1024x28x1_S2x1024x28x128_0_1_2_3 (broadcastInDim S2x1024x28x1 ![0, 1, 2] bcast_S2x1024x28_S2x1024x28x1_0_1_2 (shapeCast _ y shapeCasts_S2x1024x28x1_S2x1024x28)) (ix4 b n h d) = y (ix4 b n h (0 : Fin 1)) := by
  pointwise []

/-- The heads' outputs put side by side. -/
theorem side_by_side (y : FVec Ideal S2x1024x28x128 .f32) :
    truncf (F := Ideal) .bf16 (shapeCast S2x1024x3584 y shapeCasts_S2x1024x28x128_S2x1024x3584) bitsLt_bf16_f32 (ix3 b n (⟨128 * h.val + d.val, by omega⟩ : Fin 3584)) = y (ix4 b n h d) := by
  show shapeCast S2x1024x3584 y shapeCasts_S2x1024x28x128_S2x1024x3584 (ix3 b n (⟨128 * h.val + d.val, by omega⟩ : Fin 3584)) = y (ix4 b n h d)
  refine shapeCast_apply _ _ _ _ ?_
  rw [rowMajor_val4 (σ0 := 1024 * (28 * 128)) (σ1 := 28 * 128) (σ2 := 128) _ rfl rfl rfl, rowMajor_val3 (σ0 := 1024 * 3584) (σ1 := 3584) _ rfl rfl]
  show (b.val * (1024 * (28 * 128)) + n.val * (28 * 128) + h.val * 128 + d.val : Nat) = b.val * (1024 * 3584) + n.val * 3584 + (128 * h.val + d.val)
  omega

/-- The largest along the keys. -/
theorem largest_of (y : FVec Ideal S2x1024x28x1024 .f32) :
    Host.reduce FloatOps.maximumf y (constant S_ .f32 0xFF800000#32) reducesTo_S2x1024x28x1024_S2x1024x28_d3 h_S_ (ix3 b n h)
      = Finset.univ.fold max ⊥ (fun m => y (ix4 b n h (m : Fin 1024))) := by
  rw [Host.reduce_eq_fold, Shape.ReducesTo.fold_fiber_r4_a3, show constant (F := Ideal) S_ FTy.f32 0xFF800000#32 (Shape.Idx.first h_S_) = ⊥ from ofBits_bot]
  rfl

/-- The sum along the keys. -/
theorem sum_of (y : FVec Ideal S2x1024x28x1024 .f32) :
    Host.reduceAdd y (constant S_ .f32 0x00000000#32) reducesTo_S2x1024x28x1024_S2x1024x28_d3 h_S_ (ix3 b n h)
      = ∑ m : Fin 1024, y (ix4 b n h m) := by
  pointwise []

end Cert.ReferenceIdeal.Read

end
-- ==== Proof.Softmax.lean ====
/-
  The attention of one token in real numbers: the causal softmax, its quantised probabilities, and how the kernel's arrangement of the
  scores gives the same weights.
-/
module

public import proofs.«01_k».proof.Proof.HostScale

@[expose] public section

noncomputable section

namespace Cert.KernelIdeal.Attn

open Idealize.ShloMosaic

/-! ## Sums and scales -/

/-- A sum of real numbers, as extended reals. -/
theorem coe_sum {ι : Type} (s : Finset ι) (f : ι → ℝ) : ∑ k ∈ s, ((f k : ℝ) : EReal) = ((∑ k ∈ s, f k : ℝ) : EReal) := by
  classical
  induction s using Finset.induction with
  | empty => simp
  | insert a s ha ih => rw [Finset.sum_insert ha, Finset.sum_insert ha, ih, EReal.coe_add]

/-- A sum whose terms vanish from `M` on is the sum of its first `M` terms. -/
theorem sum_first {A : Type} [AddCommMonoid A] {M N : Nat} (hMN : M ≤ N) (g : Fin N → A) (hg : ∀ n : Fin N, M ≤ n.val → g n = 0) :
    ∑ n : Fin M, g (Fin.castLE hMN n) = ∑ n, g n := by
  let G : Nat → A := fun n => if h : n < N then g ⟨n, h⟩ else 0
  have e1 : ∑ n : Fin M, g (Fin.castLE hMN n) = ∑ n : Fin M, G n.val :=
    Finset.sum_congr rfl fun n _ => by simp only [G]; rw [dif_pos (lt_of_lt_of_le n.isLt hMN)]; rfl
  have e2 : ∑ n, g n = ∑ n : Fin N, G n.val := Finset.sum_congr rfl fun n _ => by simp only [G]; rw [dif_pos n.isLt]
  rw [e1, e2, Fin.sum_univ_eq_sum_range, Fin.sum_univ_eq_sum_range]
  refine Finset.sum_subset (Finset.range_mono hMN) fun n hn hm => ?_
  have h1 : n < N := Finset.mem_range.1 hn
  simp only [G]
  rw [dif_pos h1]
  exact hg _ (by simpa using hm)

/-- The code of any number is a real number. -/
theorem code_real (v : EReal) (S : ℝ) : ∃ r : ℝ, code v S = (r : EReal) := by
  have h1 : ((-448 : ℝ) : EReal) ≤ code v S := le_min (EReal.coe_le_coe_iff.2 (by norm_num)) (le_max_left _ _)
  have h2 : code v S ≤ ((448 : ℝ) : EReal) := min_le_left _ _
  refine ⟨(code v S).toReal, (EReal.coe_toReal (fun h => ?_) (fun h => ?_)).symm⟩
  · rw [h] at h2; exact absurd h2 (not_le.2 (EReal.coe_lt_top _))
  · rw [h] at h1; exact absurd h1 (not_le.2 (EReal.bot_lt_coe _))

def codeR (v : EReal) (S : ℝ) : ℝ := (code v S).toReal

/-- A code is a real number. -/
theorem code_coe (v : EReal) (S : ℝ) : code v S = ((codeR v S : ℝ) : EReal) := by
  obtain ⟨r, hr⟩ := code_real v S
  unfold codeR; rw [hr]; rfl

/-- A scale is above a 448th of the magnitude. -/
theorem lt_step {a : ℝ} (h : 0 < a) : a / 448 < step a := by
  have hr : 0 < a / 448 := by positivity
  rw [step, if_neg h.ne']
  by_contra hc
  have := (le_two_zpow hr _).1 (not_lt.1 hc)
  omega

/-- The scale of a magnitude that is zero or at least `2 ^ (-50)`. -/
theorem step_ge {a : ℝ} (h : a = 0 ∨ (2 : ℝ) ^ (-50 : ℤ) ≤ a) : (2 : ℝ) ^ (-59 : ℤ) ≤ step a := by
  rcases h with rfl | h
  · rw [step, if_pos rfl]; norm_num
  · have p : (0 : ℝ) < (2 : ℝ) ^ (-50 : ℤ) := by positivity
    have := lt_step (lt_of_lt_of_le p h)
    have e : (2 : ℝ) ^ (-59 : ℤ) = (2 : ℝ) ^ (-50 : ℤ) / 512 := by norm_num
    rw [e]
    generalize (2 : ℝ) ^ (-50 : ℤ) = c at *
    linarith

/-! ## The softmax of one token -/

section Token
variable (σ : Fin 1024 → ℝ) (q : Fin 1024)

/-- The largest score the token sees. -/
def top : ℝ := (Finset.univ.filter (· ≤ q)).sup' ⟨q, by simp⟩ σ

/-- A visible score is at most the largest. -/
theorem le_top {n : Fin 1024} (h : n ≤ q) : σ n ≤ top σ q := Finset.le_sup' σ (by simpa using h)

/-- The largest visible score is one of them. -/
theorem top_mem : ∃ n, n ≤ q ∧ top σ q = σ n := by
  obtain ⟨n, hn, e⟩ := Finset.exists_mem_eq_sup' (s := Finset.univ.filter (· ≤ q)) ⟨q, by simp⟩ σ
  exact ⟨n, by simpa using hn, e⟩

/-- The exponential of a score, from the largest. -/
def weight (n : Fin 1024) : ℝ := if n ≤ q then Real.exp (σ n - top σ q) else 0

/-- Their sum. -/
def total : ℝ := ∑ n, weight σ q n

/-- A weight is not negative. -/
theorem weight_nonneg (n : Fin 1024) : 0 ≤ weight σ q n := by unfold weight; split <;> positivity

/-- A weight is at most 1. -/
theorem weight_le (n : Fin 1024) : weight σ q n ≤ 1 := by
  unfold weight
  split
  · rename_i h; exact Real.exp_le_one_iff.2 (by linarith [le_top σ q h])
  · norm_num

/-- Some weight is 1. -/
theorem weight_top : ∃ n, weight σ q n = 1 := by
  obtain ⟨n, hn, e⟩ := top_mem σ q
  exact ⟨n, by rw [weight, if_pos hn, e, sub_self, Real.exp_zero]⟩

/-- The weights' sum is at least 1. -/
theorem one_le_total : 1 ≤ total σ q := by
  obtain ⟨n, e⟩ := weight_top σ q
  rw [← e]
  exact Finset.single_le_sum (fun n _ => weight_nonneg σ q n) (Finset.mem_univ n)

/-- The weights' sum is at most 1024. -/
theorem total_le : total σ q ≤ 1024 := by
  refine (Finset.sum_le_card_nsmul Finset.univ _ 1 fun n _ => weight_le σ q n).trans ?_
  simp

/-- The weights' sum is positive. -/
theorem total_pos : 0 < total σ q := lt_of_lt_of_le one_pos (one_le_total σ q)

/-- The largest probability is in the scale's range. -/
theorem inRange_total : InRange (1 / total σ q) := by
  have h1 := one_le_total σ q
  have h2 := total_le σ q
  refine .inr ⟨?_, ?_⟩
  · have : (1 : ℝ) / 1024 ≤ 1 / total σ q := one_div_le_one_div_of_le (total_pos σ q) h2
    refine le_trans ?_ this
    norm_num
  · have : 1 / total σ q ≤ 1 := by rw [div_le_one (total_pos σ q)]; exact h1
    refine this.trans ?_
    norm_num

/-- The scale of the probabilities, -/
def probStep : ℝ := step (1 / total σ q)

/-- The step of the probabilities is positive. -/
theorem probStep_pos : 0 < probStep σ q := step_pos _

/-- and a probability's code. -/
def probCode (n : Fin 1024) : ℝ := weight σ q n * (1 / total σ q * (1 / probStep σ q))

/-- The largest probability over its step is below 448. -/
theorem recip_lt : 1 / total σ q * (1 / probStep σ q) < 448 := by
  have h := lt_step (one_div_pos.2 (total_pos σ q))
  have hS := probStep_pos σ q
  rw [mul_one_div, div_lt_iff₀ hS]
  have : 1 / total σ q / 448 < probStep σ q := h
  linarith

/-- A probability's code lies between 0 and 448. -/
theorem probCode_bounds (n : Fin 1024) : 0 ≤ probCode σ q n ∧ probCode σ q n ≤ 448 := by
  have h0 : 0 ≤ 1 / total σ q * (1 / probStep σ q) :=
    mul_nonneg (one_div_pos.2 (total_pos σ q)).le (one_div_pos.2 (probStep_pos σ q)).le
  refine ⟨mul_nonneg (weight_nonneg σ q n) h0, ?_⟩
  have := mul_le_mul_of_nonneg_right (weight_le σ q n) h0
  unfold probCode
  linarith [recip_lt σ q]

/-- What the token's output is in a channel, from the codes and the scale of its values. -/
def mixture (vc : Fin 1024 → EReal) (vs : ℝ) : EReal :=
  (∑ n, (probCode σ q n : EReal) * vc n) * (probStep σ q : EReal) * (vs : EReal)

/-- The largest of a masked family of scores. -/
theorem masked_max {M : Nat} (hM : M ≤ 1024) (hq : q.val < M) (τ : Fin 1024 → ℝ) (t : Fin M → EReal)
    (ht : ∀ n : Fin M, t n = if Fin.castLE hM n ≤ q then (τ (Fin.castLE hM n) : EReal) else ⊥) (n₀ : Fin 1024) (h₀ : n₀ ≤ q)
    (hmax : ∀ n, n ≤ q → τ n ≤ τ n₀) : Finset.univ.fold max ⊥ t = (τ n₀ : EReal) := by
  refine le_antisymm ?_ ?_
  · rw [Finset.fold_max_le]
    refine ⟨bot_le, fun n _ => ?_⟩
    rw [ht]
    split
    · rename_i h; exact EReal.coe_le_coe_iff.2 (hmax _ h)
    · exact bot_le
  · rw [Finset.le_fold_max]
    have hlt : n₀.val < M := lt_of_le_of_lt h₀ hq
    refine .inr ⟨⟨n₀.val, hlt⟩, Finset.mem_univ _, ?_⟩
    rw [ht, if_pos (show Fin.castLE hM ⟨n₀.val, hlt⟩ ≤ q from h₀)]
    exact le_rfl

end Token

end Cert.KernelIdeal.Attn

end
-- ==== Proof.Weights.lean ====
/-
  The kernel's block operations on one token's column: its exponentials are the softmax weights, its codes and scales the quantised
  probabilities'.
-/
module

public import proofs.«01_k».proof.Proof.Softmax
public import Idealize.ShloMosaic.Lib.MatmulPlain

@[expose] public section

noncomputable section

namespace Cert.KernelIdeal.Attn

open Cert.KernelIdeal Cert.KernelIdeal.Gen Idealize.ShloMosaic

variable {M : Nat} (hn : Fits M)

section Exps
variable (hM : M ≤ 1024) (σ : Fin 1024 → ℝ) (q : Fin 1024) (hq : q.val < M) (r : Fin 128)
variable (T : FVec Ideal (M2 M 128) .f32) (a : FVec Ideal S1x128 .f32) (α : ℝ) (τ : Fin 1024 → ℝ)
include hq

/-- The exponentials of a token's scores are its weights: the multiplier holds the factor that turns powers of two into exponentials. -/
theorem exps_apply (hα : 0 < α) (ha : a (ix2 (0 : Fin 1) r) = (α : EReal)) (hτ : ∀ n, τ n * α = σ n * (Real.log 2)⁻¹)
    (hT : ∀ n : Fin M, T (ix2 n r) = if Fin.castLE hM n ≤ q then (τ (Fin.castLE hM n) : EReal) else ⊥) (n : Fin M) :
    exps hn T a (ix2 n r) = ((weight σ q (Fin.castLE hM n) : ℝ) : EReal) := by
  have l2 : 0 < Real.log 2 := Real.log_pos (by norm_num)
  obtain ⟨n₀, h₀, e₀⟩ := top_mem σ q
  have hmax : ∀ n, n ≤ q → τ n ≤ τ n₀ := by
    intro n h
    have h1 : σ n ≤ σ n₀ := e₀ ▸ le_top σ q h
    have h2 : τ n * α ≤ τ n₀ * α := by
      rw [hτ, hτ]; exact mul_le_mul_of_nonneg_right h1 (inv_pos.2 l2).le
    exact le_of_mul_le_mul_right h2 hα
  have hfold := masked_max q hM hq τ (fun n => T (ix2 n r)) hT n₀ h₀ hmax
  refine Eq.trans (b := Ideal.exp2 (T (ix2 n r) * a (ix2 (0 : Fin 1) r)
    - Finset.univ.fold max ⊥ (fun n => T (ix2 n r)) * a (ix2 (0 : Fin 1) r))) ?_ ?_
  · pointwise [exps]
    rw [ofBits_bot]; rfl
  rw [hfold, ha, hT n, weight]
  split
  · rename_i h
    rw [← EReal.coe_mul, ← EReal.coe_mul, ← EReal.coe_sub, Ideal.exp2_coe, hτ, hτ, e₀]
    congr 1
    show (2 : ℝ) ^ (_ : ℝ) = _
    rw [Real.rpow_def_of_pos (by norm_num)]
    congr 1
    field_simp
  · rw [EReal.bot_mul_coe_of_pos hα, ← EReal.coe_mul, sub_eq_add_neg, EReal.bot_add, Ideal.exp2_bot]; rfl

end Exps

section Probabilities
variable (hM : M ≤ 1024) (σ : Fin 1024 → ℝ) (q : Fin 1024) (hq : q.val < M) (r : Fin 128)
variable (E : FVec Ideal (M2 M 128) .f32) (hE : ∀ n : Fin M, E (ix2 n r) = ((weight σ q (Fin.castLE hM n) : ℝ) : EReal))
include hq hE

/-- The reciprocal of the weights' sum. -/
theorem recip_apply : recip hn E (ix2 (0 : Fin 1) r) = ((1 / total σ q : ℝ) : EReal) := by
  refine Eq.trans (b := Ideal.div 1 (∑ n : Fin M, E (ix2 n r))) ?_ ?_
  · pointwise [recip]
  have e : ∑ n : Fin M, E (ix2 n r) = ((total σ q : ℝ) : EReal) := by
    rw [Finset.sum_congr rfl (fun n _ => hE n), coe_sum, sum_first hM (weight σ q) (fun n h => ?_)]
    · rfl
    · rw [weight, if_neg]
      intro hh
      have : n.val ≤ q.val := hh
      omega
  rw [e, Ideal.div_coe (total_pos σ q).ne', one_mul]

/-- The scale of the probabilities. -/
theorem probScale_apply : probScale hn E (ix2 (0 : Fin 1) r) = ((probStep σ q : ℝ) : EReal) :=
  scale_apply _ _ _ (recip_apply hn hM σ q hq r E hE) (inRange_total σ q)

/-- The codes of the probabilities. -/
theorem probCodes_apply (n : Fin M) : probCodes hn E (ix2 n r) = ((probCode σ q (Fin.castLE hM n) : ℝ) : EReal) := by
  have hr := recip_apply hn hM σ q hq r E hE
  refine Eq.trans (b := E (ix2 n r) * min (recip hn E (ix2 (0 : Fin 1) r) * inverse (field (over448 (recip hn E))) (ix2 (0 : Fin 1) r))
    (Ideal.ofBits .f32 0x43E00000#32)) ?_ ?_
  · pointwise [probCodes]
  rw [inverse_apply _ _ _ hr (inRange_total σ q), show step (1 / total σ q) = probStep σ q from rfl, hr, hE, ofBits_448, ← EReal.coe_mul,
    min_eq_left (EReal.coe_le_coe_iff.2 (recip_lt σ q).le), ← EReal.coe_mul]
  rfl

end Probabilities

variable (r : Fin 128)

/-- The product of the values with the codes of two heads, -/
theorem mixed_apply (vt : FVec Ideal (M2 128 M) .fp8e4m3) (c0 c1 : FVec Ideal (M2 M 128) .fp8e4m3) (d : Fin 128) (c : Fin 256) :
    mixed hn vt c0 c1 (ix2 d c) = ∑ n : Fin M, vt (ix2 d n)
      * concatenate (M2 M 256) 1 [⟨M2 M 128, c0⟩, ⟨M2 M 128, c1⟩] hn.joins (ix2 n c) := by
  unfold mixed
  rw [ix2_eq_valueIdx]
  refine (Ideal.matmul_plain_apply none vt _ _ d c).trans ?_
  rw [show constant (F := Ideal) S128x256 .f32 0x00000000#32 (ValueIdx.ix2 d c) = (0 : EReal) from Ideal.ofBits_zero_f32, zero_add]
  simp only [ix2_eq_valueIdx]

/-- its first half, -/
theorem mixed_apply0 (vt : FVec Ideal (M2 128 M) .fp8e4m3) (c0 c1 : FVec Ideal (M2 M 128) .fp8e4m3) (d : Fin 128) :
    mixed hn vt c0 c1 (ix2 d (⟨r.val, by omega⟩ : Fin 256)) = ∑ n : Fin M, vt (ix2 d n) * c0 (ix2 n r) := by
  rw [mixed_apply]
  refine Finset.sum_congr rfl fun n _ => congrArg _ ?_
  pointwise []
  refine congrArg c0 ?_
  funext b
  fin_cases b <;> rfl

/-- and its second. -/
theorem mixed_apply1 (vt : FVec Ideal (M2 128 M) .fp8e4m3) (c0 c1 : FVec Ideal (M2 M 128) .fp8e4m3) (d : Fin 128) :
    mixed hn vt c0 c1 (ix2 d (⟨128 + r.val, by omega⟩ : Fin 256)) = ∑ n : Fin M, vt (ix2 d n) * c1 (ix2 n r) := by
  rw [mixed_apply]
  refine Finset.sum_congr rfl fun n _ => congrArg _ ?_
  pointwise []
  refine congrArg c1 ?_
  funext b
  fin_cases b <;> rfl

/-- The scores of two heads. -/
theorem scores_apply (kc : FVec Ideal ⟨3, ![1, M, 128]⟩ .fp8e4m3) (q2 : FVec Ideal S1x2x128x128 .fp8e4m3) (n : Fin M) (c : Fin 256) :
    scores hn kc q2 (ix2 n c) = ∑ l : Fin 128, kc (ix3 (0 : Fin 1) n l)
      * q2 (ix4 (0 : Fin 1) (⟨c.val / 128, by omega⟩ : Fin 2) (⟨c.val % 128, by omega⟩ : Fin 128) l) := by
  unfold scores
  rw [ix2_eq_valueIdx]
  refine (Ideal.matmul_transposedRhs_apply none _ _ _ n c).trans ?_
  rw [show constant (F := Ideal) (M2 M 256) .f32 0x00000000#32 (ValueIdx.ix2 n c) = (0 : EReal) from Ideal.ofBits_zero_f32, zero_add]
  refine Finset.sum_congr rfl fun l _ => ?_
  rw [← ix2_eq_valueIdx, ← ix2_eq_valueIdx]
  refine congr (congrArg _ ?_) ?_
  · refine shapeCast_apply _ _ _ _ ?_
    rw [rowMajor_val3 (σ0 := M * 128) (σ1 := 128) _ rfl rfl, rowMajor_val2 (σ0 := 128) _ rfl]
    show (0 * _ + n.val * 128 + l.val : Nat) = n.val * 128 + l.val
    omega
  · pointwise []

/-- The masks let a token see the keys up to itself. -/
theorem diagonal_apply (t : FVec Ideal S128x128 .f32) (n : Fin 128) : diagonal t (ix2 n r) = if n.val ≤ r.val then t (ix2 n r) else ⊥ := by
  refine Eq.trans (b := Scalar.select (IntOp.cmpi CmpIPredicate.sle (BitVec.ofNat 32 n.val) (BitVec.ofNat 32 r.val)) (t (ix2 n r))
    (Ideal.ofBits .f32 0xFF800000#32)) ?_ ?_
  · pointwise [diagonal, visible]
  have e : IntOp.cmpi CmpIPredicate.sle (BitVec.ofNat 32 n.val) (BitVec.ofNat 32 r.val) = BitVec.ofBool (decide (n.val ≤ r.val)) := by
    have : ∀ n r : Fin 128, IntOp.cmpi CmpIPredicate.sle (BitVec.ofNat 32 n.val) (BitVec.ofNat 32 r.val) = BitVec.ofBool (decide (n.val ≤ r.val)) := by
      decide +kernel
    exact this n r
  rw [e, select_ofBool, ofBits_bot]

/-- The mask over the last block of keys, element by element. -/
theorem lastBlock_apply {d : Nat} (hd : M = d + 128) (h₁ : (M2 M 128).Slices ![d, 0] S128x128) (h₀ : (M2 M 128).Slices ![0, 0] (M2 d 128))
    (hc : Shape.Concatenates [M2 d 128, S128x128] (M2 M 128) 0) (t : FVec Ideal (M2 M 128) .f32) (n : Fin M) :
    lastBlock h₁ h₀ hc t (ix2 n r) = if n.val ≤ d + r.val then t (ix2 n r) else ⊥ := by
  unfold lastBlock
  by_cases hlt : n.val < d
  · refine (concatenate_pair_apply_left (t := M2 M 128) 0 _ _ hc (ix2 n r) rfl (ix2 (⟨n.val, hlt⟩ : Fin d) r) ?_).trans ?_
    · intro b
      fin_cases b <;> rfl
    rw [if_pos (by omega)]
    refine extractStridedSlice_apply _ _ _ _ _ (fun b => ?_)
    fin_cases b
    · exact (Nat.zero_add _).symm
    · exact (Nat.zero_add _).symm
  · have h2 : n.val - d < 128 := by omega
    refine (concatenate_pair_apply_right (t := M2 M 128) 0 _ _ hc (ix2 n r) rfl rfl (ix2 (⟨n.val - d, h2⟩ : Fin 128) r) ?_ ?_).trans ?_
    · intro b hb
      fin_cases b
      · exact absurd rfl hb
      · rfl
    · exact Nat.sub_add_cancel (Nat.le_of_not_lt hlt)
    · rw [diagonal_apply]
      by_cases hle : n.val - d ≤ r.val
      · rw [if_pos hle, if_pos (by omega)]
        refine extractStridedSlice_apply _ _ _ _ _ (fun b => ?_)
        fin_cases b
        · show n.val = d + (n.val - d)
          omega
        · exact (Nat.zero_add _).symm
      · rw [if_neg hle, if_neg (by omega)]

end Cert.KernelIdeal.Attn

end
-- ==== Proof.Block.lean ====
/-
  The kernel's output block, read at one token and one channel of one head: the mixture of the value codes by the quantised softmax
  weights of the token's scores.
-/
module

public import proofs.«01_k».proof.Proof.Weights
public import proofs.«01_k».proof.Proof.Step

@[expose] public section

noncomputable section

namespace Cert.KernelIdeal.Attn

open Cert.KernelIdeal Cert.KernelIdeal.Gen Idealize.ShloMosaic

/-- A token's scores: the products of codes, on the two scales, over the root of the head size. -/
def score (qc : Fin 128 → ℝ) (qs : ℝ) (kc : Fin 1024 → Fin 128 → ℝ) (ks : Fin 1024 → ℝ) (n : Fin 1024) : ℝ :=
  (∑ l, qc l * kc n l) * qs * ks n / Real.sqrt 128

variable {M : Nat} (hn : Fits M) (hM : M ≤ 1024) (q : Fin 1024) (hq : q.val < M) (r d : Fin 128)
  (qc : Fin 128 → ℝ) (qs : ℝ) (kc : Fin 1024 → Fin 128 → ℝ) (ks : Fin 1024 → ℝ) (K : ℝ)
  (mask : FVec Ideal (M2 M 128) .f32 → FVec Ideal (M2 M 128) .f32)
  (hmask : ∀ T n, mask T (ix2 n r) = if Fin.castLE hM n ≤ q then T (ix2 n r) else ⊥)
  (hqs : (2 : ℝ) ^ (-59 : ℤ) ≤ qs) (hK : (2 : ℝ) ^ (-59 : ℤ) ≤ K)

/-- The floor under the multiplier is never reached. -/
theorem multiplier_ge (hqs : (2 : ℝ) ^ (-59 : ℤ) ≤ qs) (hK : (2 : ℝ) ^ (-59 : ℤ) ≤ K) :
    (2 : ℝ) ^ (-126 : ℤ) ≤ qs * K * ((Real.sqrt 128)⁻¹ * (Real.log 2)⁻¹) := by
  have l2 : 0 < Real.log 2 := Real.log_pos (by norm_num)
  have l1 : Real.log 2 ≤ 1 := by
    have := Real.log_le_sub_one_of_pos (x := 2) (by norm_num)
    linarith
  have s1 : Real.sqrt 128 ≤ 16 := Real.sqrt_le_iff.2 ⟨by norm_num, by norm_num⟩
  have s0 : 0 < Real.sqrt 128 := Real.sqrt_pos.2 (by norm_num)
  have c : (16 : ℝ)⁻¹ * 1 ≤ (Real.sqrt 128)⁻¹ * (Real.log 2)⁻¹ :=
    mul_le_mul (inv_anti₀ s0 s1) (by rw [← inv_one]; exact inv_anti₀ l2 l1) zero_le_one (inv_pos.2 s0).le
  have p : (0 : ℝ) < (2 : ℝ) ^ (-59 : ℤ) := by positivity
  have e : (2 : ℝ) ^ (-59 : ℤ) * (2 : ℝ) ^ (-59 : ℤ) ≤ qs * K := mul_le_mul hqs hK p.le (p.le.trans hqs)
  refine le_trans ?_ (mul_le_mul e c (by norm_num) (le_trans (mul_pos p p).le e))
  norm_num

section Exps
variable (kcV : FVec Ideal ⟨3, ![1, M, 128]⟩ .fp8e4m3) (ksV : FVec Ideal (M2 M 128) .f32) (km qsV : FVec Ideal S1x128 .f32)
  (q2 : FVec Ideal S1x2x128x128 .fp8e4m3)
  (hkc : ∀ n l, kcV (ix3 (0 : Fin 1) n l) = ((kc (Fin.castLE hM n) l : ℝ) : EReal))
  (hks : ∀ n, ksV (ix2 n r) = ((ks (Fin.castLE hM n) / K : ℝ) : EReal))
  (hkm : km (ix2 (0 : Fin 1) r) = (K : EReal)) (hqsV : qsV (ix2 (0 : Fin 1) r) = (qs : EReal))
include hq hqs hK hmask hks hkm hqsV

/-- From the products of codes to the weights. -/
theorem weighed (H : FVec Ideal (M2 M 128) .f32) (hH : ∀ n, H (ix2 n r) = ((∑ l, qc l * kc (Fin.castLE hM n) l : ℝ) : EReal)) (n : Fin M) :
    exps hn (mask (mulf H ksV)) (multiplier qsV km) (ix2 n r) = ((weight (score qc qs kc ks) q (Fin.castLE hM n) : ℝ) : EReal) := by
  have p : (0 : ℝ) < (2 : ℝ) ^ (-59 : ℤ) := by positivity
  have hK0 : 0 < K := lt_of_lt_of_le p hK
  have hqs0 : 0 < qs := lt_of_lt_of_le p hqs
  have s0 : 0 < Real.sqrt 128 := Real.sqrt_pos.2 (by norm_num)
  have l2 : 0 < Real.log 2 := Real.log_pos (by norm_num)
  refine exps_apply hn hM _ q hq r _ _ (qs * K * ((Real.sqrt 128)⁻¹ * (Real.log 2)⁻¹))
    (fun n => (∑ l, qc l * kc n l) * (ks n / K)) (by positivity) ?_ (fun n => ?_) (fun n => ?_) n
  · refine Eq.trans (b := max (qsV (ix2 (0 : Fin 1) r) * km (ix2 (0 : Fin 1) r)
      * Named.named (F := Ideal) κ "score_scale_log2e" (φ := .f32) 0x3E0293EE#32) (Ideal.ofBits .f32 0x00800000#32)) rfl ?_
    rw [scoreScale, hqsV, hkm, ← EReal.coe_mul, ← EReal.coe_mul, ofBits_tiny]
    exact max_eq_left (EReal.coe_le_coe_iff.2 (multiplier_ge qs K hqs hK))
  · unfold score
    field_simp
  · rw [hmask]
    refine if_congr Iff.rfl ?_ rfl
    show H (ix2 n r) * ksV (ix2 n r) = _
    rw [hH, hks, ← EReal.coe_mul]

include hkc

/-- The weights of the first head of a pair, -/
theorem exps0_apply (hq2 : ∀ l, q2 (ix4 (0 : Fin 1) (0 : Fin 2) r l) = ((qc l : ℝ) : EReal)) (n : Fin M) :
    exps0 hn mask kcV ksV km q2 qsV (ix2 n r) = ((weight (score qc qs kc ks) q (Fin.castLE hM n) : ℝ) : EReal) := by
  refine weighed hn hM q hq r qc qs kc ks K mask hmask hqs hK ksV km qsV hks hkm hqsV _ (fun n => ?_) n
  refine (extractStridedSlice_apply _ _ _ _ (ix2 n (⟨r.val, by omega⟩ : Fin 256)) (fun b => ?_)).trans ?_
  · fin_cases b
    · exact (Nat.zero_add _).symm
    · exact (Nat.zero_add _).symm
  rw [scores_apply, ← coe_sum]
  refine Finset.sum_congr rfl fun l _ => ?_
  have e0 : (⟨r.val / 128, by omega⟩ : Fin 2) = 0 := Fin.ext (by show r.val / 128 = 0; omega)
  have e1 : (⟨r.val % 128, by omega⟩ : Fin 128) = r := Fin.ext (by show r.val % 128 = r.val; omega)
  simp only [e0, e1]
  rw [hkc, hq2, ← EReal.coe_mul, mul_comm]

/-- and of the second. -/
theorem exps1_apply (hq2 : ∀ l, q2 (ix4 (0 : Fin 1) (1 : Fin 2) r l) = ((qc l : ℝ) : EReal)) (n : Fin M) :
    exps1 hn mask kcV ksV km q2 qsV (ix2 n r) = ((weight (score qc qs kc ks) q (Fin.castLE hM n) : ℝ) : EReal) := by
  refine weighed hn hM q hq r qc qs kc ks K mask hmask hqs hK ksV km qsV hks hkm hqsV _ (fun n => ?_) n
  refine (extractStridedSlice_apply _ _ _ _ (ix2 n (⟨128 + r.val, by omega⟩ : Fin 256)) (fun b => ?_)).trans ?_
  · fin_cases b
    · exact (Nat.zero_add _).symm
    · rfl
  rw [scores_apply, ← coe_sum]
  refine Finset.sum_congr rfl fun l _ => ?_
  have e0 : (⟨(128 + r.val) / 128, by omega⟩ : Fin 2) = 1 := Fin.ext (by show (128 + r.val) / 128 = 1; omega)
  have e1 : (⟨(128 + r.val) % 128, by omega⟩ : Fin 128) = r := Fin.ext (by show (128 + r.val) % 128 = r.val; omega)
  simp only [e0, e1]
  rw [hkc, hq2, ← EReal.coe_mul, mul_comm]

end Exps

/-- A head's output: its half of the product, on the two scales. -/
theorem finish_apply (o : FVec Ideal S128x128 .f32) (sc : FVec Ideal S1x128 .f32) (vsb : FVec Ideal S128x128 .f32) :
    finish o sc vsb (ix3 (0 : Fin 1) r d) = o (ix2 d r) * sc (ix2 (0 : Fin 1) r) * vsb (ix2 d r) := by
  pointwise [finish]

section Mixture
variable (σ : Fin 1024 → ℝ) (E : FVec Ideal (M2 M 128) .f32) (hE : ∀ n : Fin M, E (ix2 n r) = ((weight σ q (Fin.castLE hM n) : ℝ) : EReal))
  (vt : FVec Ideal (M2 128 M) .fp8e4m3) (vc : Fin 1024 → EReal) (hvt : ∀ n, vt (ix2 d n) = vc (Fin.castLE hM n))
include hq hE hvt

/-- The product of the values with a head's codes, over the keys the token can see, is the product over all. -/
theorem product_all : ∑ n : Fin M, vt (ix2 d n) * probCodes hn E (ix2 n r) = ∑ n, (probCode σ q n : EReal) * vc n := by
  rw [← sum_first hM (fun n => (probCode σ q n : EReal) * vc n) (fun n h => ?_)]
  · refine Finset.sum_congr rfl fun n _ => ?_
    rw [hvt, probCodes_apply hn hM σ q hq r E hE, mul_comm]
  · have : probCode σ q n = 0 := by
      rw [probCode, weight, if_neg, zero_mul]
      intro hh
      have : n.val ≤ q.val := hh
      omega
    rw [this, EReal.coe_zero, zero_mul]

end Mixture

section Buffers
variable (Q : FVec Ideal S1x28x128x128 .fp8e4m3) (QST : FVec Ideal S128x128 .f32) (KC : FVec Ideal S1x1024x128 .fp8e4m3)
  (KSB : FVec Ideal S1024x128 .f32) (KM : FVec Ideal S8x128 .f32) (VT : FVec Ideal S128x1024 .fp8e4m3) (VSB : FVec Ideal S128x128 .f32)
  (qcs : Fin 28 → Fin 128 → ℝ) (qss : Fin 28 → ℝ) (vc : Fin 1024 → EReal) (vs : ℝ)

/-- What the buffers hold for one token and one channel. -/
structure Holds : Prop where
  codes : ∀ h l, Q (ix4 (0 : Fin 1) h r l) = ((qcs h l : ℝ) : EReal)
  scales : ∀ (h : Fin 28) (l : Fin 128), l.val = h.val → QST (ix2 l r) = ((qss h : ℝ) : EReal)
  keys : ∀ n l, KC (ix3 (0 : Fin 1) n l) = ((kc n l : ℝ) : EReal)
  keyScales : ∀ n, KSB (ix2 n r) = ((ks n / K : ℝ) : EReal)
  keyMax : ∀ i, KM (ix2 i r) = (K : EReal)
  values : ∀ n, VT (ix2 d n) = vc n
  valueScales : VSB (ix2 d r) = (vs : EReal)
  scaleLow : ∀ h, (2 : ℝ) ^ (-59 : ℤ) ≤ qss h

variable {Q QST KC KSB KM VT VSB qcs qss vc vs}
  (H : Holds r d kc ks K Q QST KC KSB KM VT VSB qcs qss vc vs)
include H

/-- The key codes of the first blocks, element by element. -/
theorem keys_apply (n : Fin M) (l : Fin 128) : keys hn KC (ix3 (0 : Fin 1) n l) = ((kc (Fin.castLE hM n) l : ℝ) : EReal) := by
  rw [← H.keys]
  refine congrArg KC (funext fun b => ?_)
  fin_cases b
  · rfl
  · exact Fin.ext (show 0 + 1 * n.val = n.val by omega)
  · exact Fin.ext (show 0 + 1 * l.val = l.val by omega)

/-- The key scales of the first blocks, over the largest. -/
theorem keyScales_apply (n : Fin M) : keyScales hn KSB (ix2 n r) = ((ks (Fin.castLE hM n) / K : ℝ) : EReal) := by
  rw [← H.keyScales]
  refine congrArg KSB (funext fun b => ?_)
  fin_cases b
  · exact Fin.ext (show 0 + 1 * n.val = n.val by omega)
  · exact Fin.ext (show 0 + 1 * r.val = r.val by omega)

/-- The largest key scale. -/
theorem keyMax_apply' : keyMax KM (ix2 (0 : Fin 1) r) = (K : EReal) := by
  rw [← H.keyMax 0]
  refine congrArg KM (funext fun b => ?_)
  fin_cases b
  · rfl
  · exact Fin.ext (show 0 + 1 * r.val = r.val by omega)

/-- A head's query scale for a token. -/
theorem scale1_apply (h : Fin 28) : scale1 QST h (ix2 (0 : Fin 1) r) = ((qss h : ℝ) : EReal) := by
  rw [← H.scales h ⟨h.val, by omega⟩ rfl]
  refine congrArg QST (funext fun b => ?_)
  fin_cases b
  · exact Fin.ext (show h.val + 1 * 0 = h.val by omega)
  · exact Fin.ext (show 0 + 1 * r.val = r.val by omega)

/-- The query codes of the pair's first head. -/
theorem codes2_apply0 (p : Fin 14) (l : Fin 128) : codes2 Q p (ix4 (0 : Fin 1) (0 : Fin 2) r l) = ((qcs (fst p) l : ℝ) : EReal) := by
  rw [← H.codes]
  refine congrArg Q (funext fun b => ?_)
  fin_cases b
  · rfl
  · exact Fin.ext (show 2 * p.val + 1 * 0 = 2 * p.val by omega)
  · exact Fin.ext (show 0 + 1 * r.val = r.val by omega)
  · exact Fin.ext (show 0 + 1 * l.val = l.val by omega)

/-- The query codes of the pair's second head. -/
theorem codes2_apply1 (p : Fin 14) (l : Fin 128) : codes2 Q p (ix4 (0 : Fin 1) (1 : Fin 2) r l) = ((qcs (snd p) l : ℝ) : EReal) := by
  rw [← H.codes]
  refine congrArg Q (funext fun b => ?_)
  fin_cases b
  · rfl
  · exact Fin.ext (show 2 * p.val + 1 * 1 = 2 * p.val + 1 by omega)
  · exact Fin.ext (show 0 + 1 * r.val = r.val by omega)
  · exact Fin.ext (show 0 + 1 * l.val = l.val by omega)

/-- The value codes of the first blocks. -/
theorem values_apply (n : Fin M) : values hn VT (ix2 d n) = vc (Fin.castLE hM n) := by
  rw [← H.values]
  refine congrArg VT (funext fun b => ?_)
  fin_cases b
  · exact Fin.ext (show 0 + 1 * d.val = d.val by omega)
  · exact Fin.ext (show 0 + 1 * n.val = n.val by omega)

/-- A channel's value scale. -/
theorem valueScales_apply : valueScales VSB (ix2 d r) = (vs : EReal) := by
  rw [← H.valueScales]
  refine congrArg VSB (funext fun b => ?_)
  fin_cases b
  · exact Fin.ext (show 0 + 1 * d.val = d.val by omega)
  · exact Fin.ext (show 0 + 1 * r.val = r.val by omega)

include hq hK hmask

/-- The weights of a pair's first head, from the buffers, -/
theorem blockExps0_apply (p : Fin 14) (n : Fin M) : blockExps0 hn mask Q QST KC KSB KM p (ix2 n r)
    = ((weight (score (qcs (fst p)) (qss (fst p)) kc ks) q (Fin.castLE hM n) : ℝ) : EReal) :=
  exps0_apply hn hM q hq r (qcs (fst p)) (qss (fst p)) kc ks K mask hmask (H.scaleLow _) hK _ _ _ _ _
    (keys_apply hn hM r d kc ks K H) (keyScales_apply hn hM r d kc ks K H) (keyMax_apply' r d kc ks K H) (scale1_apply r d kc ks K H _)
    (codes2_apply0 r d kc ks K H p) n

/-- and of its second. -/
theorem blockExps1_apply (p : Fin 14) (n : Fin M) : blockExps1 hn mask Q QST KC KSB KM p (ix2 n r)
    = ((weight (score (qcs (snd p)) (qss (snd p)) kc ks) q (Fin.castLE hM n) : ℝ) : EReal) :=
  exps1_apply hn hM q hq r (qcs (snd p)) (qss (snd p)) kc ks K mask hmask (H.scaleLow _) hK _ _ _ _ _
    (keys_apply hn hM r d kc ks K H) (keyScales_apply hn hM r d kc ks K H) (keyMax_apply' r d kc ks K H) (scale1_apply r d kc ks K H _)
    (codes2_apply1 r d kc ks K H p) n

/-- The output of a pair's first head, -/
theorem blockOut0_apply (p : Fin 14) : blockOut0 hn mask Q QST KC KSB KM VT VSB p (ix3 (0 : Fin 1) r d)
    = mixture (score (qcs (fst p)) (qss (fst p)) kc ks) q vc vs := by
  unfold blockOut0 pairOut0
  rw [finish_apply, valueScales_apply r d kc ks K H]
  have hE := blockExps0_apply hn hM q hq r d kc ks K mask hmask hK H p
  refine congrArg₂ _ (congrArg₂ _ ?_ (probScale_apply hn hM _ q hq r _ hE)) rfl
  rw [← product_all hn hM q hq r d _ _ hE _ vc (values_apply hn hM r d kc ks K H), ← mixed_apply0]
  refine extractStridedSlice_apply _ _ _ _ _ (fun b => ?_)
  fin_cases b
  · exact (Nat.zero_add _).symm
  · exact (Nat.zero_add _).symm

/-- and of its second. -/
theorem blockOut1_apply (p : Fin 14) : blockOut1 hn mask Q QST KC KSB KM VT VSB p (ix3 (0 : Fin 1) r d)
    = mixture (score (qcs (snd p)) (qss (snd p)) kc ks) q vc vs := by
  unfold blockOut1 pairOut1
  rw [finish_apply, valueScales_apply r d kc ks K H]
  have hE := blockExps1_apply hn hM q hq r d kc ks K mask hmask hK H p
  refine congrArg₂ _ (congrArg₂ _ ?_ (probScale_apply hn hM _ q hq r _ hE)) rfl
  rw [← product_all hn hM q hq r d _ _ hE _ vc (values_apply hn hM r d kc ks K H), ← mixed_apply1]
  refine extractStridedSlice_apply _ _ _ _ _ (fun b => ?_)
  fin_cases b
  · exact (Nat.zero_add _).symm
  · rfl

/-- The heads side by side. -/
theorem wide_apply (h : Fin 28) : wide (both (blockOut0 hn mask Q QST KC KSB KM VT VSB) (blockOut1 hn mask Q QST KC KSB KM VT VSB))
    (ix3 (0 : Fin 1) r (⟨128 * h.val + d.val, by omega⟩ : Fin 3584)) = mixture (score (qcs h) (qss h) kc ks) q vc vs := by
  unfold wide
  have e0 : (⟨(128 * h.val + d.val) / 128, by omega⟩ : Fin 28) = h := Fin.ext (by show (128 * h.val + d.val) / 128 = h.val; omega)
  have e1 : (⟨(128 * h.val + d.val) % 128, by omega⟩ : Fin 128) = d := Fin.ext (by show (128 * h.val + d.val) % 128 = d.val; omega)
  show both (α := FVec Ideal S1x128x128 .bf16) _ _ (⟨(128 * h.val + d.val) / 128, _⟩ : Fin 28) (ValueIdx.ix3 (0 : Fin 1) r (⟨(128 * h.val + d.val) % 128, _⟩ : Fin 128)) = _
  rw [e0, e1, ← ix3_eq_valueIdx]
  unfold both
  split
  · rename_i e
    rw [blockOut0_apply hn hM q hq r d kc ks K mask hmask hK H]
    have : fst ⟨h.val / 2, by omega⟩ = h := Fin.ext (by show 2 * (h.val / 2) = h.val; omega)
    rw [this]
  · rename_i e
    rw [blockOut1_apply hn hM q hq r d kc ks K mask hmask hK H]
    have : snd ⟨h.val / 2, by omega⟩ = h := Fin.ext (by show 2 * (h.val / 2) + 1 = h.val; omega)
    rw [this]

end Buffers

section Attended
variable (Q : FVec Ideal S1x28x128x128 .fp8e4m3) (QST : FVec Ideal S128x128 .f32) (KC : FVec Ideal S1x1024x128 .fp8e4m3)
  (KSB : FVec Ideal S1024x128 .f32) (KM : FVec Ideal S8x128 .f32) (VT : FVec Ideal S128x1024 .fp8e4m3) (VSB : FVec Ideal S128x128 .f32)
  (qcs : Fin 28 → Fin 128 → ℝ) (qss : Fin 28 → ℝ) (vc : Fin 1024 → EReal) (vs : ℝ)
  (H : Holds r d kc ks K Q QST KC KSB KM VT VSB qcs qss vc vs)
include H hK

/-- The output of a block of tokens, at one token and one channel of one head. -/
theorem attended_apply (j : Fin 8) (h : Fin 28) (hqj : q.val = 128 * j.val + r.val) :
    attended Q QST KC KSB KM VT VSB j (ix3 (0 : Fin 1) r (⟨128 * h.val + d.val, by omega⟩ : Fin 3584))
      = mixture (score (qcs h) (qss h) kc ks) q vc vs := by
  have last {M D : Nat} (hM : M ≤ 1024) (hD : M = D + 128) (hq : q.val = D + r.val) (h₁ : (M2 M 128).Slices ![D, 0] S128x128)
      (h₀ : (M2 M 128).Slices ![0, 0] (M2 D 128)) (hc : Shape.Concatenates [M2 D 128, S128x128] (M2 M 128) 0) (T : FVec Ideal (M2 M 128) .f32)
      (n : Fin M) : lastBlock h₁ h₀ hc T (ix2 n r) = if Fin.castLE hM n ≤ q then T (ix2 n r) else ⊥ := by
    rw [lastBlock_apply r hD]
    refine if_congr ?_ rfl rfl
    show n.val ≤ D + r.val ↔ n.val ≤ q.val
    omega
  match j with
  | 0 =>
    refine wide_apply fits128 (by omega) q (by have : q.val = 128 * 0 + r.val := hqj; omega) r d kc ks K _ (fun T n => ?_) hK H h
    rw [show mask0 T = diagonal T from rfl, diagonal_apply r]
    refine if_congr ?_ rfl rfl
    have : q.val = 128 * 0 + r.val := hqj
    show n.val ≤ r.val ↔ n.val ≤ q.val
    omega
  | 1 => exact wide_apply fits256 (by omega) q (by have : q.val = 128 * 1 + r.val := hqj; omega) r d kc ks K _ (last _ rfl hqj _ _ _) hK H h
  | 2 => exact wide_apply fits384 (by omega) q (by have : q.val = 128 * 2 + r.val := hqj; omega) r d kc ks K _ (last _ rfl hqj _ _ _) hK H h
  | 3 => exact wide_apply fits512 (by omega) q (by have : q.val = 128 * 3 + r.val := hqj; omega) r d kc ks K _ (last _ rfl hqj _ _ _) hK H h
  | 4 => exact wide_apply fits640 (by omega) q (by have : q.val = 128 * 4 + r.val := hqj; omega) r d kc ks K _ (last _ rfl hqj _ _ _) hK H h
  | 5 => exact wide_apply fits768 (by omega) q (by have : q.val = 128 * 5 + r.val := hqj; omega) r d kc ks K _ (last _ rfl hqj _ _ _) hK H h
  | 6 => exact wide_apply fits896 (by omega) q (by have : q.val = 128 * 6 + r.val := hqj; omega) r d kc ks K _ (last _ rfl hqj _ _ _) hK H h
  | 7 => exact wide_apply fits1024 (by omega) q (by have : q.val = 128 * 7 + r.val := hqj; omega) r d kc ks K _ (last _ rfl hqj _ _ _) hK H h

end Attended

end Cert.KernelIdeal.Attn

end
-- ==== Proof.Out.lean ====
/-
  The kernel's attention output, read at one token and one channel of one head.
-/
module

public import proofs.«01_k».proof.Proof.Block
public import proofs.«01_k».proof.Proof.Codes

@[expose] public section

noncomputable section

namespace Cert.KernelIdeal.Attn

open Cert.KernelIdeal Cert.KernelIdeal.Gen Idealize.ShloMosaic

/-- A group whose largest magnitude is zero or not too small for the product of two scales. -/
def Sizeable (z : EReal) : Prop := ∃ r : ℝ, z = (r : EReal) ∧ InRange |r| ∧ (|r| = 0 ∨ (2 : ℝ) ^ (-50 : ℤ) ≤ |r|)

/-- A number of moderate size is in the scale's range. -/
theorem Sizeable.tame {z : EReal} (h : Sizeable z) : Tame z := let ⟨r, e, a, _⟩ := h; ⟨r, e, a⟩

/-- Such a group's scale is not too small. -/
theorem stepOf_ge {n : Nat} (f : Fin (n + 1) → EReal) (hf : ∀ k, Sizeable (f k)) : (2 : ℝ) ^ (-59 : ℤ) ≤ stepOf f := by
  choose g hg _ hl using hf
  obtain ⟨k, hk, -⟩ := fold_max_spec (fun k => |g k|)
  have e : absMax f = ((|g k| : ℝ) : EReal) := by
    rw [← hk]
    unfold absMax
    congr 1
    funext k
    rw [hg, max_neg_coe]
  unfold stepOf
  rw [e]
  exact step_ge (hl k)

variable (x : FVec Ideal S2x1024x3584 .bf16) (k v : FVec Ideal S2x1024x128 .bf16)

/-- The attention output at token `n`, head `h`, channel `d`: the value codes mixed by the quantised softmax weights of the scores. -/
def outAt (b : Fin 2) (n : Fin 1024) (h : Fin 28) (d : Fin 128) : EReal :=
  mixture (score (fun l => codeR (headPart x b n h l) (stepOf (headPart x b n h))) (stepOf (headPart x b n h))
    (fun m l => codeR (rowOfKeys k b m l) (stepOf (rowOfKeys k b m))) (fun m => stepOf (rowOfKeys k b m))) n
    (fun m => code (channel v b d m) (stepOf (channel v b d))) (stepOf (channel v b d))

/-- The division of the key scales by the largest, element by element. -/
theorem over_largest (S : FVec Ideal S1024x128 .f32) (L : FVec Ideal S1x1 .f32) (n : Fin 1024) (r : Fin 128) :
    shapeCast S1024x128 (divf S (broadcastTo S1024x128 L broadcasts_S1x1_S1024x128)) shapeCasts_S1024x128_S1024x128 (ix2 n r)
      = Ideal.div (S (ix2 n r)) (L (ix2 (0 : Fin 1) (0 : Fin 1))) := by
  pointwise []

/-- The largest, spread over its scratch array. -/
theorem spread_largest (L : FVec Ideal S1x1 .f32) (i : Fin 8) (r : Fin 128) :
    shapeCast S8x128 (broadcastTo S8x128 (shapeCast S1x1 L shapeCasts_S1x1_S1x1) broadcasts_S1x1_S8x128) shapeCasts_S8x128_S8x128 (ix2 i r)
      = L (ix2 (0 : Fin 1) (0 : Fin 1)) := by
  pointwise []

/-- A reshape to the same shape changes nothing. -/
theorem cast_scales (S : FVec Ideal S128x128 .f32) (l r : Fin 128) : shapeCast S128x128 S shapeCasts_S128x128_S128x128 (ix2 l r) = S (ix2 l r) := by
  pointwise []

/-- The key scales over the largest, as the scratch array holds them. -/
theorem heldKeyScales_apply (b : Fin 2) (hk : ∀ n l, Tame (k (ix3 b n l))) (K : ℝ) (hK : 0 < K)
    (hL : ∀ i j, largest (batch k b) (ix2 (i : Fin 1) (j : Fin 1)) = (K : EReal)) (n : Fin 1024) (r : Fin 128) :
    heldKeyScales (batch k b) (ix2 n r) = ((stepOf (rowOfKeys k b n) / K : ℝ) : EReal) := by
  unfold heldKeyScales
  rw [over_largest, keyScale_apply k b hk, hL, Ideal.div_coe hK.ne', ← EReal.coe_mul, mul_one_div]

/-- The largest, as the scratch array holds it. -/
theorem heldLargest_apply (b : Fin 2) (i : Fin 8) (r : Fin 128) :
    heldLargest (batch k b) (ix2 i r) = largest (batch k b) (ix2 (0 : Fin 1) (0 : Fin 1)) := by
  unfold heldLargest
  exact spread_largest _ i r

/-- The query scales as the scratch array holds them. -/
theorem heldScales_apply (b : Fin 2) (i : Fin 8) (l r : Fin 128) :
    heldScales (tokens x b i) (ix2 l r) = headScales (tokens x b i) (ix2 l r) := by
  unfold heldScales
  exact cast_scales _ l r

/-- The stacked query codes, head by head. -/
theorem codesOut_apply (b : Fin 2) (i : Fin 8) (h : Fin 28) (r l : Fin 128) :
    codesOut (tokens x b i) (ix4 (0 : Fin 1) h r l) = queryCodes (tokens x b i) h (ix4 (0 : Fin 1) (0 : Fin 1) r l) := by
  unfold codesOut stacked
  exact congrArg _ (ix4_eq_valueIdx _ _ _ _).symm

/-- The output at a token is its block's output at the token's place. -/
theorem outResult_apply (b : Fin 2) (n : Fin 1024) (c : Fin 3584) : outResult x k v (ix3 b n c)
    = attended (codesOut (tokens x b (blockOf n))) (heldScales (tokens x b (blockOf n))) (keyCodes (batch k b)) (heldKeyScales (batch k b))
      (heldLargest (batch k b)) (heldValues (batch v b)) (heldValueScales (batch v b)) (blockOf n) (ix3 (0 : Fin 1) (placeOf n) c) := rfl

/-- What the scratch arrays hold for one token and one channel. -/
theorem holds (hx : ∀ j, Sizeable (x j)) (hk : ∀ j, Sizeable (k j)) (hv : ∀ j, Tame (v j)) (b : Fin 2) (n : Fin 1024) (d : Fin 128)
    (K : ℝ) (hK : 0 < K) (hL : ∀ i j, largest (batch k b) (ix2 (i : Fin 1) (j : Fin 1)) = (K : EReal)) :
    Holds (placeOf n) d (fun m l => codeR (rowOfKeys k b m l) (stepOf (rowOfKeys k b m))) (fun m => stepOf (rowOfKeys k b m)) K
      (codesOut (tokens x b (blockOf n))) (heldScales (tokens x b (blockOf n))) (keyCodes (batch k b)) (heldKeyScales (batch k b))
      (heldLargest (batch k b)) (heldValues (batch v b)) (heldValueScales (batch v b))
      (fun h l => codeR (headPart x b n h l) (stepOf (headPart x b n h))) (fun h => stepOf (headPart x b n h))
      (fun m => code (channel v b d m) (stepOf (channel v b d))) (stepOf (channel v b d)) := by
  have hkt : ∀ n l, Tame (k (ix3 b n l)) := fun n l => (hk _).tame
  have htok := token_blockOf n
  have hxt : ∀ h l, Tame (headPart x b (token (blockOf n) (placeOf n)) h l) := fun h l => (hx _).tame
  constructor
  · intro h l
    rw [codesOut_apply, queryCodes_apply x b _ h _ l (hxt h), htok, code_coe]
  · intro h l e
    rw [heldScales_apply, headScales_apply x b _ h l _ e (hxt h), htok]
  · intro m l
    rw [keyCodes_apply k b hkt m l, ← code_coe]
    rfl
  · intro m
    rw [heldKeyScales_apply k b hkt _ hK hL m _]
  · intro i
    rw [heldLargest_apply k b i, hL]
  · intro m
    rw [heldValues_apply v b (fun n l => hv _) d m]
    rfl
  · rw [heldValueScales_apply v b (fun n l => hv _) d _]
  · intro h
    exact stepOf_ge _ fun l => hx _

/-- The kernel's output at one token and one channel of one head is the quantised attention there. -/
theorem out_apply (hx : ∀ j, Sizeable (x j)) (hk : ∀ j, Sizeable (k j)) (hv : ∀ j, Tame (v j)) (b : Fin 2) (n : Fin 1024) (h : Fin 28)
    (d : Fin 128) : outResult x k v (ix3 b n (⟨128 * h.val + d.val, by omega⟩ : Fin 3584)) = outAt x k v b n h d := by
  obtain ⟨K, ⟨n₀, e⟩, hL⟩ := largest_apply k b (fun n l => (hk _).tame)
  have hpos : 0 < K := e ▸ stepOf_pos _
  have hlow : (2 : ℝ) ^ (-59 : ℤ) ≤ K := e ▸ stepOf_ge _ (fun l => hk _)
  rw [outResult_apply]
  have H := holds x k v hx hk hv b n d K hpos hL
  generalize codesOut (tokens x b (blockOf n)) = a0 at *
  generalize heldScales (tokens x b (blockOf n)) = a1 at *
  generalize keyCodes (batch k b) = a2 at *
  generalize heldKeyScales (batch k b) = a3 at *
  generalize heldLargest (batch k b) = a4 at *
  generalize heldValues (batch v b) = a5 at *
  generalize heldValueScales (batch v b) = a6 at *
  unfold outAt
  refine attended_apply (M := 0) n (placeOf n) d _ _ K hlow a0 a1 a2 a3 a4 a5 a6 _ _ _ _ H (blockOf n) h ?_
  show n.val = 128 * (n.val / 128) + n.val % 128
  omega

end Cert.KernelIdeal.Attn

end
-- ==== Proof.RefAttn.lean ====
/-
  The reference's attention, read element by element: the mixture of the value codes by the quantised softmax weights.
-/
module

public import proofs.«01_k».proof.Proof.RefCodes
public import proofs.«01_k».proof.Proof.RefMoves
public import proofs.«01_k».proof.Proof.Out

@[expose] public section

noncomputable section

namespace Cert.ReferenceIdeal.Read

open Cert.ReferenceIdeal Cert.ReferenceIdeal.Gen Cert.ReferenceIdeal.Value Idealize.ShloMosaic
open Cert.KernelIdeal.Attn (headPart rowOfKeys channel absMax Tame stepOf code codeR code_coe coe_sum ofBits_bot ofBits_448 ofBits_neg448
  ofBits_power stepOf_pos hostScaleAt hostCode score weight total top le_top top_mem masked_max weight_top weight_nonneg weight_le total_pos
  probStep probStep_pos probCode probCode_bounds inRange_total mixture step outAt fold_max_spec max_neg_coe select_ofBool)

/-! ## The operations, over any shape -/

section Any
variable {s : Shape}

/-- The masked score, at one element. -/
theorem masked_read (c : IVec s 1) (D QS KS R B : FVec Ideal s .f32) (j : s.Idx) (p : Prop) [Decidable p] (δ q k : ℝ)
    (hc : c j = BitVec.ofBool (decide p)) (hD : D j = (δ : EReal)) (hQ : QS j = (q : EReal)) (hK : KS j = (k : EReal))
    (hR : R j = Ideal.sqrt (Ideal.ofBits .f32 0x43000000#32)) (hB : B j = Ideal.ofBits .f32 0xFF800000#32) :
    select c (Host.divf (mulf (mulf D QS) KS) R) B j = if p then ((δ * q * k / Real.sqrt 128 : ℝ) : EReal) else ⊥ := by
  have e : select c (Host.divf (mulf (mulf D QS) KS) R) B j = Scalar.select (c j) (Ideal.div (D j * QS j * KS j) (R j)) (B j) := rfl
  have e128 : Ideal.ofBits .f32 0x43000000#32 = ((128 : ℝ) : EReal) := by
    have := ofBits_power 134 (by omega) (by omega)
    rw [show ((2 : ℝ) ^ (((134 : ℕ) : ℤ) - 127)) = 128 by norm_num] at this
    exact this
  have s0 : 0 < Real.sqrt 128 := Real.sqrt_pos.2 (by norm_num)
  have es : Ideal.sqrt ((128 : ℝ) : EReal) = ((Real.sqrt 128 : ℝ) : EReal) := by
    rw [Ideal.sqrt_coe, if_neg (by norm_num)]
  rw [e, hc, select_ofBool, hD, hQ, hK, hR, hB, ofBits_bot, e128, es, Ideal.div_coe s0.ne', ← EReal.coe_mul,
    ← EReal.coe_mul, ← EReal.coe_mul, mul_one_div]

/-- The exponential of a difference, at one element. -/
theorem exp_read (A B : FVec Ideal s .f32) (j : s.Idx) : Host.exp (subf A B) j = Ideal.exp (A j - B j) := rfl

/-- The maximum with minus infinity, at one element. -/
theorem max_read (A B : FVec Ideal s .f32) (j : s.Idx) (hA : A j = Ideal.ofBits .f32 0xFF800000#32) : maximumf A B j = B j := by
  have e : maximumf A B j = max (A j) (B j) := rfl
  rw [e, hA, ofBits_bot]; exact max_eq_right bot_le

/-- A quotient of real numbers, at one element. -/
theorem div_read (A B : FVec Ideal s .f32) (j : s.Idx) (a t : ℝ) (ht : t ≠ 0) (hA : A j = (a : EReal)) (hB : B j = (t : EReal)) :
    Host.divf A B j = ((a * (1 / t) : ℝ) : EReal) := by
  have e : Host.divf A B j = Ideal.div (A j) (B j) := rfl
  rw [e, hA, hB, Ideal.div_coe ht, ← EReal.coe_mul]

/-- A product of three, at one element. -/
theorem mul_read (A B C : FVec Ideal s .f32) (j : s.Idx) : mulf (mulf A B) C j = A j * B j * C j := rfl

end Any

/-- The comparison of two positions as words is their order. -/
theorem order (m n : Fin 1024) : IntOp.cmpi CmpIPredicate.sle (BitVec.ofNat 32 m.val) (BitVec.ofNat 32 n.val) = BitVec.ofBool (decide (m ≤ n)) := by
  have e : ∀ k : Fin 1024, (BitVec.ofNat 32 k.val).toInt = (k.val : ℤ) := by
    intro k
    have h2 : (BitVec.ofNat 32 k.val).toNat = k.val := by
      rw [BitVec.toNat_ofNat]; exact Nat.mod_eq_of_lt (by omega)
    rw [BitVec.toInt_eq_toNat_of_lt (by omega), h2]
  have e2 : IntOp.cmpi CmpIPredicate.sle (BitVec.ofNat 32 m.val) (BitVec.ofNat 32 n.val)
      = BitVec.ofBool ((BitVec.ofNat 32 m.val).sle (BitVec.ofNat 32 n.val)) := rfl
  rw [e2, BitVec.sle_eq_decide, e, e]
  congr 1
  exact decide_eq_decide.2 (by rw [Int.ofNat_le]; exact Iff.rfl)

variable (V0 : Valuation τ sig (Elt Ideal)) (hx : ∀ j, Tame (argX V0 j)) (hk : ∀ j, Tame (argK V0 j)) (hv : ∀ j, Tame (argV V0 j))
  (b : Fin 2) (n : Fin 1024) (h : Fin 28)

/-- The scores of a token and head. -/
abbrev scoreOf : Fin 1024 → ℝ :=
  score (fun l => codeR (headPart (argX V0) b n h l) (stepOf (headPart (argX V0) b n h))) (stepOf (headPart (argX V0) b n h))
    (fun m l => codeR (rowOfKeys (argK V0) b m l) (stepOf (rowOfKeys (argK V0) b m))) (fun m => stepOf (rowOfKeys (argK V0) b m))

section Scores
include hx hk

/-- The masked scores. -/
theorem masked (m : Fin 1024) : (res_main_v90 V0 : FVec Ideal S2x1024x28x1024 .f32) (ix4 b n h m)
    = if m ≤ n then ((scoreOf V0 b n h m : ℝ) : EReal) else ⊥ := by
  unfold res_main_v90
  refine masked_read _ _ _ _ _ _ _ _ _ _ _ ((causal b n h m _).trans (order m n)) ((dot_keys b n h m _ _).trans ?_)
    ((to_tokens b n h m _).trans ?_) ((to_keys b n h m _).trans (scale_keys V0 b m fun l => hk _)) rfl rfl
  · rw [← coe_sum]
    refine Finset.sum_congr rfl fun l _ => ?_
    rw [EReal.coe_mul, ← code_coe, ← code_coe]
    exact congrArg₂ _ (codes_heads V0 b n h l fun l => hx _) (codes_keys V0 b m l fun l => hk _)
  · unfold res_main_v24
    exact (from_column b n h _).trans (scale_heads V0 b n h fun l => hx _)

/-- The exponentials. -/
theorem weights (m : Fin 1024) : (res_main_v97 V0 : FVec Ideal S2x1024x28x1024 .f32) (ix4 b n h m)
    = ((weight (scoreOf V0 b n h) n m : ℝ) : EReal) := by
  obtain ⟨n₀, h₀, e₀⟩ := top_mem (scoreOf V0 b n h) n
  have hfold := masked_max n le_rfl n.isLt (scoreOf V0 b n h)
    (fun m => (res_main_v90 V0 : FVec Ideal S2x1024x28x1024 .f32) (ix4 b n h m)) (fun m => masked V0 hx hk b n h m) n₀ h₀
    (fun m hm => e₀ ▸ le_top _ n hm)
  unfold res_main_v97
  refine (exp_read _ _ _).trans ?_
  rw [to_tokens, max_read _ _ _ rfl, largest_of]
  refine (congrArg₂ (fun u v => Ideal.exp (u - v)) (masked V0 hx hk b n h m) hfold).trans ?_
  rw [weight]
  split
  · rw [← EReal.coe_sub, Ideal.exp_coe, e₀]
  · rw [sub_eq_add_neg, EReal.bot_add, Ideal.exp_bot]; rfl

/-- The probabilities. -/
theorem probabilities (m : Fin 1024) : (res_main_v101 V0 : FVec Ideal S2x1024x28x1024 .f32) (ix4 b n h m)
    = ((weight (scoreOf V0 b n h) n m * (1 / total (scoreOf V0 b n h) n) : ℝ) : EReal) := by
  unfold res_main_v101
  refine div_read _ _ _ _ _ (total_pos _ n).ne' (weights V0 hx hk b n h m) ?_
  rw [to_tokens, sum_of]
  refine Eq.trans (b := ∑ m : Fin 1024, ((weight (scoreOf V0 b n h) n m : ℝ) : EReal)) ?_ (coe_sum _ _)
  exact Finset.sum_congr rfl fun m _ => weights V0 hx hk b n h m

/-- The largest of them: one over the total. -/
theorem largest_probability : (res_main_v104 V0 : FVec Ideal S2x1024x28x1 .f32) (ix4 b n h (0 : Fin 1))
    = ((1 / total (scoreOf V0 b n h) n : ℝ) : EReal) := by
  have h0 : 0 ≤ 1 / total (scoreOf V0 b n h) n := (one_div_pos.2 (total_pos _ n)).le
  obtain ⟨k, hk', hm⟩ := fold_max_spec (fun m : Fin (1023 + 1) => weight (scoreOf V0 b n h) n m * (1 / total (scoreOf V0 b n h) n))
  obtain ⟨t, et⟩ := weight_top (scoreOf V0 b n h) n
  have hval : weight (scoreOf V0 b n h) n k * (1 / total (scoreOf V0 b n h) n) = 1 / total (scoreOf V0 b n h) n := by
    refine le_antisymm ?_ ?_
    · exact mul_le_of_le_one_left h0 (weight_le _ n k)
    · have := hm t
      simpa only [et, one_mul] using this
  unfold res_main_v104
  rw [to_column, largest_of, ← hval, ← hk']
  refine congrArg (fun f : Fin 1024 → EReal => Finset.univ.fold max ⊥ f) (funext fun m => ?_)
  have e : ∀ (A : FVec Ideal S2x1024x28x1024 .f32) j, Host.absf A j = max (A j) (-(A j)) := fun _ _ => rfl
  rw [e, probabilities V0 hx hk b n h m, max_neg_coe, abs_of_nonneg (mul_nonneg (weight_nonneg _ n m) h0)]

/-- Their scale, -/
theorem probability_scale : (res_main_v119 V0 : FVec Ideal S2x1024x28x1 .f32) (ix4 b n h (0 : Fin 1))
    = ((probStep (scoreOf V0 b n h) n : ℝ) : EReal) := by
  unfold res_main_v119
  exact hostScaleAt _ _ _ _ _ _ _ _ _ (inRange_total _ n) (largest_probability V0 hx hk b n h) rfl rfl rfl rfl rfl rfl

/-- and their codes. -/
theorem probability_codes (m : Fin 1024) :
    minimumf (broadcastInDim S2x1024x28x1024 ![] bcast_S_S2x1024x28x1024 (id (constant S_ .f32 0x43E00000#32))) (maximumf (broadcastInDim S2x1024x28x1024 ![] bcast_S_S2x1024x28x1024 (id (constant S_ .f32 0xC3E00000#32))) (Host.divf (res_main_v101 V0) (broadcastInDim S2x1024x28x1024 ![0, 1, 2, 3] bcast_S2x1024x28x1_S2x1024x28x1024_0_1_2_3 (res_main_v119 V0)))) (ix4 b n h m)
      = ((probCode (scoreOf V0 b n h) n m : ℝ) : EReal) := by
  refine (hostCode _ _ _ _ _ _ (probStep_pos _ n) rfl rfl ((spread_column b n h m _).trans (probability_scale V0 hx hk b n h))).trans ?_
  obtain ⟨b0, b1⟩ := probCode_bounds (scoreOf V0 b n h) n m
  have e : weight (scoreOf V0 b n h) n m * (1 / total (scoreOf V0 b n h) n) * (1 / probStep (scoreOf V0 b n h) n)
      = probCode (scoreOf V0 b n h) n m := mul_assoc _ _ _
  rw [code, probabilities V0 hx hk b n h m, ← EReal.coe_mul, e, max_eq_right (EReal.coe_le_coe_iff.2 (by linarith)),
    min_eq_right (EReal.coe_le_coe_iff.2 b1)]

end Scores

include hx hk hv

/-- The attention output. -/
theorem out_read (d : Fin 128) :
    truncf .bf16 (shapeCast _ (mulf (mulf (Host.dotGeneral (φ₂ := .f32) dot_S2x1024x28x1024_S2x1024x128_S2x1024x28x128_3_1_12_2_0_0 none (minimumf (broadcastInDim S2x1024x28x1024 ![] bcast_S_S2x1024x28x1024 (id (constant S_ .f32 0x43E00000#32))) (maximumf (broadcastInDim S2x1024x28x1024 ![] bcast_S_S2x1024x28x1024 (id (constant S_ .f32 0xC3E00000#32))) (Host.divf (res_main_v101 V0) (broadcastInDim S2x1024x28x1024 ![0, 1, 2, 3] bcast_S2x1024x28x1_S2x1024x28x1024_0_1_2_3 (res_main_v119 V0))))) (res_main_v71 V0)) (broadcastInDim S2x1024x28x128 ![0, 1, 2, 3] bcast_S2x1024x28x1_S2x1024x28x128_0_1_2_3 (broadcastInDim S2x1024x28x1 ![0, 1, 2] bcast_S2x1024x28_S2x1024x28x1_0_1_2 (shapeCast _ (res_main_v119 V0) shapeCasts_S2x1024x28x1_S2x1024x28)))) (broadcastInDim S2x1024x28x128 ![0, 1, 2, 3] bcast_S2x1x1x128_S2x1024x28x128_0_1_2_3 (broadcastInDim S2x1x1x128 ![0, 3] bcast_S2x128_S2x1x1x128_0_3 (shapeCast _ (res_main_v67 V0) shapeCasts_S2x1x128_S2x128)))) shapeCasts_S2x1024x28x128_S2x1024x3584) bitsLt_bf16_f32
      (ix3 b n (⟨128 * h.val + d.val, by omega⟩ : Fin 3584)) = outAt (argX V0) (argK V0) (argV V0) b n h d := by
  refine (side_by_side b n h d _).trans ?_
  rw [mul_read, dot_values, to_heads, to_channels]
  unfold outAt mixture
  refine congrArg₂ _ (congrArg₂ _ (Finset.sum_congr rfl fun m _ => congrArg₂ _ (probability_codes V0 hx hk b n h m)
    (codes_values V0 b d m fun l => hv _)) (probability_scale V0 hx hk b n h)) (scale_values V0 b d fun l => hv _)

end Cert.ReferenceIdeal.Read

end
-- ==== Proof.Equal.lean ====
/-
  The seven arrays: what the reference computes is what the kernel leaves.
-/
module

public import proofs.«01_k».proof.Proof.RefAttn
public import proofs.«01_k».proof.Proof.Final

@[expose] public section

noncomputable section

namespace Cert.ReferenceIdeal.Read

open Cert.ReferenceIdeal Cert.ReferenceIdeal.Gen Cert.ReferenceIdeal.Value Idealize.ShloMosaic
open Cert.KernelIdeal.Attn (Sizeable Tame headPart rowOfKeys channel stepOf code out_apply token token_blockOf queryCodes_apply scaleRow_apply
  keyCodes_apply keyScaleRow_apply valueCodes_apply valueScaleRow_apply)
open Cert.KernelIdeal.Gen (outResult queryCodesResult queryScalesResult keyCodesResult keyScalesResult valueCodesResult valueScalesResult blockOf placeOf)

/-! ## The reference's last movements -/

/-- The reference's last movement of the query codes: heads before tokens. -/
theorem heads_first (y : FVec Ideal S2x1024x28x128 .f32) (b : Fin 2) (h : Fin 28) (n : Fin 1024) (l : Fin 128) :
    Host.convertf (F := Ideal) .fp8e4m3 (transpose S2x28x1024x128 [0, 2, 1, 3] y transposes_S2x1024x28x128_S2x28x1024x128_0_2_1_3) (ix4 b h n l)
      = y (ix4 b n h l) := by
  show transpose S2x28x1024x128 [0, 2, 1, 3] y transposes_S2x1024x28x128_S2x28x1024x128_0_2_1_3 (ix4 b h n l) = _
  pointwise []

/-- The reference's last movement of the query scales: heads first, tokens in blocks. -/
theorem blocks_of_tokens (y : FVec Ideal S2x1024x28 .f32) (h : Fin 28) (i : Fin 8) (b : Fin 2) (r : Fin 128) :
    transpose S28x8x2x128 [3, 1, 0, 2] (shapeCast S2x8x128x28 y shapeCasts_S2x1024x28_S2x8x128x28) transposes_S2x8x128x28_S28x8x2x128_3_1_0_2 (ix4 h i b r)
      = y (ix3 b (token i r) h) := by
  refine Eq.trans (b := shapeCast S2x8x128x28 y shapeCasts_S2x1024x28_S2x8x128x28 (ix4 b i r h)) ?_ ?_
  · generalize shapeCast S2x8x128x28 y shapeCasts_S2x1024x28_S2x8x128x28 = w
    pointwise []
  · refine shapeCast_apply _ _ _ _ ?_
    rw [rowMajor_val4 (σ0 := 8 * (128 * 28)) (σ1 := 128 * 28) (σ2 := 28) _ rfl rfl rfl, rowMajor_val3 (σ0 := 1024 * 28) (σ1 := 28) _ rfl rfl]
    show (b.val * (1024 * 28) + (128 * i.val + r.val) * 28 + h.val : Nat) = b.val * (8 * (128 * 28)) + i.val * (128 * 28) + r.val * 28 + h.val
    omega

/-- A last axis of one dropped. -/
theorem drop_last (y : FVec Ideal S2x1024x1 .f32) (b : Fin 2) (n : Fin 1024) :
    shapeCast S2x1024 y shapeCasts_S2x1024x1_S2x1024 (ix2 b n) = y (ix3 b n (0 : Fin 1)) := by
  pointwise []

/-- A middle axis of one dropped. -/
theorem drop_middle (y : FVec Ideal S2x1x128 .f32) (b : Fin 2) (d : Fin 128) :
    shapeCast S2x128 y shapeCasts_S2x1x128_S2x128 (ix2 b d) = y (ix3 b (0 : Fin 1) d) := by
  pointwise []

variable (V0 : Valuation τ sig (Elt Ideal)) (hx : ∀ j, Sizeable (argX V0 j)) (hk : ∀ j, Sizeable (argK V0 j)) (hv : ∀ j, Tame (argV V0 j))

/-! ## The arrays -/

section
include hx hk hv
/-- The attention output. -/
theorem out_eq :
    truncf .bf16 (shapeCast _ (mulf (mulf (Host.dotGeneral (φ₂ := .f32) dot_S2x1024x28x1024_S2x1024x128_S2x1024x28x128_3_1_12_2_0_0 none (minimumf (broadcastInDim S2x1024x28x1024 ![] bcast_S_S2x1024x28x1024 (id (constant S_ .f32 0x43E00000#32))) (maximumf (broadcastInDim S2x1024x28x1024 ![] bcast_S_S2x1024x28x1024 (id (constant S_ .f32 0xC3E00000#32))) (Host.divf (res_main_v101 V0) (broadcastInDim S2x1024x28x1024 ![0, 1, 2, 3] bcast_S2x1024x28x1_S2x1024x28x1024_0_1_2_3 (res_main_v119 V0))))) (res_main_v71 V0)) (broadcastInDim S2x1024x28x128 ![0, 1, 2, 3] bcast_S2x1024x28x1_S2x1024x28x128_0_1_2_3 (broadcastInDim S2x1024x28x1 ![0, 1, 2] bcast_S2x1024x28_S2x1024x28x1_0_1_2 (shapeCast _ (res_main_v119 V0) shapeCasts_S2x1024x28x1_S2x1024x28)))) (broadcastInDim S2x1024x28x128 ![0, 1, 2, 3] bcast_S2x1x1x128_S2x1024x28x128_0_1_2_3 (broadcastInDim S2x1x1x128 ![0, 3] bcast_S2x128_S2x1x1x128_0_3 (shapeCast _ (res_main_v67 V0) shapeCasts_S2x1x128_S2x128)))) shapeCasts_S2x1024x28x128_S2x1024x3584) bitsLt_bf16_f32
      = outResult (F := Ideal) (argX V0) (argK V0) (argV V0) := by
  funext y
  obtain ⟨b, n, c, rfl⟩ : ∃ (b : Fin 2) (n : Fin 1024) (c : Fin 3584), y = ix3 b n c := ⟨y 0, y 1, y 2, eq_ix3 y⟩
  have e : c = (⟨128 * (⟨c.val / 128, by omega⟩ : Fin 28).val + (⟨c.val % 128, by omega⟩ : Fin 128).val, by show 128 * (c.val / 128) + c.val % 128 < 3584; omega⟩ : Fin 3584) :=
    Fin.ext (by show c.val = 128 * (c.val / 128) + c.val % 128; omega)
  rw [e]
  exact (out_read V0 (fun j => (hx j).tame) (fun j => (hk j).tame) hv b n _ _).trans (out_apply _ _ _ hx hk hv b n _ _).symm
end

section
include hx
/-- The query codes. -/
theorem queryCodes_eq : Host.convertf .fp8e4m3 (transpose S2x28x1024x128 [0, 2, 1, 3] (res_main_v23 V0) transposes_S2x1024x28x128_S2x28x1024x128_0_2_1_3)
    = queryCodesResult (F := Ideal) (argX V0) := by
  funext y
  obtain ⟨b, h, n, l, rfl⟩ : ∃ (b : Fin 2) (h : Fin 28) (n : Fin 1024) (l : Fin 128), y = ix4 b h n l := ⟨y 0, y 1, y 2, y 3, eq_ix4 y⟩
  refine (heads_first _ b h n l).trans ((codes_heads V0 b n h l fun l => (hx _).tame).trans ?_)
  have := queryCodes_apply (argX V0) b (blockOf n) h (placeOf n) l (fun l => (hx _).tame)
  rw [token_blockOf] at this
  exact this.symm

/-- The query scales. -/
theorem queryScales_eq : transpose S28x8x2x128 [3, 1, 0, 2] (shapeCast _ (res_main_v24 V0) shapeCasts_S2x1024x28_S2x8x128x28) transposes_S2x8x128x28_S28x8x2x128_3_1_0_2
    = queryScalesResult (F := Ideal) (argX V0) := by
  funext y
  obtain ⟨h, i, b, r, rfl⟩ : ∃ (h : Fin 28) (i : Fin 8) (b : Fin 2) (r : Fin 128), y = ix4 h i b r := ⟨y 0, y 1, y 2, y 3, eq_ix4 y⟩
  refine (blocks_of_tokens _ h i b r).trans ?_
  unfold res_main_v24
  exact (from_column b (token i r) h _).trans ((scale_heads V0 b (token i r) h fun l => (hx _).tame).trans
    (scaleRow_apply (argX V0) b i h r (fun l => (hx _).tame)).symm)
end

section
include hk
/-- The key codes. -/
theorem keyCodes_eq : Host.convertf .fp8e4m3 (res_main_v47 V0) = keyCodesResult (F := Ideal) (argK V0) := by
  funext y
  obtain ⟨b, n, l, rfl⟩ : ∃ (b : Fin 2) (n : Fin 1024) (l : Fin 128), y = ix3 b n l := ⟨y 0, y 1, y 2, eq_ix3 y⟩
  exact (codes_keys V0 b n l fun l => (hk _).tame).trans (keyCodes_apply (argK V0) b (fun n l => (hk _).tame) n l).symm

/-- The key scales. -/
theorem keyScales_eq : shapeCast _ (res_main_v43 V0) shapeCasts_S2x1024x1_S2x1024 = keyScalesResult (F := Ideal) (argK V0) := by
  funext y
  obtain ⟨b, n, rfl⟩ : ∃ (b : Fin 2) (n : Fin 1024), y = ix2 b n := ⟨y 0, y 1, eq_ix2 y⟩
  exact (drop_last _ b n).trans ((scale_keys V0 b n fun l => (hk _).tame).trans (keyScaleRow_apply (argK V0) b (fun n l => (hk _).tame) n).symm)
end

section
include hv
/-- The value codes. -/
theorem valueCodes_eq : Host.convertf .fp8e4m3 (res_main_v71 V0) = valueCodesResult (F := Ideal) (argV V0) := by
  funext y
  obtain ⟨b, n, d, rfl⟩ : ∃ (b : Fin 2) (n : Fin 1024) (d : Fin 128), y = ix3 b n d := ⟨y 0, y 1, y 2, eq_ix3 y⟩
  exact (codes_values V0 b d n fun l => hv _).trans (valueCodes_apply (argV V0) b (fun n l => hv _) n d).symm

/-- The value scales. -/
theorem valueScales_eq : shapeCast _ (res_main_v67 V0) shapeCasts_S2x1x128_S2x128 = valueScalesResult (F := Ideal) (argV V0) := by
  funext y
  obtain ⟨b, d, rfl⟩ : ∃ (b : Fin 2) (d : Fin 128), y = ix2 b d := ⟨y 0, y 1, eq_ix2 y⟩
  exact (drop_middle _ b d).trans ((scale_values V0 b d fun l => hv _).trans (valueScaleRow_apply (argV V0) b (fun n l => hv _) d).symm)
end

end Cert.ReferenceIdeal.Read

end
-- ==== Proof.Moderate.lean ====
/-
  The precondition, element by element.
-/
module

public import proofs.«01_k».proof.Proof.Out
public import proofs.«01_k».proof.Pre_moderate
public import Idealize.ShloMosaic.Lib.ReduceAll

@[expose] public section

noncomputable section

namespace Cert.Pre_moderate.Read

open Cert.Pre_moderate Idealize.ShloMosaic
open Cert.KernelIdeal.Attn (Tame Sizeable InRange ofBits_power)

variable [Cert.Pre_moderate.Facts]

/-- Both bits of a true conjunction are true. -/
theorem and_one (a b : BitVec 1) : IntOp.andi a b = 1#1 ↔ a = 1#1 ∧ b = 1#1 := by revert a b; decide
/-- One bit of a true disjunction is true. -/
theorem or_one (a b : BitVec 1) : IntOp.ori a b = 1#1 ↔ a = 1#1 ∨ b = 1#1 := by revert a b; decide
/-- A proposition's bit is one just when it holds. -/
theorem ofBool_one (p : Prop) [Decidable p] : BitVec.ofBool (decide p) = 1#1 ↔ p := by by_cases h : p <;> simp [h]

/-- The largest finite bf16 number is at most `2^128`. -/
theorem ofBits_most : Ideal.ofBits .f32 0x7F7F0000#32 ≤ (((2 : ℝ) ^ (128 : ℤ) : ℝ) : EReal) := by
  simp [Ideal.ofBits, Ideal.ieee]
  rw [← EReal.coe_pow, ← EReal.coe_pow, ← EReal.coe_mul, EReal.coe_le_coe_iff]; norm_num
/-- The word of `2^-50`. -/
theorem ofBits_low : Ideal.ofBits .f32 0x26800000#32 = (((2 : ℝ) ^ (-50 : ℤ) : ℝ) : EReal) := by
  have := ofBits_power 77 (by omega) (by omega)
  simpa using this
/-- The word of `2^-117`. -/
theorem ofBits_lower : Ideal.ofBits .f32 0x05000000#32 = (((2 : ℝ) ^ (-117 : ℤ) : ℝ) : EReal) := by
  have := ofBits_power 10 (by omega) (by omega)
  simpa using this

/-- One element's condition. -/
theorem element (z : EReal) (w : BitVec 32) (L : ℝ) (hw : Ideal.ofBits .f32 w = (L : EReal))
    (h : IntOp.andi (Ideal.cmp .ole (max z (-z)) (Ideal.ofBits .f32 0x7F7F0000#32))
      (IntOp.ori (Ideal.cmp .oeq z (Ideal.ofBits .f32 0#32)) (Ideal.cmp .oge (max z (-z)) (Ideal.ofBits .f32 w))) = 1#1) :
    ∃ r : ℝ, z = (r : EReal) ∧ |r| ≤ (2 : ℝ) ^ (128 : ℤ) ∧ (|r| = 0 ∨ L ≤ |r|) := by
  rw [and_one, or_one] at h
  obtain ⟨h1, h2⟩ := h
  have h1 : max z (-z) ≤ Ideal.ofBits .f32 0x7F7F0000#32 := (ofBool_one _).1 h1
  have h1 := h1.trans ofBits_most
  induction z with
  | bot => exact absurd (top_le_iff.1 ((show (⊤ : EReal) ≤ max ⊥ (-⊥) by simp).trans h1)) (EReal.coe_ne_top _)
  | top => exact absurd (top_le_iff.1 ((show (⊤ : EReal) ≤ max ⊤ (-⊤) by simp).trans h1)) (EReal.coe_ne_top _)
  | coe r =>
    rw [Cert.KernelIdeal.Attn.max_neg_coe, EReal.coe_le_coe_iff] at h1
    refine ⟨r, rfl, h1, ?_⟩
    rcases h2 with h2 | h2
    · have h2 : (r : EReal) = Ideal.ofBits .f32 0#32 := (ofBool_one _).1 h2
      rw [Ideal.ofBits_zero_f32] at h2
      exact .inl (by rw [EReal.coe_eq_zero.1 h2, abs_zero])
    · have h2 : Ideal.ofBits .f32 w ≤ max (r : EReal) (-(r : EReal)) := (ofBool_one _).1 h2
      rw [hw, Cert.KernelIdeal.Attn.max_neg_coe, EReal.coe_le_coe_iff] at h2
      exact .inr h2

/-- A number of moderate size is in the scale's range, -/
theorem tame_of {z : EReal} (h : ∃ r : ℝ, z = (r : EReal) ∧ |r| ≤ (2 : ℝ) ^ (128 : ℤ) ∧ (|r| = 0 ∨ (2 : ℝ) ^ (-117 : ℤ) ≤ |r|)) : Tame z := by
  obtain ⟨r, e, h1, h2⟩ := h
  exact ⟨r, e, h2.imp id fun h2 => ⟨h2, h1⟩⟩

/-- and more so when it is not too small. -/
theorem sizeable_of {z : EReal} (h : ∃ r : ℝ, z = (r : EReal) ∧ |r| ≤ (2 : ℝ) ^ (128 : ℤ) ∧ (|r| = 0 ∨ (2 : ℝ) ^ (-50 : ℤ) ≤ |r|)) : Sizeable z := by
  obtain ⟨r, e, h1, h2⟩ := h
  refine ⟨r, e, h2.imp id fun h2 => ⟨le_trans ?_ h2, h1⟩, h2⟩
  norm_num

/-- What the precondition says of the arguments. -/
theorem moderate (x : FVec Ideal S2x1024x3584 .bf16) (k v : FVec Ideal S2x1024x128 .bf16) (h : fn (F := Ideal) x k v = fun _ => 1#1) :
    (∀ j, Sizeable (x j)) ∧ (∀ j, Sizeable (k j)) ∧ (∀ j, Tame (v j)) := by
  have h0 := congrFun h (Shape.Idx.first Facts.h_S_)
  unfold fn fn_part1 fn_part2 at h0
  dsimp only at h0
  obtain ⟨h1, hv⟩ := (and_one _ _).1 h0
  obtain ⟨hx, hk⟩ := (and_one _ _).1 h1
  refine ⟨fun j => sizeable_of ?_, fun j => sizeable_of ?_, fun j => tame_of ?_⟩
  · exact element _ _ _ ofBits_low (Host.reduce_andi_all _ _ _ _ _ hx j)
  · exact element _ _ _ ofBits_low (Host.reduce_andi_all _ _ _ _ _ hk j)
  · exact element _ _ _ ofBits_lower (Host.reduce_andi_all _ _ _ _ _ hv j)

end Cert.Pre_moderate.Read

end
-- ==== Proof.Algebraic.lean ====
/-
  The value claim: on arguments of moderate size, the kernel and the reference, run on extended reals, end with the same seven arrays.
-/
module

public import proofs.«01_k».proof.Defs
public import proofs.«01_k».proof.Proof.Equal
public import proofs.«01_k».proof.Proof.Moderate

@[expose] public section

noncomputable section

/-! ## The precondition's shape facts -/

namespace Cert.Pre_moderate.Read

open Cert.Pre_moderate Idealize.ShloMosaic

/-- The shape facts the precondition's text states. -/
theorem facts : Cert.Pre_moderate.Facts where
  bitsLt_bf16_f32 := by decide
  bcast_S_S2x1024x3584 := by decide
  reducesTo_S2x1024x3584_S_d0_1_2 := by decide
  h_S_ := by decide
  bcast_S_S2x1024x128 := by decide
  reducesTo_S2x1024x128_S_d0_1_2 := by decide

end Cert.Pre_moderate.Read

namespace Cert.Proof

open Idealize.ShloMosaic Idealize.SL.Sem
open Cert.KernelIdeal.Gen (outResult queryCodesResult queryScalesResult keyCodesResult keyScalesResult valueCodesResult valueScalesResult)
open Cert.ReferenceIdeal.Read

/-- The kernel on extended reals runs, leaves its arguments unchanged and every semaphore at zero. -/
theorem frame_ideal (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
        ∧ r.2.sem = fun _ => 0) :=
  (θ_run _ _ _).mono (fun r h => ⟨fun c => Cert.KernelIdeal.Gen.arguments m r h.1 c, h.2⟩) (Cert.KernelIdeal.Gen.run_main (F := Ideal) m g)

/-- The reference runs, leaves its arguments unchanged and every semaphore at zero. -/
theorem frame_reference (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run _ _ _).mono (fun r h => ⟨fun c => (h c).2.2.2.2.2.2.2, sem_eq_zero_of_no_sems (by decide) r.2⟩)
    (Cert.ReferenceIdeal.Value.run (F := Ideal) m g)

/-- The seven arrays agree, on every device. -/
theorem algebraic : Cert.algebraic_KernelIdeal_ReferenceIdeal_pre_moderate (hKernelIdeal := Cert.KernelIdeal.Gen.facts)
    (hReferenceIdeal := Cert.ReferenceIdeal.Gen.facts) (hPre_moderate := Cert.Pre_moderate.Read.facts) := by
  intro m g m' g' hpre hm
  refine ⟨fun c => outResult (F := Ideal) (m (c.tc.loc Cert.KernelIdeal.main_arg0)) (m (c.tc.loc Cert.KernelIdeal.main_arg1)) (m (c.tc.loc Cert.KernelIdeal.main_arg2)),
    fun c => queryCodesResult (F := Ideal) (m (c.tc.loc Cert.KernelIdeal.main_arg0)), fun c => queryScalesResult (F := Ideal) (m (c.tc.loc Cert.KernelIdeal.main_arg0)),
    fun c => keyCodesResult (F := Ideal) (m (c.tc.loc Cert.KernelIdeal.main_arg1)), fun c => keyScalesResult (F := Ideal) (m (c.tc.loc Cert.KernelIdeal.main_arg1)),
    fun c => valueCodesResult (F := Ideal) (m (c.tc.loc Cert.KernelIdeal.main_arg2)), fun c => valueScalesResult (F := Ideal) (m (c.tc.loc Cert.KernelIdeal.main_arg2)), ?_, ?_⟩
  · refine (θ_run _ _ _).mono (fun r h c => ?_) (Cert.KernelIdeal.Gen.run_main (F := Ideal) m g)
    obtain ⟨r0, r1, r2, r3, r4, r5, r6⟩ := Cert.KernelIdeal.Gen.results m r h.1 c
    exact ⟨r0, r1, r2, r3, r4, r5, r6, Cert.KernelIdeal.Gen.arguments m r h.1 c⟩
  · refine (θ_run _ _ _).mono (fun r h c => ?_) (Cert.ReferenceIdeal.Value.run (F := Ideal) m' g')
    obtain ⟨r0, r1, r2, r3, r4, r5, r6, ra⟩ := h c
    obtain ⟨e0, e1, e2⟩ := hm c
    obtain ⟨hx, hk, hv⟩ := @Cert.Pre_moderate.Read.moderate Cert.Pre_moderate.Read.facts _ _ _ (hpre c)
    rw [← e0] at hx
    rw [← e1] at hk
    rw [← e2] at hv
    refine ⟨r0.trans ?_, r1.trans ?_, r2.trans ?_, r3.trans ?_, r4.trans ?_, r5.trans ?_, r6.trans ?_, ra⟩
    · exact (out_eq _ hx hk hv).trans (congr (congr (congrArg (outResult (F := Ideal)) e0) e1) e2)
    · exact (queryCodes_eq _ hx).trans (congrArg (queryCodesResult (F := Ideal)) e0)
    · exact (queryScales_eq _ hx).trans (congrArg (queryScalesResult (F := Ideal)) e0)
    · exact (keyCodes_eq _ hk).trans (congrArg (keyCodesResult (F := Ideal)) e1)
    · exact (keyScales_eq _ hk).trans (congrArg (keyScalesResult (F := Ideal)) e1)
    · exact (valueCodes_eq _ hv).trans (congrArg (valueCodesResult (F := Ideal)) e2)
    · exact (valueScales_eq _ hv).trans (congrArg (valueScalesResult (F := Ideal)) e2)

end Cert.Proof

end
-- ==== Proof.lean ====
/-
  The proof of `Cert.Claim`: the kernel and its ideal form run and leave their arguments unchanged and every semaphore at zero, so does the reference,
  the ideal form is the kernel with three of its constants named, and the ideal form computes what the reference computes.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.KernelFrame.All
public import proofs.«01_k».proof.Proof.Algebraic

@[expose] public section

noncomputable section

namespace Cert.Proof

open Idealize.ShloMosaic Idealize.SL.Sem Cert.Kernel

/-- Every claim holds. -/
theorem claim : Cert.Claim := ⟨Cert.Kernel.Gen.facts, Cert.KernelIdeal.Gen.facts, Cert.ReferenceIdeal.Gen.facts, Cert.Pre_moderate.Read.facts,
  fun m ρ _ => Cert.Kernel.Gen.frame m ρ, fun m ρ _ => frame_ideal m ρ, fun m ρ _ => frame_ideal m ρ,
  fun m ρ _ => frame_reference m ρ, fun m ρ _ => frame_reference m ρ,
  ⟨IdealRules.named_const.statement _ _ _ _ _ rfl, IdealRules.named_const.statement _ _ _ _ _ rfl,
  IdealRules.named_const.statement _ _ _ _ _ rfl⟩, algebraic⟩

end Cert.Proof

end
